-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attention_finite [hPre_attention_finite : Cert.Pre_attention_finite.Facts] (m : (ℓ : Loc Cert.KernelIdeal.nD Cert.KernelIdeal.τ Cert.KernelIdeal.sig) → Buf (Elt Ideal) ℓ) : Prop :=
  ∀ c : Dev Cert.KernelIdeal.nD,
    (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attention_finite [hPre_attention_finite : Cert.Pre_attention_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Ffn [hPre_routed_blocks : Cert.Pre_routed_blocks.Facts] (m : (ℓ : Loc Cert.Ffn.nD Cert.Ffn.τ Cert.Ffn.sig) → Buf (Elt Bits) ℓ) : Prop :=
  ∀ c : Dev Cert.Ffn.nD,
    (Cert.Pre_routed_blocks.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5)) (m ((c.tc : Thread Cert.Ffn.nD Cert.Ffn.τ).loc Cert.Ffn.main_arg6)) (m ((c.tc : Thread Cert.Ffn.nD Cert.Ffn.τ).loc Cert.Ffn.main_arg7)) (m ((c.tc : Thread Cert.Ffn.nD Cert.Ffn.τ).loc Cert.Ffn.main_arg8))).1 = (fun _ => 1#1)
    ∧ (Cert.Pre_routed_blocks.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5)) (m ((c.tc : Thread Cert.Ffn.nD Cert.Ffn.τ).loc Cert.Ffn.main_arg6)) (m ((c.tc : Thread Cert.Ffn.nD Cert.Ffn.τ).loc Cert.Ffn.main_arg7)) (m ((c.tc : Thread Cert.Ffn.nD Cert.Ffn.τ).loc Cert.Ffn.main_arg8))).2 = (fun _ => 1#1)

def Pre_FfnIdeal [hPre_routed_blocks : Cert.Pre_routed_blocks.Facts] (m : (ℓ : Loc Cert.FfnIdeal.nD Cert.FfnIdeal.τ Cert.FfnIdeal.sig) → Buf (Elt Ideal) ℓ) : Prop :=
  ∀ c : Dev Cert.FfnIdeal.nD,
    (Cert.Pre_routed_blocks.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8))).1 = (fun _ => 1#1)
    ∧ (Cert.Pre_routed_blocks.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8))).2 = (fun _ => 1#1)

def Pre_FfnReferenceIdeal [hPre_routed_blocks : Cert.Pre_routed_blocks.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_routed_blocks.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8))).1 = (fun _ => 1#1)
    ∧ (Cert.Pre_routed_blocks.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8))).2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptIdeal_prompt_finite [hPre_prompt_finite : Cert.Pre_prompt_finite.Facts] (m : (ℓ : Loc Cert.PromptIdeal.nD Cert.PromptIdeal.τ Cert.PromptIdeal.sig) → Buf (Elt Ideal) ℓ) : Prop :=
  ∀ c : Dev Cert.PromptIdeal.nD,
    (Cert.Pre_prompt_finite.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4))).1 = (fun _ => 1#1)
    ∧ (Cert.Pre_prompt_finite.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4))).2.1 = (fun _ => 1#1)
    ∧ (Cert.Pre_prompt_finite.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4))).2.2.1 = (fun _ => 1#1)
    ∧ (Cert.Pre_prompt_finite.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4))).2.2.2 = (fun _ => 1#1)

def Pre_PromptReferenceIdeal (m : (ℓ : Loc Cert.PromptReferenceIdeal.nD Cert.PromptReferenceIdeal.τ Cert.PromptReferenceIdeal.sig) → Buf (Elt Ideal) ℓ) : Prop :=
  True

def Pre_PromptReferenceIdeal_prompt_finite [hPre_prompt_finite : Cert.Pre_prompt_finite.Facts] (m : (ℓ : Loc Cert.PromptReferenceIdeal.nD Cert.PromptReferenceIdeal.τ Cert.PromptReferenceIdeal.sig) → Buf (Elt Ideal) ℓ) : Prop :=
  ∀ c : Dev Cert.PromptReferenceIdeal.nD,
    (Cert.Pre_prompt_finite.fn (F := Ideal) (m ((c.tc : Thread Cert.PromptReferenceIdeal.nD Cert.PromptReferenceIdeal.τ).loc Cert.PromptReferenceIdeal.main_arg0)) (m ((c.tc : Thread Cert.PromptReferenceIdeal.nD Cert.PromptReferenceIdeal.τ).loc Cert.PromptReferenceIdeal.main_arg1)) (m ((c.tc : Thread Cert.PromptReferenceIdeal.nD Cert.PromptReferenceIdeal.τ).loc Cert.PromptReferenceIdeal.main_arg2)) (m ((c.tc : Thread Cert.PromptReferenceIdeal.nD Cert.PromptReferenceIdeal.τ).loc Cert.PromptReferenceIdeal.main_arg3)) (m ((c.tc : Thread Cert.PromptReferenceIdeal.nD Cert.PromptReferenceIdeal.τ).loc Cert.PromptReferenceIdeal.main_arg4))).1 = (fun _ => 1#1)
    ∧ (Cert.Pre_prompt_finite.fn (F := Ideal) (m ((c.tc : Thread Cert.PromptReferenceIdeal.nD Cert.PromptReferenceIdeal.τ).loc Cert.PromptReferenceIdeal.main_arg0)) (m ((c.tc : Thread Cert.PromptReferenceIdeal.nD Cert.PromptReferenceIdeal.τ).loc Cert.PromptReferenceIdeal.main_arg1)) (m ((c.tc : Thread Cert.PromptReferenceIdeal.nD Cert.PromptReferenceIdeal.τ).loc Cert.PromptReferenceIdeal.main_arg2)) (m ((c.tc : Thread Cert.PromptReferenceIdeal.nD Cert.PromptReferenceIdeal.τ).loc Cert.PromptReferenceIdeal.main_arg3)) (m ((c.tc : Thread Cert.PromptReferenceIdeal.nD Cert.PromptReferenceIdeal.τ).loc Cert.PromptReferenceIdeal.main_arg4))).2.1 = (fun _ => 1#1)
    ∧ (Cert.Pre_prompt_finite.fn (F := Ideal) (m ((c.tc : Thread Cert.PromptReferenceIdeal.nD Cert.PromptReferenceIdeal.τ).loc Cert.PromptReferenceIdeal.main_arg0)) (m ((c.tc : Thread Cert.PromptReferenceIdeal.nD Cert.PromptReferenceIdeal.τ).loc Cert.PromptReferenceIdeal.main_arg1)) (m ((c.tc : Thread Cert.PromptReferenceIdeal.nD Cert.PromptReferenceIdeal.τ).loc Cert.PromptReferenceIdeal.main_arg2)) (m ((c.tc : Thread Cert.PromptReferenceIdeal.nD Cert.PromptReferenceIdeal.τ).loc Cert.PromptReferenceIdeal.main_arg3)) (m ((c.tc : Thread Cert.PromptReferenceIdeal.nD Cert.PromptReferenceIdeal.τ).loc Cert.PromptReferenceIdeal.main_arg4))).2.2.1 = (fun _ => 1#1)
    ∧ (Cert.Pre_prompt_finite.fn (F := Ideal) (m ((c.tc : Thread Cert.PromptReferenceIdeal.nD Cert.PromptReferenceIdeal.τ).loc Cert.PromptReferenceIdeal.main_arg0)) (m ((c.tc : Thread Cert.PromptReferenceIdeal.nD Cert.PromptReferenceIdeal.τ).loc Cert.PromptReferenceIdeal.main_arg1)) (m ((c.tc : Thread Cert.PromptReferenceIdeal.nD Cert.PromptReferenceIdeal.τ).loc Cert.PromptReferenceIdeal.main_arg2)) (m ((c.tc : Thread Cert.PromptReferenceIdeal.nD Cert.PromptReferenceIdeal.τ).loc Cert.PromptReferenceIdeal.main_arg3)) (m ((c.tc : Thread Cert.PromptReferenceIdeal.nD Cert.PromptReferenceIdeal.τ).loc Cert.PromptReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_attention_finite [hKernelIdeal : Cert.KernelIdeal.Facts] [hPre_attention_finite : Cert.Pre_attention_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attention_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_attention_finite [hReferenceIdeal : Cert.ReferenceIdeal.Facts] [hPre_attention_finite : Cert.Pre_attention_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attention_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ffn [hFfn : Cert.Ffn.Facts] [hPre_routed_blocks : Cert.Pre_routed_blocks.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] [hPre_routed_blocks : Cert.Pre_routed_blocks.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnReferenceIdeal [hFfnReferenceIdeal : Cert.FfnReferenceIdeal.Facts] [hPre_routed_blocks : Cert.Pre_routed_blocks.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4))
      ∧ r.2.sem = fun _ => 0)

def quiescent_PromptIdeal_pre_prompt_finite [hPromptIdeal : Cert.PromptIdeal.Facts] [hPre_prompt_finite : Cert.Pre_prompt_finite.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal_prompt_finite m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4))
      ∧ r.2.sem = fun _ => 0)

def quiescent_PromptReferenceIdeal [hPromptReferenceIdeal : Cert.PromptReferenceIdeal.Facts] : Prop :=
  ∀ (m : (ℓ : Loc Cert.PromptReferenceIdeal.nD Cert.PromptReferenceIdeal.τ Cert.PromptReferenceIdeal.sig) → Buf (Elt Ideal) ℓ) (g : Dev Cert.PromptReferenceIdeal.nD → PrngReg), Pre_PromptReferenceIdeal m →
    θ_run (Cert.PromptReferenceIdeal.defs (F := Ideal)) (onTc (τ := Cert.PromptReferenceIdeal.τ) (Cert.PromptReferenceIdeal.main (F := Ideal))) ⟨m, fun _ => 0, g⟩ (fun r => (∀ c : Dev Cert.PromptReferenceIdeal.nD,
      r.2.mem ((c.tc : Thread Cert.PromptReferenceIdeal.nD Cert.PromptReferenceIdeal.τ).loc Cert.PromptReferenceIdeal.main_arg0) = m ((c.tc : Thread Cert.PromptReferenceIdeal.nD Cert.PromptReferenceIdeal.τ).loc Cert.PromptReferenceIdeal.main_arg0)
      ∧ r.2.mem ((c.tc : Thread Cert.PromptReferenceIdeal.nD Cert.PromptReferenceIdeal.τ).loc Cert.PromptReferenceIdeal.main_arg1) = m ((c.tc : Thread Cert.PromptReferenceIdeal.nD Cert.PromptReferenceIdeal.τ).loc Cert.PromptReferenceIdeal.main_arg1)
      ∧ r.2.mem ((c.tc : Thread Cert.PromptReferenceIdeal.nD Cert.PromptReferenceIdeal.τ).loc Cert.PromptReferenceIdeal.main_arg2) = m ((c.tc : Thread Cert.PromptReferenceIdeal.nD Cert.PromptReferenceIdeal.τ).loc Cert.PromptReferenceIdeal.main_arg2)
      ∧ r.2.mem ((c.tc : Thread Cert.PromptReferenceIdeal.nD Cert.PromptReferenceIdeal.τ).loc Cert.PromptReferenceIdeal.main_arg3) = m ((c.tc : Thread Cert.PromptReferenceIdeal.nD Cert.PromptReferenceIdeal.τ).loc Cert.PromptReferenceIdeal.main_arg3)
      ∧ r.2.mem ((c.tc : Thread Cert.PromptReferenceIdeal.nD Cert.PromptReferenceIdeal.τ).loc Cert.PromptReferenceIdeal.main_arg4) = m ((c.tc : Thread Cert.PromptReferenceIdeal.nD Cert.PromptReferenceIdeal.τ).loc Cert.PromptReferenceIdeal.main_arg4))
      ∧ r.2.sem = fun _ => 0)

def quiescent_PromptReferenceIdeal_pre_prompt_finite [hPromptReferenceIdeal : Cert.PromptReferenceIdeal.Facts] [hPre_prompt_finite : Cert.Pre_prompt_finite.Facts] : Prop :=
  ∀ (m : (ℓ : Loc Cert.PromptReferenceIdeal.nD Cert.PromptReferenceIdeal.τ Cert.PromptReferenceIdeal.sig) → Buf (Elt Ideal) ℓ) (g : Dev Cert.PromptReferenceIdeal.nD → PrngReg), Pre_PromptReferenceIdeal_prompt_finite m →
    θ_run (Cert.PromptReferenceIdeal.defs (F := Ideal)) (onTc (τ := Cert.PromptReferenceIdeal.τ) (Cert.PromptReferenceIdeal.main (F := Ideal))) ⟨m, fun _ => 0, g⟩ (fun r => (∀ c : Dev Cert.PromptReferenceIdeal.nD,
      r.2.mem ((c.tc : Thread Cert.PromptReferenceIdeal.nD Cert.PromptReferenceIdeal.τ).loc Cert.PromptReferenceIdeal.main_arg0) = m ((c.tc : Thread Cert.PromptReferenceIdeal.nD Cert.PromptReferenceIdeal.τ).loc Cert.PromptReferenceIdeal.main_arg0)
      ∧ r.2.mem ((c.tc : Thread Cert.PromptReferenceIdeal.nD Cert.PromptReferenceIdeal.τ).loc Cert.PromptReferenceIdeal.main_arg1) = m ((c.tc : Thread Cert.PromptReferenceIdeal.nD Cert.PromptReferenceIdeal.τ).loc Cert.PromptReferenceIdeal.main_arg1)
      ∧ r.2.mem ((c.tc : Thread Cert.PromptReferenceIdeal.nD Cert.PromptReferenceIdeal.τ).loc Cert.PromptReferenceIdeal.main_arg2) = m ((c.tc : Thread Cert.PromptReferenceIdeal.nD Cert.PromptReferenceIdeal.τ).loc Cert.PromptReferenceIdeal.main_arg2)
      ∧ r.2.mem ((c.tc : Thread Cert.PromptReferenceIdeal.nD Cert.PromptReferenceIdeal.τ).loc Cert.PromptReferenceIdeal.main_arg3) = m ((c.tc : Thread Cert.PromptReferenceIdeal.nD Cert.PromptReferenceIdeal.τ).loc Cert.PromptReferenceIdeal.main_arg3)
      ∧ r.2.mem ((c.tc : Thread Cert.PromptReferenceIdeal.nD Cert.PromptReferenceIdeal.τ).loc Cert.PromptReferenceIdeal.main_arg4) = m ((c.tc : Thread Cert.PromptReferenceIdeal.nD Cert.PromptReferenceIdeal.τ).loc Cert.PromptReferenceIdeal.main_arg4))
      ∧ r.2.sem = fun _ => 0)

def preserves_Kernel_KernelIdeal : Prop :=
  True

def algebraic_KernelIdeal_ReferenceIdeal_pre_attention_finite [hKernelIdeal : Cert.KernelIdeal.Facts] [hReferenceIdeal : Cert.ReferenceIdeal.Facts] [hPre_attention_finite : Cert.Pre_attention_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attention_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ffn_FfnIdeal : Prop :=
  True

def algebraic_FfnIdeal_FfnReferenceIdeal [hFfnIdeal : Cert.FfnIdeal.Facts] [hFfnReferenceIdeal : Cert.FfnReferenceIdeal.Facts] [hPre_routed_blocks : Cert.Pre_routed_blocks.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v41) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v1) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v28) = v0 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v66) = v0 c
          ∧ r.2.mem ((c.tc : Thread Cert.MergeReferenceIdeal.nD Cert.MergeReferenceIdeal.τ).loc Cert.MergeReferenceIdeal.main_v67) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12))

def preserves_Prompt_PromptIdeal : Prop :=
  IdealRules.named_const.Statement Cert.PromptIdeal.κ "mask" .f32 0xF149F2CA#32 ⊥

def algebraic_PromptIdeal_PromptReferenceIdeal_pre_prompt_finite [hPromptIdeal : Cert.PromptIdeal.Facts] [hPromptReferenceIdeal : Cert.PromptReferenceIdeal.Facts] [hPre_prompt_finite : Cert.Pre_prompt_finite.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptReferenceIdeal.nD Cert.PromptReferenceIdeal.τ Cert.PromptReferenceIdeal.sig) → Buf (Elt Ideal) ℓ) (g' : Dev Cert.PromptReferenceIdeal.nD → PrngReg), Pre_PromptIdeal_prompt_finite m →
    (∀ c : Dev Cert.PromptIdeal.nD,
      m' ((c.tc : Thread Cert.PromptReferenceIdeal.nD Cert.PromptReferenceIdeal.τ).loc Cert.PromptReferenceIdeal.main_arg0) = m ((c.tc : Thread Cert.PromptIdeal.nD Cert.PromptIdeal.τ).loc Cert.PromptIdeal.main_arg0)
      ∧ m' ((c.tc : Thread Cert.PromptReferenceIdeal.nD Cert.PromptReferenceIdeal.τ).loc Cert.PromptReferenceIdeal.main_arg1) = m ((c.tc : Thread Cert.PromptIdeal.nD Cert.PromptIdeal.τ).loc Cert.PromptIdeal.main_arg1)
      ∧ m' ((c.tc : Thread Cert.PromptReferenceIdeal.nD Cert.PromptReferenceIdeal.τ).loc Cert.PromptReferenceIdeal.main_arg2) = m ((c.tc : Thread Cert.PromptIdeal.nD Cert.PromptIdeal.τ).loc Cert.PromptIdeal.main_arg2)
      ∧ m' ((c.tc : Thread Cert.PromptReferenceIdeal.nD Cert.PromptReferenceIdeal.τ).loc Cert.PromptReferenceIdeal.main_arg3) = m ((c.tc : Thread Cert.PromptIdeal.nD Cert.PromptIdeal.τ).loc Cert.PromptIdeal.main_arg3)
      ∧ m' ((c.tc : Thread Cert.PromptReferenceIdeal.nD Cert.PromptReferenceIdeal.τ).loc Cert.PromptReferenceIdeal.main_arg4) = m ((c.tc : Thread Cert.PromptIdeal.nD Cert.PromptIdeal.τ).loc Cert.PromptIdeal.main_arg4)) →
    ∃ (v0 : (c : Dev Cert.PromptIdeal.nD) → Buf (Elt Ideal) ((c.tc : Thread Cert.PromptIdeal.nD Cert.PromptIdeal.τ).loc Cert.PromptIdeal.main_v0)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v0) = v0 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4))
      ∧ θ_run (Cert.PromptReferenceIdeal.defs (F := Ideal)) (onTc (τ := Cert.PromptReferenceIdeal.τ) (Cert.PromptReferenceIdeal.main (F := Ideal))) ⟨m', fun _ => 0, g'⟩ (fun r => ∀ c : Dev Cert.PromptReferenceIdeal.nD,
          r.2.mem ((c.tc : Thread Cert.PromptReferenceIdeal.nD Cert.PromptReferenceIdeal.τ).loc Cert.PromptReferenceIdeal.main_v71) = v0 c
          ∧ r.2.mem ((c.tc : Thread Cert.PromptReferenceIdeal.nD Cert.PromptReferenceIdeal.τ).loc Cert.PromptReferenceIdeal.main_arg0) = m' ((c.tc : Thread Cert.PromptReferenceIdeal.nD Cert.PromptReferenceIdeal.τ).loc Cert.PromptReferenceIdeal.main_arg0)
          ∧ r.2.mem ((c.tc : Thread Cert.PromptReferenceIdeal.nD Cert.PromptReferenceIdeal.τ).loc Cert.PromptReferenceIdeal.main_arg1) = m' ((c.tc : Thread Cert.PromptReferenceIdeal.nD Cert.PromptReferenceIdeal.τ).loc Cert.PromptReferenceIdeal.main_arg1)
          ∧ r.2.mem ((c.tc : Thread Cert.PromptReferenceIdeal.nD Cert.PromptReferenceIdeal.τ).loc Cert.PromptReferenceIdeal.main_arg2) = m' ((c.tc : Thread Cert.PromptReferenceIdeal.nD Cert.PromptReferenceIdeal.τ).loc Cert.PromptReferenceIdeal.main_arg2)
          ∧ r.2.mem ((c.tc : Thread Cert.PromptReferenceIdeal.nD Cert.PromptReferenceIdeal.τ).loc Cert.PromptReferenceIdeal.main_arg3) = m' ((c.tc : Thread Cert.PromptReferenceIdeal.nD Cert.PromptReferenceIdeal.τ).loc Cert.PromptReferenceIdeal.main_arg3)
          ∧ r.2.mem ((c.tc : Thread Cert.PromptReferenceIdeal.nD Cert.PromptReferenceIdeal.τ).loc Cert.PromptReferenceIdeal.main_arg4) = m' ((c.tc : Thread Cert.PromptReferenceIdeal.nD Cert.PromptReferenceIdeal.τ).loc Cert.PromptReferenceIdeal.main_arg4))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hInproj : Cert.Inproj.Facts) (hInprojIdeal : Cert.InprojIdeal.Facts) (hInprojReferenceIdeal : Cert.InprojReferenceIdeal.Facts) (hMerge : Cert.Merge.Facts) (hMergeIdeal : Cert.MergeIdeal.Facts) (hMergeReferenceIdeal : Cert.MergeReferenceIdeal.Facts) (hPrompt : Cert.Prompt.Facts) (hPromptIdeal : Cert.PromptIdeal.Facts) (hPromptReferenceIdeal : Cert.PromptReferenceIdeal.Facts) (hPre_attention_finite : Cert.Pre_attention_finite.Facts) (hPre_routed_blocks : Cert.Pre_routed_blocks.Facts) (hPre_prompt_finite : Cert.Pre_prompt_finite.Facts),
    quiescent_Kernel (hKernel := hKernel)
    ∧ quiescent_KernelIdeal (hKernelIdeal := hKernelIdeal)
    ∧ quiescent_KernelIdeal_pre_attention_finite (hKernelIdeal := hKernelIdeal) (hPre_attention_finite := hPre_attention_finite)
    ∧ quiescent_ReferenceIdeal (hReferenceIdeal := hReferenceIdeal)
    ∧ quiescent_ReferenceIdeal_pre_attention_finite (hReferenceIdeal := hReferenceIdeal) (hPre_attention_finite := hPre_attention_finite)
    ∧ quiescent_Ffn (hFfn := hFfn) (hPre_routed_blocks := hPre_routed_blocks)
    ∧ quiescent_FfnIdeal (hFfnIdeal := hFfnIdeal) (hPre_routed_blocks := hPre_routed_blocks)
    ∧ quiescent_FfnReferenceIdeal (hFfnReferenceIdeal := hFfnReferenceIdeal) (hPre_routed_blocks := hPre_routed_blocks)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Prompt (hPrompt := hPrompt)
    ∧ quiescent_PromptIdeal (hPromptIdeal := hPromptIdeal)
    ∧ quiescent_PromptIdeal_pre_prompt_finite (hPromptIdeal := hPromptIdeal) (hPre_prompt_finite := hPre_prompt_finite)
    ∧ quiescent_PromptReferenceIdeal (hPromptReferenceIdeal := hPromptReferenceIdeal)
    ∧ quiescent_PromptReferenceIdeal_pre_prompt_finite (hPromptReferenceIdeal := hPromptReferenceIdeal) (hPre_prompt_finite := hPre_prompt_finite)
    ∧ preserves_Kernel_KernelIdeal
    ∧ algebraic_KernelIdeal_ReferenceIdeal_pre_attention_finite (hKernelIdeal := hKernelIdeal) (hReferenceIdeal := hReferenceIdeal) (hPre_attention_finite := hPre_attention_finite)
    ∧ preserves_Ffn_FfnIdeal
    ∧ algebraic_FfnIdeal_FfnReferenceIdeal (hFfnIdeal := hFfnIdeal) (hFfnReferenceIdeal := hFfnReferenceIdeal) (hPre_routed_blocks := hPre_routed_blocks)
    ∧ preserves_Inproj_InprojIdeal
    ∧ algebraic_InprojIdeal_InprojReferenceIdeal (hInprojIdeal := hInprojIdeal) (hInprojReferenceIdeal := hInprojReferenceIdeal)
    ∧ preserves_Merge_MergeIdeal
    ∧ algebraic_MergeIdeal_MergeReferenceIdeal (hMergeIdeal := hMergeIdeal) (hMergeReferenceIdeal := hMergeReferenceIdeal)
    ∧ preserves_Prompt_PromptIdeal
    ∧ algebraic_PromptIdeal_PromptReferenceIdeal_pre_prompt_finite (hPromptIdeal := hPromptIdeal) (hPromptReferenceIdeal := hPromptReferenceIdeal) (hPre_prompt_finite := hPre_prompt_finite)
-- ==== Pre_attention_finite.lean ====
abbrev S2048x512 : Shape := ⟨2, ![2048, 512]⟩
abbrev S2x32x2048x4x2x64 : Shape := ⟨6, ![2, 32, 2048, 4, 2, 64]⟩
abbrev S2x32x2048x4x128 : Shape := ⟨5, ![2, 32, 2048, 4, 128]⟩
abbrev S4x64 : Shape := ⟨2, ![4, 64]⟩
abbrev S1x128 : Shape := ⟨2, ![1, 128]⟩
abbrev S_ : Shape := ⟨0, ![]⟩

class Facts : Prop where
  bcast_S_S2048x512 : S_.BroadcastsInDim S2048x512 (![] : Fin 0 → Fin S2048x512.rank)
  bcast_S_S2x32x2048x4x2x64 : S_.BroadcastsInDim S2x32x2048x4x2x64 (![] : Fin 0 → Fin S2x32x2048x4x2x64.rank)
  bcast_S_S2x32x2048x4x128 : S_.BroadcastsInDim S2x32x2048x4x128 (![] : Fin 0 → Fin S2x32x2048x4x128.rank)
  bcast_S_S4x64 : S_.BroadcastsInDim S4x64 (![] : Fin 0 → Fin S4x64.rank)

variable [Facts]

def fn {F : FTy → Type} [FloatOps F] (main_arg0 : FVec F S2048x512 .bf16) (main_arg1 : FVec F S2048x512 .bf16) (main_arg2 : FVec F S2048x512 .bf16) (main_arg3 : FVec F S2x32x2048x4x2x64 .f32) (main_arg4 : FVec F S2x32x2048x4x128 .f32) (main_arg5 : FVec F S4x64 .f32) (main_arg6 : FVec F S1x128 .f32) : IVec S2048x512 1 × IVec S2048x512 1 × IVec S2048x512 1 × IVec S2x32x2048x4x2x64 1 × IVec S2x32x2048x4x128 1 × IVec S4x64 1 :=
  let main_v0 : FVec F S2048x512 .bf16 := Host.absf main_arg0
  let main_cst : FVec F S_ .bf16 := constant S_ .bf16 0x7F80#16
  let main_v1 : FVec F S2048x512 .bf16 := broadcastInDim S2048x512 ![] bcast_S_S2048x512 main_cst
  let main_v2 : IVec S2048x512 1 := cmpf .olt main_v0 main_v1
  let main_v3 : FVec F S2048x512 .bf16 := Host.absf main_arg1
  let main_cst_0 : FVec F S_ .bf16 := constant S_ .bf16 0x7F80#16
  let main_v4 : FVec F S2048x512 .bf16 := broadcastInDim S2048x512 ![] bcast_S_S2048x512 main_cst_0
  let main_v5 : IVec S2048x512 1 := cmpf .olt main_v3 main_v4
  let main_v6 : FVec F S2048x512 .bf16 := Host.absf main_arg2
  let main_cst_1 : FVec F S_ .bf16 := constant S_ .bf16 0x7F80#16
  let main_v7 : FVec F S2048x512 .bf16 := broadcastInDim S2048x512 ![] bcast_S_S2048x512 main_cst_1
  let main_v8 : IVec S2048x512 1 := cmpf .olt main_v6 main_v7
  let main_v9 : FVec F S2x32x2048x4x2x64 .f32 := Host.absf main_arg3
  let main_cst_2 : FVec F S_ .f32 := constant S_ .f32 0x7F800000#32
  let main_v10 : FVec F S2x32x2048x4x2x64 .f32 := broadcastInDim S2x32x2048x4x2x64 ![] bcast_S_S2x32x2048x4x2x64 main_cst_2
  let main_v11 : IVec S2x32x2048x4x2x64 1 := cmpf .olt main_v9 main_v10
  let main_v12 : FVec F S2x32x2048x4x128 .f32 := Host.absf main_arg4
  let main_cst_3 : FVec F S_ .f32 := constant S_ .f32 0x7F800000#32
  let main_v13 : FVec F S2x32x2048x4x128 .f32 := broadcastInDim S2x32x2048x4x128 ![] bcast_S_S2x32x2048x4x128 main_cst_3
  let main_v14 : IVec S2x32x2048x4x128 1 := cmpf .olt main_v12 main_v13
  let main_v15 : FVec F S4x64 .f32 := Host.absf main_arg5
  let main_cst_4 : FVec F S_ .f32 := constant S_ .f32 0x7F800000#32
  let main_v16 : FVec F S4x64 .f32 := broadcastInDim S4x64 ![] bcast_S_S4x64 main_cst_4
  let main_v17 : IVec S4x64 1 := cmpf .olt main_v15 main_v16
  (main_v2, main_v5, main_v8, main_v11, main_v14, main_v17)
-- ==== Pre_prompt_finite.lean ====
abbrev S16384x512 : Shape := ⟨2, ![16384, 512]⟩
abbrev S4x64 : Shape := ⟨2, ![4, 64]⟩
abbrev S1x128 : Shape := ⟨2, ![1, 128]⟩
abbrev S_ : Shape := ⟨0, ![]⟩

class Facts : Prop where
  bcast_S_S16384x512 : S_.BroadcastsInDim S16384x512 (![] : Fin 0 → Fin S16384x512.rank)
  bcast_S_S4x64 : S_.BroadcastsInDim S4x64 (![] : Fin 0 → Fin S4x64.rank)

variable [Facts]

def fn {F : FTy → Type} [FloatOps F] (main_arg0 : FVec F S16384x512 .bf16) (main_arg1 : FVec F S16384x512 .bf16) (main_arg2 : FVec F S16384x512 .bf16) (main_arg3 : FVec F S4x64 .f32) (main_arg4 : FVec F S1x128 .f32) : IVec S16384x512 1 × IVec S16384x512 1 × IVec S16384x512 1 × IVec S4x64 1 :=
  let main_v0 : FVec F S16384x512 .bf16 := Host.absf main_arg0
  let main_cst : FVec F S_ .bf16 := constant S_ .bf16 0x7F80#16
  let main_v1 : FVec F S16384x512 .bf16 := broadcastInDim S16384x512 ![] bcast_S_S16384x512 main_cst
  let main_v2 : IVec S16384x512 1 := cmpf .olt main_v0 main_v1
  let main_v3 : FVec F S16384x512 .bf16 := Host.absf main_arg1
  let main_cst_0 : FVec F S_ .bf16 := constant S_ .bf16 0x7F80#16
  let main_v4 : FVec F S16384x512 .bf16 := broadcastInDim S16384x512 ![] bcast_S_S16384x512 main_cst_0
  let main_v5 : IVec S16384x512 1 := cmpf .olt main_v3 main_v4
  let main_v6 : FVec F S16384x512 .bf16 := Host.absf main_arg2
  let main_cst_1 : FVec F S_ .bf16 := constant S_ .bf16 0x7F80#16
  let main_v7 : FVec F S16384x512 .bf16 := broadcastInDim S16384x512 ![] bcast_S_S16384x512 main_cst_1
  let main_v8 : IVec S16384x512 1 := cmpf .olt main_v6 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  (main_v2, main_v5, main_v8, main_v11)
-- ==== Pre_routed_blocks.lean ====
abbrev S589824x128 : Shape := ⟨2, ![589824, 128]⟩
abbrev S288 : Shape := ⟨1, ![288]⟩
abbrev S1 : Shape := ⟨1, ![1]⟩
abbrev S32x1024x1024 : Shape := ⟨3, ![32, 1024, 1024]⟩
abbrev S32x1x1024 : Shape := ⟨3, ![32, 1, 1024]⟩
abbrev S2x32x1024x1024 : Shape := ⟨4, ![2, 32, 1024, 1024]⟩
abbrev S_ : Shape := ⟨0, ![]⟩

class Facts : Prop where
  bcast_S_S288 : S_.BroadcastsInDim S288 (![] : Fin 0 → Fin S288.rank)
  bcast_S_S1 : S_.BroadcastsInDim S1 (![] : Fin 0 → Fin S1.rank)

variable [Facts]

def fn {F : FTy → Type} [FloatOps F] (main_arg0 : FVec F S589824x128 .f32) (main_arg1 : IVec S288 32) (main_arg2 : IVec S1 32) (main_arg3 : FVec F S32x1024x1024 .bf16) (main_arg4 : FVec F S32x1x1024 .f32) (main_arg5 : FVec F S32x1024x1024 .bf16) (main_arg6 : FVec F S32x1x1024 .f32) (main_arg7 : FVec F S2x32x1024x1024 .bf16) (main_arg8 : FVec F S32x1x1024 .f32) : IVec S288 1 × IVec S1 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 32#32
  let main_v2 : IVec S288 32 := broadcastInDim S288 ![] bcast_S_S288 main_c_0
  let main_v3 : IVec S288 1 := cmpi .slt main_arg1 main_v2
  let main_v4 : IVec S288 1 := andi main_v1 main_v3
  let main_c_1 : IVec S_ 32 := constantI S_ 32 1#32
  let main_v5 : IVec S1 32 := broadcastInDim S1 ![] bcast_S_S1 main_c_1
  let main_v6 : IVec S1 1 := cmpi .sge main_arg2 main_v5
  (main_v4, main_v6)
-- ==== Kernel.lean ====
abbrev S2048x512 : Shape := ⟨2, ![2048, 512]⟩
abbrev S2x32x2048x4x2x64 : Shape := ⟨6, ![2, 32, 2048, 4, 2, 64]⟩
abbrev S2x32x2048x4x128 : Shape := ⟨5, ![2, 32, 2048, 4, 128]⟩
abbrev S4x64 : Shape := ⟨2, ![4, 64]⟩
abbrev S1x128 : Shape := ⟨2, ![1, 128]⟩
abbrev S2x32x4x2x64x2048 : Shape := ⟨6, ![2, 32, 4, 2, 64, 2048]⟩
abbrev S2x32x8192x128 : Shape := ⟨4, ![2, 32, 8192, 128]⟩
abbrev S64x512 : Shape := ⟨2, ![64, 512]⟩
abbrev S1x1x4x2x64x2048 : Shape := ⟨6, ![1, 1, 4, 2, 64, 2048]⟩
abbrev S1x1x8192x128 : Shape := ⟨4, ![1, 1, 8192, 128]⟩
abbrev S1x64 : Shape := ⟨2, ![1, 64]⟩
abbrev S1 : Shape := ⟨1, ![1]⟩
abbrev S1x1 : Shape := ⟨2, ![1, 1]⟩
abbrev S64x64 : Shape := ⟨2, ![64, 64]⟩
abbrev S64x128 : Shape := ⟨2, ![64, 128]⟩
abbrev S1x1x1x2x64x2048 : Shape := ⟨6, ![1, 1, 1, 2, 64, 2048]⟩
abbrev S2x64x2048 : Shape := ⟨3, ![2, 64, 2048]⟩
abbrev S128x2048 : Shape := ⟨2, ![128, 2048]⟩
abbrev S1x1x2048x128 : Shape := ⟨4, ![1, 1, 2048, 128]⟩
abbrev S2048x128 : Shape := ⟨2, ![2048, 128]⟩
abbrev S64x2048 : Shape := ⟨2, ![64, 2048]⟩
abbrev S64 : Shape := ⟨1, ![64]⟩
abbrev S64x1 : Shape := ⟨2, ![64, 1]⟩

abbrev nBuf : Space → Nat
  | .hbm => 10
  | .vmem => 14
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S2x32x2048x4x2x64, .f32⟩
  | .hbm, ⟨4, _⟩ => ⟨S2x32x2048x4x128, .f32⟩
  | .hbm, ⟨5, _⟩ => ⟨S4x64, .f32⟩
  | .hbm, ⟨6, _⟩ => ⟨S1x128, .f32⟩
  | .hbm, ⟨7, _⟩ => ⟨S2x32x4x2x64x2048, .f32⟩
  | .hbm, ⟨8, _⟩ => ⟨S2x32x8192x128, .f32⟩
  | .hbm, ⟨9, _⟩ => ⟨S2048x512, .bf16⟩
  | .local _ .vmem, ⟨0, _⟩ => ⟨S64x512, .bf16⟩
  | .local _ .vmem, ⟨1, _⟩ => ⟨S64x512, .bf16⟩
  | .local _ .vmem, ⟨2, _⟩ => ⟨S64x512, .bf16⟩
  | .local _ .vmem, ⟨3, _⟩ => ⟨S64x512, .bf16⟩
  | .local _ .vmem, ⟨4, _⟩ => ⟨S64x512, .bf16⟩
  | .local _ .vmem, ⟨5, _⟩ => ⟨S64x512, .bf16⟩
  | .local _ .vmem, ⟨6, _⟩ => ⟨S1x1x4x2x64x2048, .f32⟩
  | .local _ .vmem, ⟨7, _⟩ => ⟨S1x1x4x2x64x2048, .f32⟩
  | .local _ .vmem, ⟨8, _⟩ => ⟨S1x1x8192x128, .f32⟩
  | .local _ .vmem, ⟨9, _⟩ => ⟨S1x1x8192x128, .f32⟩
  | .local _ .vmem, ⟨10, _⟩ => ⟨S4x64, .f32⟩
  | .local _ .vmem, ⟨11, _⟩ => ⟨S1x128, .f32⟩
  | .local _ .vmem, ⟨12, _⟩ => ⟨S64x512, .bf16⟩
  | .local _ .vmem, ⟨13, _⟩ => ⟨S64x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, arg0.toNat, c0_i32_0.toNat, c0_i32_1.toNat, c0_i32_2.toNat, c0_i32_3.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4x2x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2048x512 : Shape := ⟨2, ![2048, 512]⟩
abbrev S2x32x2048x4x2x64 : Shape := ⟨6, ![2, 32, 2048, 4, 2, 64]⟩
abbrev S2x32x2048x4x128 : Shape := ⟨5, ![2, 32, 2048, 4, 128]⟩
abbrev S4x64 : Shape := ⟨2, ![4, 64]⟩
abbrev S1x128 : Shape := ⟨2, ![1, 128]⟩
abbrev S32x64x4x2x64 : Shape := ⟨5, ![32, 64, 4, 2, 64]⟩
abbrev S1x32x2048x4x2x64 : Shape := ⟨6, ![1, 32, 2048, 4, 2, 64]⟩
abbrev S32x2048x4x2x64 : Shape := ⟨5, ![32, 2048, 4, 2, 64]⟩
abbrev S32x2112x4x2x64 : Shape := ⟨5, ![32, 2112, 4, 2, 64]⟩
abbrev S1x32x2048x4x128 : Shape := ⟨5, ![1, 32, 2048, 4, 128]⟩
abbrev S32x2048x4x128 : Shape := ⟨4, ![32, 2048, 4, 128]⟩
abbrev S32x64x4x128 : Shape := ⟨4, ![32, 64, 4, 128]⟩
abbrev S32x2112x4x128 : Shape := ⟨4, ![32, 2112, 4, 128]⟩
abbrev S64 : Shape := ⟨1, ![64]⟩
abbrev S_ : Shape := ⟨0, ![]⟩
abbrev S2112 : Shape := ⟨1, ![2112]⟩
abbrev S1x2112 : Shape := ⟨2, ![1, 2112]⟩
abbrev S64x1 : Shape := ⟨2, ![64, 1]⟩
abbrev S64x2112 : Shape := ⟨2, ![64, 2112]⟩
abbrev S32x4x2x64x2112 : Shape := ⟨5, ![32, 4, 2, 64, 2112]⟩
abbrev S32x4x2x64 : Shape := ⟨4, ![32, 4, 2, 64]⟩
abbrev S32x4x2x64x1 : Shape := ⟨5, ![32, 4, 2, 64, 1]⟩
abbrev S1x64 : Shape := ⟨2, ![1, 64]⟩
abbrev S32x4x1x64x2112 : Shape := ⟨5, ![32, 4, 1, 64, 2112]⟩
abbrev S32x4x64x2112 : Shape := ⟨4, ![32, 4, 64, 2112]⟩
abbrev S32x4x128x64 : Shape := ⟨4, ![32, 4, 128, 64]⟩
abbrev S32x64x4 : Shape := ⟨3, ![32, 64, 4]⟩
abbrev S32x64x4x1 : Shape := ⟨4, ![32, 64, 4, 1]⟩
abbrev S128 : Shape := ⟨1, ![128]⟩
abbrev S1x1x1x128 : Shape := ⟨4, ![1, 1, 1, 128]⟩

abbrev nBuf : Space → Nat
  | .hbm => 105
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S2x32x2048x4x2x64, .f32⟩
  | .hbm, ⟨4, _⟩ => ⟨S2x32x2048x4x128, .f32⟩
  | .hbm, ⟨5, _⟩ => ⟨S4x64, .f32⟩
  | .hbm, ⟨6, _⟩ => ⟨S1x128, .f32⟩
  | .hbm, ⟨7, _⟩ => ⟨S2048x512, .f32⟩
  | .hbm, ⟨8, _⟩ => ⟨S32x64x4x2x64, .f32⟩
  | .hbm, ⟨9, _⟩ => ⟨S1x32x2048x4x2x64, .f32⟩
  | .hbm, ⟨10, _⟩ => ⟨S32x2048x4x2x64, .f32⟩
  | .hbm, ⟨11, _⟩ => ⟨S2048x512, .f32⟩
  | .hbm, ⟨12, _⟩ => ⟨S32x64x4x2x64, .f32⟩
  | .hbm, ⟨13, _⟩ => ⟨S32x2112x4x2x64, .f32⟩
  | .hbm, ⟨14, _⟩ => ⟨S1x32x2048x4x128, .f32⟩
  | .hbm, ⟨15, _⟩ => ⟨S32x2048x4x128, .f32⟩
  | .hbm, ⟨16, _⟩ => ⟨S2048x512, .f32⟩
  | .hbm, ⟨17, _⟩ => ⟨S32x64x4x128, .f32⟩
  | .hbm, ⟨18, _⟩ => ⟨S32x2112x4x128, .f32⟩
  | .hbm, ⟨19, _⟩ => ⟨S64, .i32⟩
  | .hbm, ⟨20, _⟩ => ⟨S_, .i32⟩
  | .hbm, ⟨21, _⟩ => ⟨S64, .i32⟩
  | .hbm, ⟨22, _⟩ => ⟨S64, .i32⟩
  | .hbm, ⟨23, _⟩ => ⟨S2112, .i32⟩
  | .hbm, ⟨24, _⟩ => ⟨S_, .i32⟩
  | .hbm, ⟨25, _⟩ => ⟨S2112, .i32⟩
  | .hbm, ⟨26, _⟩ => ⟨S2112, .i32⟩
  | .hbm, ⟨27, _⟩ => ⟨S1x2112, .i32⟩
  | .hbm, ⟨28, _⟩ => ⟨S_, .i32⟩
  | .hbm, ⟨29, _⟩ => ⟨S64, .i32⟩
  | .hbm, ⟨30, _⟩ => ⟨S64, .i32⟩
  | .hbm, ⟨31, _⟩ => ⟨S64x1, .i32⟩
  | .hbm, ⟨32, _⟩ => ⟨S64x2112, .i32⟩
  | .hbm, ⟨33, _⟩ => ⟨S64x2112, .i32⟩
  | .hbm, ⟨34, _⟩ => ⟨S64x2112, .i1⟩
  | .hbm, ⟨35, _⟩ => ⟨S32x4x2x64x2112, .f32⟩
  | .hbm, ⟨36, _⟩ => ⟨S_, .f32⟩
  | .hbm, ⟨37, _⟩ => ⟨S_, .f32⟩
  | .hbm, ⟨38, _⟩ => ⟨S32x4x2x64x2112, .i1⟩
  | .hbm, ⟨39, _⟩ => ⟨S32x4x2x64x2112, .f32⟩
  | .hbm, ⟨40, _⟩ => ⟨S32x4x2x64x2112, .f32⟩
  | .hbm, ⟨41, _⟩ => ⟨S_, .f32⟩
  | .hbm, ⟨42, _⟩ => ⟨S32x4x2x64, .f32⟩
  | .hbm, ⟨43, _⟩ => ⟨S_, .f32⟩
  | .hbm, ⟨44, _⟩ => ⟨S32x4x2x64, .f32⟩
  | .hbm, ⟨45, _⟩ => ⟨S32x4x2x64, .f32⟩
  | .hbm, ⟨46, _⟩ => ⟨S32x4x2x64x1, .f32⟩
  | .hbm, ⟨47, _⟩ => ⟨S32x4x2x64x2112, .f32⟩
  | .hbm, ⟨48, _⟩ => ⟨S32x4x2x64x2112, .f32⟩
  | .hbm, ⟨49, _⟩ => ⟨S32x4x2x64x2112, .f32⟩
  | .hbm, ⟨50, _⟩ => ⟨S_, .f32⟩
  | .hbm, ⟨51, _⟩ => ⟨S32x4x2x64, .f32⟩
  | .hbm, ⟨52, _⟩ => ⟨S32x4x2x64x1, .f32⟩
  | .hbm, ⟨53, _⟩ => ⟨S32x4x2x64x2112, .f32⟩
  | .hbm, ⟨54, _⟩ => ⟨S32x4x2x64x2112, .f32⟩
  | .hbm, ⟨55, _⟩ => ⟨S1x64, .f32⟩
  | .hbm, ⟨56, _⟩ => ⟨S64, .f32⟩
  | .hbm, ⟨57, _⟩ => ⟨S1x64, .f32⟩
  | .hbm, ⟨58, _⟩ => ⟨S64, .f32⟩
  | .hbm, ⟨59, _⟩ => ⟨S64, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S1x64, .f32⟩
  | .hbm, ⟨64, _⟩ => ⟨S64, .f32⟩
  | .hbm, ⟨65, _⟩ => ⟨S1x64, .f32⟩
  | .hbm, ⟨66, _⟩ => ⟨S64, .f32⟩
  | .hbm, ⟨67, _⟩ => ⟨S64, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S32x4x1x64x2112, .f32⟩
  | .hbm, ⟨75, _⟩ => ⟨S32x4x64x2112, .f32⟩
  | .hbm, ⟨76, _⟩ => ⟨S32x4x1x64x2112, .f32⟩
  | .hbm, ⟨77, _⟩ => ⟨S32x4x64x2112, .f32⟩
  | .hbm, ⟨78, _⟩ => ⟨S32x4x64x2112, .f32⟩
  | .hbm, ⟨79, _⟩ => ⟨S32x4x64x2112, .f32⟩
  | .hbm, ⟨80, _⟩ => ⟨S32x4x64x2112, .f32⟩
  | .hbm, ⟨81, _⟩ => ⟨S32x4x128x64, .f32⟩
  | .hbm, ⟨82, _⟩ => ⟨S32x64x4x128, .f32⟩
  | .hbm, ⟨83, _⟩ => ⟨S32x64x4x128, .f32⟩
  | .hbm, ⟨84, _⟩ => ⟨S_, .f32⟩
  | .hbm, ⟨85, _⟩ => ⟨S32x64x4, .f32⟩
  | .hbm, ⟨86, _⟩ => ⟨S32x64x4x1, .f32⟩
  | .hbm, ⟨87, _⟩ => ⟨S_, .f32⟩
  | .hbm, ⟨88, _⟩ => ⟨S32x64x4x1, .f32⟩
  | .hbm, ⟨89, _⟩ => ⟨S32x64x4x1, .f32⟩
  | .hbm, ⟨90, _⟩ => ⟨S_, .f32⟩
  | .hbm, ⟨91, _⟩ => ⟨S32x64x4x1, .f32⟩
  | .hbm, ⟨92, _⟩ => ⟨S32x64x4x1, .f32⟩
  | .hbm, ⟨93, _⟩ => ⟨S32x64x4x1, .f32⟩
  | .hbm, ⟨94, _⟩ => ⟨S32x64x4x128, .f32⟩
  | .hbm, ⟨95, _⟩ => ⟨S32x64x4x128, .f32⟩
  | .hbm, ⟨96, _⟩ => ⟨S128, .f32⟩
  | .hbm, ⟨97, _⟩ => ⟨S1x1x1x128, .f32⟩
  | .hbm, ⟨98, _⟩ => ⟨S32x64x4x128, .f32⟩
  | .hbm, ⟨99, _⟩ => ⟨S32x64x4x128, .f32⟩
  | .hbm, ⟨100, _⟩ => ⟨S_, .f32⟩
  | .hbm, ⟨101, _⟩ => ⟨S32x64x4x128, .f32⟩
  | .hbm, ⟨102, _⟩ => ⟨S32x64x4x128, .f32⟩
  | .hbm, ⟨103, _⟩ => ⟨S2048x512, .f32⟩
  | .hbm, ⟨104, _⟩ => ⟨S2048x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_8 : Ref sig .tc := ⟨.hbm, 84, rfl⟩
abbrev main_v64 : Ref sig .tc := ⟨.hbm, 85, rfl⟩
abbrev main_v65 : Ref sig .tc := ⟨.hbm, 86, rfl⟩
abbrev main_cst_9 : Ref sig .tc := ⟨.hbm, 87, rfl⟩
abbrev main_v66 : Ref sig .tc := ⟨.hbm, 88, rfl⟩
abbrev main_v67 : Ref sig .tc := ⟨.hbm, 89, rfl⟩
abbrev main_cst_10 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_11 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩

abbrev nD : Nat := 1
abbrev τ : Topo := Topo.v7x

variable {F : FTy → Type} [FloatOps F]
-- ==== Ffn.lean ====
abbrev S589824x128 : Shape := ⟨2, ![589824, 128]⟩
abbrev S288 : Shape := ⟨1, ![288]⟩
abbrev S1 : Shape := ⟨1, ![1]⟩
abbrev S32x1024x1024 : Shape := ⟨3, ![32, 1024, 1024]⟩
abbrev S32x1x1024 : Shape := ⟨3, ![32, 1, 1024]⟩
abbrev S2x32x1024x1024 : Shape := ⟨4, ![2, 32, 1024, 1024]⟩
abbrev S2048x128 : Shape := ⟨2, ![2048, 128]⟩
abbrev S1x1024x1024 : Shape := ⟨3, ![1, 1024, 1024]⟩
abbrev S1x1x1024 : Shape := ⟨3, ![1, 1, 1024]⟩
abbrev S1x1x1024x1024 : Shape := ⟨4, ![1, 1, 1024, 1024]⟩
abbrev S256x128 : Shape := ⟨2, ![256, 128]⟩
abbrev S256x1024 : Shape := ⟨2, ![256, 1024]⟩
abbrev S1024x1024 : Shape := ⟨2, ![1024, 1024]⟩
abbrev S1x1024 : Shape := ⟨2, ![1, 1024]⟩

abbrev nBuf : Space → Nat
  | .hbm => 8
  | .vmem => 16
  | .smem => 2
  | _ => 0

abbrev bufTy : (tb : Table) → Fin (tcTables nBuf tb) → BufTy
  | .hbm, ⟨0, _⟩ => ⟨S589824x128, .f32⟩
  | .hbm, ⟨1, _⟩ => ⟨S32x1024x1024, .bf16⟩
  | .hbm, ⟨2, _⟩ => ⟨S32x1x1024, .f32⟩
  | .hbm, ⟨3, _⟩ => ⟨S32x1024x1024, .bf16⟩
  | .hbm, ⟨4, _⟩ => ⟨S32x1x1024, .f32⟩
  | .hbm, ⟨5, _⟩ => ⟨S2x32x1024x1024, .bf16⟩
  | .hbm, ⟨6, _⟩ => ⟨S32x1x1024, .f32⟩
  | .hbm, ⟨7, _⟩ => ⟨S589824x128, .f32⟩
  | .local _ .vmem, ⟨0, _⟩ => ⟨S2048x128, .f32⟩
  | .local _ .vmem, ⟨1, _⟩ => ⟨S2048x128, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024x1024, .bf16⟩
  | .local _ .vmem, ⟨11, _⟩ => ⟨S1x1x1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S2048x128, .f32⟩
  | .local _ .vmem, ⟨15, _⟩ => ⟨S2048x128, .f32⟩
  | .local _ .smem, ⟨0, _⟩ => ⟨S288, .i32⟩
  | .local _ .smem, ⟨1, _⟩ => ⟨S1, .i32⟩
  | _, _ => ⟨S589824x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnReferenceIdeal.lean ====
abbrev S589824x128 : Shape := ⟨2, ![589824, 128]⟩
abbrev S288 : Shape := ⟨1, ![288]⟩
abbrev S1 : Shape := ⟨1, ![1]⟩
abbrev S32x1024x1024 : Shape := ⟨3, ![32, 1024, 1024]⟩
abbrev S32x1x1024 : Shape := ⟨3, ![32, 1, 1024]⟩
abbrev S2x32x1024x1024 : Shape := ⟨4, ![2, 32, 1024, 1024]⟩
abbrev S288x256x1024 : Shape := ⟨3, ![288, 256, 1024]⟩
abbrev S288x1 : Shape := ⟨2, ![288, 1]⟩
abbrev S288x1024x1024 : Shape := ⟨3, ![288, 1024, 1024]⟩
abbrev S288x1x1024 : Shape := ⟨3, ![288, 1, 1024]⟩
abbrev S_ : Shape := ⟨0, ![]⟩
abbrev S1x32x1024x1024 : Shape := ⟨4, ![1, 32, 1024, 1024]⟩
abbrev S288x1x1 : Shape := ⟨3, ![288, 1, 1]⟩

abbrev nBuf : Space → Nat
  | .hbm => 73
  | .vmem => 0
  | .smem => 0
  | _ => 0

abbrev bufTy : (tb : Table) → Fin (tcTables nBuf tb) → BufTy
  | .hbm, ⟨0, _⟩ => ⟨S589824x128, .f32⟩
  | .hbm, ⟨1, _⟩ => ⟨S288, .i32⟩
  | .hbm, ⟨2, _⟩ => ⟨S1, .i32⟩
  | .hbm, ⟨3, _⟩ => ⟨S32x1024x1024, .bf16⟩
  | .hbm, ⟨4, _⟩ => ⟨S32x1x1024, .f32⟩
  | .hbm, ⟨5, _⟩ => ⟨S32x1024x1024, .bf16⟩
  | .hbm, ⟨6, _⟩ => ⟨S32x1x1024, .f32⟩
  | .hbm, ⟨7, _⟩ => ⟨S2x32x1024x1024, .bf16⟩
  | .hbm, ⟨8, _⟩ => ⟨S32x1x1024, .f32⟩
  | .hbm, ⟨9, _⟩ => ⟨S288x256x1024, .f32⟩
  | .hbm, ⟨10, _⟩ => ⟨S32x1024x1024, .f32⟩
  | .hbm, ⟨11, _⟩ => ⟨S288x1, .i32⟩
  | .hbm, ⟨12, _⟩ => ⟨S288x1024x1024, .f32⟩
  | .hbm, ⟨13, _⟩ => ⟨S288x256x1024, .f32⟩
  | .hbm, ⟨14, _⟩ => ⟨S288x1, .i32⟩
  | .hbm, ⟨15, _⟩ => ⟨S288x1x1024, .f32⟩
  | .hbm, ⟨16, _⟩ => ⟨S288x256x1024, .f32⟩
  | .hbm, ⟨17, _⟩ => ⟨S288x256x1024, .f32⟩
  | .hbm, ⟨18, _⟩ => ⟨S_, .f32⟩
  | .hbm, ⟨19, _⟩ => ⟨S288x256x1024, .f32⟩
  | .hbm, ⟨20, _⟩ => ⟨S288x256x1024, .f32⟩
  | .hbm, ⟨21, _⟩ => ⟨S32x1024x1024, .f32⟩
  | .hbm, ⟨22, _⟩ => ⟨S288x1, .i32⟩
  | .hbm, ⟨23, _⟩ => ⟨S288x1024x1024, .f32⟩
  | .hbm, ⟨24, _⟩ => ⟨S288x256x1024, .f32⟩
  | .hbm, ⟨25, _⟩ => ⟨S288x1, .i32⟩
  | .hbm, ⟨26, _⟩ => ⟨S288x1x1024, .f32⟩
  | .hbm, ⟨27, _⟩ => ⟨S288x256x1024, .f32⟩
  | .hbm, ⟨28, _⟩ => ⟨S288x256x1024, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S288x256x1024, .f32⟩
  | .hbm, ⟨33, _⟩ => ⟨S288x256x1024, .f32⟩
  | .hbm, ⟨34, _⟩ => ⟨S_, .f32⟩
  | .hbm, ⟨35, _⟩ => ⟨S288x256x1024, .f32⟩
  | .hbm, ⟨36, _⟩ => ⟨S288x256x1024, .f32⟩
  | .hbm, ⟨37, _⟩ => ⟨S_, .f32⟩
  | .hbm, ⟨38, _⟩ => ⟨S288x256x1024, .f32⟩
  | .hbm, ⟨39, _⟩ => ⟨S288x256x1024, .f32⟩
  | .hbm, ⟨40, _⟩ => ⟨S288x256x1024, .f32⟩
  | .hbm, ⟨41, _⟩ => ⟨S288x256x1024, .f32⟩
  | .hbm, ⟨42, _⟩ => ⟨S_, .f32⟩
  | .hbm, ⟨43, _⟩ => ⟨S288x256x1024, .f32⟩
  | .hbm, ⟨44, _⟩ => ⟨S288x256x1024, .f32⟩
  | .hbm, ⟨45, _⟩ => ⟨S_, .f32⟩
  | .hbm, ⟨46, _⟩ => ⟨S288x256x1024, .f32⟩
  | .hbm, ⟨47, _⟩ => ⟨S288x256x1024, .f32⟩
  | .hbm, ⟨48, _⟩ => ⟨S288x256x1024, .f32⟩
  | .hbm, ⟨49, _⟩ => ⟨S_, .f32⟩
  | .hbm, ⟨50, _⟩ => ⟨S288x256x1024, .f32⟩
  | .hbm, ⟨51, _⟩ => ⟨S288x256x1024, .f32⟩
  | .hbm, ⟨52, _⟩ => ⟨S288x256x1024, .f32⟩
  | .hbm, ⟨53, _⟩ => ⟨S1x32x1024x1024, .bf16⟩
  | .hbm, ⟨54, _⟩ => ⟨S32x1024x1024, .bf16⟩
  | .hbm, ⟨55, _⟩ => ⟨S32x1024x1024, .f32⟩
  | .hbm, ⟨56, _⟩ => ⟨S288x1, .i32⟩
  | .hbm, ⟨57, _⟩ => ⟨S288x1024x1024, .f32⟩
  | .hbm, ⟨58, _⟩ => ⟨S288x256x1024, .f32⟩
  | .hbm, ⟨59, _⟩ => ⟨S288x1, .i32⟩
  | .hbm, ⟨60, _⟩ => ⟨S288x1x1024, .f32⟩
  | .hbm, ⟨61, _⟩ => ⟨S288x256x1024, .f32⟩
  | .hbm, ⟨62, _⟩ => ⟨S288x256x1024, .f32⟩
  | .hbm, ⟨63, _⟩ => ⟨S288, .i32⟩
  | .hbm, ⟨64, _⟩ => ⟨S288, .i32⟩
  | .hbm, ⟨65, _⟩ => ⟨S288, .i1⟩
  | .hbm, ⟨66, _⟩ => ⟨S288x1x1, .i1⟩
  | .hbm, ⟨67, _⟩ => ⟨S_, .f32⟩
  | .hbm, ⟨68, _⟩ => ⟨S_, .f32⟩
  | .hbm, ⟨69, _⟩ => ⟨S288x256x1024, .i1⟩
  | .hbm, ⟨70, _⟩ => ⟨S288x256x1024, .f32⟩
  | .hbm, ⟨71, _⟩ => ⟨S288x256x1024, .f32⟩
  | .hbm, ⟨72, _⟩ => ⟨S589824x128, .f32⟩
  | _, _ => ⟨S589824x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call2_v0 : Ref sig .tc := ⟨.hbm, 22, rfl⟩
abbrev main_v10 : Ref sig .tc := ⟨.hbm, 23, rfl⟩
abbrev main_v11 : Ref sig .tc := ⟨.hbm, 24, rfl⟩
abbrev main_call3_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_cst_1 : Ref sig .tc := ⟨.hbm, 30, rfl⟩
abbrev main_call4_v0 : Ref sig .tc := ⟨.hbm, 31, rfl⟩
abbrev main_call4_v1 : Ref sig .tc := ⟨.hbm, 32, rfl⟩
abbrev main_call4_v2 : Ref sig .tc := ⟨.hbm, 33, rfl⟩
abbrev main_call4_v3 : Ref sig .tc := ⟨.hbm, 34, rfl⟩
abbrev main_call4_v4 : Ref sig .tc := ⟨.hbm, 35, rfl⟩
abbrev main_v15 : Ref sig .tc := ⟨.hbm, 36, rfl⟩
abbrev main_cst_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_call5_v0 : Ref sig .tc := ⟨.hbm, 56, rfl⟩
abbrev main_v31 : Ref sig .tc := ⟨.hbm, 57, rfl⟩
abbrev main_v32 : Ref sig .tc := ⟨.hbm, 58, rfl⟩
abbrev main_call6_v0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_call7_v0 : Ref sig .tc := ⟨.hbm, 68, rfl⟩
abbrev main_call7_v1 : Ref sig .tc := ⟨.hbm, 69, rfl⟩
abbrev main_call7_v2 : Ref sig .tc := ⟨.hbm, 70, rfl⟩
abbrev main_v40 : Ref sig .tc := ⟨.hbm, 71, rfl⟩
abbrev main_v41 : Ref sig .tc := ⟨.hbm, 72, rfl⟩

abbrev nD : Nat := 1
abbrev τ : Topo := Topo.v7x

variable {F : FTy → Type} [FloatOps F]
-- ==== Inproj.lean ====
abbrev S16384x1024 : Shape := ⟨2, ![16384, 1024]⟩
abbrev S4x6x1024 : Shape := ⟨3, ![4, 6, 1024]⟩
abbrev S1024 : Shape := ⟨1, ![1024]⟩
abbrev S8192x1024 : Shape := ⟨2, ![8192, 1024]⟩
abbrev S1x1024 : Shape := ⟨2, ![1, 1024]⟩
abbrev S16384x8192 : Shape := ⟨2, ![16384, 8192]⟩
abbrev S1024x1024 : Shape := ⟨2, ![1024, 1024]⟩
abbrev S1x6x1024 : Shape := ⟨3, ![1, 6, 1024]⟩
abbrev S1024x1 : Shape := ⟨2, ![1024, 1]⟩
abbrev S1x1x1024 : Shape := ⟨3, ![1, 1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S4x6x1024, .f32⟩
  | .hbm, ⟨2, _⟩ => ⟨S1024, .f32⟩
  | .hbm, ⟨3, _⟩ => ⟨S8192x1024, .bf16⟩
  | .hbm, ⟨4, _⟩ => ⟨S1x1024, .f32⟩
  | .hbm, ⟨5, _⟩ => ⟨S16384x8192, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InprojReferenceIdeal.lean ====
abbrev S16384x1024 : Shape := ⟨2, ![16384, 1024]⟩
abbrev S4x6x1024 : Shape := ⟨3, ![4, 6, 1024]⟩
abbrev S1024 : Shape := ⟨1, ![1024]⟩
abbrev S8192x1024 : Shape := ⟨2, ![8192, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x1024 : Shape := ⟨2, ![4, 1024]⟩
abbrev S4x4096x8192 : Shape := ⟨3, ![4, 4096, 8192]⟩
abbrev S16384x8192 : Shape := ⟨2, ![16384, 8192]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x6x1024, .f32⟩
  | .hbm, ⟨2, _⟩ => ⟨S1024, .f32⟩
  | .hbm, ⟨3, _⟩ => ⟨S8192x1024, .bf16⟩
  | .hbm, ⟨4, _⟩ => ⟨S4x4096x1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x1x1024, .f32⟩
  | .hbm, ⟨22, _⟩ => ⟨S4x1024, .f32⟩
  | .hbm, ⟨23, _⟩ => ⟨S4x1x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x4096x1024, .f32⟩
  | .hbm, ⟨28, _⟩ => ⟨S4x4096x1024, .f32⟩
  | .hbm, ⟨29, _⟩ => ⟨S4x1x1024, .f32⟩
  | .hbm, ⟨30, _⟩ => ⟨S4x1024, .f32⟩
  | .hbm, ⟨31, _⟩ => ⟨S4x1x1024, .f32⟩
  | .hbm, ⟨32, _⟩ => ⟨S4x4096x1024, .f32⟩
  | .hbm, ⟨33, _⟩ => ⟨S4x4096x1024, .f32⟩
  | .hbm, ⟨34, _⟩ => ⟨S8192x1024, .f32⟩
  | .hbm, ⟨35, _⟩ => ⟨S4x4096x8192, .f32⟩
  | .hbm, ⟨36, _⟩ => ⟨S16384x8192, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Merge.lean ====
abbrev S16384x512 : Shape := ⟨2, ![16384, 512]⟩
abbrev S16384x8192 : Shape := ⟨2, ![16384, 8192]⟩
abbrev S16384x1024 : Shape := ⟨2, ![16384, 1024]⟩
abbrev S4x6x1024 : Shape := ⟨3, ![4, 6, 1024]⟩
abbrev S512x1024 : Shape := ⟨2, ![512, 1024]⟩
abbrev S1024x1024 : Shape := ⟨2, ![1024, 1024]⟩
abbrev S1x1024 : Shape := ⟨2, ![1, 1024]⟩
abbrev S1024x128 : Shape := ⟨2, ![1024, 128]⟩
abbrev S1x128 : Shape := ⟨2, ![1, 128]⟩
abbrev S131072x128 : Shape := ⟨2, ![131072, 128]⟩
abbrev S16384x128 : Shape := ⟨2, ![16384, 128]⟩
abbrev S512x512 : Shape := ⟨2, ![512, 512]⟩
abbrev S1x6x1024 : Shape := ⟨3, ![1, 6, 1024]⟩
abbrev S4096x128 : Shape := ⟨2, ![4096, 128]⟩
abbrev S512x128 : Shape := ⟨2, ![512, 128]⟩
abbrev S1x1x1024 : Shape := ⟨3, ![1, 1, 1024]⟩
abbrev S512 : Shape := ⟨1, ![512]⟩
abbrev S512x1 : Shape := ⟨2, ![512, 1]⟩
abbrev S128 : Shape := ⟨1, ![128]⟩

abbrev nBuf : Space → Nat
  | .hbm => 19
  | .vmem => 35
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x8192, .f32⟩
  | .hbm, ⟨4, _⟩ => ⟨S16384x1024, .f32⟩
  | .hbm, ⟨5, _⟩ => ⟨S4x6x1024, .f32⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S1x1024, .f32⟩
  | .hbm, ⟨11, _⟩ => ⟨S1024x128, .bf16⟩
  | .hbm, ⟨12, _⟩ => ⟨S1x128, .f32⟩
  | .hbm, ⟨13, _⟩ => ⟨S16384x1024, .f32⟩
  | .hbm, ⟨14, _⟩ => ⟨S131072x128, .f32⟩
  | .hbm, ⟨15, _⟩ => ⟨S16384x128, .i32⟩
  | .hbm, ⟨16, _⟩ => ⟨S16384x128, .f32⟩
  | .hbm, ⟨17, _⟩ => ⟨S16384x128, .i32⟩
  | .hbm, ⟨18, _⟩ => ⟨S1x128, .i32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x6x1024, .f32⟩
  | .local _ .vmem, ⟨15, _⟩ => ⟨S1x6x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S1x1024, .f32⟩
  | .local _ .vmem, ⟨21, _⟩ => ⟨S1024x128, .bf16⟩
  | .local _ .vmem, ⟨22, _⟩ => ⟨S1x128, .f32⟩
  | .local _ .vmem, ⟨23, _⟩ => ⟨S512x1024, .f32⟩
  | .local _ .vmem, ⟨24, _⟩ => ⟨S512x1024, .f32⟩
  | .local _ .vmem, ⟨25, _⟩ => ⟨S4096x128, .f32⟩
  | .local _ .vmem, ⟨26, _⟩ => ⟨S4096x128, .f32⟩
  | .local _ .vmem, ⟨27, _⟩ => ⟨S512x128, .i32⟩
  | .local _ .vmem, ⟨28, _⟩ => ⟨S512x128, .i32⟩
  | .local _ .vmem, ⟨29, _⟩ => ⟨S512x128, .f32⟩
  | .local _ .vmem, ⟨30, _⟩ => ⟨S512x128, .f32⟩
  | .local _ .vmem, ⟨31, _⟩ => ⟨S512x128, .i32⟩
  | .local _ .vmem, ⟨32, _⟩ => ⟨S512x128, .i32⟩
  | .local _ .vmem, ⟨33, _⟩ => ⟨S1x128, .i32⟩
  | .local _ .vmem, ⟨34, _⟩ => ⟨S1x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4096x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .i32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x128 .i32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== MergeReferenceIdeal.lean ====
abbrev S16384x512 : Shape := ⟨2, ![16384, 512]⟩
abbrev S16384x8192 : Shape := ⟨2, ![16384, 8192]⟩
abbrev S16384x1024 : Shape := ⟨2, ![16384, 1024]⟩
abbrev S4x6x1024 : Shape := ⟨3, ![4, 6, 1024]⟩
abbrev S512x1024 : Shape := ⟨2, ![512, 1024]⟩
abbrev S1024x1024 : Shape := ⟨2, ![1024, 1024]⟩
abbrev S1x1024 : Shape := ⟨2, ![1, 1024]⟩
abbrev S1024x128 : Shape := ⟨2, ![1024, 128]⟩
abbrev S1x128 : Shape := ⟨2, ![1, 128]⟩
abbrev S16384x3072 : Shape := ⟨2, ![16384, 3072]⟩
abbrev S_ : Shape := ⟨0, ![]⟩
abbrev S4x4096x3x1024 : Shape := ⟨4, ![4, 4096, 3, 1024]⟩
abbrev S4x4096x1x1024 : Shape := ⟨4, ![4, 4096, 1, 1024]⟩
abbrev S4x4096x1024 : Shape := ⟨3, ![4, 4096, 1024]⟩
abbrev S4x4096x512 : Shape := ⟨3, ![4, 4096, 512]⟩
abbrev S4x1x1024 : Shape := ⟨3, ![4, 1, 1024]⟩
abbrev S4x1024 : Shape := ⟨2, ![4, 1024]⟩
abbrev S4x4096 : Shape := ⟨2, ![4, 4096]⟩
abbrev S4x4096x1 : Shape := ⟨3, ![4, 4096, 1]⟩
abbrev S1024 : Shape := ⟨1, ![1024]⟩
abbrev S1x1x1024 : Shape := ⟨3, ![1, 1, 1024]⟩
abbrev S131072x128 : Shape := ⟨2, ![131072, 128]⟩

abbrev nBuf : Space → Nat
  | .hbm => 87
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x8192, .f32⟩
  | .hbm, ⟨4, _⟩ => ⟨S16384x1024, .f32⟩
  | .hbm, ⟨5, _⟩ => ⟨S4x6x1024, .f32⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S1x1024, .f32⟩
  | .hbm, ⟨11, _⟩ => ⟨S1024x128, .bf16⟩
  | .hbm, ⟨12, _⟩ => ⟨S1x128, .f32⟩
  | .hbm, ⟨13, _⟩ => ⟨S16384x3072, .f32⟩
  | .hbm, ⟨14, _⟩ => ⟨S16384x3072, .f32⟩
  | .hbm, ⟨15, _⟩ => ⟨S16384x3072, .f32⟩
  | .hbm, ⟨16, _⟩ => ⟨S_, .f32⟩
  | .hbm, ⟨17, _⟩ => ⟨S16384x3072, .f32⟩
  | .hbm, ⟨18, _⟩ => ⟨S16384x3072, .f32⟩
  | .hbm, ⟨19, _⟩ => ⟨S_, .f32⟩
  | .hbm, ⟨20, _⟩ => ⟨S16384x3072, .f32⟩
  | .hbm, ⟨21, _⟩ => ⟨S16384x3072, .f32⟩
  | .hbm, ⟨22, _⟩ => ⟨S4x4096x3x1024, .f32⟩
  | .hbm, ⟨23, _⟩ => ⟨S4x4096x1x1024, .f32⟩
  | .hbm, ⟨24, _⟩ => ⟨S4x4096x1024, .f32⟩
  | .hbm, ⟨25, _⟩ => ⟨S16384x512, .f32⟩
  | .hbm, ⟨26, _⟩ => ⟨S4x4096x512, .f32⟩
  | .hbm, ⟨27, _⟩ => ⟨S512x1024, .f32⟩
  | .hbm, ⟨28, _⟩ => ⟨S4x4096x1024, .f32⟩
  | .hbm, ⟨29, _⟩ => ⟨S4x4096x1024, .f32⟩
  | .hbm, ⟨30, _⟩ => ⟨S4x4096x1x1024, .f32⟩
  | .hbm, ⟨31, _⟩ => ⟨S4x4096x1024, .f32⟩
  | .hbm, ⟨32, _⟩ => ⟨S16384x512, .f32⟩
  | .hbm, ⟨33, _⟩ => ⟨S4x4096x512, .f32⟩
  | .hbm, ⟨34, _⟩ => ⟨S512x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S4x4096x1x1024, .f32⟩
  | .hbm, ⟨39, _⟩ => ⟨S4x4096x1024, .f32⟩
  | .hbm, ⟨40, _⟩ => ⟨S16384x512, .f32⟩
  | .hbm, ⟨41, _⟩ => ⟨S4x4096x512, .f32⟩
  | .hbm, ⟨42, _⟩ => ⟨S512x1024, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | .hbm, ⟨47, _⟩ => ⟨S4x1x1024, .f32⟩
  | .hbm, ⟨48, _⟩ => ⟨S4x1024, .f32⟩
  | .hbm, ⟨49, _⟩ => ⟨S4x1x1024, .f32⟩
  | .hbm, ⟨50, _⟩ => ⟨S1024x1024, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S_, .f32⟩
  | .hbm, ⟨57, _⟩ => ⟨S4x4096, .f32⟩
  | .hbm, ⟨58, _⟩ => ⟨S4x4096x1, .f32⟩
  | .hbm, ⟨59, _⟩ => ⟨S_, .f32⟩
  | .hbm, ⟨60, _⟩ => ⟨S4x4096x1, .f32⟩
  | .hbm, ⟨61, _⟩ => ⟨S4x4096x1, .f32⟩
  | .hbm, ⟨62, _⟩ => ⟨S_, .f32⟩
  | .hbm, ⟨63, _⟩ => ⟨S4x4096x1, .f32⟩
  | .hbm, ⟨64, _⟩ => ⟨S4x4096x1, .f32⟩
  | .hbm, ⟨65, _⟩ => ⟨S4x4096x1, .f32⟩
  | .hbm, ⟨66, _⟩ => ⟨S4x4096x1024, .f32⟩
  | .hbm, ⟨67, _⟩ => ⟨S4x4096x1024, .f32⟩
  | .hbm, ⟨68, _⟩ => ⟨S1024, .f32⟩
  | .hbm, ⟨69, _⟩ => ⟨S1x1x1024, .f32⟩
  | .hbm, ⟨70, _⟩ => ⟨S4x4096x1024, .f32⟩
  | .hbm, ⟨71, _⟩ => ⟨S4x4096x1024, .f32⟩
  | .hbm, ⟨72, _⟩ => ⟨S4x1x1024, .f32⟩
  | .hbm, ⟨73, _⟩ => ⟨S4x1024, .f32⟩
  | .hbm, ⟨74, _⟩ => ⟨S4x1x1024, .f32⟩
  | .hbm, ⟨75, _⟩ => ⟨S_, .f32⟩
  | .hbm, ⟨76, _⟩ => ⟨S4x1x1024, .f32⟩
  | .hbm, ⟨77, _⟩ => ⟨S4x1x1024, .f32⟩
  | .hbm, ⟨78, _⟩ => ⟨S4x4096x1024, .f32⟩
  | .hbm, ⟨79, _⟩ => ⟨S4x4096x1024, .f32⟩
  | .hbm, ⟨80, _⟩ => ⟨S4x1x1024, .f32⟩
  | .hbm, ⟨81, _⟩ => ⟨S4x1024, .f32⟩
  | .hbm, ⟨82, _⟩ => ⟨S4x1x1024, .f32⟩
  | .hbm, ⟨83, _⟩ => ⟨S4x4096x1024, .f32⟩
  | .hbm, ⟨84, _⟩ => ⟨S4x4096x1024, .f32⟩
  | .hbm, ⟨85, _⟩ => ⟨S16384x1024, .f32⟩
  | .hbm, ⟨86, _⟩ => ⟨S131072x128, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_1 : Ref sig .tc := ⟨.hbm, 56, rfl⟩
abbrev main_v41 : Ref sig .tc := ⟨.hbm, 57, rfl⟩
abbrev main_v42 : Ref sig .tc := ⟨.hbm, 58, rfl⟩
abbrev main_cst_2 : Ref sig .tc := ⟨.hbm, 59, rfl⟩
abbrev main_v43 : Ref sig .tc := ⟨.hbm, 60, rfl⟩
abbrev main_v44 : Ref sig .tc := ⟨.hbm, 61, rfl⟩
abbrev main_cst_3 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_4 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩

abbrev nD : Nat := 1
abbrev τ : Topo := Topo.v7x

variable {F : FTy → Type} [FloatOps F]
-- ==== Prompt.lean ====
abbrev S16384x512 : Shape := ⟨2, ![16384, 512]⟩
abbrev S4x64 : Shape := ⟨2, ![4, 64]⟩
abbrev S1x128 : Shape := ⟨2, ![1, 128]⟩
abbrev S36 : Shape := ⟨1, ![36]⟩
abbrev S512x128 : Shape := ⟨2, ![512, 128]⟩
abbrev S1 : Shape := ⟨1, ![1]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩
abbrev S512x512 : Shape := ⟨2, ![512, 512]⟩
abbrev S1x64 : Shape := ⟨2, ![1, 64]⟩
abbrev S1x1 : Shape := ⟨2, ![1, 1]⟩
abbrev S512 : Shape := ⟨1, ![512]⟩
abbrev S512x1 : Shape := ⟨2, ![512, 1]⟩

abbrev nBuf : Space → Nat
  | .hbm => 6
  | .vmem => 14
  | .smem => 2
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S4x64, .f32⟩
  | .hbm, ⟨4, _⟩ => ⟨S1x128, .f32⟩
  | .hbm, ⟨5, _⟩ => ⟨S16384x512, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S4x64, .f32⟩
  | .local _ .vmem, ⟨7, _⟩ => ⟨S1x128, .f32⟩
  | .local _ .vmem, ⟨8, _⟩ => ⟨S512x128, .bf16⟩
  | .local _ .vmem, ⟨9, _⟩ => ⟨S512x128, .bf16⟩
  | .local _ .vmem, ⟨10, _⟩ => ⟨S1024x128, .bf16⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .smem, ⟨0, _⟩ => ⟨S36, .i32⟩
  | .local _ .smem, ⟨1, _⟩ => ⟨S36, .i32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 36], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c0_i32 : BitVec 32 := 0#32
  ![v3.toNat, arg1.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S36) ![v1.toNat] S1.size (k0_off1_inb i)) numel1_S1
  let v3 : BitVec 32 := Scalar.addi v0 v2
  let c0_i32 : BitVec 32 := 0#32
  ![v3.toNat, arg1.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S36) ![v1.toNat] S1.size (k0_off1_inb i)) numel1_S1
  let v3 : BitVec 32 := Scalar.addi v0 v2
  let c0_i32 : BitVec 32 := 0#32
  ![v3.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c0_i32 : BitVec 32 := 0#32
  ![v3.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== PromptIdeal.lean ====
variable {F : FTy → Type} [FloatOps F] [Named F]
def κ : String → Option EReal := fun
  | "mask" => some ⊥
  | _ => none
-- ==== PromptReferenceIdeal.lean ====
abbrev S16384x512 : Shape := ⟨2, ![16384, 512]⟩
abbrev S4x64 : Shape := ⟨2, ![4, 64]⟩
abbrev S1x128 : Shape := ⟨2, ![1, 128]⟩
abbrev S4x4096x4x2x64 : Shape := ⟨5, ![4, 4096, 4, 2, 64]⟩
abbrev S4x4096x4x128 : Shape := ⟨4, ![4, 4096, 4, 128]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S4x4x2x4096x4096 : Shape := ⟨5, ![4, 4, 2, 4096, 4096]⟩
abbrev S4x4x2x4096 : Shape := ⟨4, ![4, 4, 2, 4096]⟩
abbrev S4x4x2x4096x1 : Shape := ⟨5, ![4, 4, 2, 4096, 1]⟩
abbrev S1x64 : Shape := ⟨2, ![1, 64]⟩
abbrev S64 : Shape := ⟨1, ![64]⟩
abbrev S4x4x1x4096x4096 : Shape := ⟨5, ![4, 4, 1, 4096, 4096]⟩
abbrev S4x4x4096x4096 : Shape := ⟨4, ![4, 4, 4096, 4096]⟩
abbrev S4x4x128x4096 : Shape := ⟨4, ![4, 4, 128, 4096]⟩
abbrev S4x4096x4 : Shape := ⟨3, ![4, 4096, 4]⟩
abbrev S4x4096x4x1 : Shape := ⟨4, ![4, 4096, 4, 1]⟩
abbrev S128 : Shape := ⟨1, ![128]⟩
abbrev S1x1x1x128 : Shape := ⟨4, ![1, 1, 1, 128]⟩

abbrev nBuf : Space → Nat
  | .hbm => 93
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S4x64, .f32⟩
  | .hbm, ⟨4, _⟩ => ⟨S1x128, .f32⟩
  | .hbm, ⟨5, _⟩ => ⟨S16384x512, .f32⟩
  | .hbm, ⟨6, _⟩ => ⟨S4x4096x4x2x64, .f32⟩
  | .hbm, ⟨7, _⟩ => ⟨S16384x512, .f32⟩
  | .hbm, ⟨8, _⟩ => ⟨S4x4096x4x2x64, .f32⟩
  | .hbm, ⟨9, _⟩ => ⟨S16384x512, .f32⟩
  | .hbm, ⟨10, _⟩ => ⟨S4x4096x4x128, .f32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S1x4096, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S4x4x2x4096x4096, .f32⟩
  | .hbm, ⟨24, _⟩ => ⟨S_, .f32⟩
  | .hbm, ⟨25, _⟩ => ⟨S_, .f32⟩
  | .hbm, ⟨26, _⟩ => ⟨S4x4x2x4096x4096, .i1⟩
  | .hbm, ⟨27, _⟩ => ⟨S4x4x2x4096x4096, .f32⟩
  | .hbm, ⟨28, _⟩ => ⟨S4x4x2x4096x4096, .f32⟩
  | .hbm, ⟨29, _⟩ => ⟨S_, .f32⟩
  | .hbm, ⟨30, _⟩ => ⟨S4x4x2x4096, .f32⟩
  | .hbm, ⟨31, _⟩ => ⟨S_, .f32⟩
  | .hbm, ⟨32, _⟩ => ⟨S4x4x2x4096, .f32⟩
  | .hbm, ⟨33, _⟩ => ⟨S4x4x2x4096, .f32⟩
  | .hbm, ⟨34, _⟩ => ⟨S4x4x2x4096x1, .f32⟩
  | .hbm, ⟨35, _⟩ => ⟨S4x4x2x4096x4096, .f32⟩
  | .hbm, ⟨36, _⟩ => ⟨S4x4x2x4096x4096, .f32⟩
  | .hbm, ⟨37, _⟩ => ⟨S4x4x2x4096x4096, .f32⟩
  | .hbm, ⟨38, _⟩ => ⟨S_, .f32⟩
  | .hbm, ⟨39, _⟩ => ⟨S4x4x2x4096, .f32⟩
  | .hbm, ⟨40, _⟩ => ⟨S4x4x2x4096x1, .f32⟩
  | .hbm, ⟨41, _⟩ => ⟨S4x4x2x4096x4096, .f32⟩
  | .hbm, ⟨42, _⟩ => ⟨S4x4x2x4096x4096, .f32⟩
  | .hbm, ⟨43, _⟩ => ⟨S1x64, .f32⟩
  | .hbm, ⟨44, _⟩ => ⟨S64, .f32⟩
  | .hbm, ⟨45, _⟩ => ⟨S1x64, .f32⟩
  | .hbm, ⟨46, _⟩ => ⟨S64, .f32⟩
  | .hbm, ⟨47, _⟩ => ⟨S64, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1x64, .f32⟩
  | .hbm, ⟨52, _⟩ => ⟨S64, .f32⟩
  | .hbm, ⟨53, _⟩ => ⟨S1x64, .f32⟩
  | .hbm, ⟨54, _⟩ => ⟨S64, .f32⟩
  | .hbm, ⟨55, _⟩ => ⟨S64, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S4x4x1x4096x4096, .f32⟩
  | .hbm, ⟨63, _⟩ => ⟨S4x4x4096x4096, .f32⟩
  | .hbm, ⟨64, _⟩ => ⟨S4x4x1x4096x4096, .f32⟩
  | .hbm, ⟨65, _⟩ => ⟨S4x4x4096x4096, .f32⟩
  | .hbm, ⟨66, _⟩ => ⟨S4x4x4096x4096, .f32⟩
  | .hbm, ⟨67, _⟩ => ⟨S4x4x4096x4096, .f32⟩
  | .hbm, ⟨68, _⟩ => ⟨S4x4x4096x4096, .f32⟩
  | .hbm, ⟨69, _⟩ => ⟨S4x4x128x4096, .f32⟩
  | .hbm, ⟨70, _⟩ => ⟨S4x4096x4x128, .f32⟩
  | .hbm, ⟨71, _⟩ => ⟨S4x4096x4x128, .f32⟩
  | .hbm, ⟨72, _⟩ => ⟨S_, .f32⟩
  | .hbm, ⟨73, _⟩ => ⟨S4x4096x4, .f32⟩
  | .hbm, ⟨74, _⟩ => ⟨S4x4096x4x1, .f32⟩
  | .hbm, ⟨75, _⟩ => ⟨S_, .f32⟩
  | .hbm, ⟨76, _⟩ => ⟨S4x4096x4x1, .f32⟩
  | .hbm, ⟨77, _⟩ => ⟨S4x4096x4x1, .f32⟩
  | .hbm, ⟨78, _⟩ => ⟨S_, .f32⟩
  | .hbm, ⟨79, _⟩ => ⟨S4x4096x4x1, .f32⟩
  | .hbm, ⟨80, _⟩ => ⟨S4x4096x4x1, .f32⟩
  | .hbm, ⟨81, _⟩ => ⟨S4x4096x4x1, .f32⟩
  | .hbm, ⟨82, _⟩ => ⟨S4x4096x4x128, .f32⟩
  | .hbm, ⟨83, _⟩ => ⟨S4x4096x4x128, .f32⟩
  | .hbm, ⟨84, _⟩ => ⟨S128, .f32⟩
  | .hbm, ⟨85, _⟩ => ⟨S1x1x1x128, .f32⟩
  | .hbm, ⟨86, _⟩ => ⟨S4x4096x4x128, .f32⟩
  | .hbm, ⟨87, _⟩ => ⟨S4x4096x4x128, .f32⟩
  | .hbm, ⟨88, _⟩ => ⟨S_, .f32⟩
  | .hbm, ⟨89, _⟩ => ⟨S4x4096x4x128, .f32⟩
  | .hbm, ⟨90, _⟩ => ⟨S4x4096x4x128, .f32⟩
  | .hbm, ⟨91, _⟩ => ⟨S16384x512, .f32⟩
  | .hbm, ⟨92, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_v56 : Ref sig .tc := ⟨.hbm, 74, rfl⟩
abbrev main_cst_8 : Ref sig .tc := ⟨.hbm, 75, rfl⟩
abbrev main_v57 : Ref sig .tc := ⟨.hbm, 76, rfl⟩
abbrev main_v58 : Ref sig .tc := ⟨.hbm, 77, rfl⟩
abbrev main_cst_9 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_10 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]
-- ==== Proof.Attention.Math.lean ====
/-
  The softmax over a cached part and a new part of the keys, over the extended reals, with finite scores and values.
-/
module

public import Idealize.ShloMosaic.PureOps.Ideal
public import Mathlib.Algebra.BigOperators.Fin

@[expose] public section

noncomputable section

namespace Cert.Proof.Attention

open Idealize.ShloMosaic Finset

/-- The word of minus infinity reads as the least extended real. -/
theorem neg_inf : Ideal.ofBits FTy.f32 4286578688#32 = ⊥ := by
  simp [Ideal.ofBits, Ideal.ieee]

/-- A sum of reals, read as extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s h ih => rw [Finset.sum_insert h, Finset.sum_insert h, EReal.coe_add, ih]

/-- A quotient of reals by a nonzero real. -/
theorem div_real (x y : ℝ) (h : y ≠ 0) : Ideal.div (x : EReal) (y : EReal) = ((x / y : ℝ) : EReal) := by
  rw [Ideal.div_coe h, ← EReal.coe_mul, mul_one_div]

/-- The greatest of the cached scores and the new scores. -/
def top (sp : Fin 2048 → EReal) (sn : Fin 64 → EReal) : EReal :=
  max (fold max (Ideal.ofBits FTy.f32 4286578688#32) sp univ) (fold max (Ideal.ofBits FTy.f32 4286578688#32) sn univ)

/-- The sum of the exponentials over the greatest score. -/
def total (sp : Fin 2048 → EReal) (sn : Fin 64 → EReal) : EReal :=
  ∑ k, Ideal.exp (sp k - top sp sn) + ∑ k, Ideal.exp (sn k - top sp sn)

/-- The softmax weight of a score. -/
def weight (sp : Fin 2048 → EReal) (sn : Fin 64 → EReal) (x : EReal) : EReal :=
  Ideal.div (Ideal.exp (x - top sp sn)) (total sp sn)

/-- The values under the exponentials, divided once at the end. -/
def average (sp : Fin 2048 → EReal) (sn : Fin 64 → EReal) (vp : Fin 2048 → EReal) (vn : Fin 64 → EReal) : EReal :=
  Ideal.div (∑ k, Ideal.exp (sp k - top sp sn) * vp k + ∑ k, Ideal.exp (sn k - top sp sn) * vn k) (total sp sn)

/-- The values under the difference of two softmaxes. -/
def differ (sp0 : Fin 2048 → EReal) (sn0 : Fin 64 → EReal) (sp1 : Fin 2048 → EReal) (sn1 : Fin 64 → EReal) (lam : EReal)
    (vp : Fin 2048 → EReal) (vn : Fin 64 → EReal) : EReal :=
  ∑ k, vp k * (weight sp0 sn0 (sp0 k) - lam * weight sp1 sn1 (sp1 k))
    + ∑ k, vn k * (weight sp0 sn0 (sn0 k) - lam * weight sp1 sn1 (sn1 k))

/-- The greatest of finitely many finite scores is finite. -/
theorem top_real (a : Fin 2048 → ℝ) (b : Fin 64 → ℝ) : ∃ M : ℝ, top (fun k => (a k : EReal)) (fun k => (b k : EReal)) = M := by
  have h1 : top (fun k => (a k : EReal)) (fun k => (b k : EReal)) ≠ ⊤ := by
    have : top (fun k => (a k : EReal)) (fun k => (b k : EReal)) < ⊤ := by
      rw [top, neg_inf]
      refine max_lt ?_ ?_ <;>
        exact (Finset.fold_max_lt (c := (⊤ : EReal))).mpr ⟨bot_lt_top, fun x _ => EReal.coe_lt_top _⟩
    exact this.ne
  have h2 : top (fun k => (a k : EReal)) (fun k => (b k : EReal)) ≠ ⊥ := by
    have : (a 0 : EReal) ≤ top (fun k => (a k : EReal)) (fun k => (b k : EReal)) := by
      refine le_trans ?_ (le_max_left _ _)
      exact (Finset.le_fold_max (c := (a 0 : EReal))).mpr (Or.inr ⟨0, mem_univ _, le_refl _⟩)
    exact (lt_of_lt_of_le (EReal.bot_lt_coe _) this).ne'
  exact ⟨_, (EReal.coe_toReal h1 h2).symm⟩

/-- An exponential of a difference of finite numbers. -/
theorem exp_sub (x M : ℝ) : Ideal.exp ((x : EReal) - (M : EReal)) = ((Real.exp (x - M) : ℝ) : EReal) := by
  rw [← EReal.coe_sub, Ideal.exp_coe]

/-- The real sum of exponentials over the greatest score. -/
def realTotal (a : Fin 2048 → ℝ) (b : Fin 64 → ℝ) (M : ℝ) : ℝ := ∑ k, Real.exp (a k - M) + ∑ k, Real.exp (b k - M)

/-- It is not zero. -/
theorem realTotal_ne (a : Fin 2048 → ℝ) (b : Fin 64 → ℝ) (M : ℝ) : realTotal a b M ≠ 0 :=
  (add_pos (Finset.sum_pos (fun k _ => Real.exp_pos _) univ_nonempty)
    (Finset.sum_pos (fun k _ => Real.exp_pos _) univ_nonempty)).ne'

/-- On finite scores the sum of exponentials is the real one. -/
theorem total_real (a : Fin 2048 → ℝ) (b : Fin 64 → ℝ) (M : ℝ)
    (h : top (fun k => (a k : EReal)) (fun k => (b k : EReal)) = M) :
    total (fun k => (a k : EReal)) (fun k => (b k : EReal)) = ((realTotal a b M : ℝ) : EReal) := by
  rw [total, h, realTotal, EReal.coe_add, coe_sum, coe_sum]
  exact congrArg₂ (· + ·) (Finset.sum_congr rfl fun k _ => exp_sub _ _) (Finset.sum_congr rfl fun k _ => exp_sub _ _)

/-- On finite scores a weight is the real one. -/
theorem weight_real (a : Fin 2048 → ℝ) (b : Fin 64 → ℝ) (M : ℝ)
    (h : top (fun k => (a k : EReal)) (fun k => (b k : EReal)) = M) (x : ℝ) :
    weight (fun k => (a k : EReal)) (fun k => (b k : EReal)) (x : EReal) = ((Real.exp (x - M) / realTotal a b M : ℝ) : EReal) := by
  rw [weight, total_real a b M h, h, exp_sub, div_real _ _ (realTotal_ne a b M)]

/-- On finite scores and values the average is the real one. -/
theorem average_real (a : Fin 2048 → ℝ) (b : Fin 64 → ℝ) (vp : Fin 2048 → ℝ) (vn : Fin 64 → ℝ) (M : ℝ)
    (h : top (fun k => (a k : EReal)) (fun k => (b k : EReal)) = M) :
    average (fun k => (a k : EReal)) (fun k => (b k : EReal)) (fun k => (vp k : EReal)) (fun k => (vn k : EReal))
      = (((∑ k, Real.exp (a k - M) * vp k + ∑ k, Real.exp (b k - M) * vn k) / realTotal a b M : ℝ) : EReal) := by
  have e : ∀ {n : ℕ} (w v : Fin n → ℝ), ∑ k, Ideal.exp ((w k : EReal) - (M : EReal)) * (v k : EReal)
      = ((∑ k, Real.exp (w k - M) * v k : ℝ) : EReal) := fun w v => by
    rw [coe_sum]
    exact Finset.sum_congr rfl fun k _ => by rw [exp_sub, ← EReal.coe_mul]
  rw [average, total_real a b M h, h, e, e, ← EReal.coe_add, div_real _ _ (realTotal_ne a b M)]

/-- Dividing once at the end is dividing every weight, on finite scores and values: the two readings agree. -/
theorem average_sub (a0 a1 : Fin 2048 → ℝ) (b0 b1 : Fin 64 → ℝ) (lam : ℝ) (vp : Fin 2048 → ℝ) (vn : Fin 64 → ℝ) :
    average (fun k => (a0 k : EReal)) (fun k => (b0 k : EReal)) (fun k => (vp k : EReal)) (fun k => (vn k : EReal))
      - (lam : EReal) * average (fun k => (a1 k : EReal)) (fun k => (b1 k : EReal)) (fun k => (vp k : EReal)) (fun k => (vn k : EReal))
    = differ (fun k => (a0 k : EReal)) (fun k => (b0 k : EReal)) (fun k => (a1 k : EReal)) (fun k => (b1 k : EReal)) lam
        (fun k => (vp k : EReal)) (fun k => (vn k : EReal)) := by
  obtain ⟨M0, h0⟩ := top_real a0 b0
  obtain ⟨M1, h1⟩ := top_real a1 b1
  rw [differ, average_real a0 b0 vp vn M0 h0, average_real a1 b1 vp vn M1 h1]
  simp only [weight_real a0 b0 M0 h0, weight_real a1 b1 M1 h1]
  simp only [← EReal.coe_mul, ← EReal.coe_sub]
  rw [← coe_sum, ← coe_sum, ← EReal.coe_add]
  refine congrArg _ ?_
  generalize realTotal a0 b0 M0 = L0
  generalize realTotal a1 b1 M1 = L1
  have e : ∀ {n : ℕ} (v w0 w1 : Fin n → ℝ), ∑ k, v k * (w0 k / L0 - lam * (w1 k / L1))
      = (∑ k, w0 k * v k) / L0 - lam * ((∑ k, w1 k * v k) / L1) := fun v w0 w1 => by
    rw [Finset.sum_div, Finset.sum_div, Finset.mul_sum, ← Finset.sum_sub_distrib]
    exact Finset.sum_congr rfl fun k _ => by ring
  rw [e, e, add_div, add_div]
  ring

/-- The scores of the concatenated keys. -/
def joined (sp : Fin 2048 → EReal) (sn : Fin 64 → EReal) (k : Fin 2112) : EReal :=
  if h : (k : ℕ) < 2048 then sp ⟨k, h⟩ else sn ⟨k - 2048, by omega⟩

/-- A cached position's joined score. -/
theorem joined_left (sp : Fin 2048 → EReal) (sn : Fin 64 → EReal) (k : Fin 2048) (h : (k : ℕ) < 2112) :
    joined sp sn ⟨k, h⟩ = sp k := by
  simp [joined]

/-- A new position's joined score. -/
theorem joined_right (sp : Fin 2048 → EReal) (sn : Fin 64 → EReal) (k : Fin 64) (h : 2048 + (k : ℕ) < 2112) :
    joined sp sn ⟨2048 + k, h⟩ = sn k := by
  simp [joined]

/-- The greatest joined score. -/
theorem fold_joined (sp : Fin 2048 → EReal) (sn : Fin 64 → EReal) :
    max (Ideal.ofBits FTy.f32 4286578688#32) (fold max (Ideal.ofBits FTy.f32 4286578688#32) (joined sp sn) univ) = top sp sn := by
  rw [top, neg_inf]
  have key : ∀ c : EReal, max ⊥ (fold max ⊥ (joined sp sn) univ) ≤ c ↔ max (fold max ⊥ sp univ) (fold max ⊥ sn univ) ≤ c := by
    intro c
    rw [max_le_iff, max_le_iff, Finset.fold_max_le, Finset.fold_max_le, Finset.fold_max_le]
    constructor
    · rintro ⟨_, _, h⟩
      refine ⟨⟨bot_le, fun k _ => ?_⟩, bot_le, fun k _ => ?_⟩
      · have := h ⟨k, by omega⟩ (mem_univ _)
        rwa [joined_left] at this
      · have := h ⟨2048 + k, by omega⟩ (mem_univ _)
        rwa [joined_right] at this
    · rintro ⟨⟨_, h⟩, _, h'⟩
      refine ⟨bot_le, bot_le, fun k _ => ?_⟩
      unfold joined
      split
      · exact h _ (mem_univ _)
      · exact h' _ (mem_univ _)
  exact le_antisymm ((key _).mpr le_rfl) ((key _).mp le_rfl)

/-- The sum over the joined scores splits into its two parts. -/
theorem sum_joined (sp : Fin 2048 → EReal) (sn : Fin 64 → EReal) (f : EReal → EReal) :
    ∑ k, f (joined sp sn k) = ∑ k, f (sp k) + ∑ k, f (sn k) := by
  have e := Fin.sum_univ_add (a := 2048) (b := 64) fun k => f (joined sp sn k)
  refine e.trans ?_
  refine congrArg₂ (· + ·) (Finset.sum_congr rfl fun k _ => congrArg f ?_) (Finset.sum_congr rfl fun k _ => congrArg f ?_)
  · exact joined_left sp sn k (by omega)
  · exact joined_right sp sn k (by omega)

end Cert.Proof.Attention

end
-- ==== Proof.Attention.Spec.lean ====
/-
  The differential attention of a decoding step, read element by element: what both programs compute.
-/
module

public import proofs.«01_k».proof.Proof.Attention.Math
public import Idealize.ShloMosaic.Lib.Pointwise
public import Idealize.ShloMosaic.Lib.Pipeline.ValueKit

@[expose] public section

noncomputable section

namespace Cert.Proof.Attention

open Idealize.ShloMosaic

/-- An array of tokens (32 batch entries of 64 tokens) by features (4 heads of 128). -/
abbrev Rows : Type := FVec Ideal ⟨2, ![2048, 512]⟩ .bf16
/-- The cached keys: layer, batch entry, position, head, component, feature. -/
abbrev KeyCache : Type := FVec Ideal ⟨6, ![2, 32, 2048, 4, 2, 64]⟩ .f32
/-- The cached values: layer, batch entry, position, head, feature. -/
abbrev ValCache : Type := FVec Ideal ⟨5, ![2, 32, 2048, 4, 128]⟩ .f32

/-- A token's row of an array of rows: query or key `r` of batch entry `b`, at head `h`, component `c`, feature `x`. -/
def row (q : Rows) (b : Fin 32) (h : Fin 4) (c : Fin 2) (r : Fin 64) (x : Fin 64) : EReal :=
  q (ix2 (⟨b.val * 64 + r.val, by omega⟩ : Fin 2048) (⟨h.val * 128 + c.val * 64 + x.val, by omega⟩ : Fin 512))

/-- The score of query `r` against the cached key at position `k`. -/
def scoreP (q : Rows) (kc : KeyCache) (b : Fin 32) (h : Fin 4) (c : Fin 2) (r : Fin 64) (k : Fin 2048) : EReal :=
  ∑ x : Fin 64, row q b h c r x * kc (ix6 (0 : Fin 2) b k h c x)

/-- The score of query `r` against the new key `k`. -/
def scoreN (q kn : Rows) (b : Fin 32) (h : Fin 4) (c : Fin 2) (r : Fin 64) (k : Fin 64) : EReal :=
  ∑ x : Fin 64, row q b h c r x * row kn b h c k x

/-- The cached values of a head at a feature. -/
def valP (vc : ValCache) (b : Fin 32) (h : Fin 4) (d : Fin 128) (k : Fin 2048) : EReal :=
  vc (ix5 (0 : Fin 2) b k h d)

/-- The new values of a head at a feature. -/
def valN (vn : Rows) (b : Fin 32) (h : Fin 4) (d : Fin 128) (k : Fin 64) : EReal :=
  vn (ix2 (⟨b.val * 64 + k.val, by omega⟩ : Fin 2048) (⟨h.val * 128 + d.val, by omega⟩ : Fin 512))

/-- The weight of the second component: the difference of two exponentials of dot products, plus 0.2. -/
def lam (l : FVec Ideal ⟨2, ![4, 64]⟩ .f32) : EReal :=
  Ideal.exp (∑ x : Fin 64, l (ix2 (0 : Fin 4) x) * l (ix2 (1 : Fin 4) x))
    - Ideal.exp (∑ x : Fin 64, l (ix2 (2 : Fin 4) x) * l (ix2 (3 : Fin 4) x)) + Ideal.ofBits FTy.f32 1045220557#32

/-- The head norm of a row of 128 values at feature `d`: over the root mean square, times the gain, times 0.8. -/
def norm (g : FVec Ideal ⟨2, ![1, 128]⟩ .f32) (o : Fin 128 → EReal) (d : Fin 128) : EReal :=
  o d * Ideal.rsqrt (Ideal.div (∑ x : Fin 128, o x * o x) (Ideal.ofBits FTy.f32 1124073472#32) + Ideal.ofBits FTy.f32 897988541#32)
    * g (ix2 (0 : Fin 1) d) * Ideal.ofBits FTy.f32 1061997773#32

/-- What the kernel computes of a head before the norm: each component's values divided once at the end. -/
def kernelOut (q kn vn : Rows) (kc : KeyCache) (vc : ValCache) (l : FVec Ideal ⟨2, ![4, 64]⟩ .f32) (b : Fin 32) (h : Fin 4)
    (r : Fin 64) (d : Fin 128) : EReal :=
  average (scoreP q kc b h 0 r) (scoreN q kn b h 0 r) (valP vc b h d) (valN vn b h d)
    - lam l * average (scoreP q kc b h 1 r) (scoreN q kn b h 1 r) (valP vc b h d) (valN vn b h d)

/-- What the reference computes of a head before the norm: the values under the difference of two softmaxes. -/
def refOut (q kn vn : Rows) (kc : KeyCache) (vc : ValCache) (l : FVec Ideal ⟨2, ![4, 64]⟩ .f32) (b : Fin 32) (h : Fin 4)
    (r : Fin 64) (d : Fin 128) : EReal :=
  differ (scoreP q kc b h 0 r) (scoreN q kn b h 0 r) (scoreP q kc b h 1 r) (scoreN q kn b h 1 r) (lam l)
    (valP vc b h d) (valN vn b h d)

/-- An extended real below plus infinity in absolute value is a real. -/
def Fin' (x : EReal) : Prop := ∃ r : ℝ, x = (r : EReal)

/-- A product of reals is a real. -/
theorem Fin'.mul {x y : EReal} (hx : Fin' x) (hy : Fin' y) : Fin' (x * y) := by
  obtain ⟨a, rfl⟩ := hx
  obtain ⟨b, rfl⟩ := hy
  exact ⟨a * b, (EReal.coe_mul a b).symm⟩

/-- A sum of reals is a real. -/
theorem Fin'.sum {n : ℕ} (f : Fin n → EReal) (h : ∀ k, Fin' (f k)) : Fin' (∑ k, f k) := by
  choose g hg using h
  exact ⟨∑ k, g k, by rw [coe_sum]; exact Finset.sum_congr rfl fun k _ => hg k⟩

/-- The word of 0.2 reads as a real. -/
theorem fin_const : Fin' (Ideal.ofBits FTy.f32 1045220557#32) := by
  refine ⟨_, (EReal.coe_toReal ?_ ?_).symm⟩ <;> simp [Ideal.ofBits, Ideal.ieee, -EReal.coe_mul]

/-- The weight of the second component is a real when its arguments are. -/
theorem fin_lam (l : FVec Ideal ⟨2, ![4, 64]⟩ .f32) (hl : ∀ i, Fin' (l i)) : Fin' (lam l) := by
  obtain ⟨a, ha⟩ := Fin'.sum (fun x : Fin 64 => l (ix2 (0 : Fin 4) x) * l (ix2 (1 : Fin 4) x)) fun x => (hl _).mul (hl _)
  obtain ⟨b, hb⟩ := Fin'.sum (fun x : Fin 64 => l (ix2 (2 : Fin 4) x) * l (ix2 (3 : Fin 4) x)) fun x => (hl _).mul (hl _)
  obtain ⟨k, hk⟩ := fin_const
  refine ⟨Real.exp a - Real.exp b + k, ?_⟩
  rw [lam, ha, hb, hk, Ideal.exp_coe, Ideal.exp_coe, ← EReal.coe_sub, ← EReal.coe_add]

/-- On finite arguments the two readings of a head agree. -/
theorem out_eq (q kn vn : Rows) (kc : KeyCache) (vc : ValCache) (l : FVec Ideal ⟨2, ![4, 64]⟩ .f32)
    (hq : ∀ i, Fin' (q i)) (hkn : ∀ i, Fin' (kn i)) (hvn : ∀ i, Fin' (vn i)) (hkc : ∀ i, Fin' (kc i)) (hvc : ∀ i, Fin' (vc i))
    (hl : ∀ i, Fin' (l i)) (b : Fin 32) (h : Fin 4) (r : Fin 64) (d : Fin 128) :
    kernelOut q kn vn kc vc l b h r d = refOut q kn vn kc vc l b h r d := by
  have hP : ∀ c k, Fin' (scoreP q kc b h c r k) := fun c k => Fin'.sum _ fun x => (hq _).mul (hkc _)
  have hN : ∀ c k, Fin' (scoreN q kn b h c r k) := fun c k => Fin'.sum _ fun x => (hq _).mul (hkn _)
  have hvP : ∀ k, Fin' (valP vc b h d k) := fun k => hvc _
  have hvN : ∀ k, Fin' (valN vn b h d k) := fun k => hvn _
  choose a ha using hP
  choose e he using hN
  choose v hv using hvP
  choose w hw using hvN
  obtain ⟨y, hy⟩ := fin_lam l hl
  have ha' : ∀ c, scoreP q kc b h c r = fun k => (a c k : EReal) := fun c => funext (ha c)
  have he' : ∀ c, scoreN q kn b h c r = fun k => (e c k : EReal) := fun c => funext (he c)
  rw [kernelOut, refOut, ha', ha', he', he', hy, show valP vc b h d = fun k => (v k : EReal) from funext hv,
    show valN vn b h d = fun k => (w k : EReal) from funext hw]
  exact average_sub (a 0) (a 1) (e 0) (e 1) y v w

end Cert.Proof.Attention

end
-- ==== Proof.Attention.Head.lean ====
/-
  What the attention kernel computes for one head, whichever way its four heads' texts are cut.
-/
module

public import proofs.«01_k».proof.Proof.Gen.KernelIdeal.Value
public import proofs.«01_k».proof.Proof.Attention.Spec

@[expose] public section

set_option maxRecDepth 16384

noncomputable section

namespace Cert.Proof.Attention

open Cert.KernelIdeal Cert.KernelIdeal.Gen
open Idealize.ShloMosaic Idealize.ShloMosaic.TcCoe

/-- One component's weighted values: the masked queries against the cached and the new keys, the exponentials over the row's
    maximum, their product with the cached and the new values, over the row's sum. -/
def soft (vis : IVec S64x64 1) (qc : FVec Ideal S64x128 .bf16) (kp : FVec Ideal S128x2048 .bf16)
    (vp : FVec Ideal S2048x128 .bf16) (kn vn : FVec Ideal S64x128 .bf16) : FVec Ideal S64x128 .f32 :=
  let sp : FVec Ideal S64x2048 .f32 := matmul dot_S64x128_S128x2048_S64x2048_1_0_0_1_n_n none qc kp
    (constant S64x2048 .f32 0x00000000#32)
  let sn : FVec Ideal S64x64 .f32 := select vis (matmul dot_S64x128_S64x128_S64x64_1_1_0_0_n_n none qc kn
    (constant S64x64 .f32 0x00000000#32)) (broadcast S64x64 (Scalar.ofBits .f32 0xF149F2CA#32))
  let mx : FVec Ideal S64x1 .f32 := maximumf
    (shapeCast S64x1 (multiReduction .maximumf [1] S64 sp 0xFF800000#32 reduces_S64x2048_S64 (.inl rfl) rfl) shapeCasts_S64_S64x1)
    (shapeCast S64x1 (multiReduction .maximumf [1] S64 sn 0xFF800000#32 reduces_S64x64_S64 (.inl rfl) rfl) shapeCasts_S64_S64x1)
  let pp : FVec Ideal S64x2048 .bf16 := exp (truncf .bf16 (subf sp (broadcastTo S64x2048 mx broadcasts_S64x1_S64x2048)) bitsLt_bf16_f32)
  let pn : FVec Ideal S64x64 .bf16 := exp (truncf .bf16 (subf sn (broadcastTo S64x64 mx broadcasts_S64x1_S64x64)) bitsLt_bf16_f32)
  let l : FVec Ideal S64x1 .f32 := addf
    (shapeCast S64x1 (multiReduction .add [1] S64 (extf .f32 pp bitsLt_bf16_f32) 0x00000000#32 reduces_S64x2048_S64 (.inl rfl) rfl) shapeCasts_S64_S64x1)
    (shapeCast S64x1 (multiReduction .add [1] S64 (extf .f32 pn bitsLt_bf16_f32) 0x00000000#32 reduces_S64x64_S64 (.inl rfl) rfl) shapeCasts_S64_S64x1)
  divf (addf (matmul dot_S64x2048_S2048x128_S64x128_1_0_0_1_n_n none pp vp (constant S64x128 .f32 0x00000000#32))
    (matmul dot_S64x64_S64x128_S64x128_1_0_0_1_n_n none pn vn (constant S64x128 .f32 0x00000000#32)))
    (broadcastTo S64x128 l broadcasts_S64x1_S64x128)

/-- The queries with every lane outside the component set to zero; `b` is 1 for the first component and 0 for the second. -/
def masked (b : BitVec 1) (q : FVec Ideal S64x128 .bf16) : FVec Ideal S64x128 .bf16 :=
  select (broadcastTo S64x128 (shapeCast S1x128 (xori (xori (cmpi .slt (iota .tc S1x128 32 [1] iota_S1x128_d1_w32) (broadcast S1x128 64#32))
    (broadcastTo S1x128 (broadcast S1x128 b) broadcasts_S1x128_S1x128)) (constantI S1x128 1 1#1)) shapeCasts_S1x128_S1x128)
    broadcasts_S1x128_S64x128) q (broadcast S64x128 (Scalar.ofBits .bf16 0x0000#16))

/-- The difference of the two components' values, over its root mean square, times the gain and the constant 0.8. -/
def finish (lam : FVec Ideal S1x1 .f32) (g : FVec Ideal S1x128 .f32) (o0 o1 : FVec Ideal S64x128 .f32) : FVec Ideal S64x128 .bf16 :=
  let o : FVec Ideal S64x128 .f32 := subf o0 (mulf (broadcastTo S64x128 lam broadcasts_S1x1_S64x128) o1)
  let r : FVec Ideal S64x1 .f32 := rsqrt (addf (divf (shapeCast S64x1 (multiReduction .add [1] S64 (mulf o o) 0x00000000#32
    reduces_S64x128_S64 (.inl rfl) rfl) shapeCasts_S64_S64x1) (broadcast S64x1 (Scalar.ofBits .f32 0x43000000#32)))
    (broadcast S64x1 (Scalar.ofBits .f32 0x358637BD#32)))
  truncf .bf16 (mulf (mulf (mulf o (broadcastTo S64x128 r broadcasts_S64x1_S64x128)) (broadcastTo S64x128 g broadcasts_S1x128_S64x128))
    (broadcast S64x128 (Scalar.ofBits .f32 0x3F4CCCCD#32))) bitsLt_bf16_f32

/-- The cached keys of a head as a matrix of features and positions. -/
def keys (kp : FVec Ideal S1x1x1x2x64x2048 .f32) : FVec Ideal S128x2048 .bf16 :=
  truncf .bf16 (shapeCast S128x2048 (shapeCast S2x64x2048 kp shapeCasts_S1x1x1x2x64x2048_S2x64x2048) shapeCasts_S2x64x2048_S128x2048)
    bitsLt_bf16_f32

/-- The cached values of a head as a matrix of positions and features. -/
def vals (vp : FVec Ideal S1x1x2048x128 .f32) : FVec Ideal S2048x128 .bf16 :=
  truncf .bf16 (shapeCast S2048x128 vp shapeCasts_S1x1x2048x128_S2048x128) bitsLt_bf16_f32

/-- The mask of the new positions, a chunk of 64 each, as the kernel computes it. -/
abbrev vis : IVec S64x64 1 := k0_pay8 k0_pay3 k0_pay5 k0_pay6 k0_pay7

/-- One head's output block. -/
def head (lam : FVec Ideal S1x1 .f32) (g : FVec Ideal S1x128 .f32) (q : FVec Ideal S64x128 .bf16)
    (kp : FVec Ideal S1x1x1x2x64x2048 .f32) (vp : FVec Ideal S1x1x2048x128 .f32) (kn vn : FVec Ideal S64x128 .bf16) :
    FVec Ideal S64x128 .bf16 :=
  finish lam g (soft vis (masked 1#1 q) (keys kp) (vals vp) kn vn) (soft vis (masked 0#1 q) (keys kp) (vals vp) kn vn)

variable (lam : FVec Ideal S1x1 .f32) (g : FVec Ideal S1x128 .f32) (q : FVec Ideal S64x128 .bf16)
  (kp : FVec Ideal S1x1x1x2x64x2048 .f32) (vp : FVec Ideal S1x1x2048x128 .f32) (kn vn : FVec Ideal S64x128 .bf16)

/-- The lane number, as the kernel's text names it. -/
abbrev lane : IVec S1x128 32 := iota .tc S1x128 32 [1] iota_S1x128_d1_w32

/-- The first head's text. -/
theorem head0 : k0_pay15 (F := Ideal) g (k0_pay13 lam vis q (k0_pay9 kp) (k0_pay10 vp) kn vn
      (k0_pay11 lane vis q (k0_pay9 kp) (k0_pay10 vp) kn vn) (k0_pay12 lane) (constantI S1x128 1 1#1))
    (k0_pay14 lam vis q (k0_pay9 kp) (k0_pay10 vp) kn vn
      (k0_pay11 lane vis q (k0_pay9 kp) (k0_pay10 vp) kn vn) (k0_pay12 lane) (constantI S1x128 1 1#1))
    = head lam g q kp vp kn vn := rfl

/-- The second head's text. -/
theorem head1 : k0_pay27 (F := Ideal) lam (k0_pay17 vp) vn
      (k0_pay21 (k0_pay17 vp) vn (k0_pay19 lane q kp) (k0_pay20 lane vis q kn))
      (k0_pay23 lane q (k0_pay16 kp)) (k0_pay24 lane vis q kn) (k0_pay25 lane vis q (k0_pay16 kp) kn)
      (k0_pay26 lane vis q (k0_pay16 kp) kn) g
    = head lam g q kp vp kn vn := rfl

/-- The third head's text. -/
theorem head2 : k0_pay47 (F := Ideal) lam
      (k0_pay38 (k0_pay29 vp) vn (k0_pay34 lane vis q kp kn) (k0_pay35 lane vis q kp kn) (k0_pay36 lane vis q kp kn)
        (k0_pay37 lane vis q kp kn))
      (k0_pay45 lane vis q (k0_pay28 kp) kn) (k0_pay46 lane vis q (k0_pay28 kp) (k0_pay29 vp) kn vn) g
    = head lam g q kp vp kn vn := rfl

/-- The fourth head's text. -/
theorem head3 : k0_pay1 (F := Ideal) g (k0_pay54 lam vis q (k0_pay48 kp) (k0_pay49 vp) kn vn
      (k0_pay51 vis q (k0_pay48 kp) (k0_pay49 vp) kn vn (k0_pay50 lane)) (k0_pay52 lane) k0_pay53)
    = head lam g q kp vp kn vn := rfl

/-- Every new key is visible to every query: they are of one chunk. -/
theorem vis_one (r k : Fin 64) : vis (ix2 r k) = 1#1 := by
  have e : ∀ n : Fin 64, Scalar.select
        (IntOp.andi
          (IntOp.cmpi CmpIPredicate.ne
            (IntOp.subi
              (BitVec.setWidth 32 (IntOp.cmpi CmpIPredicate.sgt (IntOp.addi (2048#32) (BitVec.ofNat 32 n.val)) 0#32))
              (BitVec.setWidth 32 (IntOp.cmpi CmpIPredicate.slt (IntOp.addi (2048#32) (BitVec.ofNat 32 n.val)) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (IntOp.addi (2048#32) (BitVec.ofNat 32 n.val)) 64#32)
            0#32))
        (IntOp.subi (IntOp.divsi ArithUnit.vector (IntOp.addi (2048#32) (BitVec.ofNat 32 n.val)) 64#32) 1#32)
        (IntOp.divsi ArithUnit.vector (IntOp.addi (2048#32) (BitVec.ofNat 32 n.val)) 64#32) = 32#32 := by
    decide +kernel
  pointwise [vis, k0_pay8, k0_pay3, k0_pay5, k0_pay6, k0_pay7, k0_pay4]
  rw [e, e]
  rfl

/-- One component's values are the average of the values under the masked queries' scores. -/
theorem soft_apply (qc : FVec Ideal S64x128 .bf16) (kp : FVec Ideal S128x2048 .bf16)
    (vp : FVec Ideal S2048x128 .bf16) (kn vn : FVec Ideal S64x128 .bf16) (r : Fin 64) (d : Fin 128) :
    soft vis qc kp vp kn vn (ix2 r d)
      = average (fun k : Fin 2048 => ∑ x : Fin 128, qc (ix2 r x) * kp (ix2 x k))
          (fun k : Fin 64 => ∑ x : Fin 128, qc (ix2 r x) * kn (ix2 k x))
          (fun k : Fin 2048 => vp (ix2 k d)) (fun k : Fin 64 => vn (ix2 k d)) := by
  have e : ∀ (k : Fin 64) (x y : EReal), Scalar.select (vis (ix2 r k)) x y = x := fun k x y => by rw [vis_one]; rfl
  pointwise [soft, average, total, top]
  simp only [e]

/-- The first component's queries: the first 64 lanes. -/
theorem masked_zero (q : FVec Ideal S64x128 .bf16) (r : Fin 64) (d : Fin 128) :
    masked 1#1 q (ix2 r d) = if d.val < 64 then q (ix2 r d) else 0 := by
  have e : ∀ n : Fin 128, IntOp.xori (IntOp.xori (IntOp.cmpi CmpIPredicate.slt (BitVec.ofNat 32 n.val) 64#32) 1#1) 1#1
      = if n.val < 64 then 1#1 else 0#1 := by decide +kernel
  pointwise [masked]
  rw [e]
  split <;> rfl

/-- The second component's queries: the last 64 lanes. -/
theorem masked_one (q : FVec Ideal S64x128 .bf16) (r : Fin 64) (d : Fin 128) :
    masked 0#1 q (ix2 r d) = if d.val < 64 then 0 else q (ix2 r d) := by
  have e : ∀ n : Fin 128, IntOp.xori (IntOp.xori (IntOp.cmpi CmpIPredicate.slt (BitVec.ofNat 32 n.val) 64#32) 0#1) 1#1
      = if n.val < 64 then 0#1 else 1#1 := by decide +kernel
  pointwise [masked]
  rw [e]
  split <;> rfl

/-- A product over the lanes of the first component's queries is one over the first 64. -/
theorem sum_zero (q : FVec Ideal S64x128 .bf16) (r : Fin 64) (f : Fin 128 → EReal) :
    ∑ x : Fin 128, masked 1#1 q (ix2 r x) * f x
      = ∑ x : Fin 64, q (ix2 r (⟨x.val, by omega⟩ : Fin 128)) * f ⟨x.val, by omega⟩ := by
  refine (Fin.sum_univ_add (a := 64) (b := 64) fun x => masked 1#1 q (ix2 r x) * f x).trans ?_
  rw [Finset.sum_eq_zero (s := Finset.univ) (f := fun i : Fin 64 => masked 1#1 q (ix2 r (Fin.natAdd 64 i)) * f (Fin.natAdd 64 i)) fun i _ => ?_, add_zero]
  · refine Finset.sum_congr rfl fun i _ => ?_
    rw [masked_zero, if_pos (show (Fin.castAdd 64 i).val < 64 from i.isLt)]
    rfl
  · rw [masked_zero, if_neg (show ¬ (Fin.natAdd 64 i).val < 64 by simp), zero_mul]

/-- A product over the lanes of the second component's queries is one over the last 64. -/
theorem sum_one (q : FVec Ideal S64x128 .bf16) (r : Fin 64) (f : Fin 128 → EReal) :
    ∑ x : Fin 128, masked 0#1 q (ix2 r x) * f x
      = ∑ x : Fin 64, q (ix2 r (⟨64 + x.val, by omega⟩ : Fin 128)) * f ⟨64 + x.val, by omega⟩ := by
  refine (Fin.sum_univ_add (a := 64) (b := 64) fun x => masked 0#1 q (ix2 r x) * f x).trans ?_
  rw [Finset.sum_eq_zero (s := Finset.univ) (f := fun i : Fin 64 => masked 0#1 q (ix2 r (Fin.castAdd 64 i)) * f (Fin.castAdd 64 i)) fun i _ => ?_, zero_add]
  · refine Finset.sum_congr rfl fun i _ => ?_
    rw [masked_one, if_neg (show ¬ (Fin.natAdd 64 i).val < 64 by simp)]
    rfl
  · rw [masked_one, if_pos (show (Fin.castAdd 64 i).val < 64 from i.isLt), zero_mul]

/-- The norm of the difference of the two components. -/
theorem finish_apply (w : FVec Ideal S1x1 .f32) (g : FVec Ideal S1x128 .f32) (o0 o1 : FVec Ideal S64x128 .f32) (r : Fin 64)
    (d : Fin 128) : finish w g o0 o1 (ix2 r d)
      = norm g (fun x => o0 (ix2 r x) - w (ix2 (0 : Fin 1) (0 : Fin 1)) * o1 (ix2 r x)) d := by
  pointwise [finish, norm]

/-- The weight of the second component. -/
theorem lam_apply (l : FVec Ideal S4x64 .f32) : k0_pay2 (F := Ideal) l (ix2 (0 : Fin 1) (0 : Fin 1)) = Attention.lam l := by
  pointwise [k0_pay2, Attention.lam]

/-- The key matrix, read at a feature and a position. -/
theorem keys_apply (kp : FVec Ideal S1x1x1x2x64x2048 .f32) (x : Fin 128) (k : Fin 2048) :
    keys kp (ix2 x k) = kp (ix6 (0 : Fin 1) (0 : Fin 1) (0 : Fin 1) (⟨x.val / 64, by omega⟩ : Fin 2) (⟨x.val % 64, by omega⟩ : Fin 64) k) := by
  pointwise [keys]

/-- The value matrix, read at a position and a feature. -/
theorem vals_apply (vp : FVec Ideal S1x1x2048x128 .f32) (k : Fin 2048) (d : Fin 128) :
    vals vp (ix2 k d) = vp (ix4 (0 : Fin 1) (0 : Fin 1) k d) := by
  pointwise [vals]

/-- A head's block, from where its operands sit in the arrays: the norm of the difference of the two averages. -/
theorem head_apply (Q KN VN : Rows) (kc : KeyCache) (vc : ValCache) (l : FVec Ideal S4x64 .f32) (b : Fin 32) (h : Fin 4)
    (hq : ∀ (r : Fin 64) (x : Fin 128), q (ix2 r x) = Q (ix2 (⟨b.val * 64 + r.val, by omega⟩ : Fin 2048) (⟨h.val * 128 + x.val, by omega⟩ : Fin 512)))
    (hkn : ∀ (r : Fin 64) (x : Fin 128), kn (ix2 r x) = KN (ix2 (⟨b.val * 64 + r.val, by omega⟩ : Fin 2048) (⟨h.val * 128 + x.val, by omega⟩ : Fin 512)))
    (hvn : ∀ (r : Fin 64) (x : Fin 128), vn (ix2 r x) = VN (ix2 (⟨b.val * 64 + r.val, by omega⟩ : Fin 2048) (⟨h.val * 128 + x.val, by omega⟩ : Fin 512)))
    (hkp : ∀ (c : Fin 2) (x : Fin 64) (k : Fin 2048), kp (ix6 (0 : Fin 1) (0 : Fin 1) (0 : Fin 1) c x k) = kc (ix6 (0 : Fin 2) b k h c x))
    (hvp : ∀ (k : Fin 2048) (d : Fin 128), vp (ix4 (0 : Fin 1) (0 : Fin 1) k d) = vc (ix5 (0 : Fin 2) b k h d))
    (hlam : lam (ix2 (0 : Fin 1) (0 : Fin 1)) = Attention.lam l) (r : Fin 64) (d : Fin 128) :
    head lam g q kp vp kn vn (ix2 r d) = norm g (kernelOut Q KN VN kc vc l b h r) d := by
  rw [head, finish_apply, hlam]
  refine congrArg (fun o => norm g o d) (funext fun d => ?_)
  rw [soft_apply, soft_apply, kernelOut]
  have p0 : (fun k : Fin 2048 => ∑ x : Fin 128, masked 1#1 q (ix2 r x) * keys kp (ix2 x k)) = scoreP Q kc b h 0 r :=
    funext fun k => (sum_zero q r fun x => keys kp (ix2 x k)).trans (Finset.sum_congr rfl fun x _ => by
      rw [hq, keys_apply, hkp, row]
      refine congrArg₂ (· * ·) (congrArg Q (by blk_ext)) (congrArg kc (by blk_ext)))
  have p1 : (fun k : Fin 2048 => ∑ x : Fin 128, masked 0#1 q (ix2 r x) * keys kp (ix2 x k)) = scoreP Q kc b h 1 r :=
    funext fun k => (sum_one q r fun x => keys kp (ix2 x k)).trans (Finset.sum_congr rfl fun x _ => by
      rw [hq, keys_apply, hkp, row]
      refine congrArg₂ (· * ·) (congrArg Q (by blk_ext)) (congrArg kc (by blk_ext)))
  have n0 : (fun k : Fin 64 => ∑ x : Fin 128, masked 1#1 q (ix2 r x) * kn (ix2 k x)) = scoreN Q KN b h 0 r :=
    funext fun k => (sum_zero q r fun x => kn (ix2 k x)).trans (Finset.sum_congr rfl fun x _ => by
      rw [hq, hkn, row, row]
      refine congrArg₂ (· * ·) (congrArg Q (by blk_ext)) (congrArg KN (by blk_ext)))
  have n1 : (fun k : Fin 64 => ∑ x : Fin 128, masked 0#1 q (ix2 r x) * kn (ix2 k x)) = scoreN Q KN b h 1 r :=
    funext fun k => (sum_one q r fun x => kn (ix2 k x)).trans (Finset.sum_congr rfl fun x _ => by
      rw [hq, hkn, row, row]
      refine congrArg₂ (· * ·) (congrArg Q (by blk_ext)) (congrArg KN (by blk_ext)))
  have v0 : (fun k : Fin 2048 => vals vp (ix2 k d)) = valP vc b h d := funext fun k => by rw [vals_apply, hvp, valP]
  have v1 : (fun k : Fin 64 => vn (ix2 k d)) = valN VN b h d := funext fun k => by rw [hvn, valN]
  rw [p0, p1, n0, n1, v0, v1]

end Cert.Proof.Attention

end
-- ==== Proof.Attention.Block.lean ====
/-
  What the attention kernel's output block holds at a grid point, over the extended reals.
-/
module

public import proofs.«01_k».proof.Proof.Attention.Head
public import Idealize.ShloMosaic.Lib.Pipeline.ValueKit

@[expose] public section

set_option maxRecDepth 16384

noncomputable section

namespace Cert.Proof.Attention

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- Every window's block index at every grid point: the point is the batch. -/
theorem idx : ∀ t : Fin cfg0.N, win0_0.index t = ![t.val, 0] ∧ win0_1.index t = ![t.val, 0]
    ∧ win0_2.index t = ![t.val, 0] ∧ win0_3.index t = ![0, t.val, 0, 0, 0, 0] ∧ win0_4.index t = ![0, t.val, 0, 0]
    ∧ win0_5.index t = ![0, 0] ∧ win0_6.index t = ![0, 0] ∧ win0_7.index t = ![t.val, 0] :=
  (by decide +kernel : ∀ t : Fin grid0.N, _)

/-- The key window's block: the cached keys of the batch, positions last. -/
theorem keys_block (c : Dev nD) (t : Fin cfg0.N) (b : Fin 32) (hb : b.val = t.val) (h : Fin 4) (e : Fin 2) (x : Fin 64)
    (k : Fin 2048) : (iblk m c 3 t : FVec Ideal S1x1x4x2x64x2048 .f32) (ix6 (0 : Fin 1) (0 : Fin 1) h e x k)
      = (m ((c : Thread nD τ).loc main_arg3) : FVec Ideal S2x32x2048x4x2x64 .f32) (ix6 (0 : Fin 2) b k h e x) := by
  have hi : (win0_3.blk t).view.emb (ix6 (0 : Fin 1) (0 : Fin 1) h e x k)
      = (ix6 (0 : Fin 2) b h e x k : S2x32x4x2x64x2048.Idx) := by
    blk_ext [idx t]
  refine (congrArg (V m c main_v0) hi).trans ?_
  show (transpose S2x32x4x2x64x2048 [0, 1, 3, 4, 5, 2] (m ((c : Thread nD τ).loc main_arg3))
    transposes_S2x32x2048x4x2x64_S2x32x4x2x64x2048_0_1_3_4_5_2 : FVec Ideal S2x32x4x2x64x2048 .f32) (ix6 (0 : Fin 2) b h e x k) = _
  pointwise []

/-- The value window's block: the cached values of the batch, a head's rows every fourth. -/
theorem vals_block (c : Dev nD) (t : Fin cfg0.N) (b : Fin 32) (hb : b.val = t.val) (h : Fin 4) (k : Fin 2048) (d : Fin 128) :
    (iblk m c 4 t : FVec Ideal S1x1x8192x128 .f32) (ix4 (0 : Fin 1) (0 : Fin 1) (⟨4 * k.val + h.val, by omega⟩ : Fin 8192) d)
      = (m ((c : Thread nD τ).loc main_arg4) : FVec Ideal S2x32x2048x4x128 .f32) (ix5 (0 : Fin 2) b k h d) := by
  have hi : (win0_4.blk t).view.emb (ix4 (0 : Fin 1) (0 : Fin 1) (⟨4 * k.val + h.val, by omega⟩ : Fin 8192) d)
      = (ix4 (0 : Fin 2) b (⟨4 * k.val + h.val, by omega⟩ : Fin 8192) d : S2x32x8192x128.Idx) := by
    blk_ext [idx t]
  refine (congrArg (V m c main_v1) hi).trans ?_
  show (shapeCast S2x32x8192x128 (m ((c : Thread nD τ).loc main_arg4)) shapeCasts_S2x32x2048x4x128_S2x32x8192x128
    : FVec Ideal S2x32x8192x128 .f32) (ix4 (0 : Fin 2) b (⟨4 * k.val + h.val, by omega⟩ : Fin 8192) d) = _
  refine shapeCast_apply (s := S2x32x2048x4x128) _ _ _ _ ?_
  rw [Shape.rowMajor_val_four, Shape.rowMajor_val_five]
  show (((0 * 32 + b.val) * 2048 + k.val) * 4 + h.val) * 128 + d.val = ((0 * 32 + b.val) * 8192 + (4 * k.val + h.val)) * 128 + d.val
  omega

/-- The strided read of head `h`'s rows. -/
theorem vals_read (c : Dev nD) (t : Fin cfg0.N) (b : Fin 32) (hb : b.val = t.val) (h : Fin 4) (r : LoadRect S1x1x8192x128)
    (x : r.shape.Idx) (k : Fin 2048) (d : Fin 128)
    (hx : r.idx x = ix4 (0 : Fin 1) (0 : Fin 1) (⟨4 * k.val + h.val, by omega⟩ : Fin 8192) d) :
    (ms0_4 t).view.readAt (Elt Ideal) r ((hs0_4 t).unread (iblk m c 4 t)) x
      = (m ((c : Thread nD τ).loc main_arg4) : FVec Ideal S2x32x2048x4x128 .f32) (ix5 (0 : Fin 2) b k h d) := by
  refine Eq.trans ?_ (vals_block m c t b hb h k d)
  rw [← hx]
  exact congrFun ((hs0_4 t).read_unread (iblk m c 4 t)) (r.idx x)

/-- The block the kernel leaves at batch `t`, at row `r` and feature `x`. -/
theorem out_apply (c : Dev nD) (t : Fin cfg0.N) (b : Fin 32) (hb : b.val = t.val) (y : S64x512.Idx) :
    (outsAt0 m c t) y
      = norm (m ((c : Thread nD τ).loc main_arg6)) (kernelOut (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) b
          ⟨(y 1).val / 128, by have h : (y 1).val < 512 := (y 1).isLt; omega⟩ ⟨(y 0).val, (y 0).isLt⟩) ⟨(y 1).val % 128, by omega⟩ := by
  unfold outsAt0
  frame_out
  canon_tiles x h
  · obtain ⟨r, d, rfl⟩ : ∃ (r : Fin 64) (d : Fin 128), x = ix2 r d := ⟨x 0, x 1, by blk_ext⟩
    blk_simp at h0 h1
    refine (congrFun (head3 _ _ _ _ _ _ _) (ix2 r d)).trans ((head_apply _ _ _ _ _ _ _
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) b 3
      (fun r x => ?_) (fun r x => ?_) (fun r x => ?_) (fun e x k => ?_) (fun k d => ?_) ?_ r d).trans ?_)
    · blk_point [iblk, V, idx t]
    · blk_point [iblk, V, idx t]
    · blk_point [iblk, V, idx t]
    · refine Eq.trans ?_ (keys_block m c t b hb 3 e x k)
      exact congrArg (iblk m c 3 t) (by blk_ext <;> simp [Rect.unit, LoadRect.idx])
    · exact vals_read m c t b hb 3 _ _ k d (by blk_ext <;> simp [LoadRect.idx] <;> omega)
    · refine (lam_apply _).trans ?_
      pointwise [lam]
      blk_point [iblk, V, idx t]
    · have e : (iblk m c 6 t : FVec Ideal S1x128 .f32) = m ((c : Thread nD τ).loc main_arg6) := funext fun i => by
        blk_point [iblk, V, idx t]
      have eh : (3 : Fin 4) = ⟨(y 1).val / 128, by have h : (y 1).val < 512 := (y 1).isLt; omega⟩ := Fin.ext (by show 3 = (y 1).val / 128; omega)
      have er : r = ⟨(y 0).val, (y 0).isLt⟩ := Fin.ext h0.symm
      have ed : d = ⟨(y 1).val % 128, by omega⟩ := Fin.ext (by show d.val = (y 1).val % 128; omega)
      rw [e, ← eh, ← er, ← ed]
  · obtain ⟨r, d, rfl⟩ : ∃ (r : Fin 64) (d : Fin 128), x = ix2 r d := ⟨x 0, x 1, by blk_ext⟩
    blk_simp at h0 h1
    refine (congrFun (head2 _ _ _ _ _ _ _) (ix2 r d)).trans ((head_apply _ _ _ _ _ _ _
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) b 2
      (fun r x => ?_) (fun r x => ?_) (fun r x => ?_) (fun e x k => ?_) (fun k d => ?_) ?_ r d).trans ?_)
    · blk_point [iblk, V, idx t]
    · blk_point [iblk, V, idx t]
    · blk_point [iblk, V, idx t]
    · refine Eq.trans ?_ (keys_block m c t b hb 2 e x k)
      exact congrArg (iblk m c 3 t) (by blk_ext <;> simp [Rect.unit, LoadRect.idx])
    · exact vals_read m c t b hb 2 _ _ k d (by blk_ext <;> simp [LoadRect.idx] <;> omega)
    · refine (lam_apply _).trans ?_
      pointwise [lam]
      blk_point [iblk, V, idx t]
    · have e : (iblk m c 6 t : FVec Ideal S1x128 .f32) = m ((c : Thread nD τ).loc main_arg6) := funext fun i => by
        blk_point [iblk, V, idx t]
      have eh : (2 : Fin 4) = ⟨(y 1).val / 128, by have h : (y 1).val < 512 := (y 1).isLt; omega⟩ := Fin.ext (by show 2 = (y 1).val / 128; omega)
      have er : r = ⟨(y 0).val, (y 0).isLt⟩ := Fin.ext h0.symm
      have ed : d = ⟨(y 1).val % 128, by omega⟩ := Fin.ext (by show d.val = (y 1).val % 128; omega)
      rw [e, ← eh, ← er, ← ed]
  · obtain ⟨r, d, rfl⟩ : ∃ (r : Fin 64) (d : Fin 128), x = ix2 r d := ⟨x 0, x 1, by blk_ext⟩
    blk_simp at h0 h1
    refine (congrFun (head1 _ _ _ _ _ _ _) (ix2 r d)).trans ((head_apply _ _ _ _ _ _ _
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) b 1
      (fun r x => ?_) (fun r x => ?_) (fun r x => ?_) (fun e x k => ?_) (fun k d => ?_) ?_ r d).trans ?_)
    · blk_point [iblk, V, idx t]
    · blk_point [iblk, V, idx t]
    · blk_point [iblk, V, idx t]
    · refine Eq.trans ?_ (keys_block m c t b hb 1 e x k)
      exact congrArg (iblk m c 3 t) (by blk_ext <;> simp [Rect.unit, LoadRect.idx])
    · exact vals_read m c t b hb 1 _ _ k d (by blk_ext <;> simp [LoadRect.idx] <;> omega)
    · refine (lam_apply _).trans ?_
      pointwise [lam]
      blk_point [iblk, V, idx t]
    · have e : (iblk m c 6 t : FVec Ideal S1x128 .f32) = m ((c : Thread nD τ).loc main_arg6) := funext fun i => by
        blk_point [iblk, V, idx t]
      have eh : (1 : Fin 4) = ⟨(y 1).val / 128, by have h : (y 1).val < 512 := (y 1).isLt; omega⟩ := Fin.ext (by show 1 = (y 1).val / 128; omega)
      have er : r = ⟨(y 0).val, (y 0).isLt⟩ := Fin.ext h0.symm
      have ed : d = ⟨(y 1).val % 128, by omega⟩ := Fin.ext (by show d.val = (y 1).val % 128; omega)
      rw [e, ← eh, ← er, ← ed]
  · obtain ⟨r, d, rfl⟩ : ∃ (r : Fin 64) (d : Fin 128), x = ix2 r d := ⟨x 0, x 1, by blk_ext⟩
    blk_simp at h0 h1
    refine (congrFun (head0 _ _ _ _ _ _ _) (ix2 r d)).trans ((head_apply _ _ _ _ _ _ _
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) b 0
      (fun r x => ?_) (fun r x => ?_) (fun r x => ?_) (fun e x k => ?_) (fun k d => ?_) ?_ r d).trans ?_)
    · blk_point [iblk, V, idx t]
    · blk_point [iblk, V, idx t]
    · blk_point [iblk, V, idx t]
    · refine Eq.trans ?_ (keys_block m c t b hb 0 e x k)
      exact congrArg (iblk m c 3 t) (by blk_ext <;> simp [Rect.unit, LoadRect.idx])
    · exact vals_read m c t b hb 0 _ _ k d (by blk_ext <;> simp [LoadRect.idx] <;> omega)
    · refine (lam_apply _).trans ?_
      pointwise [lam]
      blk_point [iblk, V, idx t]
    · have e : (iblk m c 6 t : FVec Ideal S1x128 .f32) = m ((c : Thread nD τ).loc main_arg6) := funext fun i => by
        blk_point [iblk, V, idx t]
      have eh : (0 : Fin 4) = ⟨(y 1).val / 128, by have h : (y 1).val < 512 := (y 1).isLt; omega⟩ := Fin.ext (by show 0 = (y 1).val / 128; omega)
      have er : r = ⟨(y 0).val, (y 0).isLt⟩ := Fin.ext h0.symm
      have ed : d = ⟨(y 1).val % 128, by omega⟩ := Fin.ext (by show d.val = (y 1).val % 128; omega)
      rw [e, ← eh, ← er, ← ed]

end Cert.Proof.Attention

end
-- ==== Proof.Attention.Array.lean ====
/-
  What the attention kernel's output array holds, over the extended reals.
-/
module

public import proofs.«01_k».proof.Proof.Attention.Block
public import Idealize.ShloMosaic.Lib.Pipeline.ValueKit

@[expose] public section

set_option maxRecDepth 16384

noncomputable section

namespace Cert.Proof.Attention

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The array the kernel ends holding, at a token and a feature. -/
theorem final (c : Dev nD) (R : Fin 2048) (C : Fin 512) :
    ((dats m 0 c).arrAt 7 cfg0.N : FVec Ideal S2048x512 .bf16) (ix2 R C)
      = norm (m ((c : Thread nD τ).loc main_arg6)) (kernelOut (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) ⟨R.val / 64, by omega⟩
          ⟨C.val / 128, by omega⟩ ⟨R.val % 64, by omega⟩) ⟨C.val % 128, by omega⟩ := by
  have key : (dats m 0 c).arrAt 7 (cfgs 0).N = (fun i : S2048x512.Idx =>
      norm (m ((c : Thread nD τ).loc main_arg6)) (kernelOut (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5))
          ⟨(i 0).val / 64, by have h : (i 0).val < 2048 := (i 0).isLt; omega⟩
          ⟨(i 1).val / 128, by have h : (i 1).val < 512 := (i 1).isLt; omega⟩ ⟨(i 0).val % 64, by omega⟩)
          ⟨(i 1).val % 128, by omega⟩) := by
    refine (dats m 0 c).arrAt_eq_of_covers 7 _ (by decide +kernel) fun t hf y => ?_
    have ht : t.val < 32 := lt_of_lt_of_eq t.isLt (show cfg0.N = 32 from N_0)
    blk_simp
    rw [after0_7]
    refine (out_apply m c t ⟨t.val, ht⟩ rfl y).trans ?_
    idx_vars y
    blk_simp [idx t]
    have e0 : (⟨t.val, ht⟩ : Fin 32) = ⟨(t.val * 64 + y0.val) / 64, by omega⟩ := Fin.ext (by show t.val = (t.val * 64 + y0.val) / 64; omega)
    have e1 : (⟨y0.val, y0.isLt⟩ : Fin 64) = ⟨(t.val * 64 + y0.val) % 64, by omega⟩ := Fin.ext (by show y0.val = (t.val * 64 + y0.val) % 64; omega)
    rw [← e0, ← e1]
  exact congrFun key (ix2 R C)

end Cert.Proof.Attention

end
-- ==== Proof.Attention.Finite.lean ====
/-
  What the precondition of the attention's claim says: every float argument but the gain is a real number.
-/
module

public import proofs.«01_k».proof.Defs
public import proofs.«01_k».proof.Proof.Gen.Pre_attention_finite
public import proofs.«01_k».proof.Proof.Attention.Spec

@[expose] public section

set_option maxRecDepth 16384

noncomputable section

namespace Cert.Proof.Attention

open Idealize.ShloMosaic Idealize.ShloMosaic.TcCoe

/-- A number whose absolute value is below infinity is real. -/
theorem real_of_cmp (x : EReal) (h : Ideal.cmp .olt (max x (-x)) ⊤ = 1#1) : Fin' x := by
  have h' : max x (-x) < ⊤ := by
    by_contra hn
    simp [Ideal.cmp, hn] at h
  have ht : x ≠ ⊤ := fun e => by simp [e] at h'
  have hb : x ≠ ⊥ := fun e => by simp [e] at h'
  exact ⟨x.toReal, (EReal.coe_toReal ht hb).symm⟩

/-- The word of the single-precision infinity. -/
theorem inf_single : Ideal.ofBits FTy.f32 0x7F800000#32 = ⊤ := by
  simp [Ideal.ofBits, Ideal.ieee]

/-- The word of the half-width infinity. -/
theorem inf_half : Ideal.ofBits FTy.bf16 0x7F80#16 = ⊤ := by
  simp [Ideal.ofBits, Ideal.ieee]

/-- An entry the test calls finite is real, in single precision. -/
theorem real_single {s : Shape} (x : FVec Ideal s .f32) (i : s.Idx)
    (h : Ideal.cmp .olt (max (x i) (-(x i))) (Ideal.ofBits FTy.f32 0x7F800000#32) = 1#1) : Fin' (x i) :=
  real_of_cmp _ (inf_single ▸ h)

/-- An entry the test calls finite is real, at half width. -/
theorem real_half {s : Shape} (x : FVec Ideal s .bf16) (i : s.Idx)
    (h : Ideal.cmp .olt (max (x i) (-(x i))) (Ideal.ofBits FTy.bf16 0x7F80#16) = 1#1) : Fin' (x i) :=
  real_of_cmp _ (inf_half ▸ h)

/-- Under the precondition the queries, keys, values, caches and the weight's vectors hold real numbers. -/
theorem finite (m : (ℓ : Loc Cert.KernelIdeal.nD Cert.KernelIdeal.τ Cert.KernelIdeal.sig) → Buf (Elt Ideal) ℓ)
    (h : Cert.Pre_KernelIdeal_attention_finite (hPre_attention_finite := Cert.Pre_attention_finite.Gen.facts) m)
    (c : Dev Cert.KernelIdeal.nD) :
    (∀ i, Fin' ((m ((c.tc : Thread Cert.KernelIdeal.nD Cert.KernelIdeal.τ).loc Cert.KernelIdeal.main_arg0) : Rows) i))
      ∧ (∀ i, Fin' ((m ((c.tc : Thread Cert.KernelIdeal.nD Cert.KernelIdeal.τ).loc Cert.KernelIdeal.main_arg1) : Rows) i))
      ∧ (∀ i, Fin' ((m ((c.tc : Thread Cert.KernelIdeal.nD Cert.KernelIdeal.τ).loc Cert.KernelIdeal.main_arg2) : Rows) i))
      ∧ (∀ i, Fin' ((m ((c.tc : Thread Cert.KernelIdeal.nD Cert.KernelIdeal.τ).loc Cert.KernelIdeal.main_arg3) : KeyCache) i))
      ∧ (∀ i, Fin' ((m ((c.tc : Thread Cert.KernelIdeal.nD Cert.KernelIdeal.τ).loc Cert.KernelIdeal.main_arg4) : ValCache) i))
      ∧ (∀ i, Fin' ((m ((c.tc : Thread Cert.KernelIdeal.nD Cert.KernelIdeal.τ).loc Cert.KernelIdeal.main_arg5) : FVec Ideal ⟨2, ![4, 64]⟩ .f32) i)) := by
  obtain ⟨h0, h1, h2, h3, h4, h5⟩ := h c
  exact ⟨fun i => real_half _ i (congrFun h0 i), fun i => real_half _ i (congrFun h1 i), fun i => real_half _ i (congrFun h2 i),
    fun i => real_single _ i (congrFun h3 i), fun i => real_single _ i (congrFun h4 i), fun i => real_single _ i (congrFun h5 i)⟩

end Cert.Proof.Attention

end
-- ==== Proof.Attention.Reference.lean ====
/-
  What the plainly written attention computes, at a batch entry, a head, a query and a feature.
-/
module

public import proofs.«01_k».proof.Proof.Gen.ReferenceIdeal.Run
public import proofs.«01_k».proof.Proof.Attention.Spec

@[expose] public section

set_option maxRecDepth 16384

noncomputable section

namespace Cert.Proof.Attention.Ref

open Cert.ReferenceIdeal Cert.ReferenceIdeal.Gen Cert.ReferenceIdeal.Value
open Idealize.ShloMosaic

/-- The mask: a key's chunk of 64 positions is no later than the query's. -/
def mask : IVec S64x2112 1 :=
  cmpi .sle
    (broadcastInDim S64x2112 ![0, 1] bcast_S1x2112_S64x2112_0_1 (broadcastInDim S1x2112 ![1] bcast_S2112_S1x2112_1
      (Host.divsi (iotaInDim S2112 32 0) (broadcastInDim S2112 ![] bcast_S_S2112 (constantI S_ 32 64#32)))))
    (broadcastInDim S64x2112 ![0, 1] bcast_S64x1_S64x2112_0_1 (broadcastInDim S64x1 ![0] bcast_S64_S64x1_0
      (Host.divsi (addi (broadcastInDim S64 ![] bcast_S_S64 (constantI S_ 32 2048#32)) (iotaInDim S64 32 0))
        (broadcastInDim S64 ![] bcast_S_S64 (constantI S_ 32 64#32)))))

/-- The cached keys, then the new ones. -/
def allKeys (kn : FVec Ideal S2048x512 .bf16) (kc : FVec Ideal S2x32x2048x4x2x64 .f32) : FVec Ideal S32x2112x4x2x64 .f32 :=
  concatenate S32x2112x4x2x64 1
    [⟨S32x2048x4x2x64, shapeCast S32x2048x4x2x64 (extractStridedSlice S1x32x2048x4x2x64 ![0, 0, 0, 0, 0, 0] kc
        slices_S2x32x2048x4x2x64_S1x32x2048x4x2x64_0_0_0_0_0_0) shapeCasts_S1x32x2048x4x2x64_S32x2048x4x2x64⟩,
     ⟨S32x64x4x2x64, shapeCast S32x64x4x2x64 (extf .f32 kn bitsLt_bf16_f32) shapeCasts_S2048x512_S32x64x4x2x64⟩]
    concatenates_S32x2048x4x2x64_S32x64x4x2x64_S32x2112x4x2x64_d1

/-- The cached values, then the new ones. -/
def allVals (vn : FVec Ideal S2048x512 .bf16) (vc : FVec Ideal S2x32x2048x4x128 .f32) : FVec Ideal S32x2112x4x128 .f32 :=
  concatenate S32x2112x4x128 1
    [⟨S32x2048x4x128, shapeCast S32x2048x4x128 (extractStridedSlice S1x32x2048x4x128 ![0, 0, 0, 0, 0] vc
        slices_S2x32x2048x4x128_S1x32x2048x4x128_0_0_0_0_0) shapeCasts_S1x32x2048x4x128_S32x2048x4x128⟩,
     ⟨S32x64x4x128, shapeCast S32x64x4x128 (extf .f32 vn bitsLt_bf16_f32) shapeCasts_S2048x512_S32x64x4x128⟩]
    concatenates_S32x2048x4x128_S32x64x4x128_S32x2112x4x128_d1

/-- The masked scores. -/
def scores (q kn : FVec Ideal S2048x512 .bf16) (kc : FVec Ideal S2x32x2048x4x2x64 .f32) : FVec Ideal S32x4x2x64x2112 .f32 :=
  select (broadcastInDim S32x4x2x64x2112 ![3, 4] bcast_S64x2112_S32x4x2x64x2112_3_4 mask)
    (Host.dotGeneral dot_S32x64x4x2x64_S32x2112x4x2x64_S32x4x2x64x2112_4_4_1_1_023_023 none
      (shapeCast S32x64x4x2x64 (extf .f32 q bitsLt_bf16_f32) shapeCasts_S2048x512_S32x64x4x2x64) (allKeys kn kc))
    (broadcastInDim S32x4x2x64x2112 ![] bcast_S_S32x4x2x64x2112 (constant S_ .f32 0xF149F2CA#32))

/-- The greatest score of every query, at least minus infinity. -/
def rowMax (s : FVec Ideal S32x4x2x64x2112 .f32) : FVec Ideal S32x4x2x64 .f32 :=
  maximumf (broadcastInDim S32x4x2x64 ![] bcast_S_S32x4x2x64 (constant S_ .f32 0xFF800000#32))
    (Host.reduce FloatOps.maximumf s (constant S_ .f32 0xFF800000#32) reducesTo_S32x4x2x64x2112_S32x4x2x64_d4 h_S_)

/-- The exponentials of the scores over given row maxima. -/
def expo (s : FVec Ideal S32x4x2x64x2112 .f32) (mx : FVec Ideal S32x4x2x64 .f32) : FVec Ideal S32x4x2x64x2112 .f32 :=
  Host.exp (subf s (broadcastInDim S32x4x2x64x2112 ![0, 1, 2, 3, 4]
    bcast_S32x4x2x64x1_S32x4x2x64x2112_0_1_2_3_4 (broadcastInDim S32x4x2x64x1 ![0, 1, 2, 3] bcast_S32x4x2x64_S32x4x2x64x1_0_1_2_3 mx)))

/-- Exponentials over their row sums. -/
def ratio (e : FVec Ideal S32x4x2x64x2112 .f32) : FVec Ideal S32x4x2x64x2112 .f32 :=
  Host.divf e (broadcastInDim S32x4x2x64x2112 ![0, 1, 2, 3, 4] bcast_S32x4x2x64x1_S32x4x2x64x2112_0_1_2_3_4
    (broadcastInDim S32x4x2x64x1 ![0, 1, 2, 3] bcast_S32x4x2x64_S32x4x2x64x1_0_1_2_3
      (Host.reduceAdd e (constant S_ .f32 0x00000000#32) reducesTo_S32x4x2x64x2112_S32x4x2x64_d4 h_S_)))

/-- The softmax of scores along the keys. -/
def softmax (s : FVec Ideal S32x4x2x64x2112 .f32) : FVec Ideal S32x4x2x64x2112 .f32 := ratio (expo s (rowMax s))

/-- The weight of the second component. -/
def lambda (l : FVec Ideal S4x64 .f32) : FVec Ideal S_ .f32 :=
  addf (subf
    (Host.exp (Host.reduceAdd (mulf (shapeCast S64 (extractStridedSlice S1x64 ![0, 0] l slices_S4x64_S1x64_0_0) shapeCasts_S1x64_S64)
      (shapeCast S64 (extractStridedSlice S1x64 ![1, 0] l slices_S4x64_S1x64_1_0) shapeCasts_S1x64_S64)) (constant S_ .f32 0x00000000#32) reducesTo_S64_S_d0 h_S_))
    (Host.exp (Host.reduceAdd (mulf (shapeCast S64 (extractStridedSlice S1x64 ![2, 0] l slices_S4x64_S1x64_2_0) shapeCasts_S1x64_S64)
      (shapeCast S64 (extractStridedSlice S1x64 ![3, 0] l slices_S4x64_S1x64_3_0) shapeCasts_S1x64_S64)) (constant S_ .f32 0x00000000#32) reducesTo_S64_S_d0 h_S_)))
    (constant S_ .f32 0x3E4CCCCD#32)

/-- The values under the difference of the two components' weights. -/
def mixed (p : FVec Ideal S32x4x2x64x2112 .f32) (lam : FVec Ideal S_ .f32) (v : FVec Ideal S32x2112x4x128 .f32) :
    FVec Ideal S32x64x4x128 .f32 :=
  transpose S32x64x4x128 [0, 3, 1, 2] (Host.dotGeneral dot_S32x2112x4x128_S32x4x64x2112_S32x4x128x64_1_3_3_2_02_01 none v
    (subf (shapeCast S32x4x64x2112 (extractStridedSlice S32x4x1x64x2112 ![0, 0, 0, 0, 0] p slices_S32x4x2x64x2112_S32x4x1x64x2112_0_0_0_0_0)
        shapeCasts_S32x4x1x64x2112_S32x4x64x2112)
      (mulf (broadcastInDim S32x4x64x2112 ![] bcast_S_S32x4x64x2112 lam)
        (shapeCast S32x4x64x2112 (extractStridedSlice S32x4x1x64x2112 ![0, 0, 1, 0, 0] p slices_S32x4x2x64x2112_S32x4x1x64x2112_0_0_1_0_0)
          shapeCasts_S32x4x1x64x2112_S32x4x64x2112))))
    transposes_S32x4x128x64_S32x64x4x128_0_3_1_2

/-- The head norm, the gain and the constant 0.8, laid out as rows of tokens. -/
def normed (o : FVec Ideal S32x64x4x128 .f32) (g : FVec Ideal S1x128 .f32) : FVec Ideal S2048x512 .bf16 :=
  truncf .bf16 (shapeCast S2048x512 (mulf (mulf (mulf o (broadcastInDim S32x64x4x128 ![0, 1, 2, 3] bcast_S32x64x4x1_S32x64x4x128_0_1_2_3
    (Host.rsqrt (addf (Host.divf (broadcastInDim S32x64x4x1 ![0, 1, 2] bcast_S32x64x4_S32x64x4x1_0_1_2
      (Host.reduceAdd (mulf o o) (constant S_ .f32 0x00000000#32) reducesTo_S32x64x4x128_S32x64x4_d3 h_S_))
        (broadcastInDim S32x64x4x1 ![] bcast_S_S32x64x4x1 (constant S_ .f32 0x43000000#32)))
      (broadcastInDim S32x64x4x1 ![] bcast_S_S32x64x4x1 (constant S_ .f32 0x358637BD#32))))))
    (broadcastInDim S32x64x4x128 ![0, 1, 2, 3] bcast_S1x1x1x128_S32x64x4x128_0_1_2_3 (broadcastInDim S1x1x1x128 ![3] bcast_S128_S1x1x1x128_3
      (shapeCast S128 g shapeCasts_S1x128_S128))))
    (broadcastInDim S32x64x4x128 ![] bcast_S_S32x64x4x128 (constant S_ .f32 0x3F4CCCCD#32))) shapeCasts_S32x64x4x128_S2048x512) bitsLt_bf16_f32

/-- The reference's result as a term of its arguments. -/
def refTerm (q kn vn : FVec Ideal S2048x512 .bf16) (kc : FVec Ideal S2x32x2048x4x2x64 .f32) (vc : FVec Ideal S2x32x2048x4x128 .f32)
    (l : FVec Ideal S4x64 .f32) (g : FVec Ideal S1x128 .f32) : FVec Ideal S2048x512 .bf16 :=
  normed (mixed (softmax (scores q kn kc)) (lambda l) (allVals vn vc)) g
/-- The reference's run ends with that term. -/
theorem res_eq (m : (ℓ : Loc nD τ sig) → Buf (Elt Ideal) ℓ) (c : Dev nD) :
    res_main_v80 m c = refTerm (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  unfold res_main_v80
  rfl

/-- Every key is visible to every query: the last key is of the queries' own chunk. -/
theorem mask_one (r : Fin 64) (k : Fin 2112) : mask (ix2 r k) = 1#1 := by
  have e : ∀ n : Fin 64, IntOp.divsi ArithUnit.host (IntOp.addi (2048#32) (BitVec.ofNat 32 n.val)) 64#32 = 32#32 := by
    decide +kernel
  have e' : ∀ n : Fin 2112, IntOp.cmpi CmpIPredicate.sle (IntOp.divsi ArithUnit.host (BitVec.ofNat 32 n.val) 64#32) 32#32 = 1#1 := by
    decide +kernel
  pointwise [mask]
  rw [e, e']

/-- The scores are the cached and the new scores, joined. -/
theorem scores_apply (q kn : FVec Ideal S2048x512 .bf16) (kc : FVec Ideal S2x32x2048x4x2x64 .f32) (b : Fin 32) (h : Fin 4)
    (c : Fin 2) (r : Fin 64) (k : Fin 2112) :
    scores q kn kc (ix5 b h c r k) = joined (scoreP q kc b h c r) (scoreN q kn b h c r) k := by
  pointwise [scores, allKeys]
  rw [mask_one]
  refine (if_pos rfl).trans ?_
  unfold joined scoreP scoreN row
  by_cases hk : k.val < 2048
  · rw [dif_pos hk]
    exact Finset.sum_congr rfl fun x _ => by rw [dif_pos hk]
  · rw [dif_neg hk]
    exact Finset.sum_congr rfl fun x _ => by rw [dif_neg hk]

/-- The reduction along the keys keeps the first four axes. -/
theorem reduces_keys : S32x4x2x64x2112.Reduces [4] S32x4x2x64 := by decide

/-- The index reduced away, put back. -/
theorem lift_keys (b : Fin 32) (h : Fin 4) (c : Fin 2) (r : Fin 64) (k : Fin 2112) :
    reduces_keys.lift (ix4 b h c r) k = ix5 b h c r k := by
  blk_ext <;> rfl

/-- The row maximum is a maximum with minus infinity of the reduction along the keys. -/
theorem rowMax_eq (s : FVec Ideal S32x4x2x64x2112 .f32) (j : S32x4x2x64.Idx) :
    rowMax s j = max (Ideal.ofBits FTy.f32 4286578688#32) (Finset.fold (FloatOps.maximumf (F := Ideal) (φ := .f32))
      ((constant (F := Ideal) S_ .f32 0xFF800000#32) (Shape.Idx.first h_S_)) (s ∘ reduces_keys.lift j) Finset.univ) := by
  rw [← Host.reduce_eq_fold_single (FloatOps.maximumf (F := Ideal) (φ := .f32)) s (constant S_ .f32 0xFF800000#32)
    reducesTo_S32x4x2x64x2112_S32x4x2x64_d4 reduces_keys h_S_ j]
  unfold rowMax
  rw [maximumf]
  generalize Host.reduce (α := Ideal .f32) _ _ _ _ _ = z
  rfl

/-- The fold of the maximum operation is the fold of the maximum. -/
theorem fold_eq (f : Fin 2112 → EReal) : Finset.fold (FloatOps.maximumf (F := Ideal) (φ := .f32))
      ((constant (F := Ideal) S_ .f32 0xFF800000#32) (Shape.Idx.first h_S_)) f Finset.univ
    = Finset.fold max (Ideal.ofBits FTy.f32 4286578688#32) f Finset.univ := rfl

/-- A row's maximum. -/
theorem rowMax_apply (s : FVec Ideal S32x4x2x64x2112 .f32) (b : Fin 32) (h : Fin 4) (c : Fin 2) (r : Fin 64) :
    rowMax s (ix4 b h c r) = max (Ideal.ofBits FTy.f32 4286578688#32)
      (Finset.fold max (Ideal.ofBits FTy.f32 4286578688#32) (fun k : Fin 2112 => s (ix5 b h c r k)) Finset.univ) := by
  have e : s ∘ reduces_keys.lift (ix4 b h c r) = fun k : Fin 2112 => s (ix5 b h c r k) :=
    funext fun k => congrArg s (lift_keys b h c r k)
  rw [rowMax_eq, e]
  exact congrArg _ (fold_eq _)

/-- The exponentials, read at an index. -/
theorem expo_apply (s : FVec Ideal S32x4x2x64x2112 .f32) (mx : FVec Ideal S32x4x2x64 .f32) (b : Fin 32) (h : Fin 4)
    (c : Fin 2) (r : Fin 64) (k : Fin 2112) :
    expo s mx (ix5 b h c r k) = Ideal.exp (s (ix5 b h c r k) - mx (ix4 b h c r)) := by
  pointwise [expo]

/-- The ratios, read at an index. -/
theorem ratio_apply (e : FVec Ideal S32x4x2x64x2112 .f32) (b : Fin 32) (h : Fin 4) (c : Fin 2) (r : Fin 64) (k : Fin 2112) :
    ratio e (ix5 b h c r k) = Ideal.div (e (ix5 b h c r k)) (∑ x : Fin 2112, e (ix5 b h c r x)) := by
  pointwise [ratio]

/-- A softmax of the joined scores is the weight of the score. -/
theorem softmax_apply (q kn : FVec Ideal S2048x512 .bf16) (kc : FVec Ideal S2x32x2048x4x2x64 .f32) (b : Fin 32) (h : Fin 4)
    (c : Fin 2) (r : Fin 64) (k : Fin 2112) :
    softmax (scores q kn kc) (ix5 b h c r k)
      = weight (scoreP q kc b h c r) (scoreN q kn b h c r) (joined (scoreP q kc b h c r) (scoreN q kn b h c r) k) := by
  rw [softmax, ratio_apply]
  simp only [expo_apply, rowMax_apply, scores_apply, fold_joined]
  rw [weight, total, ← sum_joined (scoreP q kc b h c r) (scoreN q kn b h c r) fun x =>
    Ideal.exp (x - top (scoreP q kc b h c r) (scoreN q kn b h c r))]

/-- The weight of the second component. -/
theorem lambda_apply (l : FVec Ideal S4x64 .f32) : lambda l ix0 = lam l := by
  pointwise [lambda, lam]

/-- The mixed values, read at an index. -/
theorem mixed_apply (p : FVec Ideal S32x4x2x64x2112 .f32) (w : FVec Ideal S_ .f32) (vn : FVec Ideal S2048x512 .bf16)
    (vc : FVec Ideal S2x32x2048x4x128 .f32) (b : Fin 32) (r : Fin 64) (h : Fin 4) (d : Fin 128) :
    mixed p w (allVals vn vc) (ix4 b r h d)
      = ∑ x : Fin 2048, vc (ix5 (0 : Fin 2) b x h d) * (p (ix5 b h (0 : Fin 2) r (⟨x.val, by omega⟩ : Fin 2112))
          - w ix0 * p (ix5 b h (1 : Fin 2) r (⟨x.val, by omega⟩ : Fin 2112)))
        + ∑ x : Fin 64, vn (ix2 (⟨b.val * 64 + x.val, by omega⟩ : Fin 2048) (⟨h.val * 128 + d.val, by omega⟩ : Fin 512))
          * (p (ix5 b h (0 : Fin 2) r (⟨2048 + x.val, by omega⟩ : Fin 2112))
            - w ix0 * p (ix5 b h (1 : Fin 2) r (⟨2048 + x.val, by omega⟩ : Fin 2112))) := by
  pointwise [mixed, allVals]

/-- The reference's values before the norm. -/
theorem mixed_eq (q kn vn : FVec Ideal S2048x512 .bf16) (kc : FVec Ideal S2x32x2048x4x2x64 .f32)
    (vc : FVec Ideal S2x32x2048x4x128 .f32) (l : FVec Ideal S4x64 .f32) (b : Fin 32) (r : Fin 64) (h : Fin 4) (d : Fin 128) :
    mixed (softmax (scores q kn kc)) (lambda l) (allVals vn vc) (ix4 b r h d) = refOut q kn vn kc vc l b h r d := by
  rw [mixed_apply]
  simp only [softmax_apply, lambda_apply, joined_left, joined_right]
  rfl

/-- The head norm, read at a token and a feature. -/
theorem normed_apply (o : FVec Ideal S32x64x4x128 .f32) (g : FVec Ideal S1x128 .f32) (R : Fin 2048) (C : Fin 512) :
    normed o g (ix2 R C) = norm g (fun d => o (ix4 (⟨R.val / 64, by omega⟩ : Fin 32) (⟨R.val % 64, by omega⟩ : Fin 64)
      (⟨C.val / 128, by omega⟩ : Fin 4) d)) ⟨C.val % 128, by omega⟩ := by
  pointwise [normed, norm]

/-- The reference at a token and a feature. -/
theorem ref_apply (q kn vn : FVec Ideal S2048x512 .bf16) (kc : FVec Ideal S2x32x2048x4x2x64 .f32)
    (vc : FVec Ideal S2x32x2048x4x128 .f32) (l : FVec Ideal S4x64 .f32) (g : FVec Ideal S1x128 .f32) (R : Fin 2048) (C : Fin 512) :
    refTerm q kn vn kc vc l g (ix2 R C)
      = norm g (refOut q kn vn kc vc l ⟨R.val / 64, by omega⟩ ⟨C.val / 128, by omega⟩ ⟨R.val % 64, by omega⟩)
          ⟨C.val % 128, by omega⟩ := by
  rw [refTerm, normed_apply]
  simp only [mixed_eq]

end Cert.Proof.Attention.Ref

end
-- ==== Proof.Attention.Claim.lean ====
/-
  The attention's value claim: the kernel's array is the reference's, element by element.
-/
module

public import proofs.«01_k».proof.Defs
public import proofs.«01_k».proof.Proof.Attention.Array
public import proofs.«01_k».proof.Proof.Attention.Finite
public import proofs.«01_k».proof.Proof.Attention.Reference
public import Idealize.ShloMosaic.Lib.Claim

@[expose] public section

set_option maxRecDepth 16384

noncomputable section

namespace Cert.Proof.Attention

open Idealize.ShloMosaic Idealize.ShloMosaic.TcCoe Idealize.SL.Sem

/-- On equal finite arguments the attention kernel and the plainly written attention end with the same array. -/
theorem algebraic : Cert.algebraic_KernelIdeal_ReferenceIdeal_pre_attention_finite (hKernelIdeal := Cert.KernelIdeal.Gen.facts)
    (hReferenceIdeal := Cert.ReferenceIdeal.Gen.facts) (hPre_attention_finite := Cert.Pre_attention_finite.Gen.facts) := by
  pair_intro
  · run_from Cert.KernelIdeal.Value.run_blocks m g
  · run_from Cert.ReferenceIdeal.Value.run m' g'
    obtain ⟨hq, hkn, hvn, hkc, hvc, hl⟩ := finite m hpre c
    rw [Ref.res_eq]
    obtain ⟨e0, e1, e2, e3, e4, e5, e6⟩ := hagree c
    rw [e0, e1, e2, e3, e4, e5, e6]
    refine funext fun i : Cert.KernelIdeal.S2048x512.Idx => ?_
    obtain ⟨R, C, rfl⟩ : ∃ (R : Fin 2048) (C : Fin 512), i = ix2 R C := ⟨i 0, i 1, by blk_ext⟩
    refine (Ref.ref_apply _ _ _ _ _ _ _ R C).trans (Eq.trans ?_ (final m c R C).symm)
    exact congrArg (fun o => norm _ o _) (funext fun d => (out_eq _ _ _ _ _ _ hq hkn hvn hkc hvc hl _ _ _ d).symm)

end Cert.Proof.Attention

end
-- ==== Proof.Inproj.Block.lean ====
/-
  What the projection kernel's scratch and output blocks hold, over the extended reals.
-/
module

public import proofs.«01_k».proof.Proof.Gen.InprojIdeal.Value
public import Idealize.ShloMosaic.Lib.Pointwise
public import Idealize.ShloMosaic.Lib.Pipeline.ValueKit

@[expose] public section

set_option maxRecDepth 16384

noncomputable section

namespace Cert.Proof.Inproj

open Cert.InprojIdeal Cert.InprojIdeal.Gen
open Idealize.ShloMosaic Idealize.ShloMosaic.TcCoe Idealize.SL.Sem
open Idealize.ShloMosaic.Pipeline (Dat)

variable (m : (ℓ : Loc nD τ sig) → Buf (Elt Ideal) ℓ)

/-- The modulated, normalised activation at token `R` and feature `k`: the token's features over their root mean square,
    times the gain, times one plus the scale of the token's batch, plus that batch's shift. -/
def hid (x : FVec Ideal S16384x1024 .f32) (mm : FVec Ideal S4x6x1024 .f32) (g : FVec Ideal S1024 .f32)
    (R : Fin 16384) (k : Fin 1024) : EReal :=
  x (ix2 R k) * Ideal.rsqrt (Ideal.div (∑ l : Fin 1024, x (ix2 R l) * x (ix2 R l)) (Ideal.ofBits FTy.f32 1149239296#32)
      + Ideal.ofBits FTy.f32 897988541#32) * g (ix1 k) * (1 + mm (ix3 (⟨R.val / 4096, by omega⟩ : Fin 4) (1 : Fin 6) k))
    + mm (ix3 (⟨R.val / 4096, by omega⟩ : Fin 4) (0 : Fin 6) k)

/-- The projection at token `R` and output feature `C`: the activation against row `C` of the weight. -/
def proj (x : FVec Ideal S16384x1024 .f32) (mm : FVec Ideal S4x6x1024 .f32) (g : FVec Ideal S1024 .f32)
    (wt : FVec Ideal S8192x1024 .bf16) (R : Fin 16384) (C : Fin 8192) : EReal :=
  ∑ k : Fin 1024, hid x mm g R k * wt (ix2 C k)

/-- Every window's block index at every grid point: the row block is the point over 8, the weight block the point modulo 8,
    the batch the point over 32. -/
theorem idx : ∀ t : Fin cfg0.N, win0_0.index t = ![t.val / 8, 0] ∧ win0_1.index t = ![t.val / 32, 0, 0]
    ∧ win0_2.index t = ![0, 0] ∧ win0_3.index t = ![t.val % 8, 0] ∧ win0_4.index t = ![t.val / 8, t.val % 8] :=
  (by decide +kernel : ∀ t : Fin grid0.N, _)

/-- The bound on a row of a row block. -/
theorem row_lt (n : ℕ) (h : n < cfg0.N) (r : Fin 1024) : n / 8 * 1024 + r.val < 16384 := by
  have hN := lt_of_lt_of_eq h (show cfg0.N = 128 from N_0)
  omega

/-- What the normalising payload computes at row `r` and feature `k` of the blocks a point reads. -/
theorem pay1_apply (c : Dev nD) (t : Fin cfg0.N) (r k : Fin 1024) :
    k0_pay1 (F := Ideal) (iblk m c 0 t) (iblk m c 2 t) (iblk m c 1 t) (ix2 r k)
      = hid (m ((c : Thread nD τ).loc main_arg0)) (m ((c : Thread nD τ).loc main_arg1))
          (m ((c : Thread nD τ).loc main_arg2)) ⟨t.val / 8 * 1024 + r.val, row_lt t.val t.isLt r⟩ k := by
  have hN := lt_of_lt_of_eq t.isLt (show cfg0.N = 128 from N_0)
  pointwise [k0_pay1, hid]
  blk_point [iblk, V, idx t]

/-- The scratch after point `n` holds the activations of the point's row block: written at the block's first point, kept at
    the others. -/
theorem scratch_apply (c : Dev nD) : ∀ (n : ℕ) (h : n < cfg0.N) (r k : Fin 1024),
    (outsAt0 m c n h).2 (ix2 r k)
      = hid (m ((c : Thread nD τ).loc main_arg0)) (m ((c : Thread nD τ).loc main_arg1))
          (m ((c : Thread nD τ).loc main_arg2)) ⟨n / 8 * 1024 + r.val, row_lt n h r⟩ k := by
  intro n
  induction n with
  | zero =>
    intro h r k
    rw [outsAt0_A m c ⟨0, h⟩ rfl]; frame_out
    exact pay1_apply m c ⟨0, h⟩ r k
  | succ n ih =>
    intro h r k
    by_cases h0 : (n + 1) % 8 = 0
    · rw [outsAt0_A m c ⟨n + 1, h⟩ h0]; frame_out
      exact pay1_apply m c ⟨n + 1, h⟩ r k
    · rw [outsAt0_B m c ⟨n + 1, h⟩ h0]
      refine (ih (Nat.lt_of_succ_lt h) r k).trans ?_
      have e : n / 8 = (n + 1) / 8 := by omega
      simp only [e]

/-- The output block of point `t` holds the scratch against the weight block. -/
theorem out_eq (c : Dev nD) (t : Fin cfg0.N) :
    (outsAt0 m c t.val t.isLt).1 = k0_pay2 (F := Ideal) (outsAt0 m c t.val t.isLt).2 (iblk m c 3 t) := by
  by_cases h0 : t.val % 8 = 0
  · rw [outsAt0_A m c t h0]; frame_out
  · rw [outsAt0_B m c t h0]; frame_out
    exact congrArg (fun z => k0_pay2 (F := Ideal) z (iblk m c 3 t)) ((Memref.isWhole_whole cc0_scratch0).read_unread _)

/-- Element `(r, l)` of point `t`'s output block is the projection at the token and the output feature it sits at. -/
theorem out_apply (c : Dev nD) (t : Fin cfg0.N) (r l : Fin 1024) (R : Fin 16384) (C : Fin 8192)
    (hR : R.val = t.val / 8 * 1024 + r.val) (hC : C.val = t.val % 8 * 1024 + l.val) :
    (outsAt0 m c t.val t.isLt).1 (ix2 r l)
      = proj (m ((c : Thread nD τ).loc main_arg0)) (m ((c : Thread nD τ).loc main_arg1))
          (m ((c : Thread nD τ).loc main_arg2)) (m ((c : Thread nD τ).loc main_arg3)) R C := by
  obtain rfl : R = ⟨t.val / 8 * 1024 + r.val, row_lt t.val t.isLt r⟩ := Fin.ext hR
  rw [out_eq]
  pointwise [k0_pay2, proj]
  refine Fin.sum_fin_congr fun k => ?_
  rw [scratch_apply m c t.val t.isLt r k]
  blk_point [iblk, V, idx t]

/-- The array the kernel ends holding: the projection at every token and output feature. -/
theorem final (c : Dev nD) (R : Fin 16384) (C : Fin 8192) :
    ((dats m 0 c).arrAt 4 cfg0.N : FVec Ideal S16384x8192 .f32) (ix2 R C)
      = proj (m ((c : Thread nD τ).loc main_arg0)) (m ((c : Thread nD τ).loc main_arg1))
          (m ((c : Thread nD τ).loc main_arg2)) (m ((c : Thread nD τ).loc main_arg3)) R C := by
  have key : (dats m 0 c).arrAt 4 (cfgs 0).N = (fun i : S16384x8192.Idx =>
      proj (m ((c : Thread nD τ).loc main_arg0)) (m ((c : Thread nD τ).loc main_arg1))
          (m ((c : Thread nD τ).loc main_arg2)) (m ((c : Thread nD τ).loc main_arg3)) (i 0) (i 1)) := by
    refine (dats m 0 c).arrAt_eq_of_covers 4 _ (by decide +kernel) fun t hf y => ?_
    blk_simp
    rw [after0_4]
    idx_vars y
    refine out_apply m c t _ _ _ _ ?_ ?_
    all_goals (blk_simp [idx t] <;> try omega)
  exact congrFun key (ix2 R C)

end Cert.Proof.Inproj

end
-- ==== Proof.Inproj.Reference.lean ====
/-
  What the plainly written projection computes, at a token and an output feature.
-/
module

public import proofs.«01_k».proof.Proof.Inproj.Block
public import proofs.«01_k».proof.Proof.Gen.InprojReferenceIdeal.Run
public import Idealize.ShloMosaic.Lib.Pointwise

@[expose] public section

set_option maxRecDepth 16384

noncomputable section

namespace Cert.Proof.Inproj

open Cert.InprojReferenceIdeal Cert.InprojReferenceIdeal.Gen
open Idealize.ShloMosaic

/-- The reference's result as one term of its four arguments. -/
abbrev refTerm (x : FVec Ideal S16384x1024 .f32) (mm : FVec Ideal S4x6x1024 .f32) (g : FVec Ideal S1024 .f32)
    (wt : FVec Ideal S8192x1024 .bf16) : FVec Ideal S16384x8192 .f32 :=
  shapeCast S16384x8192 (Host.dotGeneral dot_S4x4096x1024_S8192x1024_S4x4096x8192_2_1_01_0_n_n none (addf (mulf
    (mulf (mulf (shapeCast S4x4096x1024 x shapeCasts_S16384x1024_S4x4096x1024) (broadcastInDim S4x4096x1024
    ![0, 1, 2] bcast_S4x4096x1_S4x4096x1024_0_1_2 (Host.rsqrt (addf (Host.divf (broadcastInDim S4x4096x1 ![0,
    1] bcast_S4x4096_S4x4096x1_0_1 (Host.reduceAdd (mulf (shapeCast S4x4096x1024 x
    shapeCasts_S16384x1024_S4x4096x1024) (shapeCast S4x4096x1024 x shapeCasts_S16384x1024_S4x4096x1024))
    (constant S_ .f32 0x00000000#32) reducesTo_S4x4096x1024_S4x4096_d2 h_S_)) (broadcastInDim S4x4096x1 ![]
    bcast_S_S4x4096x1 (constant S_ .f32 0x44800000#32))) (broadcastInDim S4x4096x1 ![] bcast_S_S4x4096x1
    (constant S_ .f32 0x358637BD#32)))))) (broadcastInDim S4x4096x1024 ![0, 1, 2]
    bcast_S1x1x1024_S4x4096x1024_0_1_2 (broadcastInDim S1x1x1024 ![2] bcast_S1024_S1x1x1024_2 g)))
    (broadcastInDim S4x4096x1024 ![0, 1, 2] bcast_S4x1x1024_S4x4096x1024_0_1_2 (addf (broadcastInDim S4x1x1024
    ![] bcast_S_S4x1x1024 (constant S_ .f32 0x3F800000#32)) (broadcastInDim S4x1x1024 ![0, 2]
    bcast_S4x1024_S4x1x1024_0_2 (shapeCast S4x1024 (extractStridedSlice S4x1x1024 ![0, 1, 0] mm
    slices_S4x6x1024_S4x1x1024_0_1_0) shapeCasts_S4x1x1024_S4x1024))))) (broadcastInDim S4x4096x1024 ![0, 1, 2]
    bcast_S4x1x1024_S4x4096x1024_0_1_2 (broadcastInDim S4x1x1024 ![0, 2] bcast_S4x1024_S4x1x1024_0_2 (shapeCast
    S4x1024 (extractStridedSlice S4x1x1024 ![0, 0, 0] mm slices_S4x6x1024_S4x1x1024_0_0_0)
    shapeCasts_S4x1x1024_S4x1024)))) (extf .f32 wt bitsLt_bf16_f32)) shapeCasts_S4x4096x8192_S16384x8192

/-- That term at token `R` and output feature `C` is the projection there. -/
theorem ref_apply (x : FVec Ideal S16384x1024 .f32) (mm : FVec Ideal S4x6x1024 .f32) (g : FVec Ideal S1024 .f32)
    (wt : FVec Ideal S8192x1024 .bf16) (R : Fin 16384) (C : Fin 8192) :
    refTerm x mm g wt (ix2 R C) = proj x mm g wt R C := by
  pointwise [refTerm, proj, hid]

end Cert.Proof.Inproj

end
-- ==== Proof.Inproj.Claim.lean ====
/-
  The projection's value claim: the kernel's array is the reference's, element by element.
-/
module

public import proofs.«01_k».proof.Defs
public import proofs.«01_k».proof.Proof.Inproj.Block
public import proofs.«01_k».proof.Proof.Inproj.Reference
public import Idealize.ShloMosaic.Lib.Claim

@[expose] public section

set_option maxRecDepth 16384

noncomputable section

namespace Cert.Proof.Inproj

open Idealize.ShloMosaic Idealize.ShloMosaic.TcCoe Idealize.SL.Sem

/-- On equal arguments the projection kernel and the plainly written projection end with the same array. -/
theorem algebraic : Cert.algebraic_InprojIdeal_InprojReferenceIdeal (hInprojIdeal := Cert.InprojIdeal.Gen.facts)
    (hInprojReferenceIdeal := Cert.InprojReferenceIdeal.Gen.facts) := by
  pair_intro
  · run_from Cert.InprojIdeal.Value.run_blocks m g
  · run_from Cert.InprojReferenceIdeal.Value.run m' g'
    refine funext fun i : Cert.InprojIdeal.S16384x8192.Idx => ?_
    obtain ⟨R, C, rfl⟩ : ∃ (R : Fin 16384) (C : Fin 8192), i = ix2 R C := ⟨i 0, i 1, by blk_ext⟩
    exact (ref_apply _ _ _ _ R C).trans (final m c R C).symm

end Cert.Proof.Inproj

end
-- ==== Proof.Ffn.Spec.lean ====
/-
  The expert layer at a token: a clipped gated unit between two linear maps, as sums over features.
-/
module

public import Idealize.ShloMosaic.Lib.Pointwise

@[expose] public section

noncomputable section

namespace Cert.Proof.Ffn

open Idealize.ShloMosaic

/-- A linear map with its bias, at output feature `l`. -/
def lin (x : Fin 1024 → EReal) (w : Fin 1024 → Fin 1024 → EReal) (b : Fin 1024 → EReal) (l : Fin 1024) : EReal :=
  ∑ k : Fin 1024, x k * w k l + b l

/-- The gated unit: the gate capped at 7, the other branch clipped to `[-7, 7]`; the gate times its sigmoid at slope
    1.702, times one plus the other branch. -/
def unit (g u : EReal) : EReal :=
  min g (Ideal.ofBits FTy.f32 0x40E00000#32)
      * Ideal.div 1 (1 + Ideal.exp (-(Ideal.ofBits FTy.f32 0x3FD9DB23#32 * min g (Ideal.ofBits FTy.f32 0x40E00000#32))))
    * (min (Ideal.ofBits FTy.f32 0x40E00000#32) (max (Ideal.ofBits FTy.f32 0xC0E00000#32) u) + 1)

/-- The expert layer at a token with features `x`, at output feature `j`. -/
def expert (x : Fin 1024 → EReal) (wg : Fin 1024 → Fin 1024 → EReal) (bg : Fin 1024 → EReal)
    (wu : Fin 1024 → Fin 1024 → EReal) (bu : Fin 1024 → EReal) (w2 : Fin 1024 → Fin 1024 → EReal) (b2 : Fin 1024 → EReal)
    (j : Fin 1024) : EReal :=
  lin (fun l => unit (lin x wg bg l) (lin x wu bu l)) w2 b2 j

end Cert.Proof.Ffn

end
-- ==== Proof.Ffn.Reference.lean ====
/-
  What the plainly written expert layer computes, at an element of its result.
-/
module

public import proofs.«01_k».proof.Proof.Ffn.Spec
public import proofs.«01_k».proof.Proof.Gen.FfnReferenceIdeal.Run
public import Idealize.ShloMosaic.Lib.Pointwise
public import Idealize.ShloMosaic.Lib.StableHlo.Predicate

@[expose] public section

set_option maxRecDepth 16384

noncomputable section

namespace Cert.Proof.Ffn

open Cert.FfnReferenceIdeal Cert.FfnReferenceIdeal.Gen
open Idealize.ShloMosaic

/-- The expert of row block `t`: its word, clipped into the 32 there are. -/
def pick (be : IVec S288 32) (t : Fin 288) : Fin 32 := ⟨min (be (ix1 t)).toInt.toNat 31, by omega⟩

abbrev col (be : IVec S288 32) : IVec S288x1 32 := broadcastInDim S288x1 ![0] bcast_S288_S288x1_0 be

/-- A matrix taken per row block. -/
theorem take_apply (w : FVec Ideal S32x1024x1024 .f32) (be : IVec S288 32) (t : Fin 288) (k l : Fin 1024) :
    Host.gather gather_S32x1024x1024_S288x1_S288x1024x1024_12_0_n_n_0_1_110241024 w (col be) (ix3 t k l)
      = w (ix3 (pick be t) k l) := by
  unfold Host.gather
  refine congrArg w (funext fun a => Fin.ext ?_)
  rcases a with ⟨_ | _ | _ | _, ha⟩
  · show min (col be (GatherDims.siIdx gather_S32x1024x1024_S288x1_S288x1024x1024_12_0_n_n_0_1_110241024 (ix3 t k l) ⟨0, by decide⟩)).toInt.toNat 31 + 0 + 0
      = min (be (ix1 t)).toInt.toNat 31
    rw [show col be (GatherDims.siIdx gather_S32x1024x1024_S288x1_S288x1024x1024_12_0_n_n_0_1_110241024 (ix3 t k l) ⟨0, by decide⟩)
      = be (ix1 t) from congrArg be (funext fun b => Fin.ext (by obtain rfl : b = 0 := Subsingleton.elim _ _; rfl))]
    rfl
  · show 0 + 0 + k.val = k.val; omega
  · show 0 + 0 + l.val = l.val; omega
  · exact absurd ha (Nat.not_lt.mpr (Nat.le_add_left _ _))

/-- A bias taken per row block. -/
theorem takeBias_apply (b : FVec Ideal S32x1x1024 .f32) (be : IVec S288 32) (t : Fin 288) (l : Fin 1024) :
    Host.gather gather_S32x1x1024_S288x1_S288x1x1024_12_0_n_n_0_1_111024 b (col be) (ix3 t (0 : Fin 1) l)
      = b (ix3 (pick be t) (0 : Fin 1) l) := by
  unfold Host.gather
  refine congrArg b (funext fun a => Fin.ext ?_)
  rcases a with ⟨_ | _ | _ | _, ha⟩
  · show min (col be (GatherDims.siIdx gather_S32x1x1024_S288x1_S288x1x1024_12_0_n_n_0_1_111024 (ix3 t (0 : Fin 1) l) ⟨0, by decide⟩)).toInt.toNat 31 + 0 + 0
      = min (be (ix1 t)).toInt.toNat 31
    rw [show col be (GatherDims.siIdx gather_S32x1x1024_S288x1_S288x1x1024_12_0_n_n_0_1_111024 (ix3 t (0 : Fin 1) l) ⟨0, by decide⟩)
      = be (ix1 t) from congrArg be (funext fun b => Fin.ext (by obtain rfl : b = 0 := Subsingleton.elim _ _; rfl))]
    rfl
  · rfl
  · show 0 + 0 + l.val = l.val; omega
  · exact absurd ha (Nat.not_lt.mpr (Nat.le_add_left _ _))

/-- A linear map per row block. -/
abbrev linear (x : FVec Ideal S288x256x1024 .f32) (w : FVec Ideal S32x1024x1024 .f32) (b : FVec Ideal S32x1x1024 .f32)
    (be : IVec S288 32) : FVec Ideal S288x256x1024 .f32 :=
  addf (Host.dotGeneral dot_S288x256x1024_S288x1024x1024_S288x256x1024_2_1_1_2_0_0 none x
      (Host.gather gather_S32x1024x1024_S288x1_S288x1024x1024_12_0_n_n_0_1_110241024 w (col be)))
    (broadcastInDim S288x256x1024 ![0, 1, 2] bcast_S288x1x1024_S288x256x1024_0_1_2
      (Host.gather gather_S32x1x1024_S288x1_S288x1x1024_12_0_n_n_0_1_111024 b (col be)))

theorem linear_apply (x : FVec Ideal S288x256x1024 .f32) (w : FVec Ideal S32x1024x1024 .f32)
    (b : FVec Ideal S32x1x1024 .f32) (be : IVec S288 32) (t : Fin 288) (q : Fin 256) (l : Fin 1024) :
    linear x w b be (ix3 t q l) = lin (fun k => x (ix3 t q k)) (fun k l => w (ix3 (pick be t) k l))
      (fun l => b (ix3 (pick be t) (0 : Fin 1) l)) l := by
  pointwise [linear, lin]
  rw [takeBias_apply]
  refine congrArg (· + _) (Finset.sum_congr rfl fun k _ => ?_)
  rw [take_apply]

/-- The gated unit over arrays. -/
abbrev gated (g u : FVec Ideal S288x256x1024 .f32) : FVec Ideal S288x256x1024 .f32 :=
  mulf (mulf (minimumf g (broadcastInDim S288x256x1024 ![] bcast_S_S288x256x1024 (constant S_ .f32 0x40E00000#32)))
      (Host.divf (broadcastInDim S288x256x1024 ![] bcast_S_S288x256x1024 (constant S_ .f32 0x3F800000#32))
        (addf (broadcastInDim S288x256x1024 ![] bcast_S_S288x256x1024 (constant S_ .f32 0x3F800000#32))
          (Host.exp (Host.negf (mulf (broadcastInDim S288x256x1024 ![] bcast_S_S288x256x1024 (constant S_ .f32 0x3FD9DB23#32))
            (minimumf g (broadcastInDim S288x256x1024 ![] bcast_S_S288x256x1024 (constant S_ .f32 0x40E00000#32)))))))))
    (addf (minimumf (broadcastInDim S288x256x1024 ![] bcast_S_S288x256x1024 (id (constant S_ .f32 0x40E00000#32)))
        (maximumf (broadcastInDim S288x256x1024 ![] bcast_S_S288x256x1024 (id (constant S_ .f32 0xC0E00000#32))) u))
      (broadcastInDim S288x256x1024 ![] bcast_S_S288x256x1024 (constant S_ .f32 0x3F800000#32)))

theorem gated_apply (g u : FVec Ideal S288x256x1024 .f32) (i : S288x256x1024.Idx) : gated g u i = unit (g i) (u i) := by
  pointwise [gated, unit, id]

/-- A token's features: the 8 rows of 128 its row block keeps them in. -/
def feats (x : FVec Ideal S589824x128 .f32) (t : Fin 288) (q : Fin 256) (k : Fin 1024) : EReal :=
  x (ix2 (⟨t.val * 2048 + (8 * q.val + k.val / 128), by omega⟩ : Fin 589824) (⟨k.val % 128, by omega⟩ : Fin 128))

theorem feats_apply (x : FVec Ideal S589824x128 .f32) (t : Fin 288) (q : Fin 256) (k : Fin 1024) :
    shapeCast S288x256x1024 x shapeCasts_S589824x128_S288x256x1024 (ix3 t q k) = feats x t q k := by
  refine shapeCast_apply (s := S589824x128) _ _ _ _ ?_
  rw [Shape.rowMajor_val_two, Shape.rowMajor_val_three]
  show (t.val * 2048 + (8 * q.val + k.val / 128)) * 128 + k.val % 128 = (t.val * 256 + q.val) * 1024 + k.val
  omega

/-- The expert layer at row `R` and lane `C` of its result: nought in a row block out of use. -/
def moe (x : FVec Ideal S589824x128 .f32) (be : IVec S288 32) (nu : IVec S1 32) (wg : FVec Ideal S32x1024x1024 .bf16)
    (bg : FVec Ideal S32x1x1024 .f32) (wu : FVec Ideal S32x1024x1024 .bf16) (bu : FVec Ideal S32x1x1024 .f32)
    (w2 : FVec Ideal S2x32x1024x1024 .bf16) (b2 : FVec Ideal S32x1x1024 .f32) (t : Fin 288) (q : Fin 256) (j : Fin 1024) : EReal :=
  if (BitVec.ofNat 32 t.val).slt (nu (ix1 (0 : Fin 1))) then
    expert (feats x t q) (fun k l => wg (ix3 (pick be t) k l)) (fun l => bg (ix3 (pick be t) (0 : Fin 1) l))
      (fun k l => wu (ix3 (pick be t) k l)) (fun l => bu (ix3 (pick be t) (0 : Fin 1) l))
      (fun k l => w2 (ix4 (0 : Fin 2) (pick be t) k l)) (fun l => b2 (ix3 (pick be t) (0 : Fin 1) l)) j
  else 0

/-- The second weight's first layer. -/
abbrev layer (w2 : FVec Ideal S2x32x1024x1024 .bf16) : FVec Ideal S32x1024x1024 .f32 :=
  extf .f32 (shapeCast S32x1024x1024 (extractStridedSlice S1x32x1024x1024 ![0, 0, 0, 0] w2
    slices_S2x32x1024x1024_S1x32x1024x1024_0_0_0_0) shapeCasts_S1x32x1024x1024_S32x1024x1024) bitsLt_bf16_f32

theorem layer_apply (w2 : FVec Ideal S2x32x1024x1024 .bf16) (e : Fin 32) (k l : Fin 1024) :
    layer w2 (ix3 e k l) = w2 (ix4 (0 : Fin 2) e k l) := by
  show shapeCast S32x1024x1024 (extractStridedSlice S1x32x1024x1024 ![0, 0, 0, 0] w2
    slices_S2x32x1024x1024_S1x32x1024x1024_0_0_0_0) shapeCasts_S1x32x1024x1024_S32x1024x1024 (ix3 e k l) = _
  refine (shapeCast_apply (s := S1x32x1024x1024) _ _ _ (ix4 (0 : Fin 1) e k l) ?_).trans ?_
  · rw [Shape.rowMajor_val_four, Shape.rowMajor_val_three]
    show ((0 * 32 + e.val) * 1024 + k.val) * 1024 + l.val = (e.val * 1024 + k.val) * 1024 + l.val
    omega
  · pointwise []

/-- The blocks in use, over the result's shape. -/
abbrev used (nu : IVec S1 32) : IVec S288x256x1024 1 :=
  broadcastInDim S288x256x1024 ![0, 1, 2] bcast_S288x1x1_S288x256x1024_0_1_2 (broadcastInDim S288x1x1 ![0]
    bcast_S288_S288x1x1_0 (cmpi .slt (iotaInDim S288 32 0) (broadcastInDim S288 ![0] bcast_S1_S288_0 nu)))

theorem used_apply (nu : IVec S1 32) (t : Fin 288) (q : Fin 256) (l : Fin 1024) :
    used nu (ix3 t q l) = BitVec.ofBool ((BitVec.ofNat 32 t.val).slt (nu (ix1 (0 : Fin 1)))) := by
  pointwise [used]
  rfl

/-- The reference's result as one term of its nine arguments. -/
abbrev refTerm (x : FVec Ideal S589824x128 .f32) (be : IVec S288 32) (nu : IVec S1 32) (wg : FVec Ideal S32x1024x1024 .bf16)
    (bg : FVec Ideal S32x1x1024 .f32) (wu : FVec Ideal S32x1024x1024 .bf16) (bu : FVec Ideal S32x1x1024 .f32)
    (w2 : FVec Ideal S2x32x1024x1024 .bf16) (b2 : FVec Ideal S32x1x1024 .f32) : FVec Ideal S589824x128 .f32 :=
  shapeCast S589824x128 (select (used nu) (linear (gated
      (linear (shapeCast S288x256x1024 x shapeCasts_S589824x128_S288x256x1024) (extf .f32 wg bitsLt_bf16_f32) bg be)
      (linear (shapeCast S288x256x1024 x shapeCasts_S589824x128_S288x256x1024) (extf .f32 wu bitsLt_bf16_f32) bu be))
      (layer w2) b2 be) (broadcastInDim S288x256x1024 ![] bcast_S_S288x256x1024 (id (constant S_ .f32 0x00000000#32))))
    shapeCasts_S288x256x1024_S589824x128

/-- That term at the row and lane that keep token `q` of row block `t` at feature `j`. -/
theorem ref_apply (x : FVec Ideal S589824x128 .f32) (be : IVec S288 32) (nu : IVec S1 32) (wg : FVec Ideal S32x1024x1024 .bf16)
    (bg : FVec Ideal S32x1x1024 .f32) (wu : FVec Ideal S32x1024x1024 .bf16) (bu : FVec Ideal S32x1x1024 .f32)
    (w2 : FVec Ideal S2x32x1024x1024 .bf16) (b2 : FVec Ideal S32x1x1024 .f32) (t : Fin 288) (q : Fin 256) (j : Fin 1024)
    (R : Fin 589824) (C : Fin 128) (hR : R.val = t.val * 2048 + (8 * q.val + j.val / 128)) (hC : C.val = j.val % 128) :
    refTerm x be nu wg bg wu bu w2 b2 (ix2 R C) = moe x be nu wg bg wu bu w2 b2 t q j := by
  refine (shapeCast_apply (s := S288x256x1024) _ _ _ (ix3 t q j) ?_).trans ?_
  · rw [Shape.rowMajor_val_two, Shape.rowMajor_val_three]
    show (t.val * 256 + q.val) * 1024 + j.val = R.val * 128 + C.val
    omega
  show (if used nu (ix3 t q j) = 1#1 then linear _ (layer w2) b2 be (ix3 t q j) else _) = _
  rw [used_apply, linear_apply]
  unfold moe expert
  simp only [layer_apply, gated_apply, linear_apply, feats_apply]
  by_cases h : (BitVec.ofNat 32 t.val).slt (nu (ix1 (0 : Fin 1))) = true
  · rw [if_pos (by rw [h]; rfl), if_pos h]
    pointwise []
  · rw [if_neg (by rw [Bool.eq_false_of_not_eq_true h]; decide), if_neg h]
    pointwise [id]

end Cert.Proof.Ffn

end
-- ==== Proof.Ffn.IdealKit.lean ====
/- The feed-forward call's pipeline at the contents its two tables have at launch: the arrays it finds, what its input
   windows hold at a point, and when the two branches of its body are taken. -/
module

public import proofs.«01_k».proof.Proof.Gen.FfnIdeal.Launch
public import proofs.«01_k».proof.Proof.Gen.FfnIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp

@[expose] public section

set_option maxRecDepth 16384

noncomputable section

namespace Cert.FfnIdeal.Staged

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

local notation "𝕄" => MT nD τ sig Unit (Elt F) ℕ (UR sig nD τ) ℕ

variable (m : (ℓ : Loc nD τ sig) → Buf (Elt F) ℓ)

/-- A core's buffers when the region is entered: as launched, for `@main` is the region alone. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables at launch: the experts of the row blocks, and the number of blocks in use. -/
def tbl : pre0.Contents (Elt F) := fun j => V m (0 : Dev nD) (pre0.ref j)

theorem V_pre (c : Dev nD) (j : Fin 2) : V m c (pre0.ref j) = tbl m j := by
  rw [Subsingleton.elim c 0]; rfl

/-- Every block the tables pick lies in its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The contents of a table's buffer, and the half of it the body holds. -/
abbrev Held (c : Dev nD) {S : Shape} {e : EltTy} (M : Memref sig .tc .smem S e) : Type := Buf (Elt F) (M.view.loc (c : Thread nD τ))
abbrev half (c : Dev nD) {S : Shape} {e : EltTy} (M : Memref sig .tc .smem S e) (f : Held (F := F) c M) : sProp 𝕄 :=
  M.view.loc (c : Thread nD τ) ↦{fullShare.right} f

theorem halves_eq (c : Dev nD) : (Pipeline.ΦT pre0 (tbl m) c : sProp 𝕄)
    = iprop(half c (Memref.whole main_arg1 : Memref sig .tc .smem S288 .i32) (tbl m 0) ∗ half c (Memref.whole main_arg2 : Memref sig .tc .smem S1 .i32) (tbl m 1)) := by
  unfold Pipeline.ΦT Pipeline.prefHeld
  rw [show (Finset.univ : Finset (Fin 2)) = {0, 1} from rfl, bigSep_insert (by decide), bigSep_singleton]
  rfl

/-! ## The blocks -/

/-- Window `w`'s block at point `t`, out of its array as launched. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem holds_0 (hO : Ok m) {c : Dev nD} (d : Dat τ (Elt F) Unit ℕ (UR sig nD τ) ℕ (cfgM m hO) c) (hA : d.A 0 = V m c (Pipeline.arrRef spec0 0))
    (hafter : ∀ t, d.after 0 t = iblk m hO c 0 t) (t : Fin (cfgM m hO).N) (z) : d.before 0 t z = iblk m hO c 0 t :=
  (d.before_in_eq_fetched 0 rfl (fun _ => rfl) (fun _ _ _ => rfl) (fun t => by rw [hafter]; unfold Dat.blockOf iblk; rw [hA]; try rfl) t z).trans
    (by unfold Dat.fetched Dat.blockOf iblk; rw [hA]; try rfl)
theorem holds_1 (hO : Ok m) {c : Dev nD} (d : Dat τ (Elt F) Unit ℕ (UR sig nD τ) ℕ (cfgM m hO) c) (hA : d.A 1 = V m c (Pipeline.arrRef spec0 1))
    (hafter : ∀ t, d.after 1 t = iblk m hO c 1 t) (t : Fin (cfgM m hO).N) (z) : d.before 1 t z = iblk m hO c 1 t :=
  (d.before_in_eq_fetched 1 rfl (fun _ => rfl) (fun _ _ _ => rfl) (fun t => by rw [hafter]; unfold Dat.blockOf iblk; rw [hA]; try rfl) t z).trans
    (by unfold Dat.fetched Dat.blockOf iblk; rw [hA]; try rfl)
theorem holds_2 (hO : Ok m) {c : Dev nD} (d : Dat τ (Elt F) Unit ℕ (UR sig nD τ) ℕ (cfgM m hO) c) (hA : d.A 2 = V m c (Pipeline.arrRef spec0 2))
    (hafter : ∀ t, d.after 2 t = iblk m hO c 2 t) (t : Fin (cfgM m hO).N) (z) : d.before 2 t z = iblk m hO c 2 t :=
  (d.before_in_eq_fetched 2 rfl (fun _ => rfl) (fun _ _ _ => rfl) (fun t => by rw [hafter]; unfold Dat.blockOf iblk; rw [hA]; try rfl) t z).trans
    (by unfold Dat.fetched Dat.blockOf iblk; rw [hA]; try rfl)
theorem holds_3 (hO : Ok m) {c : Dev nD} (d : Dat τ (Elt F) Unit ℕ (UR sig nD τ) ℕ (cfgM m hO) c) (hA : d.A 3 = V m c (Pipeline.arrRef spec0 3))
    (hafter : ∀ t, d.after 3 t = iblk m hO c 3 t) (t : Fin (cfgM m hO).N) (z) : d.before 3 t z = iblk m hO c 3 t :=
  (d.before_in_eq_fetched 3 rfl (fun _ => rfl) (fun _ _ _ => rfl) (fun t => by rw [hafter]; unfold Dat.blockOf iblk; rw [hA]; try rfl) t z).trans
    (by unfold Dat.fetched Dat.blockOf iblk; rw [hA]; try rfl)
theorem holds_4 (hO : Ok m) {c : Dev nD} (d : Dat τ (Elt F) Unit ℕ (UR sig nD τ) ℕ (cfgM m hO) c) (hA : d.A 4 = V m c (Pipeline.arrRef spec0 4))
    (hafter : ∀ t, d.after 4 t = iblk m hO c 4 t) (t : Fin (cfgM m hO).N) (z) : d.before 4 t z = iblk m hO c 4 t :=
  (d.before_in_eq_fetched 4 rfl (fun _ => rfl) (fun _ _ _ => rfl) (fun t => by rw [hafter]; unfold Dat.blockOf iblk; rw [hA]; try rfl) t z).trans
    (by unfold Dat.fetched Dat.blockOf iblk; rw [hA]; try rfl)
theorem holds_5 (hO : Ok m) {c : Dev nD} (d : Dat τ (Elt F) Unit ℕ (UR sig nD τ) ℕ (cfgM m hO) c) (hA : d.A 5 = V m c (Pipeline.arrRef spec0 5))
    (hafter : ∀ t, d.after 5 t = iblk m hO c 5 t) (t : Fin (cfgM m hO).N) (z) : d.before 5 t z = iblk m hO c 5 t :=
  (d.before_in_eq_fetched 5 rfl (fun _ => rfl) (fun _ _ _ => rfl) (fun t => by rw [hafter]; unfold Dat.blockOf iblk; rw [hA]; try rfl) t z).trans
    (by unfold Dat.fetched Dat.blockOf iblk; rw [hA]; try rfl)
theorem holds_6 (hO : Ok m) {c : Dev nD} (d : Dat τ (Elt F) Unit ℕ (UR sig nD τ) ℕ (cfgM m hO) c) (hA : d.A 6 = V m c (Pipeline.arrRef spec0 6))
    (hafter : ∀ t, d.after 6 t = iblk m hO c 6 t) (t : Fin (cfgM m hO).N) (z) : d.before 6 t z = iblk m hO c 6 t :=
  (d.before_in_eq_fetched 6 rfl (fun _ => rfl) (fun _ _ _ => rfl) (fun t => by rw [hafter]; unfold Dat.blockOf iblk; rw [hA]; try rfl) t z).trans
    (by unfold Dat.fetched Dat.blockOf iblk; rw [hA]; try rfl)

/-- The output's block moves with the point alone, so it is written back at every point. -/
theorem flush_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

/-! ## The two branches -/

/-- The zero branch is taken exactly where the other is not. -/
theorem zero_iff (i : grid0.Coords) (v : BitVec 32) : k0_cond2 i v = 1#1 ↔ ¬k0_cond1 i v = 1#1 := by
  have key : ∀ b : Bool, (BitVec.ofBool (BitVec.setWidth 32 (BitVec.ofBool b) != 0#32) = 1#1) ↔ b = true := by decide
  have e : v.sle (BitVec.ofNat 32 (i 0).val) = !(BitVec.ofNat 32 (i 0).val).slt v := by
    rw [BitVec.sle, BitVec.slt, ← decide_not, decide_eq_decide]; exact not_lt.symm
  show (BitVec.ofBool (BitVec.setWidth 32 (BitVec.ofBool (v.sle (BitVec.ofNat 32 (i 0).val))) != 0#32) = 1#1)
    ↔ ¬(BitVec.ofBool (BitVec.setWidth 32 (BitVec.ofBool ((BitVec.ofNat 32 (i 0).val).slt v)) != 0#32) = 1#1)
  rw [key, key, e]
  simp

/-- So the output is stored at every point, whatever the tables hold. -/
theorem live_7 (pf : pre0.Contents (Elt F)) (i : grid0.Coords) : idle0 pf 7 i = false := by
  show (!(k0_cond1 i (pf.atD 1 ![0]) == 1#1) && !(k0_cond2 i (pf.atD 1 ![0]) == 1#1)) = false
  by_cases h : k0_cond1 i (pf.atD 1 ![0]) = 1#1
  · simp [h]
  · simp [(zero_iff i _).mpr h]

/-! ## The buffers at a point -/

/-- The output's first staging buffer, in which what a body leaves is spelled. -/
abbrev VO : View sig .tc .vmem S2048x128 .f32 := (Memref.whole cc0_stg7_0 : Memref sig .tc .vmem S2048x128 .f32).view
abbrev ms_0 (hO : Ok m) (t : Fin (cfgM m hO).N) : Memref sig .tc .vmem S2048x128 .f32 := spec0_0.stage ((cfgM m hO).slots t 0)
abbrev hs_0 (hO : Ok m) (t : Fin (cfgM m hO).N) : (ms_0 m hO t).IsWhole := hstage0_0 (((cfgM m hO).slots t 0).cast nbuf0_0)
abbrev ms_1 (hO : Ok m) (t : Fin (cfgM m hO).N) : Memref sig .tc .vmem S1x1024x1024 .bf16 := spec0_1.stage ((cfgM m hO).slots t 1)
abbrev hs_1 (hO : Ok m) (t : Fin (cfgM m hO).N) : (ms_1 m hO t).IsWhole := hstage0_1 (((cfgM m hO).slots t 1).cast nbuf0_1)
abbrev ms_2 (hO : Ok m) (t : Fin (cfgM m hO).N) : Memref sig .tc .vmem S1x1x1024 .f32 := spec0_2.stage ((cfgM m hO).slots t 2)
abbrev hs_2 (hO : Ok m) (t : Fin (cfgM m hO).N) : (ms_2 m hO t).IsWhole := hstage0_2 (((cfgM m hO).slots t 2).cast nbuf0_2)
abbrev ms_3 (hO : Ok m) (t : Fin (cfgM m hO).N) : Memref sig .tc .vmem S1x1024x1024 .bf16 := spec0_3.stage ((cfgM m hO).slots t 3)
abbrev hs_3 (hO : Ok m) (t : Fin (cfgM m hO).N) : (ms_3 m hO t).IsWhole := hstage0_3 (((cfgM m hO).slots t 3).cast nbuf0_3)
abbrev ms_4 (hO : Ok m) (t : Fin (cfgM m hO).N) : Memref sig .tc .vmem S1x1x1024 .f32 := spec0_4.stage ((cfgM m hO).slots t 4)
abbrev hs_4 (hO : Ok m) (t : Fin (cfgM m hO).N) : (ms_4 m hO t).IsWhole := hstage0_4 (((cfgM m hO).slots t 4).cast nbuf0_4)
abbrev ms_5 (hO : Ok m) (t : Fin (cfgM m hO).N) : Memref sig .tc .vmem S1x1x1024x1024 .bf16 := spec0_5.stage ((cfgM m hO).slots t 5)
abbrev hs_5 (hO : Ok m) (t : Fin (cfgM m hO).N) : (ms_5 m hO t).IsWhole := hstage0_5 (((cfgM m hO).slots t 5).cast nbuf0_5)
abbrev ms_6 (hO : Ok m) (t : Fin (cfgM m hO).N) : Memref sig .tc .vmem S1x1x1024 .f32 := spec0_6.stage ((cfgM m hO).slots t 6)
abbrev hs_6 (hO : Ok m) (t : Fin (cfgM m hO).N) : (ms_6 m hO t).IsWhole := hstage0_6 (((cfgM m hO).slots t 6).cast nbuf0_6)
abbrev ms_7 (hO : Ok m) (t : Fin (cfgM m hO).N) : Memref sig .tc .vmem S2048x128 .f32 := spec0_7.stage ((cfgM m hO).slots t 7)
abbrev hs_7 (hO : Ok m) (t : Fin (cfgM m hO).N) : (ms_7 m hO t).IsWhole := hstage0_7 (((cfgM m hO).slots t 7).cast nbuf0_7)

/-- The body at point `t`, on the buffers the pipeline calls it with. -/
abbrev bodyAt (hO : Ok m) (t : Fin (cfgM m hO).N) : Prog (TpuEff nD τ sig (Elt F) Λ₀ .tc) PUnit :=
  cc0_moe_ffn (grid0.coords t) (Memref.whole main_arg1) (Memref.isWhole_whole _) (Memref.whole main_arg2) (Memref.isWhole_whole _)
    (ms_0 m hO t) (hs_0 m hO t) (ms_1 m hO t) (hs_1 m hO t) (ms_2 m hO t) (hs_2 m hO t) (ms_3 m hO t) (hs_3 m hO t) (ms_4 m hO t) (hs_4 m hO t) (ms_5 m hO t) (hs_5 m hO t) (ms_6 m hO t) (hs_6 m hO t) (ms_7 m hO t) (hs_7 m hO t)

end Cert.FfnIdeal.Staged

end
-- ==== Proof.Ffn.IdealRunA.lean ====
/- The feed-forward body at a block in use: it multiplies. -/
module

public import proofs.«01_k».proof.Proof.Ffn.IdealKit

@[expose] public section

set_option maxRecDepth 16384

noncomputable section

namespace Cert.FfnIdeal.Staged

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

local notation "𝕄" => MT nD τ sig Unit (Elt F) ℕ (UR sig nD τ) ℕ

variable (c : Dev nD) (i : grid0.Coords)
  (a0 : Memref sig .tc .vmem S2048x128 .f32) (h0 : a0.IsWhole)
  (a1 : Memref sig .tc .vmem S1x1024x1024 .bf16) (h1 : a1.IsWhole)
  (a2 : Memref sig .tc .vmem S1x1x1024 .f32) (h2 : a2.IsWhole)
  (a3 : Memref sig .tc .vmem S1x1024x1024 .bf16) (h3 : a3.IsWhole)
  (a4 : Memref sig .tc .vmem S1x1x1024 .f32) (h4 : a4.IsWhole)
  (a5 : Memref sig .tc .vmem S1x1x1024x1024 .bf16) (h5 : a5.IsWhole)
  (a6 : Memref sig .tc .vmem S1x1x1024 .f32) (h6 : a6.IsWhole)
  (a7 : Memref sig .tc .vmem S2048x128 .f32) (h7 : a7.IsWhole)
variable (x0 : Vec F S2048x128 .f32) (x1 : Vec F S1x1024x1024 .bf16) (x2 : Vec F S1x1x1024 .f32) (x3 : Vec F S1x1024x1024 .bf16) (x4 : Vec F S1x1x1024 .f32) (x5 : Vec F S1x1x1024x1024 .bf16) (x6 : Vec F S1x1x1024 .f32)
  (e : Held c (Memref.whole main_arg1 : Memref sig .tc .smem S288 .i32)) (u : Held c (Memref.whole main_arg2 : Memref sig .tc .smem S1 .i32))

set_option maxHeartbeats 1000000 in
/-- What the body stores into the output's buffer, with the proof that it runs on whole buffers holding the inputs and
    leaves the inputs and the tables as they were. -/
def runA (hc : k0_cond1 i ((Memref.whole main_arg2 : Memref sig .tc .smem S1 .i32).view.readAt (Elt F) (Rect.unit (s := S1) ![0] S1.size inb_S1_S1_0).toLoadRect u (Shape.Idx.first (numel1_S1.symm ▸ Nat.one_pos))) = 1#1) (hz : ¬k0_cond2 i ((Memref.whole main_arg2 : Memref sig .tc .smem S1 .i32).view.readAt (Elt F) (Rect.unit (s := S1) ![0] S1.size inb_S1_S1_0).toLoadRect u (Shape.Idx.first (numel1_S1.symm ▸ Nat.one_pos))) = 1#1) :
    { L : List (View.Piece (Elt F) S2048x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
            ∗ (∃ d, owns (c : Thread nD τ) a7 fullShare d) ∗ half c (Memref.whole main_arg1 : Memref sig .tc .smem S288 .i32) e ∗ half c (Memref.whole main_arg2 : Memref sig .tc .smem S1 .i32) u
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
              ∗ (∃ f, a7.view.loc (c : Thread nD τ) ↦[a7.view.set]{fullShare} a7.view.writes (Elt F) f L)
              ∗ half c (Memref.whole main_arg1 : Memref sig .tc .smem S288 .i32) e ∗ half c (Memref.whole main_arg2 : Memref sig .tc .smem S1 .i32) u) -∗ K ⟨⟩))
          ⊢ wp frame (wpE (defs₀ (F := F)) Variants.none c none) E (cc0_moe_ffn i (Memref.whole main_arg1 : Memref sig .tc .smem S288 .i32) (Memref.isWhole_whole _) (Memref.whole main_arg2 : Memref sig .tc .smem S1 .i32) (Memref.isWhole_whole _) a0 h0 a1 h1 a2 h2 a3 h3 a4 h4 a5 h5 a6 h6 a7 h7) K } := by
  refine ⟨?_, fun E K => ?run⟩
  case run =>
    simp only [cc0_moe_ffn_eq_skeleton]; unfold cc0_moe_ffn_skel
    simp only [k0_part1_eq_skeleton, k0_part2_eq_skeleton]
    unfold owns
    iintro ⟨⟨%f0, %g0, H0⟩, ⟨%f1, %g1, H1⟩, ⟨%f2, %g2, H2⟩, ⟨%f3, %g3, H3⟩, ⟨%f4, %g4, H4⟩, ⟨%f5, %g5, H5⟩, ⟨%f6, %g6, H6⟩, ⟨%d7, %f7, -, H7⟩, HE, HU, Hk⟩
    obtain rfl := h0.eq_unread g0
    obtain rfl := h1.eq_unread g1
    obtain rfl := h2.eq_unread g2
    obtain rfl := h3.eq_unread g3
    obtain rfl := h4.eq_unread g4
    obtain rfl := h5.eq_unread g5
    obtain rfl := h6.eq_unread g6
    sl_exec (disch := first | sl_exact hc | sl_exact hz)
    sl_step
    iapply Hk
    isplitl [H0]
    · iexists _; isplitr
      · ipureintro; exact h0.read_unread _
      iexact H0
    isplitl [H1]
    · iexists _; isplitr
      · ipureintro; exact h1.read_unread _
      iexact H1
    isplitl [H2]
    · iexists _; isplitr
      · ipureintro; exact h2.read_unread _
      iexact H2
    isplitl [H3]
    · iexists _; isplitr
      · ipureintro; exact h3.read_unread _
      iexact H3
    isplitl [H4]
    · iexists _; isplitr
      · ipureintro; exact h4.read_unread _
      iexact H4
    isplitl [H5]
    · iexists _; isplitr
      · ipureintro; exact h5.read_unread _
      iexact H5
    isplitl [H6]
    · iexists _; isplitr
      · ipureintro; exact h6.read_unread _
      iexact H6
    isplitl [H7]
    · iexists _; iexact H7
    isplitl [HE]
    · iexact HE
    iexact HU

end Cert.FfnIdeal.Staged

end
-- ==== Proof.Ffn.IdealRunB.lean ====
/- The feed-forward body at a block out of use: it stores zeros. -/
module

public import proofs.«01_k».proof.Proof.Ffn.IdealRunA

@[expose] public section

set_option maxRecDepth 16384

noncomputable section

namespace Cert.FfnIdeal.Staged

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

local notation "𝕄" => MT nD τ sig Unit (Elt F) ℕ (UR sig nD τ) ℕ

variable (c : Dev nD) (i : grid0.Coords)
  (a0 : Memref sig .tc .vmem S2048x128 .f32) (h0 : a0.IsWhole)
  (a1 : Memref sig .tc .vmem S1x1024x1024 .bf16) (h1 : a1.IsWhole)
  (a2 : Memref sig .tc .vmem S1x1x1024 .f32) (h2 : a2.IsWhole)
  (a3 : Memref sig .tc .vmem S1x1024x1024 .bf16) (h3 : a3.IsWhole)
  (a4 : Memref sig .tc .vmem S1x1x1024 .f32) (h4 : a4.IsWhole)
  (a5 : Memref sig .tc .vmem S1x1x1024x1024 .bf16) (h5 : a5.IsWhole)
  (a6 : Memref sig .tc .vmem S1x1x1024 .f32) (h6 : a6.IsWhole)
  (a7 : Memref sig .tc .vmem S2048x128 .f32) (h7 : a7.IsWhole)
variable (x0 : Vec F S2048x128 .f32) (x1 : Vec F S1x1024x1024 .bf16) (x2 : Vec F S1x1x1024 .f32) (x3 : Vec F S1x1024x1024 .bf16) (x4 : Vec F S1x1x1024 .f32) (x5 : Vec F S1x1x1024x1024 .bf16) (x6 : Vec F S1x1x1024 .f32)
  (e : Held c (Memref.whole main_arg1 : Memref sig .tc .smem S288 .i32)) (u : Held c (Memref.whole main_arg2 : Memref sig .tc .smem S1 .i32))

set_option maxHeartbeats 1000000 in
/-- What the body stores into the output's buffer, with the proof that it runs on whole buffers holding the inputs and
    leaves the inputs and the tables as they were. -/
def runB (hc : ¬k0_cond1 i ((Memref.whole main_arg2 : Memref sig .tc .smem S1 .i32).view.readAt (Elt F) (Rect.unit (s := S1) ![0] S1.size inb_S1_S1_0).toLoadRect u (Shape.Idx.first (numel1_S1.symm ▸ Nat.one_pos))) = 1#1) (hz : k0_cond2 i ((Memref.whole main_arg2 : Memref sig .tc .smem S1 .i32).view.readAt (Elt F) (Rect.unit (s := S1) ![0] S1.size inb_S1_S1_0).toLoadRect u (Shape.Idx.first (numel1_S1.symm ▸ Nat.one_pos))) = 1#1) :
    { L : List (View.Piece (Elt F) S2048x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
            ∗ (∃ d, owns (c : Thread nD τ) a7 fullShare d) ∗ half c (Memref.whole main_arg1 : Memref sig .tc .smem S288 .i32) e ∗ half c (Memref.whole main_arg2 : Memref sig .tc .smem S1 .i32) u
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
              ∗ (∃ f, a7.view.loc (c : Thread nD τ) ↦[a7.view.set]{fullShare} a7.view.writes (Elt F) f L)
              ∗ half c (Memref.whole main_arg1 : Memref sig .tc .smem S288 .i32) e ∗ half c (Memref.whole main_arg2 : Memref sig .tc .smem S1 .i32) u) -∗ K ⟨⟩))
          ⊢ wp frame (wpE (defs₀ (F := F)) Variants.none c none) E (cc0_moe_ffn i (Memref.whole main_arg1 : Memref sig .tc .smem S288 .i32) (Memref.isWhole_whole _) (Memref.whole main_arg2 : Memref sig .tc .smem S1 .i32) (Memref.isWhole_whole _) a0 h0 a1 h1 a2 h2 a3 h3 a4 h4 a5 h5 a6 h6 a7 h7) K } := by
  refine ⟨?_, fun E K => ?run⟩
  case run =>
    simp only [cc0_moe_ffn_eq_skeleton]; unfold cc0_moe_ffn_skel
    unfold owns
    iintro ⟨⟨%f0, %g0, H0⟩, ⟨%f1, %g1, H1⟩, ⟨%f2, %g2, H2⟩, ⟨%f3, %g3, H3⟩, ⟨%f4, %g4, H4⟩, ⟨%f5, %g5, H5⟩, ⟨%f6, %g6, H6⟩, ⟨%d7, %f7, -, H7⟩, HE, HU, Hk⟩
    obtain rfl := h0.eq_unread g0
    obtain rfl := h1.eq_unread g1
    obtain rfl := h2.eq_unread g2
    obtain rfl := h3.eq_unread g3
    obtain rfl := h4.eq_unread g4
    obtain rfl := h5.eq_unread g5
    obtain rfl := h6.eq_unread g6
    sl_exec (disch := first | sl_exact hc | sl_exact hz)
    sl_step
    iapply Hk
    isplitl [H0]
    · iexists _; isplitr
      · ipureintro; exact h0.read_unread _
      iexact H0
    isplitl [H1]
    · iexists _; isplitr
      · ipureintro; exact h1.read_unread _
      iexact H1
    isplitl [H2]
    · iexists _; isplitr
      · ipureintro; exact h2.read_unread _
      iexact H2
    isplitl [H3]
    · iexists _; isplitr
      · ipureintro; exact h3.read_unread _
      iexact H3
    isplitl [H4]
    · iexists _; isplitr
      · ipureintro; exact h4.read_unread _
      iexact H4
    isplitl [H5]
    · iexists _; isplitr
      · ipureintro; exact h5.read_unread _
      iexact H5
    isplitl [H6]
    · iexists _; isplitr
      · ipureintro; exact h6.read_unread _
      iexact H6
    isplitl [H7]
    · iexists _; iexact H7
    isplitl [HE]
    · iexact HE
    iexact HU

end Cert.FfnIdeal.Staged

end
-- ==== Proof.Ffn.IdealFrame.lean ====
/- The feed-forward call runs to its end, leaves its arguments as they were and its counters at zero, whatever its
   tables hold so long as they pick blocks inside the arrays. -/
module

public import proofs.«01_k».proof.Proof.Ffn.IdealRunB
public import Idealize.ShloMosaic.Lib.Claim

@[expose] public section

set_option maxRecDepth 16384

noncomputable section

namespace Cert.FfnIdeal.Staged

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

local notation "𝕄" => MT nD τ sig Unit (Elt F) ℕ (UR sig nD τ) ℕ

section Pieces

variable (c : Dev nD) (i : grid0.Coords)
  (a0 : Memref sig .tc .vmem S2048x128 .f32) (h0 : a0.IsWhole)
  (a1 : Memref sig .tc .vmem S1x1024x1024 .bf16) (h1 : a1.IsWhole)
  (a2 : Memref sig .tc .vmem S1x1x1024 .f32) (h2 : a2.IsWhole)
  (a3 : Memref sig .tc .vmem S1x1024x1024 .bf16) (h3 : a3.IsWhole)
  (a4 : Memref sig .tc .vmem S1x1x1024 .f32) (h4 : a4.IsWhole)
  (a5 : Memref sig .tc .vmem S1x1x1024x1024 .bf16) (h5 : a5.IsWhole)
  (a6 : Memref sig .tc .vmem S1x1x1024 .f32) (h6 : a6.IsWhole)
  (a7 : Memref sig .tc .vmem S2048x128 .f32) (h7 : a7.IsWhole)
variable (x0 : Vec F S2048x128 .f32) (x1 : Vec F S1x1024x1024 .bf16) (x2 : Vec F S1x1x1024 .f32) (x3 : Vec F S1x1024x1024 .bf16) (x4 : Vec F S1x1x1024 .f32) (x5 : Vec F S1x1x1024x1024 .bf16) (x6 : Vec F S1x1x1024 .f32)
  (e : Held c (Memref.whole main_arg1 : Memref sig .tc .smem S288 .i32)) (u : Held c (Memref.whole main_arg2 : Memref sig .tc .smem S1 .i32))

/-- Row `8 q + k` of a block is row `q` of its store at offset `k`. -/
theorem mem_stride (y : S2048x128.Idx) (k : ℕ) (hk : (y 0).val % 8 = k) (inb) (hs) :
    y ∈ (⟨(⟨![k, 0], S256x128.size, ![8, 1], inb⟩ : LoadRect S2048x128), hs⟩ : Rect S2048x128).set := by
  have h0 : (y 0).val < 2048 := (y 0).isLt
  have h1 : (y 1).val < 128 := (y 1).isLt
  refine (LoadRect.mem_set _).mpr fun a => ?_
  rcases a with ⟨_ | _ | _, ha⟩
  · exact ⟨(y 0).val / 8, show (y 0).val / 8 < 256 by omega, show (y 0).val = k + 8 * ((y 0).val / 8) by omega⟩
  · exact ⟨(y 1).val, h1, show (y 1).val = 0 + 1 * (y 1).val by omega⟩
  · exact absurd ha (Nat.not_lt.mpr (Nat.le_add_left _ _))

/-- A row of the output block lies in the store of its residue modulo 8. -/
theorem coverA (hc : k0_cond1 i ((Memref.whole main_arg2 : Memref sig .tc .smem S1 .i32).view.readAt (Elt F) (Rect.unit (s := S1) ![0] S1.size inb_S1_S1_0).toLoadRect u (Shape.Idx.first (numel1_S1.symm ▸ Nat.one_pos))) = 1#1) (hz : ¬k0_cond2 i ((Memref.whole main_arg2 : Memref sig .tc .smem S1 .i32).view.readAt (Elt F) (Rect.unit (s := S1) ![0] S1.size inb_S1_S1_0).toLoadRect u (Shape.Idx.first (numel1_S1.symm ▸ Nat.one_pos))) = 1#1) (y : S2048x128.Idx) :
    ∃ pc ∈ (runA c i a0 h0 a1 h1 a2 h2 a3 h3 a4 h4 a5 h5 a6 h6 a7 h7 x0 x1 x2 x3 x4 x5 x6 e u hc hz).1, y ∈ pc.1.set := by
  obtain hr | hr | hr | hr | hr | hr | hr | hr : (y 0).val % 8 = 0 ∨ (y 0).val % 8 = 1 ∨ (y 0).val % 8 = 2 ∨ (y 0).val % 8 = 3
      ∨ (y 0).val % 8 = 4 ∨ (y 0).val % 8 = 5 ∨ (y 0).val % 8 = 6 ∨ (y 0).val % 8 = 7 := by omega
  · exact ⟨_, List.mem_of_getElem? (i := 7) rfl, mem_stride y 0 hr inb_S2048x128_S256x128_0_0_s_8_1 spos_8_1⟩
  · exact ⟨_, List.mem_of_getElem? (i := 6) rfl, mem_stride y 1 hr inb_S2048x128_S256x128_1_0_s_8_1 spos_8_1⟩
  · exact ⟨_, List.mem_of_getElem? (i := 5) rfl, mem_stride y 2 hr inb_S2048x128_S256x128_2_0_s_8_1 spos_8_1⟩
  · exact ⟨_, List.mem_of_getElem? (i := 4) rfl, mem_stride y 3 hr inb_S2048x128_S256x128_3_0_s_8_1 spos_8_1⟩
  · exact ⟨_, List.mem_of_getElem? (i := 3) rfl, mem_stride y 4 hr inb_S2048x128_S256x128_4_0_s_8_1 spos_8_1⟩
  · exact ⟨_, List.mem_of_getElem? (i := 2) rfl, mem_stride y 5 hr inb_S2048x128_S256x128_5_0_s_8_1 spos_8_1⟩
  · exact ⟨_, List.mem_of_getElem? (i := 1) rfl, mem_stride y 6 hr inb_S2048x128_S256x128_6_0_s_8_1 spos_8_1⟩
  · exact ⟨_, List.mem_of_getElem? (i := 0) rfl, mem_stride y 7 hr inb_S2048x128_S256x128_7_0_s_8_1 spos_8_1⟩

theorem coverB (hc : ¬k0_cond1 i ((Memref.whole main_arg2 : Memref sig .tc .smem S1 .i32).view.readAt (Elt F) (Rect.unit (s := S1) ![0] S1.size inb_S1_S1_0).toLoadRect u (Shape.Idx.first (numel1_S1.symm ▸ Nat.one_pos))) = 1#1) (hz : k0_cond2 i ((Memref.whole main_arg2 : Memref sig .tc .smem S1 .i32).view.readAt (Elt F) (Rect.unit (s := S1) ![0] S1.size inb_S1_S1_0).toLoadRect u (Shape.Idx.first (numel1_S1.symm ▸ Nat.one_pos))) = 1#1) (y : S2048x128.Idx) :
    ∃ pc ∈ (runB c i a0 h0 a1 h1 a2 h2 a3 h3 a4 h4 a5 h5 a6 h6 a7 h7 x0 x1 x2 x3 x4 x5 x6 e u hc hz).1, y ∈ pc.1.set :=
  View.cover_of_tiledL _ S2048x128.size (by sl_kernel_rfl) y

/-- What the body leaves in the output's buffer, in each branch. -/
def outA (hc : k0_cond1 i ((Memref.whole main_arg2 : Memref sig .tc .smem S1 .i32).view.readAt (Elt F) (Rect.unit (s := S1) ![0] S1.size inb_S1_S1_0).toLoadRect u (Shape.Idx.first (numel1_S1.symm ▸ Nat.one_pos))) = 1#1) (hz : ¬k0_cond2 i ((Memref.whole main_arg2 : Memref sig .tc .smem S1 .i32).view.readAt (Elt F) (Rect.unit (s := S1) ![0] S1.size inb_S1_S1_0).toLoadRect u (Shape.Idx.first (numel1_S1.symm ▸ Nat.one_pos))) = 1#1) : Vec F S2048x128 .f32 :=
  VO.read (Elt F) (VO.writes (Elt F) VO.junk (runA c i a0 h0 a1 h1 a2 h2 a3 h3 a4 h4 a5 h5 a6 h6 a7 h7 x0 x1 x2 x3 x4 x5 x6 e u hc hz).1)
def outB (hc : ¬k0_cond1 i ((Memref.whole main_arg2 : Memref sig .tc .smem S1 .i32).view.readAt (Elt F) (Rect.unit (s := S1) ![0] S1.size inb_S1_S1_0).toLoadRect u (Shape.Idx.first (numel1_S1.symm ▸ Nat.one_pos))) = 1#1) (hz : k0_cond2 i ((Memref.whole main_arg2 : Memref sig .tc .smem S1 .i32).view.readAt (Elt F) (Rect.unit (s := S1) ![0] S1.size inb_S1_S1_0).toLoadRect u (Shape.Idx.first (numel1_S1.symm ▸ Nat.one_pos))) = 1#1) : Vec F S2048x128 .f32 :=
  VO.read (Elt F) (VO.writes (Elt F) VO.junk (runB c i a0 h0 a1 h1 a2 h2 a3 h3 a4 h4 a5 h5 a6 h6 a7 h7 x0 x1 x2 x3 x4 x5 x6 e u hc hz).1)

end Pieces

variable (m : (ℓ : Loc nD τ sig) → Buf (Elt F) ℓ) (ρ : Dev nD → PrngReg)

/-- What the output's buffer holds after point `t`. -/
def outsAt (hO : Ok m) (c : Dev nD) (t : Fin (cfgM m hO).N) : Vec F S2048x128 .f32 :=
  if h : k0_cond1 (grid0.coords t) ((Memref.whole main_arg2 : Memref sig .tc .smem S1 .i32).view.readAt (Elt F) (Rect.unit (s := S1) ![0] S1.size inb_S1_S1_0).toLoadRect (tbl m 1) (Shape.Idx.first (numel1_S1.symm ▸ Nat.one_pos))) = 1#1 then
    outA c (grid0.coords t) (ms_0 m hO t) (hs_0 m hO t) (ms_1 m hO t) (hs_1 m hO t) (ms_2 m hO t) (hs_2 m hO t) (ms_3 m hO t) (hs_3 m hO t) (ms_4 m hO t) (hs_4 m hO t) (ms_5 m hO t) (hs_5 m hO t) (ms_6 m hO t) (hs_6 m hO t) (ms_7 m hO t) (hs_7 m hO t)
      (iblk m hO c 0 t) (iblk m hO c 1 t) (iblk m hO c 2 t) (iblk m hO c 3 t) (iblk m hO c 4 t) (iblk m hO c 5 t) (iblk m hO c 6 t) (tbl m 0) (tbl m 1) h (fun h' => (zero_iff _ _).mp h' h)
  else
    outB c (grid0.coords t) (ms_0 m hO t) (hs_0 m hO t) (ms_1 m hO t) (hs_1 m hO t) (ms_2 m hO t) (hs_2 m hO t) (ms_3 m hO t) (hs_3 m hO t) (ms_4 m hO t) (hs_4 m hO t) (ms_5 m hO t) (hs_5 m hO t) (ms_6 m hO t) (hs_6 m hO t) (ms_7 m hO t) (hs_7 m hO t)
      (iblk m hO c 0 t) (iblk m hO c 1 t) (iblk m hO c 2 t) (iblk m hO c 3 t) (iblk m hO c 4 t) (iblk m hO c 5 t) (iblk m hO c 6 t) (tbl m 0) (tbl m 1) h ((zero_iff _ _).mpr h)

theorem outsAt_A (hO : Ok m) (c : Dev nD) (t : Fin (cfgM m hO).N) (h : k0_cond1 (grid0.coords t) ((Memref.whole main_arg2 : Memref sig .tc .smem S1 .i32).view.readAt (Elt F) (Rect.unit (s := S1) ![0] S1.size inb_S1_S1_0).toLoadRect (tbl m 1) (Shape.Idx.first (numel1_S1.symm ▸ Nat.one_pos))) = 1#1) :
    outsAt m hO c t = outA c (grid0.coords t) (ms_0 m hO t) (hs_0 m hO t) (ms_1 m hO t) (hs_1 m hO t) (ms_2 m hO t) (hs_2 m hO t) (ms_3 m hO t) (hs_3 m hO t) (ms_4 m hO t) (hs_4 m hO t) (ms_5 m hO t) (hs_5 m hO t) (ms_6 m hO t) (hs_6 m hO t) (ms_7 m hO t) (hs_7 m hO t)
      (iblk m hO c 0 t) (iblk m hO c 1 t) (iblk m hO c 2 t) (iblk m hO c 3 t) (iblk m hO c 4 t) (iblk m hO c 5 t) (iblk m hO c 6 t) (tbl m 0) (tbl m 1) h (fun h' => (zero_iff _ _).mp h' h) := by
  unfold outsAt; exact dif_pos h

theorem outsAt_B (hO : Ok m) (c : Dev nD) (t : Fin (cfgM m hO).N) (h : ¬k0_cond1 (grid0.coords t) ((Memref.whole main_arg2 : Memref sig .tc .smem S1 .i32).view.readAt (Elt F) (Rect.unit (s := S1) ![0] S1.size inb_S1_S1_0).toLoadRect (tbl m 1) (Shape.Idx.first (numel1_S1.symm ▸ Nat.one_pos))) = 1#1) :
    outsAt m hO c t = outB c (grid0.coords t) (ms_0 m hO t) (hs_0 m hO t) (ms_1 m hO t) (hs_1 m hO t) (ms_2 m hO t) (hs_2 m hO t) (ms_3 m hO t) (hs_3 m hO t) (ms_4 m hO t) (hs_4 m hO t) (ms_5 m hO t) (hs_5 m hO t) (ms_6 m hO t) (hs_6 m hO t) (ms_7 m hO t) (hs_7 m hO t)
      (iblk m hO c 0 t) (iblk m hO c 1 t) (iblk m hO c 2 t) (iblk m hO c 3 t) (iblk m hO c 4 t) (iblk m hO c 5 t) (iblk m hO c 6 t) (tbl m 0) (tbl m 1) h ((zero_iff _ _).mpr h) := by
  unfold outsAt; exact dif_neg h

/-! ## The pipeline's data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outsAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = iblk m hO c 6 t := by dsimp only [dats]; try rfl
theorem after_7 (hO : Ok m) (c : Dev nD) (t : Fin (cfgM m hO).N) : (dats m hO 0 c).after 7 t = outsAt m hO c t := by dsimp only [dats]; try rfl
theorem before_0 (hO : Ok m) (c : Dev nD) (t : Fin (cfgM m hO).N) (z) : (dats m hO 0 c).before 0 t z = iblk m hO c 0 t :=
  holds_0 m hO (dats m hO 0 c) (A_eq m hO c 0) (after_0 m hO c) t z
theorem before_1 (hO : Ok m) (c : Dev nD) (t : Fin (cfgM m hO).N) (z) : (dats m hO 0 c).before 1 t z = iblk m hO c 1 t :=
  holds_1 m hO (dats m hO 0 c) (A_eq m hO c 1) (after_1 m hO c) t z
theorem before_2 (hO : Ok m) (c : Dev nD) (t : Fin (cfgM m hO).N) (z) : (dats m hO 0 c).before 2 t z = iblk m hO c 2 t :=
  holds_2 m hO (dats m hO 0 c) (A_eq m hO c 2) (after_2 m hO c) t z
theorem before_3 (hO : Ok m) (c : Dev nD) (t : Fin (cfgM m hO).N) (z) : (dats m hO 0 c).before 3 t z = iblk m hO c 3 t :=
  holds_3 m hO (dats m hO 0 c) (A_eq m hO c 3) (after_3 m hO c) t z
theorem before_4 (hO : Ok m) (c : Dev nD) (t : Fin (cfgM m hO).N) (z) : (dats m hO 0 c).before 4 t z = iblk m hO c 4 t :=
  holds_4 m hO (dats m hO 0 c) (A_eq m hO c 4) (after_4 m hO c) t z
theorem before_5 (hO : Ok m) (c : Dev nD) (t : Fin (cfgM m hO).N) (z) : (dats m hO 0 c).before 5 t z = iblk m hO c 5 t :=
  holds_5 m hO (dats m hO 0 c) (A_eq m hO c 5) (after_5 m hO c) t z
theorem before_6 (hO : Ok m) (c : Dev nD) (t : Fin (cfgM m hO).N) (z) : (dats m hO 0 c).before 6 t z = iblk m hO c 6 t :=
  holds_6 m hO (dats m hO 0 c) (A_eq m hO c 6) (after_6 m hO c) t z

/-! ## The body's obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d))
    ∗ (∃ d, owns (c : Thread nD τ) (ms_4 m hO t) fullShare ((dats m hO 0 c).before 4 t d))
    ∗ (∃ d, owns (c : Thread nD τ) (ms_5 m hO t) fullShare ((dats m hO 0 c).before 5 t d))
    ∗ (∃ d, owns (c : Thread nD τ) (ms_6 m hO t) fullShare ((dats m hO 0 c).before 6 t d))
    ∗ (∃ d, owns (c : Thread nD τ) (ms_7 m hO t) fullShare ((dats m hO 0 c).before 7 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t)
    ∗ owns (c : Thread nD τ) (ms_3 m hO t) fullShare ((dats m hO 0 c).after 3 t)
    ∗ owns (c : Thread nD τ) (ms_4 m hO t) fullShare ((dats m hO 0 c).after 4 t)
    ∗ owns (c : Thread nD τ) (ms_5 m hO t) fullShare ((dats m hO 0 c).after 5 t)
    ∗ owns (c : Thread nD τ) (ms_6 m hO t) fullShare ((dats m hO 0 c).after 6 t)
    ∗ (dats m hO 0 c).leavesExact 7 t)

theorem leaves_7 (hO : Ok m) (c : Dev nD) (t : Fin (cfgM m hO).N) :
    (dats m hO 0 c).leavesExact 7 t = owns (c : Thread nD τ) (ms_7 m hO t) fullShare (outsAt m hO c t) := by
  unfold Dat.leavesExact
  rw [show (cfgM m hO).idle 7 ((cfgM m hO).grid.coords t) = false from live_7 (tbl m) _]
  rw [← after_7]; rfl

set_option maxHeartbeats 1600000 in
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4, before_5, before_6]
  rw [leaves_7, show (dats m hO 0 c).Φ t.succ = (dats m hO 0 c).Φ t.castSucc from rfl,
    show (dats m hO 0 c).owesAt () t.succ = (dats m hO 0 c).owesAt () t.castSucc from rfl,
    after_0, after_1, after_2, after_3, after_4, after_5, after_6]
  rw [show (dats m hO 0 c).Φ t.castSucc = iprop(Pipeline.ΦA spec0 c ∗ Pipeline.ΦT pre0 (tbl m) c) from rfl, halves_eq]
  by_cases h : k0_cond1 (grid0.coords t) ((Memref.whole main_arg2 : Memref sig .tc .smem S1 .i32).view.readAt (Elt F) (Rect.unit (s := S1) ![0] S1.size inb_S1_S1_0).toLoadRect (tbl m 1) (Shape.Idx.first (numel1_S1.symm ▸ Nat.one_pos))) = 1#1
  · rw [outsAt_A m hO c t h]
    unfold outA
    iintro ⟨⟨HΦ, ⟨HE, HU⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) h (fun h' => (zero_iff _ _).mp h' h)).2 Set.univ _)
    iframe H0 H1 H2 H3 H4 H5 H6
    isplitl [H7]; · iexists _; iexact H7
    iframe HE HU
    iintro ⟨H0, H1, H2, H3, H4, H5, H6, ⟨%e7, H7⟩, HE, HU⟩
    isplitl [HΦ HE HU]
    · isplitl [HΦ]
      · iexact HΦ
      isplitl [HE]; · iexact HE
      iexact HU
    iframe Ho H0 H1 H2 H3 H4 H5 H6
    unfold owns; iexists _; isplitr
    swap; · iexact H7
    ipureintro; exact View.read_writes_of_cover _ _ _ _ _ (coverA c _ _ _ _ _ _ _ _ _ _ _ _ _ _ _ _ _ _ _ _ _ _ _ _ _ _ _ _)
  · rw [outsAt_B m hO c t h]
    unfold outB
    iintro ⟨⟨HΦ, ⟨HE, HU⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) h ((zero_iff _ _).mpr h)).2 Set.univ _)
    iframe H0 H1 H2 H3 H4 H5 H6
    isplitl [H7]; · iexists _; iexact H7
    iframe HE HU
    iintro ⟨H0, H1, H2, H3, H4, H5, H6, ⟨%e7, H7⟩, HE, HU⟩
    isplitl [HΦ HE HU]
    · isplitl [HΦ]
      · iexact HΦ
      isplitl [HE]; · iexact HE
      iexact HU
    iframe Ho H0 H1 H2 H3 H4 H5 H6
    unfold owns; iexists _; isplitr
    swap; · iexact H7
    ipureintro; exact View.read_writes_of_cover _ _ _ _ _ (coverB c _ _ _ _ _ _ _ _ _ _ _ _ _ _ _ _ _ _ _ _ _ _ _ _ _ _ _ _)

theorem row_eq (hO : Ok m) (t : Fin (cfgM m hO).N) :
    defs₀ (F := F) .tc (cfgM m hO).body ((cfgM m hO).bodyArgs t ((cfgM m hO).slots t)) = bodyAt m hO t := by
  unfold defs₀; rw [Defs.onTc_tc]

theorem obligation (hO : Ok m) (c : Dev nD) : BodyObligation (dats (F := F) m hO 0 c) (defs₀ (F := F)) Variants.none () Set.univ := fun t => by
  rw [bigSep_W0, bigSep_W0, row_eq m hO]
  exact triple_restated (sound_body m hO c t) rfl .rfl fun _ => .rfl

/-! ## The run -/

set_option backward.isDefEq.respectTransparency.types false in
theorem run_quiescent (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The frame: the arguments end as they began and every counter ends at zero. -/
theorem frame_run (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨((h.1 c).1 0).trans (((dats m hO 0 c).arrAt_in 0 rfl _).trans (A_eq m hO c 0)),
      (h.1 c).2 main_arg1 (by decide : main_arg1 ∈ Pipeline.restRefs sig spec0),
      (h.1 c).2 main_arg2 (by decide : main_arg2 ∈ Pipeline.restRefs sig spec0),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3)),
      ((h.1 c).1 4).trans (((dats m hO 0 c).arrAt_in 4 rfl _).trans (A_eq m hO c 4)),
      ((h.1 c).1 5).trans (((dats m hO 0 c).arrAt_in 5 rfl _).trans (A_eq m hO c 5)),
      ((h.1 c).1 6).trans (((dats m hO 0 c).arrAt_in 6 rfl _).trans (A_eq m hO c 6))⟩, h.2⟩)
    (run_quiescent m ρ hO)

end Cert.FfnIdeal.Staged

end
-- ==== Proof.Ffn.IdealWords.lean ====
/- What the precondition says of the two tables, and that the blocks they pick lie inside their arrays. -/
module

public import proofs.«01_k».proof.Proof.Ffn.IdealKit
public import proofs.«01_k».proof.Defs
public import Idealize.ShloMosaic.Lib.StableHlo.Predicate

@[expose] public section

set_option maxRecDepth 16384

noncomputable section

namespace Cert.FfnIdeal.Staged

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

local notation "𝕄" => MT nD τ sig Unit (Elt F) ℕ (UR sig nD τ) ℕ

variable [Cert.Pre_routed_blocks.Facts] (m : (ℓ : Loc nD τ sig) → Buf (Elt Ideal) ℓ)

theorem small_of_signed (v : BitVec 32) (lo hi : ℕ) (hlo : lo < 2 ^ 31) (hhi : hi < 2 ^ 31)
    (h1 : (BitVec.ofNat 32 lo).sle v = true) (h2 : v.toInt ≤ hi) : lo ≤ v.toNat ∧ v.toNat ≤ hi := by
  have e : (BitVec.ofNat 32 lo).toInt = lo := StableHlo.Predicate.toInt_ofNat_small lo hlo
  rw [BitVec.sle, decide_eq_true_eq, e] at h1
  have hv := v.isLt
  rw [BitVec.toInt_eq_toNat_cond] at h1 h2
  split at h1 <;> omega

/-- Every word of the first table is an expert. -/
theorem expert_lt (h : Cert.Pre_FfnIdeal m) (x : S288.Idx) : (tbl m 0 x : BitVec 32).toNat < 32 := by
  have e := congrFun (h 0).1 x
  have e' : (IntOp.cmpi .sge (tbl m 0 x : BitVec 32) 0#32) &&& (IntOp.cmpi .slt (tbl m 0 x : BitVec 32) 32#32) = 1#1 := e
  generalize (tbl m 0 x : BitVec 32) = v at e' ⊢
  have key : ∀ a b : Bool, BitVec.ofBool a &&& BitVec.ofBool b = 1#1 → a = true ∧ b = true := by decide
  obtain ⟨h1, h2⟩ := key _ _ e'
  have h2' : BitVec.toInt (n := 32) v < 32 := by
    exact of_decide_eq_true (show decide (BitVec.toInt (n := 32) v < (32#32 : BitVec 32).toInt) = true from h2)
  have := small_of_signed v 0 31 (by decide) (by decide) h1 (by omega)
  omega

theorem pos_of_signed (v : BitVec 32) (h : (1#32 : BitVec 32).sle v = true) : 1 ≤ v.toNat ∧ v.toNat < 2 ^ 31 := by
  rw [BitVec.sle, decide_eq_true_eq, show (1#32 : BitVec 32).toInt = 1 from rfl] at h
  have hv := v.isLt
  rw [BitVec.toInt_eq_toNat_cond] at h
  split at h <;> omega

/-- The second table's word counts at least one block. -/
theorem used_range (h : Cert.Pre_FfnIdeal m) (x : S1.Idx) : 1 ≤ (tbl m 1 x : BitVec 32).toNat ∧ (tbl m 1 x : BitVec 32).toNat < 2 ^ 31 := by
  have e := congrFun (h 0).2 x
  have e' : IntOp.cmpi .sge (tbl m 1 x : BitVec 32) 1#32 = 1#1 := e
  generalize (tbl m 1 x : BitVec 32) = v at e' ⊢
  have key : ∀ a : Bool, BitVec.ofBool a = 1#1 → a = true := by decide
  exact pos_of_signed v (key _ e')

/-- The row block a point reads: its own, or the last one in use. -/
theorem rows_eq (v : BitVec 32) (h1 : 1 ≤ v.toNat) (h2 : v.toNat < 2 ^ 31) (n : ℕ) (hn : n < 288) :
    (Scalar.minsi (BitVec.ofNat 32 n) (Scalar.subi v 1#32)).toNat = min n (v.toNat - 1) := by
  have ea : (BitVec.ofNat 32 n).toNat = n := by rw [BitVec.toNat_ofNat]; omega
  have eb : (v - 1#32).toNat = v.toNat - 1 := by
    rw [BitVec.toNat_sub]
    have : (1#32).toNat = 1 := rfl
    have := v.isLt
    omega
  have hs : (BitVec.ofNat 32 n).slt (v - 1#32) = true ↔ n < v.toNat - 1 := by
    rw [BitVec.slt, decide_eq_true_eq, StableHlo.Predicate.toInt_eq_toNat_of_lt (by omega), StableHlo.Predicate.toInt_eq_toNat_of_lt (by omega), ea, eb]
    omega
  show (if (BitVec.ofNat 32 n).slt (v - 1#32) then BitVec.ofNat 32 n else v - 1#32).toNat = _
  split
  · rw [ea]; have := hs.mp ‹_›; omega
  · rw [eb]
    have : ¬ n < v.toNat - 1 := fun h => ‹¬ _› (hs.mpr h)
    omega

theorem point_lt (i : grid0.Coords) : (i 0).val < 288 := (i 0).isLt

/-- So the pipeline's side condition holds of the tables. -/
theorem ok_of_pre (h : Cert.Pre_FfnIdeal m) : Ok (F := Ideal) m := by
  refine ⟨fun i => ⟨fun a => ?_, .inl rfl⟩, fun i => ⟨fun a => ?_, .inr (.inr ⟨by decide, rfl, rfl, rfl⟩)⟩, fun i => ⟨fun a => ?_, .inl rfl⟩,
    fun i => ⟨fun a => ?_, .inr (.inr ⟨by decide, rfl, rfl, rfl⟩)⟩, fun i => ⟨fun a => ?_, .inl rfl⟩,
    fun i => ⟨fun a => ?_, .inr (.inr ⟨by decide, rfl, rfl, rfl⟩)⟩, fun i => ⟨fun a => ?_, .inl rfl⟩⟩
  · obtain ⟨u1, u2⟩ := used_range m h ((Rect.unit (s := S1) ![0] S1.size inb_S1_S1_0).emb (Shape.Idx.first (numel1_S1.symm ▸ Nat.one_pos)))
    have hr := rows_eq _ u1 u2 (i 0).val (point_lt i)
    rcases a with ⟨_ | _ | _, ha⟩
    · show ((Scalar.minsi (BitVec.ofNat 32 (i 0).val) (Scalar.subi (tbl m 1 ((Rect.unit (s := S1) ![0] S1.size inb_S1_S1_0).emb (Shape.Idx.first (numel1_S1.symm ▸ Nat.one_pos)))) 1#32)).toNat + 1) * 2048 ≤ 589824
      rw [hr]; have := point_lt i; omega
    · show (0 + 1) * 128 ≤ 128; omega
    · exact absurd ha (Nat.not_lt.mpr (Nat.le_add_left _ _))
  · have hx := expert_lt m h ((Rect.unit (s := S288) (k0_off1 i) S1.size (k0_off1_inb i)).emb (Shape.Idx.first (numel1_S1.symm ▸ Nat.one_pos)))
    rcases a with ⟨_ | _ | _ | _, ha⟩
    · show ((tbl m 0 ((Rect.unit (s := S288) (k0_off1 i) S1.size (k0_off1_inb i)).emb (Shape.Idx.first (numel1_S1.symm ▸ Nat.one_pos))) : BitVec 32).toNat + 1) * 1 ≤ 32; omega
    · show (0 + 1) * 1024 ≤ 1024; omega
    · show (0 + 1) * 1024 ≤ 1024; omega
    · exact absurd ha (Nat.not_lt.mpr (Nat.le_add_left _ _))
  · have hx := expert_lt m h ((Rect.unit (s := S288) (k0_off1 i) S1.size (k0_off1_inb i)).emb (Shape.Idx.first (numel1_S1.symm ▸ Nat.one_pos)))
    rcases a with ⟨_ | _ | _ | _, ha⟩
    · show ((tbl m 0 ((Rect.unit (s := S288) (k0_off1 i) S1.size (k0_off1_inb i)).emb (Shape.Idx.first (numel1_S1.symm ▸ Nat.one_pos))) : BitVec 32).toNat + 1) * 1 ≤ 32; omega
    · show (0 + 1) * 1 ≤ 1; omega
    · show (0 + 1) * 1024 ≤ 1024; omega
    · exact absurd ha (Nat.not_lt.mpr (Nat.le_add_left _ _))
  · have hx := expert_lt m h ((Rect.unit (s := S288) (k0_off1 i) S1.size (k0_off1_inb i)).emb (Shape.Idx.first (numel1_S1.symm ▸ Nat.one_pos)))
    rcases a with ⟨_ | _ | _ | _, ha⟩
    · show ((tbl m 0 ((Rect.unit (s := S288) (k0_off1 i) S1.size (k0_off1_inb i)).emb (Shape.Idx.first (numel1_S1.symm ▸ Nat.one_pos))) : BitVec 32).toNat + 1) * 1 ≤ 32; omega
    · show (0 + 1) * 1024 ≤ 1024; omega
    · show (0 + 1) * 1024 ≤ 1024; omega
    · exact absurd ha (Nat.not_lt.mpr (Nat.le_add_left _ _))
  · have hx := expert_lt m h ((Rect.unit (s := S288) (k0_off1 i) S1.size (k0_off1_inb i)).emb (Shape.Idx.first (numel1_S1.symm ▸ Nat.one_pos)))
    rcases a with ⟨_ | _ | _ | _, ha⟩
    · show ((tbl m 0 ((Rect.unit (s := S288) (k0_off1 i) S1.size (k0_off1_inb i)).emb (Shape.Idx.first (numel1_S1.symm ▸ Nat.one_pos))) : BitVec 32).toNat + 1) * 1 ≤ 32; omega
    · show (0 + 1) * 1 ≤ 1; omega
    · show (0 + 1) * 1024 ≤ 1024; omega
    · exact absurd ha (Nat.not_lt.mpr (Nat.le_add_left _ _))
  · have hx := expert_lt m h ((Rect.unit (s := S288) (k0_off1 i) S1.size (k0_off1_inb i)).emb (Shape.Idx.first (numel1_S1.symm ▸ Nat.one_pos)))
    rcases a with ⟨_ | _ | _ | _ | _, ha⟩
    · show (0 + 1) * 1 ≤ 2; omega
    · show ((tbl m 0 ((Rect.unit (s := S288) (k0_off1 i) S1.size (k0_off1_inb i)).emb (Shape.Idx.first (numel1_S1.symm ▸ Nat.one_pos))) : BitVec 32).toNat + 1) * 1 ≤ 32; omega
    · show (0 + 1) * 1024 ≤ 1024; omega
    · show (0 + 1) * 1024 ≤ 1024; omega
    · exact absurd ha (Nat.not_lt.mpr (Nat.le_add_left _ _))
  · have hx := expert_lt m h ((Rect.unit (s := S288) (k0_off1 i) S1.size (k0_off1_inb i)).emb (Shape.Idx.first (numel1_S1.symm ▸ Nat.one_pos)))
    rcases a with ⟨_ | _ | _ | _, ha⟩
    · show ((tbl m 0 ((Rect.unit (s := S288) (k0_off1 i) S1.size (k0_off1_inb i)).emb (Shape.Idx.first (numel1_S1.symm ▸ Nat.one_pos))) : BitVec 32).toNat + 1) * 1 ≤ 32; omega
    · show (0 + 1) * 1 ≤ 1; omega
    · show (0 + 1) * 1024 ≤ 1024; omega
    · exact absurd ha (Nat.not_lt.mpr (Nat.le_add_left _ _))

end Cert.FfnIdeal.Staged

end
-- ==== Proof.Ffn.Block.lean ====
/-
  What the expert kernel's output block holds, over the extended reals.
-/
module

public import proofs.«01_k».proof.Proof.Ffn.Reference
public import proofs.«01_k».proof.Proof.Ffn.IdealFrame
public import proofs.«01_k».proof.Proof.Ffn.IdealWords
public import Idealize.ShloMosaic.Lib.Pointwise
public import Idealize.ShloMosaic.Lib.Pipeline.ValueKit

@[expose] public section

set_option maxRecDepth 16384

noncomputable section

namespace Cert.Proof.Ffn

open Cert.FfnIdeal Cert.FfnIdeal.Gen Cert.FfnIdeal.Staged
open Idealize.ShloMosaic Idealize.ShloMosaic.TcCoe Idealize.SL.Sem
open Idealize.ShloMosaic.Pipeline (Dat)

/-- The eight loads side by side are a token's features. -/
theorem pay3_apply (v : Fin 8 → FVec Ideal S256x128 .f32) (q : Fin 256) (k : Fin 1024) :
    k0_pay3 (F := Ideal) (v 0) (v 1) (v 2) (v 3) (v 4) (v 5) (v 6) (v 7) (ix2 q k)
      = v ⟨k.val / 128, by omega⟩ (ix2 q (⟨k.val % 128, by omega⟩ : Fin 128)) := by
  show concatenate S256x1024 1 (List.ofFn fun n : Fin 8 => (⟨S256x128, v n⟩ : (s : Shape) × (s.Idx → EReal)))
      concatenates_S256x128_S256x128_S256x128_S256x128_S256x128_S256x128_S256x128_S256x128_S256x1024_d1 (ix2 q k) = _
  refine concatenate_ofFn_apply (t := S256x1024) (s₁ := S256x128) 1 v _ rfl 128 rfl (ix2 q k) ⟨k.val / 128, by omega⟩ rfl
    (ix2 q (⟨k.val % 128, by omega⟩ : Fin 128)) rfl fun b hb => ?_
  rcases b with ⟨_ | _ | _, hb'⟩
  · rfl
  · exact absurd rfl hb
  · exact absurd hb' (Nat.not_lt.mpr (Nat.le_add_left _ _))

section Pay
variable (v : Fin 8 → FVec Ideal S256x128 .f32) (wg : FVec Ideal S1x1024x1024 .bf16) (bg : FVec Ideal S1x1x1024 .f32)
  (wu : FVec Ideal S1x1024x1024 .bf16) (bu : FVec Ideal S1x1x1024 .f32) (w2 : FVec Ideal S1x1x1024x1024 .bf16)
  (b2 : FVec Ideal S1x1x1024 .f32)

/-- The features of token `q` in the eight loads. -/
def tok (q : Fin 256) (k : Fin 1024) : EReal := v ⟨k.val / 128, by omega⟩ (ix2 q (⟨k.val % 128, by omega⟩ : Fin 128))

theorem pay4_apply (q : Fin 256) (l : Fin 1024) :
    k0_pay4 (F := Ideal) (v 0) (v 1) (v 2) (v 3) (v 4) (v 5) (v 6) (v 7) wg bg (ix2 q l)
      = min (lin (tok v q) (fun k l => wg (ix3 (0 : Fin 1) k l)) (fun l => bg (ix3 (0 : Fin 1) (0 : Fin 1) l)) l)
          (Ideal.ofBits FTy.f32 0x40E00000#32) := by
  pointwise [k0_pay4, lin]
  simp only [pay3_apply]
  rfl

theorem pay5_apply (q : Fin 256) (l : Fin 1024) :
    k0_pay5 (F := Ideal) (v 0) (v 1) (v 2) (v 3) (v 4) (v 5) (v 6) (v 7) wu bu (ix2 q l)
      = lin (tok v q) (fun k l => wu (ix3 (0 : Fin 1) k l)) (fun l => bu (ix3 (0 : Fin 1) (0 : Fin 1) l)) l := by
  pointwise [k0_pay5, lin]
  simp only [pay3_apply]
  rfl

/-- What the body computes of the blocks at a point: the expert layer at token `q` and feature `j`. -/
theorem pay7_apply (q : Fin 256) (j : Fin 1024) :
    k0_pay7 (F := Ideal) (k0_pay4 (v 0) (v 1) (v 2) (v 3) (v 4) (v 5) (v 6) (v 7) wg bg)
        (k0_pay5 (v 0) (v 1) (v 2) (v 3) (v 4) (v 5) (v 6) (v 7) wu bu) (Scalar.ofBits .f32 0x40E00000#32) k0_pay6 w2 b2 (ix2 q j)
      = expert (tok v q) (fun k l => wg (ix3 (0 : Fin 1) k l)) (fun l => bg (ix3 (0 : Fin 1) (0 : Fin 1) l))
          (fun k l => wu (ix3 (0 : Fin 1) k l)) (fun l => bu (ix3 (0 : Fin 1) (0 : Fin 1) l))
          (fun k l => w2 (ix4 (0 : Fin 1) (0 : Fin 1) k l)) (fun l => b2 (ix3 (0 : Fin 1) (0 : Fin 1) l)) j := by
  pointwise [k0_pay7, k0_pay6, expert, unit, Ideal.logistic]
  simp only [pay4_apply, pay5_apply]
  rfl

end Pay

section Out
variable (c : Dev nD) (i : grid0.Coords)
  (a0 : Memref sig .tc .vmem S2048x128 .f32) (h0 : a0.IsWhole)
  (a1 : Memref sig .tc .vmem S1x1024x1024 .bf16) (h1 : a1.IsWhole)
  (a2 : Memref sig .tc .vmem S1x1x1024 .f32) (h2 : a2.IsWhole)
  (a3 : Memref sig .tc .vmem S1x1024x1024 .bf16) (h3 : a3.IsWhole)
  (a4 : Memref sig .tc .vmem S1x1x1024 .f32) (h4 : a4.IsWhole)
  (a5 : Memref sig .tc .vmem S1x1x1024x1024 .bf16) (h5 : a5.IsWhole)
  (a6 : Memref sig .tc .vmem S1x1x1024 .f32) (h6 : a6.IsWhole)
  (a7 : Memref sig .tc .vmem S2048x128 .f32) (h7 : a7.IsWhole)
  (x0 : Vec Ideal S2048x128 .f32) (x1 : Vec Ideal S1x1024x1024 .bf16) (x2 : Vec Ideal S1x1x1024 .f32)
  (x3 : Vec Ideal S1x1024x1024 .bf16) (x4 : Vec Ideal S1x1x1024 .f32) (x5 : Vec Ideal S1x1x1024x1024 .bf16)
  (x6 : Vec Ideal S1x1x1024 .f32)
  (e : Held c (Memref.whole main_arg1 : Memref sig .tc .smem S288 .i32))
  (u : Held c (Memref.whole main_arg2 : Memref sig .tc .smem S1 .i32))

/-- A token's features in the row block held in the window. -/
def rows (q : Fin 256) (k : Fin 1024) : EReal :=
  x0 (ix2 (⟨8 * q.val + k.val / 128, by omega⟩ : Fin 2048) (⟨k.val % 128, by omega⟩ : Fin 128))

/-- Rows `n, n + 8, …` of a row block: one lane tile of every token's features. -/
def strip (n : Fin 8) : FVec Ideal S256x128 .f32 := fun x =>
  x0 (ix2 (⟨8 * (x 0).val + n.val, by have := (x 0).isLt; simp at this; omega⟩ : Fin 2048) (x 1))

theorem strip_eq (n : Fin 8) (o : ℕ) (e : n.val = o) (inb) :
    a0.view.readAt (Elt Ideal) (⟨![o, 0], S256x128.size, ![8, 1], inb⟩ : LoadRect S2048x128) (h0.unread x0) = strip x0 n := by
  funext x
  refine (congrFun (h0.read_unread x0) (LoadRect.idx _ x)).trans (congrArg x0 (funext fun a => Fin.ext ?_))
  rcases a with ⟨_ | _ | _, ha⟩
  · show o + 8 * (x 0).val = 8 * (x 0).val + n.val; omega
  · show 0 + 1 * (x 1).val = (x 1).val; omega
  · exact absurd ha (Nat.not_lt.mpr (Nat.le_add_left _ _))

theorem whole3_eq {n k l : ℕ} {e : EltTy} (a : Memref sig .tc .vmem ⟨3, ![n, k, l]⟩ e) (h : a.IsWhole) (x : Vec Ideal ⟨3, ![n, k, l]⟩ e) (inb) :
    a.view.readAt (Elt Ideal) (Rect.unit (s := ⟨3, ![n, k, l]⟩) ![0, 0, 0] (Shape.size ⟨3, ![n, k, l]⟩) inb).toLoadRect (h.unread x) = x := by
  funext y
  refine (congrFun (h.read_unread x) (LoadRect.idx _ y)).trans (congrArg x (funext fun a => Fin.ext ?_))
  rcases a with ⟨_ | _ | _ | _, ha⟩
  · show 0 + 1 * (y 0).val = (y 0).val; omega
  · show 0 + 1 * (y 1).val = (y 1).val; omega
  · show 0 + 1 * (y 2).val = (y 2).val; omega
  · exact absurd ha (Nat.not_lt.mpr (Nat.le_add_left _ _))

theorem whole4_eq : (a5.view.readAt (Elt Ideal) (Rect.unit (s := S1x1x1024x1024) ![0, 0, 0, 0] S1x1x1024x1024.size inb_S1x1x1024x1024_S1x1x1024x1024_0_0_0_0).toLoadRect (h5.unread x5)) = x5 := by
  funext y
  refine (congrFun (h5.read_unread x5) (LoadRect.idx _ y)).trans (congrArg x5 (funext fun a => Fin.ext ?_))
  rcases a with ⟨_ | _ | _ | _ | _, ha⟩
  · show 0 + 1 * (y 0).val = (y 0).val; omega
  · show 0 + 1 * (y 1).val = (y 1).val; omega
  · show 0 + 1 * (y 2).val = (y 2).val; omega
  · show 0 + 1 * (y 3).val = (y 3).val; omega
  · exact absurd ha (Nat.not_lt.mpr (Nat.le_add_left _ _))

theorem gate_eq : runA.sl.r_1 c a0 h0 a1 h1 a2 h2 x0 x1 x2 = k0_pay4 (F := Ideal) (strip x0 0) (strip x0 1) (strip x0 2) (strip x0 3) (strip x0 4) (strip x0 5) (strip x0 6) (strip x0 7) x1 x2 := by
  refine Eq.trans (b := k0_pay4 (F := Ideal) (a0.view.readAt (Elt Ideal) (⟨![0, 0], S256x128.size, ![8, 1], inb_S2048x128_S256x128_0_0_s_8_1⟩ : LoadRect S2048x128) (h0.unread x0))
        (a0.view.readAt (Elt Ideal) (⟨![1, 0], S256x128.size, ![8, 1], inb_S2048x128_S256x128_1_0_s_8_1⟩ : LoadRect S2048x128) (h0.unread x0))
        (a0.view.readAt (Elt Ideal) (⟨![2, 0], S256x128.size, ![8, 1], inb_S2048x128_S256x128_2_0_s_8_1⟩ : LoadRect S2048x128) (h0.unread x0))
        (a0.view.readAt (Elt Ideal) (⟨![3, 0], S256x128.size, ![8, 1], inb_S2048x128_S256x128_3_0_s_8_1⟩ : LoadRect S2048x128) (h0.unread x0))
        (a0.view.readAt (Elt Ideal) (⟨![4, 0], S256x128.size, ![8, 1], inb_S2048x128_S256x128_4_0_s_8_1⟩ : LoadRect S2048x128) (h0.unread x0))
        (a0.view.readAt (Elt Ideal) (⟨![5, 0], S256x128.size, ![8, 1], inb_S2048x128_S256x128_5_0_s_8_1⟩ : LoadRect S2048x128) (h0.unread x0))
        (a0.view.readAt (Elt Ideal) (⟨![6, 0], S256x128.size, ![8, 1], inb_S2048x128_S256x128_6_0_s_8_1⟩ : LoadRect S2048x128) (h0.unread x0))
        (a0.view.readAt (Elt Ideal) (⟨![7, 0], S256x128.size, ![8, 1], inb_S2048x128_S256x128_7_0_s_8_1⟩ : LoadRect S2048x128) (h0.unread x0))
        (a1.view.readAt (Elt Ideal) (Rect.unit (s := S1x1024x1024) ![0, 0, 0] S1x1024x1024.size inb_S1x1024x1024_S1x1024x1024_0_0_0).toLoadRect (h1.unread x1))
        (a2.view.readAt (Elt Ideal) (Rect.unit (s := S1x1x1024) ![0, 0, 0] S1x1x1024.size inb_S1x1x1024_S1x1x1024_0_0_0).toLoadRect (h2.unread x2))) rfl ?_
  rw [strip_eq a0 h0 x0 0 0 rfl inb_S2048x128_S256x128_0_0_s_8_1, strip_eq a0 h0 x0 1 1 rfl inb_S2048x128_S256x128_1_0_s_8_1, strip_eq a0 h0 x0 2 2 rfl inb_S2048x128_S256x128_2_0_s_8_1, strip_eq a0 h0 x0 3 3 rfl inb_S2048x128_S256x128_3_0_s_8_1, strip_eq a0 h0 x0 4 4 rfl inb_S2048x128_S256x128_4_0_s_8_1, strip_eq a0 h0 x0 5 5 rfl inb_S2048x128_S256x128_5_0_s_8_1, strip_eq a0 h0 x0 6 6 rfl inb_S2048x128_S256x128_6_0_s_8_1, strip_eq a0 h0 x0 7 7 rfl inb_S2048x128_S256x128_7_0_s_8_1,
    whole3_eq a1 h1 x1, whole3_eq a2 h2 x2]

theorem up_eq : runA.sl.r_2 c a0 h0 a3 h3 a4 h4 x0 x3 x4 = k0_pay5 (F := Ideal) (strip x0 0) (strip x0 1) (strip x0 2) (strip x0 3) (strip x0 4) (strip x0 5) (strip x0 6) (strip x0 7) x3 x4 := by
  refine Eq.trans (b := k0_pay5 (F := Ideal) (a0.view.readAt (Elt Ideal) (⟨![0, 0], S256x128.size, ![8, 1], inb_S2048x128_S256x128_0_0_s_8_1⟩ : LoadRect S2048x128) (h0.unread x0))
        (a0.view.readAt (Elt Ideal) (⟨![1, 0], S256x128.size, ![8, 1], inb_S2048x128_S256x128_1_0_s_8_1⟩ : LoadRect S2048x128) (h0.unread x0))
        (a0.view.readAt (Elt Ideal) (⟨![2, 0], S256x128.size, ![8, 1], inb_S2048x128_S256x128_2_0_s_8_1⟩ : LoadRect S2048x128) (h0.unread x0))
        (a0.view.readAt (Elt Ideal) (⟨![3, 0], S256x128.size, ![8, 1], inb_S2048x128_S256x128_3_0_s_8_1⟩ : LoadRect S2048x128) (h0.unread x0))
        (a0.view.readAt (Elt Ideal) (⟨![4, 0], S256x128.size, ![8, 1], inb_S2048x128_S256x128_4_0_s_8_1⟩ : LoadRect S2048x128) (h0.unread x0))
        (a0.view.readAt (Elt Ideal) (⟨![5, 0], S256x128.size, ![8, 1], inb_S2048x128_S256x128_5_0_s_8_1⟩ : LoadRect S2048x128) (h0.unread x0))
        (a0.view.readAt (Elt Ideal) (⟨![6, 0], S256x128.size, ![8, 1], inb_S2048x128_S256x128_6_0_s_8_1⟩ : LoadRect S2048x128) (h0.unread x0))
        (a0.view.readAt (Elt Ideal) (⟨![7, 0], S256x128.size, ![8, 1], inb_S2048x128_S256x128_7_0_s_8_1⟩ : LoadRect S2048x128) (h0.unread x0))
        (a3.view.readAt (Elt Ideal) (Rect.unit (s := S1x1024x1024) ![0, 0, 0] S1x1024x1024.size inb_S1x1024x1024_S1x1024x1024_0_0_0).toLoadRect (h3.unread x3))
        (a4.view.readAt (Elt Ideal) (Rect.unit (s := S1x1x1024) ![0, 0, 0] S1x1x1024.size inb_S1x1x1024_S1x1x1024_0_0_0).toLoadRect (h4.unread x4))) rfl ?_
  rw [strip_eq a0 h0 x0 0 0 rfl inb_S2048x128_S256x128_0_0_s_8_1, strip_eq a0 h0 x0 1 1 rfl inb_S2048x128_S256x128_1_0_s_8_1, strip_eq a0 h0 x0 2 2 rfl inb_S2048x128_S256x128_2_0_s_8_1, strip_eq a0 h0 x0 3 3 rfl inb_S2048x128_S256x128_3_0_s_8_1, strip_eq a0 h0 x0 4 4 rfl inb_S2048x128_S256x128_4_0_s_8_1, strip_eq a0 h0 x0 5 5 rfl inb_S2048x128_S256x128_5_0_s_8_1, strip_eq a0 h0 x0 6 6 rfl inb_S2048x128_S256x128_6_0_s_8_1, strip_eq a0 h0 x0 7 7 rfl inb_S2048x128_S256x128_7_0_s_8_1,
    whole3_eq a3 h3 x3, whole3_eq a4 h4 x4]

/-- The product of the body, whole: the layer at every token and feature of the block. -/
theorem prod_apply (q : Fin 256) (j : Fin 1024) :
    k0_pay7 (F := Ideal) (runA.sl.r_1 c a0 h0 a1 h1 a2 h2 x0 x1 x2) (runA.sl.r_2 c a0 h0 a3 h3 a4 h4 x0 x3 x4) runA.sl.cst_26 k0_pay6
        (a5.view.readAt (Elt Ideal) (Rect.unit (s := S1x1x1024x1024) ![0, 0, 0, 0] S1x1x1024x1024.size inb_S1x1x1024x1024_S1x1x1024x1024_0_0_0_0).toLoadRect (h5.unread x5))
        (a6.view.readAt (Elt Ideal) (Rect.unit (s := S1x1x1024) ![0, 0, 0] S1x1x1024.size inb_S1x1x1024_S1x1x1024_0_0_0).toLoadRect (h6.unread x6)) (ix2 q j)
      = expert (rows x0 q) (fun k l => x1 (ix3 (0 : Fin 1) k l)) (fun l => x2 (ix3 (0 : Fin 1) (0 : Fin 1) l))
          (fun k l => x3 (ix3 (0 : Fin 1) k l)) (fun l => x4 (ix3 (0 : Fin 1) (0 : Fin 1) l))
          (fun k l => x5 (ix4 (0 : Fin 1) (0 : Fin 1) k l)) (fun l => x6 (ix3 (0 : Fin 1) (0 : Fin 1) l)) j := by
  rw [gate_eq, up_eq, whole4_eq, whole3_eq a6 h6 x6]
  exact pay7_apply (fun n => strip x0 n) x1 x2 x3 x4 x5 x6 q j

/-- Lane tile `n` of that product, stored at every eighth row: its element `x` lies at row `n + 8 x₀`. -/
theorem product_at (n : ℕ) (x : S256x128.Idx) (r : Fin 2048) (l : Fin 128) (e0 : n + 8 * (x 0).val = r.val) (e1 : 0 + 1 * (x 1).val = l.val)
    (z : S256x1024.Idx) (z0 : (z 0).val = 0 + (x 0).val) (z1 : (z 1).val = 128 * n + (x 1).val) :
    k0_pay7 (F := Ideal) (runA.sl.r_1 c a0 h0 a1 h1 a2 h2 x0 x1 x2) (runA.sl.r_2 c a0 h0 a3 h3 a4 h4 x0 x3 x4) runA.sl.cst_26 k0_pay6
        (a5.view.readAt (Elt Ideal) (Rect.unit (s := S1x1x1024x1024) ![0, 0, 0, 0] S1x1x1024x1024.size inb_S1x1x1024x1024_S1x1x1024x1024_0_0_0_0).toLoadRect (h5.unread x5))
        (a6.view.readAt (Elt Ideal) (Rect.unit (s := S1x1x1024) ![0, 0, 0] S1x1x1024.size inb_S1x1x1024_S1x1x1024_0_0_0).toLoadRect (h6.unread x6)) z
      = expert (rows x0 ⟨r.val / 8, by omega⟩) (fun k l => x1 (ix3 (0 : Fin 1) k l)) (fun l => x2 (ix3 (0 : Fin 1) (0 : Fin 1) l))
          (fun k l => x3 (ix3 (0 : Fin 1) k l)) (fun l => x4 (ix3 (0 : Fin 1) (0 : Fin 1) l))
          (fun k l => x5 (ix4 (0 : Fin 1) (0 : Fin 1) k l)) (fun l => x6 (ix3 (0 : Fin 1) (0 : Fin 1) l))
          ⟨128 * (r.val % 8) + l.val, by omega⟩ := by
  have b : (z 1).val < 1024 := (z 1).isLt
  have b' : (x 1).val < 128 := (x 1).isLt
  refine Eq.trans (congrArg (k0_pay7 (F := Ideal) _ _ _ _ _ _) (funext fun a => Fin.ext ?_)) (prod_apply c a0 h0 a1 h1 a2 h2 a3 h3 a4 h4 a5 h5 a6 h6 x0 x1 x2 x3 x4 x5 x6 _ _)
  rcases a with ⟨_ | _ | _, ha⟩
  · show (z 0).val = r.val / 8; omega
  · show (z 1).val = 128 * (r.val % 8) + l.val; omega
  · exact absurd ha (Nat.not_lt.mpr (Nat.le_add_left _ _))

/-- In a block in use, row `r` and lane `l` of the output hold the layer at token `r / 8` and feature `128 (r % 8) + l`. -/
theorem outA_apply (hc) (hz) (r : Fin 2048) (l : Fin 128) :
    outA (F := Ideal) c i a0 h0 a1 h1 a2 h2 a3 h3 a4 h4 a5 h5 a6 h6 a7 h7 x0 x1 x2 x3 x4 x5 x6 e u hc hz (ix2 r l)
      = expert (rows x0 ⟨r.val / 8, by omega⟩) (fun k l => x1 (ix3 (0 : Fin 1) k l)) (fun l => x2 (ix3 (0 : Fin 1) (0 : Fin 1) l))
          (fun k l => x3 (ix3 (0 : Fin 1) k l)) (fun l => x4 (ix3 (0 : Fin 1) (0 : Fin 1) l))
          (fun k l => x5 (ix4 (0 : Fin 1) (0 : Fin 1) k l)) (fun l => x6 (ix3 (0 : Fin 1) (0 : Fin 1) l))
          ⟨128 * (r.val % 8) + l.val, by omega⟩ := by
  unfold outA
  refine (View.read_writes_apply_eq_canon _ _ _ _ (coverA c i a0 h0 a1 h1 a2 h2 a3 h3 a4 h4 a5 h5 a6 h6 a7 h7 x0 x1 x2 x3 x4 x5 x6 e u hc hz (ix2 r l))).trans ?_
  refine View.canon_eq_of_allAt _ _ _ (coverA c i a0 h0 a1 h1 a2 h2 a3 h3 a4 h4 a5 h5 a6 h6 a7 h7 x0 x1 x2 x3 x4 x5 x6 e u hc hz (ix2 r l)) ?_
  refine View.allAt_cons _ _ _ ?_ (View.allAt_cons _ _ _ ?_ (View.allAt_cons _ _ _ ?_ (View.allAt_cons _ _ _ ?_
    (View.allAt_cons _ _ _ ?_ (View.allAt_cons _ _ _ ?_ (View.allAt_cons _ _ _ ?_ (View.allAt_cons _ _ _ ?_ (View.allAt_nil _ _))))))))
  · exact fun x hx => product_at c a0 h0 a1 h1 a2 h2 a3 h3 a4 h4 a5 h5 a6 h6 x0 x1 x2 x3 x4 x5 x6 7 x r l (congrArg (fun z : S2048x128.Idx => (z 0).val) hx)
      (congrArg (fun z : S2048x128.Idx => (z 1).val) hx) _ rfl rfl
  · exact fun x hx => product_at c a0 h0 a1 h1 a2 h2 a3 h3 a4 h4 a5 h5 a6 h6 x0 x1 x2 x3 x4 x5 x6 6 x r l (congrArg (fun z : S2048x128.Idx => (z 0).val) hx)
      (congrArg (fun z : S2048x128.Idx => (z 1).val) hx) _ rfl rfl
  · exact fun x hx => product_at c a0 h0 a1 h1 a2 h2 a3 h3 a4 h4 a5 h5 a6 h6 x0 x1 x2 x3 x4 x5 x6 5 x r l (congrArg (fun z : S2048x128.Idx => (z 0).val) hx)
      (congrArg (fun z : S2048x128.Idx => (z 1).val) hx) _ rfl rfl
  · exact fun x hx => product_at c a0 h0 a1 h1 a2 h2 a3 h3 a4 h4 a5 h5 a6 h6 x0 x1 x2 x3 x4 x5 x6 4 x r l (congrArg (fun z : S2048x128.Idx => (z 0).val) hx)
      (congrArg (fun z : S2048x128.Idx => (z 1).val) hx) _ rfl rfl
  · exact fun x hx => product_at c a0 h0 a1 h1 a2 h2 a3 h3 a4 h4 a5 h5 a6 h6 x0 x1 x2 x3 x4 x5 x6 3 x r l (congrArg (fun z : S2048x128.Idx => (z 0).val) hx)
      (congrArg (fun z : S2048x128.Idx => (z 1).val) hx) _ rfl rfl
  · exact fun x hx => product_at c a0 h0 a1 h1 a2 h2 a3 h3 a4 h4 a5 h5 a6 h6 x0 x1 x2 x3 x4 x5 x6 2 x r l (congrArg (fun z : S2048x128.Idx => (z 0).val) hx)
      (congrArg (fun z : S2048x128.Idx => (z 1).val) hx) _ rfl rfl
  · exact fun x hx => product_at c a0 h0 a1 h1 a2 h2 a3 h3 a4 h4 a5 h5 a6 h6 x0 x1 x2 x3 x4 x5 x6 1 x r l (congrArg (fun z : S2048x128.Idx => (z 0).val) hx)
      (congrArg (fun z : S2048x128.Idx => (z 1).val) hx) _ rfl rfl
  · exact fun x hx => product_at c a0 h0 a1 h1 a2 h2 a3 h3 a4 h4 a5 h5 a6 h6 x0 x1 x2 x3 x4 x5 x6 0 x r l (congrArg (fun z : S2048x128.Idx => (z 0).val) hx)
      (congrArg (fun z : S2048x128.Idx => (z 1).val) hx) _ rfl rfl

/-- Out of use, the output is nought. -/
theorem outB_apply (hc) (hz) (r : Fin 2048) (l : Fin 128) : outB (F := Ideal) c i a0 h0 a1 h1 a2 h2 a3 h3 a4 h4 a5 h5 a6 h6 a7 h7 x0 x1 x2 x3 x4 x5 x6 e u hc hz (ix2 r l) = 0 := by
  unfold outB
  refine (View.read_writes_apply_eq_canon _ _ _ _ (coverB c i a0 h0 a1 h1 a2 h2 a3 h3 a4 h4 a5 h5 a6 h6 a7 h7 x0 x1 x2 x3 x4 x5 x6 e u hc hz (ix2 r l))).trans ?_
  refine View.canon_eq_of_allAt _ _ _ (coverB c i a0 h0 a1 h1 a2 h2 a3 h3 a4 h4 a5 h5 a6 h6 a7 h7 x0 x1 x2 x3 x4 x5 x6 e u hc hz (ix2 r l)) ?_
  refine View.allAt_cons _ _ _ ?_ (View.allAt_nil _ _)
  intro x hx
  show k0_pay2 (F := Ideal) x = 0
  pointwise [k0_pay2]

end Out

end Cert.Proof.Ffn

end
-- ==== Proof.Ffn.Point.lean ====
/-
  The expert kernel at a grid point: the blocks it is handed, and what it leaves of them.
-/
module

public import proofs.«01_k».proof.Proof.Ffn.Block

@[expose] public section

set_option maxRecDepth 16384

noncomputable section

namespace Cert.Proof.Ffn

open Cert.FfnIdeal Cert.FfnIdeal.Gen Cert.FfnIdeal.Staged
open Idealize.ShloMosaic Idealize.ShloMosaic.TcCoe Idealize.SL.Sem
open Idealize.ShloMosaic.Pipeline (Dat)

variable [Cert.Pre_routed_blocks.Facts] (m : (ℓ : Loc nD τ sig) → Buf (Elt Ideal) ℓ)

theorem points (hO : Ok m) : (cfgM m hO).N = 288 := by
  show grid0.N = 288
  decide

theorem coord_val : ∀ t : Fin grid0.N, ((grid0.coords t) 0).val = t.val := by decide +kernel

/-- A point of the grid as a row block. -/
abbrev blockOf (hO : Ok m) (t : Fin (cfgM m hO).N) : Fin 288 := ⟨t.val, (points m hO) ▸ t.isLt⟩

/-- The count of blocks in use, as the body reads it. -/
theorem used_word (c : Dev nD) : ((Memref.whole main_arg2 : Memref sig .tc .smem S1 .i32).view.readAt (Elt Ideal) (Rect.unit (s := S1) ![0] S1.size inb_S1_S1_0).toLoadRect (tbl m 1) (Shape.Idx.first (numel1_S1.symm ▸ Nat.one_pos)) : BitVec 32)
    = (V m c main_arg2 : IVec S1 32) (ix1 (0 : Fin 1)) := by
  rw [show V m c main_arg2 = tbl m 1 from V_pre m c 1]
  exact congrArg (tbl m 1) (funext fun a => Fin.ext (by
    obtain rfl : a = (0 : Fin 1) := Subsingleton.elim (α := Fin 1) _ _
    rfl))

theorem cond_iff (i : grid0.Coords) (v : BitVec 32) : k0_cond1 i v = 1#1 ↔ (BitVec.ofNat 32 (i 0).val).slt v = true := by
  have key : ∀ b : Bool, (BitVec.ofBool (BitVec.setWidth 32 (BitVec.ofBool b) != 0#32) = 1#1) ↔ b = true := by decide
  show (BitVec.ofBool (BitVec.setWidth 32 (BitVec.ofBool ((BitVec.ofNat 32 (i 0).val).slt v)) != 0#32) = 1#1) ↔ _
  exact key _

theorem slt_lt (n : ℕ) (hn : n < 288) (v : BitVec 32) (hv : v.toNat < 2 ^ 31) (hs : (BitVec.ofNat 32 n).slt v = true) : n < v.toNat := by
  have ea : (BitVec.ofNat 32 n).toNat = n := by rw [BitVec.toNat_ofNat]; omega
  rw [BitVec.slt, decide_eq_true_eq, StableHlo.Predicate.toInt_eq_toNat_of_lt (by omega), StableHlo.Predicate.toInt_eq_toNat_of_lt (by omega), ea] at hs
  omega

theorem expert_val (v : BitVec 32) (hv : v.toNat < 32) : v.toNat = min v.toInt.toNat 31 := by
  rw [StableHlo.Predicate.toInt_eq_toNat_of_lt (by omega)]
  omega

/-- In a block in use the rows read are the block's own. -/
theorem rows_in_use (h : Cert.Pre_FfnIdeal m) (i : grid0.Coords) (x : S1.Idx) (hs : (BitVec.ofNat 32 (i 0).val).slt (tbl m 1 x : BitVec 32) = true) :
    (Scalar.minsi (BitVec.ofNat 32 (i 0).val) (Scalar.subi (tbl m 1 x : BitVec 32) 1#32)).toNat = (i 0).val := by
  obtain ⟨u1, u2⟩ := used_range m h x
  rw [rows_eq _ u1 u2 _ (point_lt i)]
  have hl := slt_lt _ (point_lt i) _ u2 hs
  omega

/-- The expert a point's weights are fetched for. -/
theorem expert_word (h : Cert.Pre_FfnIdeal m) (hO : Ok m) (c : Dev nD) (t : Fin (cfgM m hO).N) :
    (tbl m 0 ((Rect.unit (s := S288) (k0_off1 (grid0.coords t)) S1.size (k0_off1_inb (grid0.coords t))).emb (Shape.Idx.first (numel1_S1.symm ▸ Nat.one_pos))) : BitVec 32).toNat
      = (pick (V m c main_arg1) (blockOf m hO t)).val := by
  rw [show V m c main_arg1 = tbl m 0 from V_pre m c 0]
  have hi : ((Rect.unit (s := S288) (k0_off1 (grid0.coords t)) S1.size (k0_off1_inb (grid0.coords t))).emb (Shape.Idx.first (numel1_S1.symm ▸ Nat.one_pos)))
      = ix1 (blockOf m hO t) := by
    refine funext fun a => Fin.ext ?_
    obtain rfl : a = 0 := Subsingleton.elim _ _
    show (BitVec.ofNat 32 ((grid0.coords t) 0).val).toNat + 1 * 0 = t.val
    rw [coord_val, BitVec.toNat_ofNat]
    have : t.val < 288 := (blockOf m hO t).isLt
    omega
  rw [hi]
  exact expert_val _ (expert_lt m h (ix1 (blockOf m hO t)))

theorem expert_congr {x x' : Fin 1024 → EReal} {wg wg' wu wu' w2 w2' : Fin 1024 → Fin 1024 → EReal} {bg bg' bu bu' b2 b2' : Fin 1024 → EReal}
    (h0 : x = x') (h1 : wg = wg') (h2 : bg = bg') (h3 : wu = wu') (h4 : bu = bu') (h5 : w2 = w2') (h6 : b2 = b2') (j : Fin 1024) :
    expert x wg bg wu bu w2 b2 j = expert x' wg' bg' wu' bu' w2' b2' j := by
  rw [h0, h1, h2, h3, h4, h5, h6]

section Blocks

variable (h : Cert.Pre_FfnIdeal m) (hO : Ok m) (c : Dev nD) (t : Fin (cfgM m hO).N)
include h

theorem blk0 (hs : (BitVec.ofNat 32 t.val).slt ((V m c main_arg2 : IVec S1 32) (ix1 (0 : Fin 1))) = true) (q : Fin 256) (k : Fin 1024) :
    rows (iblk m hO c 0 t) q k = feats (V m c main_arg0) (blockOf m hO t) q k := by
  have hr := rows_in_use m h (grid0.coords t) ((Rect.unit (s := S1) ![0] S1.size inb_S1_S1_0).emb (Shape.Idx.first (numel1_S1.symm ▸ Nat.one_pos)))
    (by rw [coord_val]; exact (congrArg (BitVec.slt (BitVec.ofNat 32 t.val)) (used_word m c)).trans hs)
  refine congrArg (V m c main_arg0) (funext fun a => Fin.ext ?_)
  rcases a with ⟨_ | _ | _, ha⟩
  · show (Scalar.minsi (BitVec.ofNat 32 ((grid0.coords t) 0).val) (Scalar.subi (tbl m 1 ((Rect.unit (s := S1) ![0] S1.size inb_S1_S1_0).emb (Shape.Idx.first (numel1_S1.symm ▸ Nat.one_pos)))) 1#32)).toNat * 2048
      + 1 * (8 * q.val + k.val / 128) = t.val * 2048 + (8 * q.val + k.val / 128)
    rw [hr, coord_val]; omega
  · show 0 * 128 + 1 * (k.val % 128) = k.val % 128; omega
  · exact absurd ha (Nat.not_lt.mpr (Nat.le_add_left _ _))

theorem blk1 (k l : Fin 1024) : (iblk m hO c 1 t : FVec Ideal S1x1024x1024 .bf16) (ix3 (0 : Fin 1) k l)
    = (V m c main_arg3 : FVec Ideal S32x1024x1024 .bf16) (ix3 (pick (V m c main_arg1) (blockOf m hO t)) k l) := by
  refine congrArg (V m c main_arg3) (funext fun a => Fin.ext ?_)
  rcases a with ⟨_ | _ | _ | _, ha⟩
  · show (tbl m 0 ((Rect.unit (s := S288) (k0_off1 (grid0.coords t)) S1.size (k0_off1_inb (grid0.coords t))).emb (Shape.Idx.first (numel1_S1.symm ▸ Nat.one_pos))) : BitVec 32).toNat * 1 + 1 * 0 = _
    rw [expert_word m h hO c t]; exact (by omega : (pick (V m c main_arg1) (blockOf m hO t)).val * 1 + 1 * 0 = (pick (V m c main_arg1) (blockOf m hO t)).val)
  · show 0 * 1024 + 1 * k.val = k.val; omega
  · show 0 * 1024 + 1 * l.val = l.val; omega
  · exact absurd ha (Nat.not_lt.mpr (Nat.le_add_left _ _))

theorem blk2 (l : Fin 1024) : (iblk m hO c 2 t : FVec Ideal S1x1x1024 .f32) (ix3 (0 : Fin 1) (0 : Fin 1) l)
    = (V m c main_arg4 : FVec Ideal S32x1x1024 .f32) (ix3 (pick (V m c main_arg1) (blockOf m hO t)) (0 : Fin 1) l) := by
  refine congrArg (V m c main_arg4) (funext fun a => Fin.ext ?_)
  rcases a with ⟨_ | _ | _ | _, ha⟩
  · show (tbl m 0 ((Rect.unit (s := S288) (k0_off1 (grid0.coords t)) S1.size (k0_off1_inb (grid0.coords t))).emb (Shape.Idx.first (numel1_S1.symm ▸ Nat.one_pos))) : BitVec 32).toNat * 1 + 1 * 0 = _
    rw [expert_word m h hO c t]; exact (by omega : (pick (V m c main_arg1) (blockOf m hO t)).val * 1 + 1 * 0 = (pick (V m c main_arg1) (blockOf m hO t)).val)
  · show 0 * 1 + 1 * 0 = 0; omega
  · show 0 * 1024 + 1 * l.val = l.val; omega
  · exact absurd ha (Nat.not_lt.mpr (Nat.le_add_left _ _))

theorem blk3 (k l : Fin 1024) : (iblk m hO c 3 t : FVec Ideal S1x1024x1024 .bf16) (ix3 (0 : Fin 1) k l)
    = (V m c main_arg5 : FVec Ideal S32x1024x1024 .bf16) (ix3 (pick (V m c main_arg1) (blockOf m hO t)) k l) := by
  refine congrArg (V m c main_arg5) (funext fun a => Fin.ext ?_)
  rcases a with ⟨_ | _ | _ | _, ha⟩
  · show (tbl m 0 ((Rect.unit (s := S288) (k0_off1 (grid0.coords t)) S1.size (k0_off1_inb (grid0.coords t))).emb (Shape.Idx.first (numel1_S1.symm ▸ Nat.one_pos))) : BitVec 32).toNat * 1 + 1 * 0 = _
    rw [expert_word m h hO c t]; exact (by omega : (pick (V m c main_arg1) (blockOf m hO t)).val * 1 + 1 * 0 = (pick (V m c main_arg1) (blockOf m hO t)).val)
  · show 0 * 1024 + 1 * k.val = k.val; omega
  · show 0 * 1024 + 1 * l.val = l.val; omega
  · exact absurd ha (Nat.not_lt.mpr (Nat.le_add_left _ _))

theorem blk4 (l : Fin 1024) : (iblk m hO c 4 t : FVec Ideal S1x1x1024 .f32) (ix3 (0 : Fin 1) (0 : Fin 1) l)
    = (V m c main_arg6 : FVec Ideal S32x1x1024 .f32) (ix3 (pick (V m c main_arg1) (blockOf m hO t)) (0 : Fin 1) l) := by
  refine congrArg (V m c main_arg6) (funext fun a => Fin.ext ?_)
  rcases a with ⟨_ | _ | _ | _, ha⟩
  · show (tbl m 0 ((Rect.unit (s := S288) (k0_off1 (grid0.coords t)) S1.size (k0_off1_inb (grid0.coords t))).emb (Shape.Idx.first (numel1_S1.symm ▸ Nat.one_pos))) : BitVec 32).toNat * 1 + 1 * 0 = _
    rw [expert_word m h hO c t]; exact (by omega : (pick (V m c main_arg1) (blockOf m hO t)).val * 1 + 1 * 0 = (pick (V m c main_arg1) (blockOf m hO t)).val)
  · show 0 * 1 + 1 * 0 = 0; omega
  · show 0 * 1024 + 1 * l.val = l.val; omega
  · exact absurd ha (Nat.not_lt.mpr (Nat.le_add_left _ _))

theorem blk5 (k l : Fin 1024) : (iblk m hO c 5 t : FVec Ideal S1x1x1024x1024 .bf16) (ix4 (0 : Fin 1) (0 : Fin 1) k l)
    = (V m c main_arg7 : FVec Ideal S2x32x1024x1024 .bf16) (ix4 (0 : Fin 2) (pick (V m c main_arg1) (blockOf m hO t)) k l) := by
  refine congrArg (V m c main_arg7) (funext fun a => Fin.ext ?_)
  rcases a with ⟨_ | _ | _ | _ | _, ha⟩
  · show 0 * 1 + 1 * 0 = 0; omega
  · show (tbl m 0 ((Rect.unit (s := S288) (k0_off1 (grid0.coords t)) S1.size (k0_off1_inb (grid0.coords t))).emb (Shape.Idx.first (numel1_S1.symm ▸ Nat.one_pos))) : BitVec 32).toNat * 1 + 1 * 0 = _
    rw [expert_word m h hO c t]; exact (by omega : (pick (V m c main_arg1) (blockOf m hO t)).val * 1 + 1 * 0 = (pick (V m c main_arg1) (blockOf m hO t)).val)
  · show 0 * 1024 + 1 * k.val = k.val; omega
  · show 0 * 1024 + 1 * l.val = l.val; omega
  · exact absurd ha (Nat.not_lt.mpr (Nat.le_add_left _ _))

theorem blk6 (l : Fin 1024) : (iblk m hO c 6 t : FVec Ideal S1x1x1024 .f32) (ix3 (0 : Fin 1) (0 : Fin 1) l)
    = (V m c main_arg8 : FVec Ideal S32x1x1024 .f32) (ix3 (pick (V m c main_arg1) (blockOf m hO t)) (0 : Fin 1) l) := by
  refine congrArg (V m c main_arg8) (funext fun a => Fin.ext ?_)
  rcases a with ⟨_ | _ | _ | _, ha⟩
  · show (tbl m 0 ((Rect.unit (s := S288) (k0_off1 (grid0.coords t)) S1.size (k0_off1_inb (grid0.coords t))).emb (Shape.Idx.first (numel1_S1.symm ▸ Nat.one_pos))) : BitVec 32).toNat * 1 + 1 * 0 = _
    rw [expert_word m h hO c t]; exact (by omega : (pick (V m c main_arg1) (blockOf m hO t)).val * 1 + 1 * 0 = (pick (V m c main_arg1) (blockOf m hO t)).val)
  · show 0 * 1 + 1 * 0 = 0; omega
  · show 0 * 1024 + 1 * l.val = l.val; omega
  · exact absurd ha (Nat.not_lt.mpr (Nat.le_add_left _ _))

/-- What the body leaves at a point: the layer on the block's rows, or noughts. -/
theorem outsAt_apply (r : Fin 2048) (l : Fin 128) :
    outsAt m hO c t (ix2 r l) = moe (V m c main_arg0) (V m c main_arg1) (V m c main_arg2) (V m c main_arg3) (V m c main_arg4) (V m c main_arg5) (V m c main_arg6) (V m c main_arg7) (V m c main_arg8) (blockOf m hO t)
      (⟨r.val / 8, by omega⟩ : Fin 256) (⟨128 * (r.val % 8) + l.val, by omega⟩ : Fin 1024) := by
  have hw := used_word m c
  unfold moe
  by_cases hs : (BitVec.ofNat 32 t.val).slt ((V m c main_arg2 : IVec S1 32) (ix1 (0 : Fin 1))) = true
  · have hc := (cond_iff (grid0.coords t) ((Memref.whole main_arg2 : Memref sig .tc .smem S1 .i32).view.readAt (Elt Ideal) (Rect.unit (s := S1) ![0] S1.size inb_S1_S1_0).toLoadRect (tbl m 1) (Shape.Idx.first (numel1_S1.symm ▸ Nat.one_pos)) : BitVec 32)).mpr
      (by rw [coord_val]; exact (congrArg (BitVec.slt (BitVec.ofNat 32 t.val)) hw).trans hs)
    refine (congrFun (outsAt_A m hO c t hc) (ix2 r l)).trans ((outA_apply _ _ _ _ _ _ _ _ _ _ _ _ _ _ _ _ _ _ _ _ _ _ _ _ _ _ _ _ _ r l).trans ?_)
    refine Eq.trans ?_ (if_pos hs).symm
    exact expert_congr (funext fun k => blk0 m h hO c t hs _ k) (funext fun k => funext fun l => blk1 m h hO c t k l) (funext fun l => blk2 m h hO c t l)
      (funext fun k => funext fun l => blk3 m h hO c t k l) (funext fun l => blk4 m h hO c t l)
      (funext fun k => funext fun l => blk5 m h hO c t k l) (funext fun l => blk6 m h hO c t l) _
  · have hc : ¬k0_cond1 (grid0.coords t) ((Memref.whole main_arg2 : Memref sig .tc .smem S1 .i32).view.readAt (Elt Ideal) (Rect.unit (s := S1) ![0] S1.size inb_S1_S1_0).toLoadRect (tbl m 1) (Shape.Idx.first (numel1_S1.symm ▸ Nat.one_pos)) : BitVec 32) = 1#1 := fun hc => hs ((congrArg (BitVec.slt (BitVec.ofNat 32 t.val)) hw).symm.trans (by
      have e := (cond_iff (grid0.coords t) _).mp hc
      rw [coord_val] at e; exact e))
    exact (congrFun (outsAt_B m hO c t hc) (ix2 r l)).trans ((outB_apply _ _ _ _ _ _ _ _ _ _ _ _ _ _ _ _ _ _ _ _ _ _ _ _ _ _ _ _ _ r l).trans (if_neg hs).symm)

end Blocks

end Cert.Proof.Ffn

end
-- ==== Proof.Ffn.Claim.lean ====
/-
  The expert layer's value claim: the kernel's array is the reference's, element by element.
-/
module

public import proofs.«01_k».proof.Proof.Ffn.Point
public import proofs.«01_k».proof.Proof.Gen.FfnReferenceIdeal.Run
public import proofs.«01_k».proof.Proof.Gen.Pre_routed_blocks
public import Idealize.ShloMosaic.Lib.Claim

@[expose] public section

set_option maxRecDepth 16384

noncomputable section

namespace Cert.Proof.Ffn

open Cert.FfnIdeal Cert.FfnIdeal.Gen Cert.FfnIdeal.Staged
open Idealize.ShloMosaic Idealize.ShloMosaic.TcCoe Idealize.SL.Sem
open Idealize.ShloMosaic.Pipeline (Dat)

section Final

variable [Cert.Pre_routed_blocks.Facts] (m : (ℓ : Loc nD τ sig) → Buf (Elt Ideal) ℓ) (h : Cert.Pre_FfnIdeal m) (hO : Ok m) (c : Dev nD)

/-- The layer as the output array keeps it. -/
def whole : FVec Ideal S589824x128 .f32 := fun i =>
  moe (V m c main_arg0) (V m c main_arg1) (V m c main_arg2) (V m c main_arg3) (V m c main_arg4) (V m c main_arg5) (V m c main_arg6) (V m c main_arg7) (V m c main_arg8)
    (⟨(i 0).val / 2048, by have b : (i 0).val < 589824 := (i 0).isLt; omega⟩ : Fin 288)
    (⟨(i 0).val % 2048 / 8, by omega⟩ : Fin 256)
    (⟨128 * ((i 0).val % 8) + (i 1).val, by have b : (i 1).val < 128 := (i 1).isLt; omega⟩ : Fin 1024)

include h in
/-- Every block of the output is the layer's. -/
theorem array_eq : (dats m hO 0 c).arrAt 7 (cfgM m hO).N = whole m c := by
  refine (dats m hO 0 c).arrAt_eq_of_emb 7 (whole m c) (fun t hf (y : S2048x128.Idx) => ?_) fun (i : S589824x128.Idx) => ?_
  · obtain ⟨r, l, rfl⟩ : ∃ (r : Fin 2048) (l : Fin 128), y = ix2 r l := ⟨y 0, y 1, by blk_ext⟩
    refine Eq.trans (b := outsAt m hO c t (ix2 r l)) (congrFun (after_7 m hO c t) (ix2 r l)) ((outsAt_apply m h hO c t r l).trans ?_)
    have e0 : (((((cfgM m hO).win 7).blk t).view.emb (ix2 r l)) (0 : Fin 2)).val = t.val * 2048 + r.val := by
      show (BitVec.ofNat 32 ((grid0.coords t) 0).val).toNat * 2048 + 1 * r.val = _
      rw [coord_val, BitVec.toNat_ofNat]
      have : t.val < 288 := (blockOf m hO t).isLt
      omega
    have e1 : (((((cfgM m hO).win 7).blk t).view.emb (ix2 r l)) (1 : Fin 2)).val = l.val := by
      show 0 * 128 + 1 * l.val = _; omega
    unfold whole
    congr 1
    · refine Fin.ext ?_; show t.val = _ / 2048; rw [e0]; omega
    · refine Fin.ext ?_; show r.val / 8 = _ % 2048 / 8; rw [e0]; omega
    · refine Fin.ext ?_; show 128 * (r.val % 8) + l.val = 128 * (_ % 8) + _; rw [e0, e1]; omega
  · have b0 : (i (0 : Fin 2)).val < 589824 := (i 0).isLt
    have b1 : (i (1 : Fin 2)).val < 128 := (i 1).isLt
    have hN := points m hO
    obtain ⟨t, ht⟩ : ∃ t : Fin (cfgM m hO).N, t.val = (i (0 : Fin 2)).val / 2048 := ⟨⟨(i (0 : Fin 2)).val / 2048, by omega⟩, rfl⟩
    refine ⟨t, flush_7 _ _, ?_⟩
    suffices key : (((cfgM m hO).win 7).blk t).view.emb (ix2 (⟨(i (0 : Fin 2)).val % 2048, by omega⟩ : Fin 2048) (⟨(i (1 : Fin 2)).val, b1⟩ : Fin 128)) = i by
      exact Eq.mp (congrArg (· ∈ (((cfgM m hO).win 7).blk t).view.set) key) (View.emb_mem_set _ _)
    refine funext fun a => Fin.ext ?_
    rcases a with ⟨_ | _ | _, ha⟩
    · show (BitVec.ofNat 32 ((grid0.coords t) 0).val).toNat * 2048 + 1 * ((i (0 : Fin 2)).val % 2048) = (i (0 : Fin 2)).val
      rw [coord_val, BitVec.toNat_ofNat, ht]
      omega
    · show 0 * 128 + 1 * (i (1 : Fin 2)).val = (i (1 : Fin 2)).val; omega
    · exact absurd ha (Nat.not_lt.mpr (Nat.le_add_left _ _))

include h in
/-- The kernel runs, ends with the layer in its result and keeps its arguments. -/
theorem run_whole (ρ : Dev nD → PrngReg) : θ_run defs (onTc (τ := τ) (main (F := Ideal))) ⟨m, fun _ => 0, ρ⟩ (fun r => ∀ c : Dev nD,
      r.2.mem ((c.tc : Thread nD τ).loc main_v0) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  have hO := ok_of_pre m h
  (θ_run defs _ _).mono (fun r q c => ⟨((q.1 c).1 7).trans (array_eq m h hO c), ((q.1 c).1 0).trans (((dats m hO 0 c).arrAt_in 0 rfl _).trans (A_eq m hO c 0)),
      (q.1 c).2 main_arg1 (by decide : main_arg1 ∈ Pipeline.restRefs sig spec0),
      (q.1 c).2 main_arg2 (by decide : main_arg2 ∈ Pipeline.restRefs sig spec0),
      ((q.1 c).1 1).trans (((dats m hO 0 c).arrAt_in 1 rfl _).trans (A_eq m hO c 1)),
      ((q.1 c).1 2).trans (((dats m hO 0 c).arrAt_in 2 rfl _).trans (A_eq m hO c 2)),
      ((q.1 c).1 3).trans (((dats m hO 0 c).arrAt_in 3 rfl _).trans (A_eq m hO c 3)),
      ((q.1 c).1 4).trans (((dats m hO 0 c).arrAt_in 4 rfl _).trans (A_eq m hO c 4)),
      ((q.1 c).1 5).trans (((dats m hO 0 c).arrAt_in 5 rfl _).trans (A_eq m hO c 5)),
      ((q.1 c).1 6).trans (((dats m hO 0 c).arrAt_in 6 rfl _).trans (A_eq m hO c 6))⟩)
    (run_quiescent m ρ hO)

end Final

/-- On equal arguments, and tables within range, the expert kernel and the plainly written layer end with the same array. -/
theorem algebraic : Cert.algebraic_FfnIdeal_FfnReferenceIdeal (hFfnIdeal := Cert.FfnIdeal.Gen.facts)
    (hFfnReferenceIdeal := Cert.FfnReferenceIdeal.Gen.facts) (hPre_routed_blocks := Cert.Pre_routed_blocks.Gen.facts) := by
  pair_intro
  · run_from run_whole m hpre g
  · run_from Cert.FfnReferenceIdeal.Value.run m' g'
    refine funext fun i : S589824x128.Idx => ?_
    obtain ⟨R, C, rfl⟩ : ∃ (R : Fin 589824) (C : Fin 128), i = ix2 R C := ⟨i 0, i 1, by blk_ext⟩
    refine (ref_apply _ _ _ _ _ _ _ _ _ (⟨R.val / 2048, by omega⟩ : Fin 288) (⟨R.val % 2048 / 8, by omega⟩ : Fin 256)
      (⟨128 * (R.val % 8) + C.val, by omega⟩ : Fin 1024) R C ?_ ?_).trans ?_
    · show R.val = R.val / 2048 * 2048 + (8 * (R.val % 2048 / 8) + (128 * (R.val % 8) + C.val) / 128); omega
    · show C.val = (128 * (R.val % 8) + C.val) % 128; omega
    · obtain ⟨e0, e1, e2, e3, e4, e5, e6, e7, e8⟩ := hagree c
      rw [e0, e1, e2, e3, e4, e5, e6, e7, e8]
      rfl

end Cert.Proof.Ffn

end
-- ==== Proof.Merge.Spec.lean ====
/-
  The merge of the three attention branches, the residual stream after it and its normalised, modulated copy, at a token.
-/
module

public import Idealize.ShloMosaic.Lib.Pointwise

@[expose] public section

noncomputable section

namespace Cert.Proof.Merge

open Idealize.ShloMosaic

/-- A branch of the merge, at merged feature `K`: the sigmoid of the branch's gate times the branch's output through its matrix. -/
def branch (z : Fin 1024 → EReal) (o : Fin 512 → EReal) (w : Fin 512 → Fin 1024 → EReal) (K : Fin 1024) : EReal :=
  Ideal.div 1 (1 + Ideal.exp (-z K)) * ∑ j : Fin 512, o j * w j K

/-- The residual stream after the merge, at feature `C`: what came in, plus the merged features through the output matrix
    scaled by the batch's gate. -/
def resid (x gate mg : Fin 1024 → EReal) (wo : Fin 1024 → Fin 1024 → EReal) (C : Fin 1024) : EReal :=
  x C + (∑ K : Fin 1024, mg K * wo K C) * gate C

/-- Features over their root mean square, times the gain, times one plus the scale, plus the shift. -/
def normed (y gain scale shift : Fin 1024 → EReal) (C : Fin 1024) : EReal :=
  y C * Ideal.rsqrt (Ideal.div (∑ l : Fin 1024, y l * y l) (Ideal.ofBits FTy.f32 0x44800000#32) + Ideal.ofBits FTy.f32 0x358637BD#32)
    * gain C * (1 + scale C) + shift C

section Arrays

variable (og od oc : FVec Ideal ⟨2, ![16384, 512]⟩ .bf16) (z : FVec Ideal ⟨2, ![16384, 8192]⟩ .f32)
  (x : FVec Ideal ⟨2, ![16384, 1024]⟩ .f32) (mm : FVec Ideal ⟨3, ![4, 6, 1024]⟩ .f32)
  (wg wd wc : FVec Ideal ⟨2, ![512, 1024]⟩ .bf16) (wo : FVec Ideal ⟨2, ![1024, 1024]⟩ .bf16) (gn : FVec Ideal ⟨2, ![1, 1024]⟩ .f32)

/-- Branch `n`'s gates at token `R`: the columns of the projection from 5120 on, 1024 to a branch. -/
def gates (n : Fin 3) (R : Fin 16384) (K : Fin 1024) : EReal := z (ix2 R (⟨5120 + 1024 * n.val + K.val, by omega⟩ : Fin 8192))

/-- The modulation vector `n` of token `R`'s batch. -/
def modul (n : Fin 6) (R : Fin 16384) (K : Fin 1024) : EReal := mm (ix3 (⟨R.val / 4096, by omega⟩ : Fin 4) n K)

/-- The three branches' sum at token `R` and merged feature `K`. -/
def merged (R : Fin 16384) (K : Fin 1024) : EReal :=
  branch (gates z 0 R) (fun j => og (ix2 R j)) (fun j K => wg (ix2 j K)) K
    + branch (gates z 1 R) (fun j => od (ix2 R j)) (fun j K => wd (ix2 j K)) K
    + branch (gates z 2 R) (fun j => oc (ix2 R j)) (fun j K => wc (ix2 j K)) K

/-- The residual stream at token `R` and feature `C`. -/
def stream (R : Fin 16384) (C : Fin 1024) : EReal :=
  resid (fun l => x (ix2 R l)) (modul mm 2 R) (merged og od oc z wg wd wc R) (fun K C => wo (ix2 K C)) C

/-- Its normalised, modulated copy at token `R` and feature `C`. -/
def hidden (R : Fin 16384) (C : Fin 1024) : EReal :=
  normed (stream og od oc z x mm wg wd wc wo R) (fun l => gn (ix2 (0 : Fin 1) l)) (modul mm 4 R) (modul mm 3 R) C

end Arrays

end Cert.Proof.Merge

end
-- ==== Proof.Merge.IdealKit.lean ====
/- The merge's pipeline: the arrays it finds, what its input windows hold at a point, and its body's one branch. -/
module

public import proofs.«01_k».proof.Proof.Gen.MergeIdeal.Launch
public import proofs.«01_k».proof.Proof.Gen.MergeIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp

@[expose] public section

set_option maxRecDepth 16384

noncomputable section

namespace Cert.MergeIdeal.Staged

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MergeIdeal.Gen

variable {F : FTy → Type} [FloatOps F]

local notation "𝕄" => MT nD τ sig Unit (Elt F) ℕ (UR sig nD τ) ℕ

/-- The staging buffers of the windows, and the scratch the running counts are kept in. -/
structure Bufs where
  a0 : Memref sig .tc .vmem S512x512 .bf16
  h0 : a0.IsWhole
  a1 : Memref sig .tc .vmem S512x512 .bf16
  h1 : a1.IsWhole
  a2 : Memref sig .tc .vmem S512x512 .bf16
  h2 : a2.IsWhole
  a3 : Memref sig .tc .vmem S512x1024 .f32
  h3 : a3.IsWhole
  a4 : Memref sig .tc .vmem S512x1024 .f32
  h4 : a4.IsWhole
  a5 : Memref sig .tc .vmem S512x1024 .f32
  h5 : a5.IsWhole
  a6 : Memref sig .tc .vmem S512x1024 .f32
  h6 : a6.IsWhole
  a7 : Memref sig .tc .vmem S1x6x1024 .f32
  h7 : a7.IsWhole
  a8 : Memref sig .tc .vmem S512x1024 .bf16
  h8 : a8.IsWhole
  a9 : Memref sig .tc .vmem S512x1024 .bf16
  h9 : a9.IsWhole
  a10 : Memref sig .tc .vmem S512x1024 .bf16
  h10 : a10.IsWhole
  a11 : Memref sig .tc .vmem S1024x1024 .bf16
  h11 : a11.IsWhole
  a12 : Memref sig .tc .vmem S1x1024 .f32
  h12 : a12.IsWhole
  a13 : Memref sig .tc .vmem S1024x128 .bf16
  h13 : a13.IsWhole
  a14 : Memref sig .tc .vmem S1x128 .f32
  h14 : a14.IsWhole
  a15 : Memref sig .tc .vmem S512x1024 .f32
  h15 : a15.IsWhole
  a16 : Memref sig .tc .vmem S4096x128 .f32
  h16 : a16.IsWhole
  a17 : Memref sig .tc .vmem S512x128 .i32
  h17 : a17.IsWhole
  a18 : Memref sig .tc .vmem S512x128 .f32
  h18 : a18.IsWhole
  a19 : Memref sig .tc .vmem S512x128 .i32
  h19 : a19.IsWhole
  a20 : Memref sig .tc .vmem S1x128 .i32
  h20 : a20.IsWhole
  a21 : Memref sig .tc .vmem S1x128 .f32
  h21 : a21.IsWhole

/-- What the input windows hold. -/
structure Ins (F : FTy → Type) where
  x0 : Vec F S512x512 .bf16
  x1 : Vec F S512x512 .bf16
  x2 : Vec F S512x512 .bf16
  x3 : Vec F S512x1024 .f32
  x4 : Vec F S512x1024 .f32
  x5 : Vec F S512x1024 .f32
  x6 : Vec F S512x1024 .f32
  x7 : Vec F S1x6x1024 .f32
  x8 : Vec F S512x1024 .bf16
  x9 : Vec F S512x1024 .bf16
  x10 : Vec F S512x1024 .bf16
  x11 : Vec F S1024x1024 .bf16
  x12 : Vec F S1x1024 .f32
  x13 : Vec F S1024x128 .bf16
  x14 : Vec F S1x128 .f32

/-- What the output windows and the scratch hold. -/
structure Outs (F : FTy → Type) where
  x1 : Vec F S512x1024 .f32
  h2 : Vec F S4096x128 .f32
  ti : Vec F S512x128 .i32
  tw : Vec F S512x128 .f32
  rk : Vec F S512x128 .i32
  cnt : Vec F S1x128 .i32
  scr : Vec F S1x128 .f32

variable (m : (ℓ : Loc nD τ sig) → Buf (Elt F) ℓ)

/-- A core's buffers when the region is entered: as launched, for `@main` is the region alone. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The blocks -/

/-- Window `w`'s block at point `t`, out of its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input windows' blocks at a point. -/
abbrev insAt (c : Dev nD) (t : Fin cfg0.N) : Ins F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t

theorem holds_0 {c : Dev nD} (d : Dat τ (Elt F) Unit ℕ (UR sig nD τ) ℕ cfg0 c) (hA : d.A 0 = V m c (Pipeline.arrRef spec0 0))
    (hafter : ∀ t, d.after 0 t = iblk m c 0 t) (t : Fin cfg0.N) (z) : d.before 0 t z = iblk m c 0 t :=
  (d.before_in_eq_fetched 0 rfl (fun _ => rfl) (fun _ _ _ => rfl) (fun t => by rw [hafter]; unfold Dat.blockOf iblk; rw [hA]; try rfl) t z).trans
    (by unfold Dat.fetched Dat.blockOf iblk; rw [hA]; try rfl)
theorem holds_1 {c : Dev nD} (d : Dat τ (Elt F) Unit ℕ (UR sig nD τ) ℕ cfg0 c) (hA : d.A 1 = V m c (Pipeline.arrRef spec0 1))
    (hafter : ∀ t, d.after 1 t = iblk m c 1 t) (t : Fin cfg0.N) (z) : d.before 1 t z = iblk m c 1 t :=
  (d.before_in_eq_fetched 1 rfl (fun _ => rfl) (fun _ _ _ => rfl) (fun t => by rw [hafter]; unfold Dat.blockOf iblk; rw [hA]; try rfl) t z).trans
    (by unfold Dat.fetched Dat.blockOf iblk; rw [hA]; try rfl)
theorem holds_2 {c : Dev nD} (d : Dat τ (Elt F) Unit ℕ (UR sig nD τ) ℕ cfg0 c) (hA : d.A 2 = V m c (Pipeline.arrRef spec0 2))
    (hafter : ∀ t, d.after 2 t = iblk m c 2 t) (t : Fin cfg0.N) (z) : d.before 2 t z = iblk m c 2 t :=
  (d.before_in_eq_fetched 2 rfl (fun _ => rfl) (fun _ _ _ => rfl) (fun t => by rw [hafter]; unfold Dat.blockOf iblk; rw [hA]; try rfl) t z).trans
    (by unfold Dat.fetched Dat.blockOf iblk; rw [hA]; try rfl)
theorem holds_3 {c : Dev nD} (d : Dat τ (Elt F) Unit ℕ (UR sig nD τ) ℕ cfg0 c) (hA : d.A 3 = V m c (Pipeline.arrRef spec0 3))
    (hafter : ∀ t, d.after 3 t = iblk m c 3 t) (t : Fin cfg0.N) (z) : d.before 3 t z = iblk m c 3 t :=
  (d.before_in_eq_fetched 3 rfl (fun _ => rfl) (fun _ _ _ => rfl) (fun t => by rw [hafter]; unfold Dat.blockOf iblk; rw [hA]; try rfl) t z).trans
    (by unfold Dat.fetched Dat.blockOf iblk; rw [hA]; try rfl)
theorem holds_4 {c : Dev nD} (d : Dat τ (Elt F) Unit ℕ (UR sig nD τ) ℕ cfg0 c) (hA : d.A 4 = V m c (Pipeline.arrRef spec0 4))
    (hafter : ∀ t, d.after 4 t = iblk m c 4 t) (t : Fin cfg0.N) (z) : d.before 4 t z = iblk m c 4 t :=
  (d.before_in_eq_fetched 4 rfl (fun _ => rfl) (fun _ _ _ => rfl) (fun t => by rw [hafter]; unfold Dat.blockOf iblk; rw [hA]; try rfl) t z).trans
    (by unfold Dat.fetched Dat.blockOf iblk; rw [hA]; try rfl)
theorem holds_5 {c : Dev nD} (d : Dat τ (Elt F) Unit ℕ (UR sig nD τ) ℕ cfg0 c) (hA : d.A 5 = V m c (Pipeline.arrRef spec0 5))
    (hafter : ∀ t, d.after 5 t = iblk m c 5 t) (t : Fin cfg0.N) (z) : d.before 5 t z = iblk m c 5 t :=
  (d.before_in_eq_fetched 5 rfl (fun _ => rfl) (fun _ _ _ => rfl) (fun t => by rw [hafter]; unfold Dat.blockOf iblk; rw [hA]; try rfl) t z).trans
    (by unfold Dat.fetched Dat.blockOf iblk; rw [hA]; try rfl)
theorem holds_6 {c : Dev nD} (d : Dat τ (Elt F) Unit ℕ (UR sig nD τ) ℕ cfg0 c) (hA : d.A 6 = V m c (Pipeline.arrRef spec0 6))
    (hafter : ∀ t, d.after 6 t = iblk m c 6 t) (t : Fin cfg0.N) (z) : d.before 6 t z = iblk m c 6 t :=
  (d.before_in_eq_fetched 6 rfl (fun _ => rfl) (fun _ _ _ => rfl) (fun t => by rw [hafter]; unfold Dat.blockOf iblk; rw [hA]; try rfl) t z).trans
    (by unfold Dat.fetched Dat.blockOf iblk; rw [hA]; try rfl)
theorem holds_7 {c : Dev nD} (d : Dat τ (Elt F) Unit ℕ (UR sig nD τ) ℕ cfg0 c) (hA : d.A 7 = V m c (Pipeline.arrRef spec0 7))
    (hafter : ∀ t, d.after 7 t = iblk m c 7 t) (t : Fin cfg0.N) (z) : d.before 7 t z = iblk m c 7 t :=
  (d.before_in_eq_fetched 7 rfl (fun _ => rfl) (fun _ _ _ => rfl) (fun t => by rw [hafter]; unfold Dat.blockOf iblk; rw [hA]; try rfl) t z).trans
    (by unfold Dat.fetched Dat.blockOf iblk; rw [hA]; try rfl)
theorem holds_8 {c : Dev nD} (d : Dat τ (Elt F) Unit ℕ (UR sig nD τ) ℕ cfg0 c) (hA : d.A 8 = V m c (Pipeline.arrRef spec0 8))
    (hafter : ∀ t, d.after 8 t = iblk m c 8 t) (t : Fin cfg0.N) (z) : d.before 8 t z = iblk m c 8 t :=
  (d.before_in_eq_fetched 8 rfl (fun _ => rfl) (fun _ _ _ => rfl) (fun t => by rw [hafter]; unfold Dat.blockOf iblk; rw [hA]; try rfl) t z).trans
    (by unfold Dat.fetched Dat.blockOf iblk; rw [hA]; try rfl)
theorem holds_9 {c : Dev nD} (d : Dat τ (Elt F) Unit ℕ (UR sig nD τ) ℕ cfg0 c) (hA : d.A 9 = V m c (Pipeline.arrRef spec0 9))
    (hafter : ∀ t, d.after 9 t = iblk m c 9 t) (t : Fin cfg0.N) (z) : d.before 9 t z = iblk m c 9 t :=
  (d.before_in_eq_fetched 9 rfl (fun _ => rfl) (fun _ _ _ => rfl) (fun t => by rw [hafter]; unfold Dat.blockOf iblk; rw [hA]; try rfl) t z).trans
    (by unfold Dat.fetched Dat.blockOf iblk; rw [hA]; try rfl)
theorem holds_10 {c : Dev nD} (d : Dat τ (Elt F) Unit ℕ (UR sig nD τ) ℕ cfg0 c) (hA : d.A 10 = V m c (Pipeline.arrRef spec0 10))
    (hafter : ∀ t, d.after 10 t = iblk m c 10 t) (t : Fin cfg0.N) (z) : d.before 10 t z = iblk m c 10 t :=
  (d.before_in_eq_fetched 10 rfl (fun _ => rfl) (fun _ _ _ => rfl) (fun t => by rw [hafter]; unfold Dat.blockOf iblk; rw [hA]; try rfl) t z).trans
    (by unfold Dat.fetched Dat.blockOf iblk; rw [hA]; try rfl)
theorem holds_11 {c : Dev nD} (d : Dat τ (Elt F) Unit ℕ (UR sig nD τ) ℕ cfg0 c) (hA : d.A 11 = V m c (Pipeline.arrRef spec0 11))
    (hafter : ∀ t, d.after 11 t = iblk m c 11 t) (t : Fin cfg0.N) (z) : d.before 11 t z = iblk m c 11 t :=
  (d.before_in_eq_fetched 11 rfl (fun _ => rfl) (fun _ _ _ => rfl) (fun t => by rw [hafter]; unfold Dat.blockOf iblk; rw [hA]; try rfl) t z).trans
    (by unfold Dat.fetched Dat.blockOf iblk; rw [hA]; try rfl)
theorem holds_12 {c : Dev nD} (d : Dat τ (Elt F) Unit ℕ (UR sig nD τ) ℕ cfg0 c) (hA : d.A 12 = V m c (Pipeline.arrRef spec0 12))
    (hafter : ∀ t, d.after 12 t = iblk m c 12 t) (t : Fin cfg0.N) (z) : d.before 12 t z = iblk m c 12 t :=
  (d.before_in_eq_fetched 12 rfl (fun _ => rfl) (fun _ _ _ => rfl) (fun t => by rw [hafter]; unfold Dat.blockOf iblk; rw [hA]; try rfl) t z).trans
    (by unfold Dat.fetched Dat.blockOf iblk; rw [hA]; try rfl)
theorem holds_13 {c : Dev nD} (d : Dat τ (Elt F) Unit ℕ (UR sig nD τ) ℕ cfg0 c) (hA : d.A 13 = V m c (Pipeline.arrRef spec0 13))
    (hafter : ∀ t, d.after 13 t = iblk m c 13 t) (t : Fin cfg0.N) (z) : d.before 13 t z = iblk m c 13 t :=
  (d.before_in_eq_fetched 13 rfl (fun _ => rfl) (fun _ _ _ => rfl) (fun t => by rw [hafter]; unfold Dat.blockOf iblk; rw [hA]; try rfl) t z).trans
    (by unfold Dat.fetched Dat.blockOf iblk; rw [hA]; try rfl)
theorem holds_14 {c : Dev nD} (d : Dat τ (Elt F) Unit ℕ (UR sig nD τ) ℕ cfg0 c) (hA : d.A 14 = V m c (Pipeline.arrRef spec0 14))
    (hafter : ∀ t, d.after 14 t = iblk m c 14 t) (t : Fin cfg0.N) (z) : d.before 14 t z = iblk m c 14 t :=
  (d.before_in_eq_fetched 14 rfl (fun _ => rfl) (fun _ _ _ => rfl) (fun t => by rw [hafter]; unfold Dat.blockOf iblk; rw [hA]; try rfl) t z).trans
    (by unfold Dat.fetched Dat.blockOf iblk; rw [hA]; try rfl)

/-! ## The branch -/

/-- The condition under which the body clears its running counts. -/
abbrev cond (i : grid0.Coords) : Prop := (Scalar.cmpi .ne (Scalar.extui (Scalar.cmpi .eq (BitVec.ofNat 32 (i 0).val) 0#32)) 0#32) = 1#1

/-- It holds at the first point alone. -/
theorem cond_iff : ∀ t : Fin cfg0.N, cond (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    have e1 : t.val / 1 % 32 = 0 ↔ t.val = 0 := by omega
    rw [← e1]
    simp only [cond, e0]
    word_cmp
   : ∀ t : Fin grid0.N, cond (grid0.coords t) ↔ t.val = 0)

/-! ## The buffers at a point -/

/-- The buffers the pipeline calls the body with at point `t`. -/
abbrev bufs (t : Fin cfg0.N) : Bufs where
  a0 := win0_0.stage (cfg0.slots t 0)
  h0 := hstage0_0 ((cfg0.slots t 0).cast nbuf0_0)
  a1 := win0_1.stage (cfg0.slots t 1)
  h1 := hstage0_1 ((cfg0.slots t 1).cast nbuf0_1)
  a2 := win0_2.stage (cfg0.slots t 2)
  h2 := hstage0_2 ((cfg0.slots t 2).cast nbuf0_2)
  a3 := win0_3.stage (cfg0.slots t 3)
  h3 := hstage0_3 ((cfg0.slots t 3).cast nbuf0_3)
  a4 := win0_4.stage (cfg0.slots t 4)
  h4 := hstage0_4 ((cfg0.slots t 4).cast nbuf0_4)
  a5 := win0_5.stage (cfg0.slots t 5)
  h5 := hstage0_5 ((cfg0.slots t 5).cast nbuf0_5)
  a6 := win0_6.stage (cfg0.slots t 6)
  h6 := hstage0_6 ((cfg0.slots t 6).cast nbuf0_6)
  a7 := win0_7.stage (cfg0.slots t 7)
  h7 := hstage0_7 ((cfg0.slots t 7).cast nbuf0_7)
  a8 := win0_8.stage (cfg0.slots t 8)
  h8 := hstage0_8 ((cfg0.slots t 8).cast nbuf0_8)
  a9 := win0_9.stage (cfg0.slots t 9)
  h9 := hstage0_9 ((cfg0.slots t 9).cast nbuf0_9)
  a10 := win0_10.stage (cfg0.slots t 10)
  h10 := hstage0_10 ((cfg0.slots t 10).cast nbuf0_10)
  a11 := win0_11.stage (cfg0.slots t 11)
  h11 := hstage0_11 ((cfg0.slots t 11).cast nbuf0_11)
  a12 := win0_12.stage (cfg0.slots t 12)
  h12 := hstage0_12 ((cfg0.slots t 12).cast nbuf0_12)
  a13 := win0_13.stage (cfg0.slots t 13)
  h13 := hstage0_13 ((cfg0.slots t 13).cast nbuf0_13)
  a14 := win0_14.stage (cfg0.slots t 14)
  h14 := hstage0_14 ((cfg0.slots t 14).cast nbuf0_14)
  a15 := win0_15.stage (cfg0.slots t 15)
  h15 := hstage0_15 ((cfg0.slots t 15).cast nbuf0_15)
  a16 := win0_16.stage (cfg0.slots t 16)
  h16 := hstage0_16 ((cfg0.slots t 16).cast nbuf0_16)
  a17 := win0_17.stage (cfg0.slots t 17)
  h17 := hstage0_17 ((cfg0.slots t 17).cast nbuf0_17)
  a18 := win0_18.stage (cfg0.slots t 18)
  h18 := hstage0_18 ((cfg0.slots t 18).cast nbuf0_18)
  a19 := win0_19.stage (cfg0.slots t 19)
  h19 := hstage0_19 ((cfg0.slots t 19).cast nbuf0_19)
  a20 := win0_20.stage (cfg0.slots t 20)
  h20 := hstage0_20 ((cfg0.slots t 20).cast nbuf0_20)
  a21 := Memref.whole cc0_scratch0
  h21 := Memref.isWhole_whole _

/-- The first staging buffer of each output and the scratch, in which what a body leaves is spelled. -/
abbrev VO15 : View sig .tc .vmem S512x1024 .f32 := (Memref.whole cc0_stg15_0 : Memref sig .tc .vmem S512x1024 .f32).view
abbrev VO16 : View sig .tc .vmem S4096x128 .f32 := (Memref.whole cc0_stg16_0 : Memref sig .tc .vmem S4096x128 .f32).view
abbrev VO17 : View sig .tc .vmem S512x128 .i32 := (Memref.whole cc0_stg17_0 : Memref sig .tc .vmem S512x128 .i32).view
abbrev VO18 : View sig .tc .vmem S512x128 .f32 := (Memref.whole cc0_stg18_0 : Memref sig .tc .vmem S512x128 .f32).view
abbrev VO19 : View sig .tc .vmem S512x128 .i32 := (Memref.whole cc0_stg19_0 : Memref sig .tc .vmem S512x128 .i32).view
abbrev VO20 : View sig .tc .vmem S1x128 .i32 := (Memref.whole cc0_stg20_0 : Memref sig .tc .vmem S1x128 .i32).view
abbrev VO21 : View sig .tc .vmem S1x128 .f32 := (Memref.whole cc0_scratch0 : Memref sig .tc .vmem S1x128 .f32).view

/-- The body on given buffers. -/
abbrev bodyOn (i : grid0.Coords) (B : Bufs) : Prog (TpuEff nD τ sig (Elt F) Λ₀ .tc) PUnit :=
  cc0_merge_router i B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21

/-- What the region keeps beside the windows: the scratch at some contents, and the generator register. -/
theorem keep_eq (c : Dev nD) : (Pipeline.ΦA spec0 c : sProp 𝕄)
    = iprop((∃ d, owns (c : Thread nD τ) (Memref.whole cc0_scratch0 : Memref sig .tc .vmem S1x128 .f32) fullShare d) ∗ (∃ r, prngReg c r)) := by
  unfold Pipeline.ΦA; rw [scopedRest0_eq]; simp only [owns_whole]; try rfl

end Cert.MergeIdeal.Staged

end
-- ==== Proof.Merge.IdealRunA.lean ====
/- The merge's body at the first point, where it clears the running counts. -/
module

public import proofs.«01_k».proof.Proof.Merge.IdealKit

@[expose] public section

set_option maxRecDepth 16384

noncomputable section

namespace Cert.MergeIdeal.Staged

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MergeIdeal.Gen

variable {F : FTy → Type} [FloatOps F]

local notation "𝕄" => MT nD τ sig Unit (Elt F) ℕ (UR sig nD τ) ℕ

set_option maxHeartbeats 1000000 in
/-- What the body stores into the outputs' buffers and the scratch, with the proof that it runs on whole buffers holding the
    inputs and leaves the inputs as they were. -/
def runA (c : Dev nD) (i : grid0.Coords) (B : Bufs) (X : Ins F) (hc : cond i) :
    Σ' (L15 : List (View.Piece (Elt F) S512x1024 .f32)), Σ' (L16 : List (View.Piece (Elt F) S4096x128 .f32)), Σ' (L17 : List (View.Piece (Elt F) S512x128 .i32)), Σ' (L18 : List (View.Piece (Elt F) S512x128 .f32)), Σ' (L19 : List (View.Piece (Elt F) S512x128 .i32)), Σ' (L20 : List (View.Piece (Elt F) S1x128 .i32)), { L21 : List (View.Piece (Elt F) S1x128 .f32) //
      ∀ (E : Set ℕ) (K : PUnit → sProp 𝕄),
        iprop(owns (c : Thread nD τ) B.a0 fullShare X.x0 ∗ owns (c : Thread nD τ) B.a1 fullShare X.x1 ∗ owns (c : Thread nD τ) B.a2 fullShare X.x2 ∗ owns (c : Thread nD τ) B.a3 fullShare X.x3 ∗ owns (c : Thread nD τ) B.a4 fullShare X.x4 ∗ owns (c : Thread nD τ) B.a5 fullShare X.x5 ∗ owns (c : Thread nD τ) B.a6 fullShare X.x6 ∗ owns (c : Thread nD τ) B.a7 fullShare X.x7 ∗ owns (c : Thread nD τ) B.a8 fullShare X.x8 ∗ owns (c : Thread nD τ) B.a9 fullShare X.x9 ∗ owns (c : Thread nD τ) B.a10 fullShare X.x10 ∗ owns (c : Thread nD τ) B.a11 fullShare X.x11 ∗ owns (c : Thread nD τ) B.a12 fullShare X.x12 ∗ owns (c : Thread nD τ) B.a13 fullShare X.x13 ∗ owns (c : Thread nD τ) B.a14 fullShare X.x14
            ∗ (∃ d, owns (c : Thread nD τ) B.a15 fullShare d) ∗ (∃ d, owns (c : Thread nD τ) B.a16 fullShare d) ∗ (∃ d, owns (c : Thread nD τ) B.a17 fullShare d) ∗ (∃ d, owns (c : Thread nD τ) B.a18 fullShare d) ∗ (∃ d, owns (c : Thread nD τ) B.a19 fullShare d) ∗ (∃ d, owns (c : Thread nD τ) B.a20 fullShare d) ∗ (∃ d, owns (c : Thread nD τ) B.a21 fullShare d)
            ∗ (iprop(owns (c : Thread nD τ) B.a0 fullShare X.x0 ∗ owns (c : Thread nD τ) B.a1 fullShare X.x1 ∗ owns (c : Thread nD τ) B.a2 fullShare X.x2 ∗ owns (c : Thread nD τ) B.a3 fullShare X.x3 ∗ owns (c : Thread nD τ) B.a4 fullShare X.x4 ∗ owns (c : Thread nD τ) B.a5 fullShare X.x5 ∗ owns (c : Thread nD τ) B.a6 fullShare X.x6 ∗ owns (c : Thread nD τ) B.a7 fullShare X.x7 ∗ owns (c : Thread nD τ) B.a8 fullShare X.x8 ∗ owns (c : Thread nD τ) B.a9 fullShare X.x9 ∗ owns (c : Thread nD τ) B.a10 fullShare X.x10 ∗ owns (c : Thread nD τ) B.a11 fullShare X.x11 ∗ owns (c : Thread nD τ) B.a12 fullShare X.x12 ∗ owns (c : Thread nD τ) B.a13 fullShare X.x13 ∗ owns (c : Thread nD τ) B.a14 fullShare X.x14
              ∗ (∃ f, B.a15.view.loc (c : Thread nD τ) ↦[B.a15.view.set]{fullShare} B.a15.view.writes (Elt F) f L15) ∗ (∃ f, B.a16.view.loc (c : Thread nD τ) ↦[B.a16.view.set]{fullShare} B.a16.view.writes (Elt F) f L16) ∗ (∃ f, B.a17.view.loc (c : Thread nD τ) ↦[B.a17.view.set]{fullShare} B.a17.view.writes (Elt F) f L17) ∗ (∃ f, B.a18.view.loc (c : Thread nD τ) ↦[B.a18.view.set]{fullShare} B.a18.view.writes (Elt F) f L18) ∗ (∃ f, B.a19.view.loc (c : Thread nD τ) ↦[B.a19.view.set]{fullShare} B.a19.view.writes (Elt F) f L19) ∗ (∃ f, B.a20.view.loc (c : Thread nD τ) ↦[B.a20.view.set]{fullShare} B.a20.view.writes (Elt F) f L20) ∗ (∃ f, B.a21.view.loc (c : Thread nD τ) ↦[B.a21.view.set]{fullShare} B.a21.view.writes (Elt F) f L21)) -∗ K ⟨⟩))
          ⊢ wp frame (wpE (defs₀ (F := F)) Variants.none c none) E (bodyOn i B) K } := by
  refine ⟨?_, ?_, ?_, ?_, ?_, ?_, ?_, fun E K => ?run⟩
  case run =>
    unfold bodyOn
    simp only [cc0_merge_router_eq_skeleton]; unfold cc0_merge_router_skel
    simp only [k0_part1_eq_skeleton, k0_part2_eq_skeleton, k0_part3_eq_skeleton, k0_part4_eq_skeleton, k0_part5_eq_skeleton, k0_part6_eq_skeleton]
    unfold owns
    iintro ⟨⟨%f0, %g0, H0⟩, ⟨%f1, %g1, H1⟩, ⟨%f2, %g2, H2⟩, ⟨%f3, %g3, H3⟩, ⟨%f4, %g4, H4⟩, ⟨%f5, %g5, H5⟩, ⟨%f6, %g6, H6⟩, ⟨%f7, %g7, H7⟩, ⟨%f8, %g8, H8⟩, ⟨%f9, %g9, H9⟩, ⟨%f10, %g10, H10⟩, ⟨%f11, %g11, H11⟩, ⟨%f12, %g12, H12⟩, ⟨%f13, %g13, H13⟩, ⟨%f14, %g14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
    obtain rfl := B.h0.eq_unread g0
    obtain rfl := B.h1.eq_unread g1
    obtain rfl := B.h2.eq_unread g2
    obtain rfl := B.h3.eq_unread g3
    obtain rfl := B.h4.eq_unread g4
    obtain rfl := B.h5.eq_unread g5
    obtain rfl := B.h6.eq_unread g6
    obtain rfl := B.h7.eq_unread g7
    obtain rfl := B.h8.eq_unread g8
    obtain rfl := B.h9.eq_unread g9
    obtain rfl := B.h10.eq_unread g10
    obtain rfl := B.h11.eq_unread g11
    obtain rfl := B.h12.eq_unread g12
    obtain rfl := B.h13.eq_unread g13
    obtain rfl := B.h14.eq_unread g14
    sl_exec (disch := first | sl_exact hc)
    sl_step
    iapply Hk
    isplitl [H0]
    · iexists _; isplitr
      · ipureintro; exact B.h0.read_unread _
      iexact H0
    isplitl [H1]
    · iexists _; isplitr
      · ipureintro; exact B.h1.read_unread _
      iexact H1
    isplitl [H2]
    · iexists _; isplitr
      · ipureintro; exact B.h2.read_unread _
      iexact H2
    isplitl [H3]
    · iexists _; isplitr
      · ipureintro; exact B.h3.read_unread _
      iexact H3
    isplitl [H4]
    · iexists _; isplitr
      · ipureintro; exact B.h4.read_unread _
      iexact H4
    isplitl [H5]
    · iexists _; isplitr
      · ipureintro; exact B.h5.read_unread _
      iexact H5
    isplitl [H6]
    · iexists _; isplitr
      · ipureintro; exact B.h6.read_unread _
      iexact H6
    isplitl [H7]
    · iexists _; isplitr
      · ipureintro; exact B.h7.read_unread _
      iexact H7
    isplitl [H8]
    · iexists _; isplitr
      · ipureintro; exact B.h8.read_unread _
      iexact H8
    isplitl [H9]
    · iexists _; isplitr
      · ipureintro; exact B.h9.read_unread _
      iexact H9
    isplitl [H10]
    · iexists _; isplitr
      · ipureintro; exact B.h10.read_unread _
      iexact H10
    isplitl [H11]
    · iexists _; isplitr
      · ipureintro; exact B.h11.read_unread _
      iexact H11
    isplitl [H12]
    · iexists _; isplitr
      · ipureintro; exact B.h12.read_unread _
      iexact H12
    isplitl [H13]
    · iexists _; isplitr
      · ipureintro; exact B.h13.read_unread _
      iexact H13
    isplitl [H14]
    · iexists _; isplitr
      · ipureintro; exact B.h14.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21

end Cert.MergeIdeal.Staged

end
-- ==== Proof.Merge.IdealRunB.lean ====
/- The merge's body at a later point, where it adds to the running counts. -/
module

public import proofs.«01_k».proof.Proof.Merge.IdealKit

@[expose] public section

set_option maxRecDepth 16384

noncomputable section

namespace Cert.MergeIdeal.Staged

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MergeIdeal.Gen

variable {F : FTy → Type} [FloatOps F]

local notation "𝕄" => MT nD τ sig Unit (Elt F) ℕ (UR sig nD τ) ℕ

set_option maxHeartbeats 1000000 in
/-- What the body stores into the outputs' buffers and the scratch, with the proof that it runs on whole buffers holding the
    inputs and leaves the inputs as they were. -/
def runB (c : Dev nD) (i : grid0.Coords) (B : Bufs) (X : Ins F) (u : Vec F S1x128 .f32) (hc : ¬cond i) :
    Σ' (L15 : List (View.Piece (Elt F) S512x1024 .f32)), Σ' (L16 : List (View.Piece (Elt F) S4096x128 .f32)), Σ' (L17 : List (View.Piece (Elt F) S512x128 .i32)), Σ' (L18 : List (View.Piece (Elt F) S512x128 .f32)), Σ' (L19 : List (View.Piece (Elt F) S512x128 .i32)), Σ' (L20 : List (View.Piece (Elt F) S1x128 .i32)), { L21 : List (View.Piece (Elt F) S1x128 .f32) //
      ∀ (E : Set ℕ) (K : PUnit → sProp 𝕄),
        iprop(owns (c : Thread nD τ) B.a0 fullShare X.x0 ∗ owns (c : Thread nD τ) B.a1 fullShare X.x1 ∗ owns (c : Thread nD τ) B.a2 fullShare X.x2 ∗ owns (c : Thread nD τ) B.a3 fullShare X.x3 ∗ owns (c : Thread nD τ) B.a4 fullShare X.x4 ∗ owns (c : Thread nD τ) B.a5 fullShare X.x5 ∗ owns (c : Thread nD τ) B.a6 fullShare X.x6 ∗ owns (c : Thread nD τ) B.a7 fullShare X.x7 ∗ owns (c : Thread nD τ) B.a8 fullShare X.x8 ∗ owns (c : Thread nD τ) B.a9 fullShare X.x9 ∗ owns (c : Thread nD τ) B.a10 fullShare X.x10 ∗ owns (c : Thread nD τ) B.a11 fullShare X.x11 ∗ owns (c : Thread nD τ) B.a12 fullShare X.x12 ∗ owns (c : Thread nD τ) B.a13 fullShare X.x13 ∗ owns (c : Thread nD τ) B.a14 fullShare X.x14
            ∗ (∃ d, owns (c : Thread nD τ) B.a15 fullShare d) ∗ (∃ d, owns (c : Thread nD τ) B.a16 fullShare d) ∗ (∃ d, owns (c : Thread nD τ) B.a17 fullShare d) ∗ (∃ d, owns (c : Thread nD τ) B.a18 fullShare d) ∗ (∃ d, owns (c : Thread nD τ) B.a19 fullShare d) ∗ (∃ d, owns (c : Thread nD τ) B.a20 fullShare d) ∗ owns (c : Thread nD τ) B.a21 fullShare u
            ∗ (iprop(owns (c : Thread nD τ) B.a0 fullShare X.x0 ∗ owns (c : Thread nD τ) B.a1 fullShare X.x1 ∗ owns (c : Thread nD τ) B.a2 fullShare X.x2 ∗ owns (c : Thread nD τ) B.a3 fullShare X.x3 ∗ owns (c : Thread nD τ) B.a4 fullShare X.x4 ∗ owns (c : Thread nD τ) B.a5 fullShare X.x5 ∗ owns (c : Thread nD τ) B.a6 fullShare X.x6 ∗ owns (c : Thread nD τ) B.a7 fullShare X.x7 ∗ owns (c : Thread nD τ) B.a8 fullShare X.x8 ∗ owns (c : Thread nD τ) B.a9 fullShare X.x9 ∗ owns (c : Thread nD τ) B.a10 fullShare X.x10 ∗ owns (c : Thread nD τ) B.a11 fullShare X.x11 ∗ owns (c : Thread nD τ) B.a12 fullShare X.x12 ∗ owns (c : Thread nD τ) B.a13 fullShare X.x13 ∗ owns (c : Thread nD τ) B.a14 fullShare X.x14
              ∗ (∃ f, B.a15.view.loc (c : Thread nD τ) ↦[B.a15.view.set]{fullShare} B.a15.view.writes (Elt F) f L15) ∗ (∃ f, B.a16.view.loc (c : Thread nD τ) ↦[B.a16.view.set]{fullShare} B.a16.view.writes (Elt F) f L16) ∗ (∃ f, B.a17.view.loc (c : Thread nD τ) ↦[B.a17.view.set]{fullShare} B.a17.view.writes (Elt F) f L17) ∗ (∃ f, B.a18.view.loc (c : Thread nD τ) ↦[B.a18.view.set]{fullShare} B.a18.view.writes (Elt F) f L18) ∗ (∃ f, B.a19.view.loc (c : Thread nD τ) ↦[B.a19.view.set]{fullShare} B.a19.view.writes (Elt F) f L19) ∗ (∃ f, B.a20.view.loc (c : Thread nD τ) ↦[B.a20.view.set]{fullShare} B.a20.view.writes (Elt F) f L20) ∗ (∃ f, B.a21.view.loc (c : Thread nD τ) ↦[B.a21.view.set]{fullShare} B.a21.view.writes (Elt F) f L21)) -∗ K ⟨⟩))
          ⊢ wp frame (wpE (defs₀ (F := F)) Variants.none c none) E (bodyOn i B) K } := by
  refine ⟨?_, ?_, ?_, ?_, ?_, ?_, ?_, fun E K => ?run⟩
  case run =>
    unfold bodyOn
    simp only [cc0_merge_router_eq_skeleton]; unfold cc0_merge_router_skel
    simp only [k0_part1_eq_skeleton, k0_part2_eq_skeleton, k0_part3_eq_skeleton, k0_part4_eq_skeleton, k0_part5_eq_skeleton, k0_part6_eq_skeleton]
    unfold owns
    iintro ⟨⟨%f0, %g0, H0⟩, ⟨%f1, %g1, H1⟩, ⟨%f2, %g2, H2⟩, ⟨%f3, %g3, H3⟩, ⟨%f4, %g4, H4⟩, ⟨%f5, %g5, H5⟩, ⟨%f6, %g6, H6⟩, ⟨%f7, %g7, H7⟩, ⟨%f8, %g8, H8⟩, ⟨%f9, %g9, H9⟩, ⟨%f10, %g10, H10⟩, ⟨%f11, %g11, H11⟩, ⟨%f12, %g12, H12⟩, ⟨%f13, %g13, H13⟩, ⟨%f14, %g14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%f21, %g21, H21⟩, Hk⟩
    obtain rfl := B.h0.eq_unread g0
    obtain rfl := B.h1.eq_unread g1
    obtain rfl := B.h2.eq_unread g2
    obtain rfl := B.h3.eq_unread g3
    obtain rfl := B.h4.eq_unread g4
    obtain rfl := B.h5.eq_unread g5
    obtain rfl := B.h6.eq_unread g6
    obtain rfl := B.h7.eq_unread g7
    obtain rfl := B.h8.eq_unread g8
    obtain rfl := B.h9.eq_unread g9
    obtain rfl := B.h10.eq_unread g10
    obtain rfl := B.h11.eq_unread g11
    obtain rfl := B.h12.eq_unread g12
    obtain rfl := B.h13.eq_unread g13
    obtain rfl := B.h14.eq_unread g14
    obtain rfl := B.h21.eq_unread g21
    sl_exec (disch := first | sl_exact hc)
    sl_step
    iapply Hk
    isplitl [H0]
    · iexists _; isplitr
      · ipureintro; exact B.h0.read_unread _
      iexact H0
    isplitl [H1]
    · iexists _; isplitr
      · ipureintro; exact B.h1.read_unread _
      iexact H1
    isplitl [H2]
    · iexists _; isplitr
      · ipureintro; exact B.h2.read_unread _
      iexact H2
    isplitl [H3]
    · iexists _; isplitr
      · ipureintro; exact B.h3.read_unread _
      iexact H3
    isplitl [H4]
    · iexists _; isplitr
      · ipureintro; exact B.h4.read_unread _
      iexact H4
    isplitl [H5]
    · iexists _; isplitr
      · ipureintro; exact B.h5.read_unread _
      iexact H5
    isplitl [H6]
    · iexists _; isplitr
      · ipureintro; exact B.h6.read_unread _
      iexact H6
    isplitl [H7]
    · iexists _; isplitr
      · ipureintro; exact B.h7.read_unread _
      iexact H7
    isplitl [H8]
    · iexists _; isplitr
      · ipureintro; exact B.h8.read_unread _
      iexact H8
    isplitl [H9]
    · iexists _; isplitr
      · ipureintro; exact B.h9.read_unread _
      iexact H9
    isplitl [H10]
    · iexists _; isplitr
      · ipureintro; exact B.h10.read_unread _
      iexact H10
    isplitl [H11]
    · iexists _; isplitr
      · ipureintro; exact B.h11.read_unread _
      iexact H11
    isplitl [H12]
    · iexists _; isplitr
      · ipureintro; exact B.h12.read_unread _
      iexact H12
    isplitl [H13]
    · iexists _; isplitr
      · ipureintro; exact B.h13.read_unread _
      iexact H13
    isplitl [H14]
    · iexists _; isplitr
      · ipureintro; exact B.h14.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21

end Cert.MergeIdeal.Staged

end
-- ==== Proof.Merge.IdealFrame.lean ====
/- The merge's frame: at each point what the outputs and the running counts hold, and the run to their contents. -/
module

public import proofs.«01_k».proof.Proof.Merge.IdealRunA
public import proofs.«01_k».proof.Proof.Merge.IdealRunB
public import Idealize.ShloMosaic.Lib.Claim

@[expose] public section

set_option maxRecDepth 16384

noncomputable section

namespace Cert.MergeIdeal.Staged

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MergeIdeal.Gen

variable {F : FTy → Type} [FloatOps F]

local notation "𝕄" => MT nD τ sig Unit (Elt F) ℕ (UR sig nD τ) ℕ

/-- Row `8 q + k` of a block of row tiles is row `q` of its store at offset `k`. -/
theorem mem_stride (y : S4096x128.Idx) (k : ℕ) (hk : (y 0).val % 8 = k) (inb) (hs) :
    y ∈ (⟨(⟨![k, 0], S512x128.size, ![8, 1], inb⟩ : LoadRect S4096x128), hs⟩ : Rect S4096x128).set := by
  have h0 : (y 0).val < 4096 := (y 0).isLt
  have h1 : (y 1).val < 128 := (y 1).isLt
  refine (LoadRect.mem_set _).mpr fun a => ?_
  rcases a with ⟨_ | _ | _, ha⟩
  · exact ⟨(y 0).val / 8, show (y 0).val / 8 < 512 by omega, show (y 0).val = k + 8 * ((y 0).val / 8) by omega⟩
  · exact ⟨(y 1).val, h1, show (y 1).val = 0 + 1 * (y 1).val by omega⟩
  · exact absurd ha (Nat.not_lt.mpr (Nat.le_add_left _ _))

/-- A row of a block of row tiles has a residue modulo 8. -/
theorem residues (n : ℕ) : n % 8 = 0 ∨ n % 8 = 1 ∨ n % 8 = 2 ∨ n % 8 = 3 ∨ n % 8 = 4 ∨ n % 8 = 5 ∨ n % 8 = 6 ∨ n % 8 = 7 := by omega

section Pieces

variable (c : Dev nD) (i : grid0.Coords) (B : Bufs) (X : Ins F)

section A
variable (hc : cond i)

theorem coverA_15 (y : S512x1024.Idx) : ∃ pc ∈ (runA c i B X hc).1, y ∈ pc.1.set :=
  View.cover_of_tiledL _ S512x1024.size (by sl_kernel_rfl) y
theorem coverA_16 (y : S4096x128.Idx) : ∃ pc ∈ (runA c i B X hc).2.1, y ∈ pc.1.set := by
  obtain hr | hr | hr | hr | hr | hr | hr | hr := residues (y 0).val
  · exact ⟨_, List.mem_of_getElem? (i := 7) rfl, mem_stride y 0 hr inb_S4096x128_S512x128_0_0_s_8_1 spos_8_1⟩
  · exact ⟨_, List.mem_of_getElem? (i := 6) rfl, mem_stride y 1 hr inb_S4096x128_S512x128_1_0_s_8_1 spos_8_1⟩
  · exact ⟨_, List.mem_of_getElem? (i := 5) rfl, mem_stride y 2 hr inb_S4096x128_S512x128_2_0_s_8_1 spos_8_1⟩
  · exact ⟨_, List.mem_of_getElem? (i := 4) rfl, mem_stride y 3 hr inb_S4096x128_S512x128_3_0_s_8_1 spos_8_1⟩
  · exact ⟨_, List.mem_of_getElem? (i := 3) rfl, mem_stride y 4 hr inb_S4096x128_S512x128_4_0_s_8_1 spos_8_1⟩
  · exact ⟨_, List.mem_of_getElem? (i := 2) rfl, mem_stride y 5 hr inb_S4096x128_S512x128_5_0_s_8_1 spos_8_1⟩
  · exact ⟨_, List.mem_of_getElem? (i := 1) rfl, mem_stride y 6 hr inb_S4096x128_S512x128_6_0_s_8_1 spos_8_1⟩
  · exact ⟨_, List.mem_of_getElem? (i := 0) rfl, mem_stride y 7 hr inb_S4096x128_S512x128_7_0_s_8_1 spos_8_1⟩
theorem coverA_17 (y : S512x128.Idx) : ∃ pc ∈ (runA c i B X hc).2.2.1, y ∈ pc.1.set :=
  View.cover_of_tiledL _ S512x128.size (by sl_kernel_rfl) y
theorem coverA_18 (y : S512x128.Idx) : ∃ pc ∈ (runA c i B X hc).2.2.2.1, y ∈ pc.1.set :=
  View.cover_of_tiledL _ S512x128.size (by sl_kernel_rfl) y
theorem coverA_19 (y : S512x128.Idx) : ∃ pc ∈ (runA c i B X hc).2.2.2.2.1, y ∈ pc.1.set :=
  View.cover_of_tiledL _ S512x128.size (by sl_kernel_rfl) y
theorem coverA_20 (y : S1x128.Idx) : ∃ pc ∈ (runA c i B X hc).2.2.2.2.2.1, y ∈ pc.1.set :=
  View.cover_of_tiledL _ S1x128.size (by sl_kernel_rfl) y
theorem coverA_21 (y : S1x128.Idx) : ∃ pc ∈ (runA c i B X hc).2.2.2.2.2.2.1, y ∈ pc.1.set :=
  View.cover_of_tiledL _ S1x128.size (by sl_kernel_rfl) y

/-- What the body leaves in the outputs' buffers and the scratch at the first point. -/
def outA : Outs F where
  x1 := VO15.read (Elt F) (VO15.writes (Elt F) VO15.junk (runA c i B X hc).1)
  h2 := VO16.read (Elt F) (VO16.writes (Elt F) VO16.junk (runA c i B X hc).2.1)
  ti := VO17.read (Elt F) (VO17.writes (Elt F) VO17.junk (runA c i B X hc).2.2.1)
  tw := VO18.read (Elt F) (VO18.writes (Elt F) VO18.junk (runA c i B X hc).2.2.2.1)
  rk := VO19.read (Elt F) (VO19.writes (Elt F) VO19.junk (runA c i B X hc).2.2.2.2.1)
  cnt := VO20.read (Elt F) (VO20.writes (Elt F) VO20.junk (runA c i B X hc).2.2.2.2.2.1)
  scr := VO21.read (Elt F) (VO21.writes (Elt F) VO21.junk (runA c i B X hc).2.2.2.2.2.2.1)

theorem keepA_15 (f) : B.a15.view.read (Elt F) (B.a15.view.writes (Elt F) f (runA c i B X hc).1) = (outA c i B X hc).x1 := by
  dsimp only [outA]; apply View.read_writes_of_cover; apply coverA_15
theorem keepA_16 (f) : B.a16.view.read (Elt F) (B.a16.view.writes (Elt F) f (runA c i B X hc).2.1) = (outA c i B X hc).h2 := by
  dsimp only [outA]; apply View.read_writes_of_cover; apply coverA_16
theorem keepA_17 (f) : B.a17.view.read (Elt F) (B.a17.view.writes (Elt F) f (runA c i B X hc).2.2.1) = (outA c i B X hc).ti := by
  dsimp only [outA]; apply View.read_writes_of_cover; apply coverA_17
theorem keepA_18 (f) : B.a18.view.read (Elt F) (B.a18.view.writes (Elt F) f (runA c i B X hc).2.2.2.1) = (outA c i B X hc).tw := by
  dsimp only [outA]; apply View.read_writes_of_cover; apply coverA_18
theorem keepA_19 (f) : B.a19.view.read (Elt F) (B.a19.view.writes (Elt F) f (runA c i B X hc).2.2.2.2.1) = (outA c i B X hc).rk := by
  dsimp only [outA]; apply View.read_writes_of_cover; apply coverA_19
theorem keepA_20 (f) : B.a20.view.read (Elt F) (B.a20.view.writes (Elt F) f (runA c i B X hc).2.2.2.2.2.1) = (outA c i B X hc).cnt := by
  dsimp only [outA]; apply View.read_writes_of_cover; apply coverA_20
theorem keepA_21 (f) : B.a21.view.read (Elt F) (B.a21.view.writes (Elt F) f (runA c i B X hc).2.2.2.2.2.2.1) = (outA c i B X hc).scr := by
  dsimp only [outA]; apply View.read_writes_of_cover; apply coverA_21

end A

section B
variable (u : Vec F S1x128 .f32) (hc : ¬cond i)

theorem coverB_15 (y : S512x1024.Idx) : ∃ pc ∈ (runB c i B X u hc).1, y ∈ pc.1.set :=
  View.cover_of_tiledL _ S512x1024.size (by sl_kernel_rfl) y
theorem coverB_16 (y : S4096x128.Idx) : ∃ pc ∈ (runB c i B X u hc).2.1, y ∈ pc.1.set := by
  obtain hr | hr | hr | hr | hr | hr | hr | hr := residues (y 0).val
  · exact ⟨_, List.mem_of_getElem? (i := 7) rfl, mem_stride y 0 hr inb_S4096x128_S512x128_0_0_s_8_1 spos_8_1⟩
  · exact ⟨_, List.mem_of_getElem? (i := 6) rfl, mem_stride y 1 hr inb_S4096x128_S512x128_1_0_s_8_1 spos_8_1⟩
  · exact ⟨_, List.mem_of_getElem? (i := 5) rfl, mem_stride y 2 hr inb_S4096x128_S512x128_2_0_s_8_1 spos_8_1⟩
  · exact ⟨_, List.mem_of_getElem? (i := 4) rfl, mem_stride y 3 hr inb_S4096x128_S512x128_3_0_s_8_1 spos_8_1⟩
  · exact ⟨_, List.mem_of_getElem? (i := 3) rfl, mem_stride y 4 hr inb_S4096x128_S512x128_4_0_s_8_1 spos_8_1⟩
  · exact ⟨_, List.mem_of_getElem? (i := 2) rfl, mem_stride y 5 hr inb_S4096x128_S512x128_5_0_s_8_1 spos_8_1⟩
  · exact ⟨_, List.mem_of_getElem? (i := 1) rfl, mem_stride y 6 hr inb_S4096x128_S512x128_6_0_s_8_1 spos_8_1⟩
  · exact ⟨_, List.mem_of_getElem? (i := 0) rfl, mem_stride y 7 hr inb_S4096x128_S512x128_7_0_s_8_1 spos_8_1⟩
theorem coverB_17 (y : S512x128.Idx) : ∃ pc ∈ (runB c i B X u hc).2.2.1, y ∈ pc.1.set :=
  View.cover_of_tiledL _ S512x128.size (by sl_kernel_rfl) y
theorem coverB_18 (y : S512x128.Idx) : ∃ pc ∈ (runB c i B X u hc).2.2.2.1, y ∈ pc.1.set :=
  View.cover_of_tiledL _ S512x128.size (by sl_kernel_rfl) y
theorem coverB_19 (y : S512x128.Idx) : ∃ pc ∈ (runB c i B X u hc).2.2.2.2.1, y ∈ pc.1.set :=
  View.cover_of_tiledL _ S512x128.size (by sl_kernel_rfl) y
theorem coverB_20 (y : S1x128.Idx) : ∃ pc ∈ (runB c i B X u hc).2.2.2.2.2.1, y ∈ pc.1.set :=
  View.cover_of_tiledL _ S1x128.size (by sl_kernel_rfl) y
theorem coverB_21 (y : S1x128.Idx) : ∃ pc ∈ (runB c i B X u hc).2.2.2.2.2.2.1, y ∈ pc.1.set :=
  View.cover_of_tiledL _ S1x128.size (by sl_kernel_rfl) y

/-- What the body leaves in the outputs' buffers and the scratch at a later point. -/
def outB : Outs F where
  x1 := VO15.read (Elt F) (VO15.writes (Elt F) VO15.junk (runB c i B X u hc).1)
  h2 := VO16.read (Elt F) (VO16.writes (Elt F) VO16.junk (runB c i B X u hc).2.1)
  ti := VO17.read (Elt F) (VO17.writes (Elt F) VO17.junk (runB c i B X u hc).2.2.1)
  tw := VO18.read (Elt F) (VO18.writes (Elt F) VO18.junk (runB c i B X u hc).2.2.2.1)
  rk := VO19.read (Elt F) (VO19.writes (Elt F) VO19.junk (runB c i B X u hc).2.2.2.2.1)
  cnt := VO20.read (Elt F) (VO20.writes (Elt F) VO20.junk (runB c i B X u hc).2.2.2.2.2.1)
  scr := VO21.read (Elt F) (VO21.writes (Elt F) VO21.junk (runB c i B X u hc).2.2.2.2.2.2.1)

theorem keepB_15 (f) : B.a15.view.read (Elt F) (B.a15.view.writes (Elt F) f (runB c i B X u hc).1) = (outB c i B X u hc).x1 := by
  dsimp only [outB]; apply View.read_writes_of_cover; apply coverB_15
theorem keepB_16 (f) : B.a16.view.read (Elt F) (B.a16.view.writes (Elt F) f (runB c i B X u hc).2.1) = (outB c i B X u hc).h2 := by
  dsimp only [outB]; apply View.read_writes_of_cover; apply coverB_16
theorem keepB_17 (f) : B.a17.view.read (Elt F) (B.a17.view.writes (Elt F) f (runB c i B X u hc).2.2.1) = (outB c i B X u hc).ti := by
  dsimp only [outB]; apply View.read_writes_of_cover; apply coverB_17
theorem keepB_18 (f) : B.a18.view.read (Elt F) (B.a18.view.writes (Elt F) f (runB c i B X u hc).2.2.2.1) = (outB c i B X u hc).tw := by
  dsimp only [outB]; apply View.read_writes_of_cover; apply coverB_18
theorem keepB_19 (f) : B.a19.view.read (Elt F) (B.a19.view.writes (Elt F) f (runB c i B X u hc).2.2.2.2.1) = (outB c i B X u hc).rk := by
  dsimp only [outB]; apply View.read_writes_of_cover; apply coverB_19
theorem keepB_20 (f) : B.a20.view.read (Elt F) (B.a20.view.writes (Elt F) f (runB c i B X u hc).2.2.2.2.2.1) = (outB c i B X u hc).cnt := by
  dsimp only [outB]; apply View.read_writes_of_cover; apply coverB_20
theorem keepB_21 (f) : B.a21.view.read (Elt F) (B.a21.view.writes (Elt F) f (runB c i B X u hc).2.2.2.2.2.2.1) = (outB c i B X u hc).scr := by
  dsimp only [outB]; apply View.read_writes_of_cover; apply coverB_21

end B

end Pieces

variable (m : (ℓ : Loc nD τ sig) → Buf (Elt F) ℓ) (ρ : Dev nD → PrngReg)

/-- What the outputs' buffers and the scratch hold after point `n`. -/
def outsAt (c : Dev nD) : (n : ℕ) → n < cfg0.N → Outs F
  | 0, hn => outA c (grid0.coords ⟨0, hn⟩) (bufs ⟨0, hn⟩) (insAt m c ⟨0, hn⟩) ((cond_iff ⟨0, hn⟩).mpr rfl)
  | n + 1, hn => outB c (grid0.coords ⟨n + 1, hn⟩) (bufs ⟨n + 1, hn⟩) (insAt m c ⟨n + 1, hn⟩) (outsAt c n (Nat.lt_of_succ_lt hn)).scr
      (fun h => absurd ((cond_iff ⟨n + 1, hn⟩).mp h) (Nat.succ_ne_zero n))

theorem outsAt_A (c : Dev nD) (t : Fin cfg0.N) (h : t.val = 0) :
    outsAt m c t.val t.isLt = outA c (grid0.coords t) (bufs t) (insAt m c t) ((cond_iff t).mpr h) := by
  obtain ⟨n, hn⟩ := t
  cases n with
  | zero => rfl
  | succ n => exact absurd h (Nat.succ_ne_zero n)

theorem outsAt_B (c : Dev nD) (t : Fin cfg0.N) (h : ¬t.val = 0) :
    outsAt m c t.val t.isLt = outB c (grid0.coords t) (bufs t) (insAt m c t) (outsAt m c (t.val - 1) (by omega)).scr (fun h' => h ((cond_iff t).mp h')) := by
  obtain ⟨n, hn⟩ := t
  cases n with
  | zero => exact absurd rfl h
  | succ n => rfl

/-- The scratch at given contents, and the generator register at some state. -/
def counts (c : Dev nD) (u : Vec F S1x128 .f32) : sProp 𝕄 :=
  iprop(owns (c : Thread nD τ) (Memref.whole cc0_scratch0 : Memref sig .tc .vmem S1x128 .f32) fullShare u ∗ (∃ r, prngReg c r))

/-- What is kept between points: the scratch at anything before the first, then at what the point before left. -/
def kept (c : Dev nD) : (n : ℕ) → n ≤ cfg0.N → sProp 𝕄
  | 0, _ => Pipeline.ΦA spec0 c
  | n + 1, hn => counts c (outsAt m c n hn).scr

theorem kept_zero (c : Dev nD) (n : ℕ) (h : n ≤ cfg0.N) (hz : n = 0) : kept m c n h = Pipeline.ΦA spec0 c := by
  subst hz; rfl

theorem kept_pos (c : Dev nD) (n : ℕ) (h : n ≤ cfg0.N) (hz : n ≠ 0) : kept m c n h = counts c (outsAt m c (n - 1) (by omega)).scr := by
  cases n with
  | zero => exact absurd rfl hz
  | succ n => rfl

/-! ## The pipeline's data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt m c t.val t.isLt).x1
    | ⟨16, _⟩ => (outsAt m c t.val t.isLt).h2
    | ⟨17, _⟩ => (outsAt m c t.val t.isLt).ti
    | ⟨18, _⟩ => (outsAt m c t.val t.isLt).tw
    | ⟨19, _⟩ => (outsAt m c t.val t.isLt).rk
    | ⟨20, _⟩ => (outsAt m c t.val t.isLt).cnt
    | ⟨_ + 21, h⟩ => absurd h (Nat.not_lt.2 (Nat.le_add_left _ _))
  Φ t := kept m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem kept_castSucc (c : Dev nD) (t : Fin cfg0.N) : (dats m 0 c).Φ t.castSucc = kept m c t.val (Nat.le_of_lt t.isLt) := by
  dsimp only [dats]; exact Pipeline.Dat.Φ_castSucc (kept m c) t

section Windows
variable (c : Dev nD) (t : Fin cfg0.N)

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = iblk m c 7 t := by dsimp only [dats]
theorem after_8 : (dats m 0 c).after 8 t = iblk m c 8 t := by dsimp only [dats]
theorem after_9 : (dats m 0 c).after 9 t = iblk m c 9 t := by dsimp only [dats]
theorem after_10 : (dats m 0 c).after 10 t = iblk m c 10 t := by dsimp only [dats]
theorem after_11 : (dats m 0 c).after 11 t = iblk m c 11 t := by dsimp only [dats]
theorem after_12 : (dats m 0 c).after 12 t = iblk m c 12 t := by dsimp only [dats]
theorem after_13 : (dats m 0 c).after 13 t = iblk m c 13 t := by dsimp only [dats]
theorem after_14 : (dats m 0 c).after 14 t = iblk m c 14 t := by dsimp only [dats]
theorem after_15 : (dats m 0 c).after 15 t = (outsAt m c t.val t.isLt).x1 := by dsimp only [dats]
theorem after_16 : (dats m 0 c).after 16 t = (outsAt m c t.val t.isLt).h2 := by dsimp only [dats]
theorem after_17 : (dats m 0 c).after 17 t = (outsAt m c t.val t.isLt).ti := by dsimp only [dats]
theorem after_18 : (dats m 0 c).after 18 t = (outsAt m c t.val t.isLt).tw := by dsimp only [dats]
theorem after_19 : (dats m 0 c).after 19 t = (outsAt m c t.val t.isLt).rk := by dsimp only [dats]
theorem after_20 : (dats m 0 c).after 20 t = (outsAt m c t.val t.isLt).cnt := by dsimp only [dats]

theorem before_0 (z) : (dats m 0 c).before 0 t z = iblk m c 0 t :=
  holds_0 m (dats m 0 c) (A_eq m c 0) (after_0 m c) t z
theorem before_1 (z) : (dats m 0 c).before 1 t z = iblk m c 1 t :=
  holds_1 m (dats m 0 c) (A_eq m c 1) (after_1 m c) t z
theorem before_2 (z) : (dats m 0 c).before 2 t z = iblk m c 2 t :=
  holds_2 m (dats m 0 c) (A_eq m c 2) (after_2 m c) t z
theorem before_3 (z) : (dats m 0 c).before 3 t z = iblk m c 3 t :=
  holds_3 m (dats m 0 c) (A_eq m c 3) (after_3 m c) t z
theorem before_4 (z) : (dats m 0 c).before 4 t z = iblk m c 4 t :=
  holds_4 m (dats m 0 c) (A_eq m c 4) (after_4 m c) t z
theorem before_5 (z) : (dats m 0 c).before 5 t z = iblk m c 5 t :=
  holds_5 m (dats m 0 c) (A_eq m c 5) (after_5 m c) t z
theorem before_6 (z) : (dats m 0 c).before 6 t z = iblk m c 6 t :=
  holds_6 m (dats m 0 c) (A_eq m c 6) (after_6 m c) t z
theorem before_7 (z) : (dats m 0 c).before 7 t z = iblk m c 7 t :=
  holds_7 m (dats m 0 c) (A_eq m c 7) (after_7 m c) t z
theorem before_8 (z) : (dats m 0 c).before 8 t z = iblk m c 8 t :=
  holds_8 m (dats m 0 c) (A_eq m c 8) (after_8 m c) t z
theorem before_9 (z) : (dats m 0 c).before 9 t z = iblk m c 9 t :=
  holds_9 m (dats m 0 c) (A_eq m c 9) (after_9 m c) t z
theorem before_10 (z) : (dats m 0 c).before 10 t z = iblk m c 10 t :=
  holds_10 m (dats m 0 c) (A_eq m c 10) (after_10 m c) t z
theorem before_11 (z) : (dats m 0 c).before 11 t z = iblk m c 11 t :=
  holds_11 m (dats m 0 c) (A_eq m c 11) (after_11 m c) t z
theorem before_12 (z) : (dats m 0 c).before 12 t z = iblk m c 12 t :=
  holds_12 m (dats m 0 c) (A_eq m c 12) (after_12 m c) t z
theorem before_13 (z) : (dats m 0 c).before 13 t z = iblk m c 13 t :=
  holds_13 m (dats m 0 c) (A_eq m c 13) (after_13 m c) t z
theorem before_14 (z) : (dats m 0 c).before 14 t z = iblk m c 14 t :=
  holds_14 m (dats m 0 c) (A_eq m c 14) (after_14 m c) t z

end Windows

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (bufs t).a0 fullShare ((dats m 0 c).before 0 t d))
    ∗ (∃ d, owns (c : Thread nD τ) (bufs t).a1 fullShare ((dats m 0 c).before 1 t d))
    ∗ (∃ d, owns (c : Thread nD τ) (bufs t).a2 fullShare ((dats m 0 c).before 2 t d))
    ∗ (∃ d, owns (c : Thread nD τ) (bufs t).a3 fullShare ((dats m 0 c).before 3 t d))
    ∗ (∃ d, owns (c : Thread nD τ) (bufs t).a4 fullShare ((dats m 0 c).before 4 t d))
    ∗ (∃ d, owns (c : Thread nD τ) (bufs t).a5 fullShare ((dats m 0 c).before 5 t d))
    ∗ (∃ d, owns (c : Thread nD τ) (bufs t).a6 fullShare ((dats m 0 c).before 6 t d))
    ∗ (∃ d, owns (c : Thread nD τ) (bufs t).a7 fullShare ((dats m 0 c).before 7 t d))
    ∗ (∃ d, owns (c : Thread nD τ) (bufs t).a8 fullShare ((dats m 0 c).before 8 t d))
    ∗ (∃ d, owns (c : Thread nD τ) (bufs t).a9 fullShare ((dats m 0 c).before 9 t d))
    ∗ (∃ d, owns (c : Thread nD τ) (bufs t).a10 fullShare ((dats m 0 c).before 10 t d))
    ∗ (∃ d, owns (c : Thread nD τ) (bufs t).a11 fullShare ((dats m 0 c).before 11 t d))
    ∗ (∃ d, owns (c : Thread nD τ) (bufs t).a12 fullShare ((dats m 0 c).before 12 t d))
    ∗ (∃ d, owns (c : Thread nD τ) (bufs t).a13 fullShare ((dats m 0 c).before 13 t d))
    ∗ (∃ d, owns (c : Thread nD τ) (bufs t).a14 fullShare ((dats m 0 c).before 14 t d))
    ∗ (∃ d, owns (c : Thread nD τ) (bufs t).a15 fullShare ((dats m 0 c).before 15 t d))
    ∗ (∃ d, owns (c : Thread nD τ) (bufs t).a16 fullShare ((dats m 0 c).before 16 t d))
    ∗ (∃ d, owns (c : Thread nD τ) (bufs t).a17 fullShare ((dats m 0 c).before 17 t d))
    ∗ (∃ d, owns (c : Thread nD τ) (bufs t).a18 fullShare ((dats m 0 c).before 18 t d))
    ∗ (∃ d, owns (c : Thread nD τ) (bufs t).a19 fullShare ((dats m 0 c).before 19 t d))
    ∗ (∃ d, owns (c : Thread nD τ) (bufs t).a20 fullShare ((dats m 0 c).before 20 t d)))

def bodyPost (c : Dev nD) (t : Fin cfg0.N) : sProp 𝕄 :=
  iprop((dats m 0 c).Φ t.succ ∗ (dats m 0 c).owesAt () t.succ
    ∗ owns (c : Thread nD τ) (bufs t).a0 fullShare ((dats m 0 c).after 0 t)
    ∗ owns (c : Thread nD τ) (bufs t).a1 fullShare ((dats m 0 c).after 1 t)
    ∗ owns (c : Thread nD τ) (bufs t).a2 fullShare ((dats m 0 c).after 2 t)
    ∗ owns (c : Thread nD τ) (bufs t).a3 fullShare ((dats m 0 c).after 3 t)
    ∗ owns (c : Thread nD τ) (bufs t).a4 fullShare ((dats m 0 c).after 4 t)
    ∗ owns (c : Thread nD τ) (bufs t).a5 fullShare ((dats m 0 c).after 5 t)
    ∗ owns (c : Thread nD τ) (bufs t).a6 fullShare ((dats m 0 c).after 6 t)
    ∗ owns (c : Thread nD τ) (bufs t).a7 fullShare ((dats m 0 c).after 7 t)
    ∗ owns (c : Thread nD τ) (bufs t).a8 fullShare ((dats m 0 c).after 8 t)
    ∗ owns (c : Thread nD τ) (bufs t).a9 fullShare ((dats m 0 c).after 9 t)
    ∗ owns (c : Thread nD τ) (bufs t).a10 fullShare ((dats m 0 c).after 10 t)
    ∗ owns (c : Thread nD τ) (bufs t).a11 fullShare ((dats m 0 c).after 11 t)
    ∗ owns (c : Thread nD τ) (bufs t).a12 fullShare ((dats m 0 c).after 12 t)
    ∗ owns (c : Thread nD τ) (bufs t).a13 fullShare ((dats m 0 c).after 13 t)
    ∗ owns (c : Thread nD τ) (bufs t).a14 fullShare ((dats m 0 c).after 14 t)
    ∗ owns (c : Thread nD τ) (bufs t).a15 fullShare ((dats m 0 c).after 15 t)
    ∗ owns (c : Thread nD τ) (bufs t).a16 fullShare ((dats m 0 c).after 16 t)
    ∗ owns (c : Thread nD τ) (bufs t).a17 fullShare ((dats m 0 c).after 17 t)
    ∗ owns (c : Thread nD τ) (bufs t).a18 fullShare ((dats m 0 c).after 18 t)
    ∗ owns (c : Thread nD τ) (bufs t).a19 fullShare ((dats m 0 c).after 19 t)
    ∗ owns (c : Thread nD τ) (bufs t).a20 fullShare ((dats m 0 c).after 20 t))

set_option maxHeartbeats 16000000 in
theorem sound_body (c : Dev nD) (t : Fin cfg0.N) :
    bodyPre m c t ⊢ wp frame (wpE (defs₀ (F := F)) Variants.none c none) Set.univ (bodyOn (grid0.coords t) (bufs t)) (fun _ => bodyPost m c t) := by
  unfold bodyPre bodyPost
  simp only [before_0, before_1, before_2, before_3, before_4, before_5, before_6, before_7, before_8, before_9, before_10, before_11, before_12, before_13, before_14]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20]
  rw [show (dats m 0 c).Φ t.succ = counts c (outsAt m c t.val t.isLt).scr from rfl, kept_castSucc]
  unfold counts
  by_cases hz : t.val = 0
  · rw [kept_zero m c _ _ hz, keep_eq, outsAt_A m c t hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply ((runA c (grid0.coords t) (bufs t) (insAt m c t) ((cond_iff t).mpr hz)).2.2.2.2.2.2.2 Set.univ _)
    iframe H0 H1 H2 H3 H4 H5 H6 H7 H8 H9 H10 H11 H12 H13 H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [HS]; · iexact HS
    iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%es, HS⟩⟩
    isplitl [HS Hg]
    · isplitl [HS]
      · unfold owns; iexists _; isplitr
        swap; · iexact HS
        ipureintro; exact keepA_21 ..
      iexact Hg
    iframe Ho H0 H1 H2 H3 H4 H5 H6 H7 H8 H9 H10 H11 H12 H13 H14
    isplitl [H15]
    · unfold owns; iexists _; isplitr
      swap; · iexact H15
      ipureintro; exact keepA_15 ..
    isplitl [H16]
    · unfold owns; iexists _; isplitr
      swap; · iexact H16
      ipureintro; exact keepA_16 ..
    isplitl [H17]
    · unfold owns; iexists _; isplitr
      swap; · iexact H17
      ipureintro; exact keepA_17 ..
    isplitl [H18]
    · unfold owns; iexists _; isplitr
      swap; · iexact H18
      ipureintro; exact keepA_18 ..
    isplitl [H19]
    · unfold owns; iexists _; isplitr
      swap; · iexact H19
      ipureintro; exact keepA_19 ..
    unfold owns; iexists _; isplitr
    swap; · iexact H20
    ipureintro; exact keepA_20 ..
  · rw [kept_pos m c _ _ hz, outsAt_B m c t hz]
    unfold counts
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply ((runB c (grid0.coords t) (bufs t) (insAt m c t) (outsAt m c (t.val - 1) (by omega)).scr (fun h' => hz ((cond_iff t).mp h'))).2.2.2.2.2.2.2 Set.univ _)
    iframe H0 H1 H2 H3 H4 H5 H6 H7 H8 H9 H10 H11 H12 H13 H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [HS]; · iexact HS
    iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%es, HS⟩⟩
    isplitl [HS Hg]
    · isplitl [HS]
      · unfold owns; iexists _; isplitr
        swap; · iexact HS
        ipureintro; exact keepB_21 ..
      iexact Hg
    iframe Ho H0 H1 H2 H3 H4 H5 H6 H7 H8 H9 H10 H11 H12 H13 H14
    isplitl [H15]
    · unfold owns; iexists _; isplitr
      swap; · iexact H15
      ipureintro; exact keepB_15 ..
    isplitl [H16]
    · unfold owns; iexists _; isplitr
      swap; · iexact H16
      ipureintro; exact keepB_16 ..
    isplitl [H17]
    · unfold owns; iexists _; isplitr
      swap; · iexact H17
      ipureintro; exact keepB_17 ..
    isplitl [H18]
    · unfold owns; iexists _; isplitr
      swap; · iexact H18
      ipureintro; exact keepB_18 ..
    isplitl [H19]
    · unfold owns; iexists _; isplitr
      swap; · iexact H19
      ipureintro; exact keepB_19 ..
    unfold owns; iexists _; isplitr
    swap; · iexact H20
    ipureintro; exact keepB_20 ..

theorem row_eq (t : Fin cfg0.N) : defs₀ (F := F) .tc cfg0.body (cfg0.bodyArgs t (cfg0.slots t)) = bodyOn (grid0.coords t) (bufs t) := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

theorem kept_in (c : Dev nD) : Pipeline.ΦA spec0 c ⊢ (dats m 0 c).Φ 0 := by
  rw [show (dats m 0 c).Φ 0 = kept m c 0 (Nat.zero_le _) from rfl, kept_zero m c 0 _ rfl]
  try exact Idealize.SL.BI.Entails.refl _

theorem kept_out (c : Dev nD) : (dats m 0 c).Φ (Fin.last cfg0.N) ⊢ Pipeline.ΦA spec0 c := by
  rw [show (dats m 0 c).Φ (Fin.last cfg0.N) = kept m c cfg0.N (Nat.le_refl _) from rfl,
    kept_pos m c _ _ (by have : cfg0.N = 32 := N_0; omega), keep_eq]
  unfold counts
  iintro ⟨HS, Hg⟩
  isplitl [HS]
  · iexists _; iexact HS
  iexact Hg

/-! ## The run -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := kept_in m) (hout := kept_out m)

/-- The frame: the arguments end as they began and every counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => ⟨((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 5).trans (((dats m 0 c).arrAt_in 5 rfl _).trans (A_eq m c 5)),
      ((h.1 c).1 6).trans (((dats m 0 c).arrAt_in 6 rfl _).trans (A_eq m c 6)),
      ((h.1 c).1 7).trans (((dats m 0 c).arrAt_in 7 rfl _).trans (A_eq m c 7)),
      ((h.1 c).1 8).trans (((dats m 0 c).arrAt_in 8 rfl _).trans (A_eq m c 8)),
      ((h.1 c).1 9).trans (((dats m 0 c).arrAt_in 9 rfl _).trans (A_eq m c 9)),
      ((h.1 c).1 10).trans (((dats m 0 c).arrAt_in 10 rfl _).trans (A_eq m c 10)),
      ((h.1 c).1 11).trans (((dats m 0 c).arrAt_in 11 rfl _).trans (A_eq m c 11)),
      ((h.1 c).1 12).trans (((dats m 0 c).arrAt_in 12 rfl _).trans (A_eq m c 12)),
      ((h.1 c).1 13).trans (((dats m 0 c).arrAt_in 13 rfl _).trans (A_eq m c 13)),
      ((h.1 c).1 14).trans (((dats m 0 c).arrAt_in 14 rfl _).trans (A_eq m c 14))⟩, h.2⟩)
    (run_quiescent m ρ)

end Cert.MergeIdeal.Staged

end
-- ==== Proof.Merge.Block.lean ====
/-
  What the merge's output blocks for the residual stream and its normalised copy hold, over the extended reals.
-/
module

public import proofs.«01_k».proof.Proof.Merge.Spec
public import proofs.«01_k».proof.Proof.Merge.IdealFrame
public import Idealize.ShloMosaic.Lib.Pointwise
public import Idealize.ShloMosaic.Lib.Pipeline.ValueKit

@[expose] public section

set_option maxRecDepth 16384

noncomputable section

namespace Cert.Proof.Merge

open Cert.MergeIdeal Cert.MergeIdeal.Gen Cert.MergeIdeal.Staged
open Idealize.ShloMosaic Idealize.ShloMosaic.TcCoe Idealize.SL.Sem
open Idealize.ShloMosaic.Pipeline (Dat)

/-- The stored stream at row `r` and feature `l` of the blocks. -/
theorem pay6_apply (x0 x1 x2 : FVec Ideal S512x512 .bf16) (x3 x4 x5 x6 : FVec Ideal S512x1024 .f32) (x7 : FVec Ideal S1x6x1024 .f32)
    (x8 x9 x10 : FVec Ideal S512x1024 .bf16) (x11 : FVec Ideal S1024x1024 .bf16) (r : Fin 512) (l : Fin 1024) :
    k0_pay6 (F := Ideal) x3 x0 x8 x4 x1 x9 x5 x2 x10 x11 x7 x6 (ix2 r l)
      = resid (fun l => x6 (ix2 r l)) (fun l => x7 (ix3 (0 : Fin 1) (2 : Fin 6) l))
          (fun K => branch (fun K => x3 (ix2 r K)) (fun j => x0 (ix2 r j)) (fun j K => x8 (ix2 j K)) K
            + branch (fun K => x4 (ix2 r K)) (fun j => x1 (ix2 r j)) (fun j K => x9 (ix2 j K)) K
            + branch (fun K => x5 (ix2 r K)) (fun j => x2 (ix2 r j)) (fun j K => x10 (ix2 j K)) K)
          (fun K C => x11 (ix2 K C)) l := by
  pointwise [k0_pay6, resid, branch, Ideal.logistic]

/-- The normalised copy of a stream at row `r` and feature `l`. -/
theorem pay7_apply (x7 : FVec Ideal S1x6x1024 .f32) (y : FVec Ideal S512x1024 .f32) (x12 : FVec Ideal S1x1024 .f32) (r : Fin 512) (l : Fin 1024) :
    k0_pay7 (F := Ideal) x7 y x12 (ix2 r l)
      = normed (fun l => y (ix2 r l)) (fun l => x12 (ix2 (0 : Fin 1) l)) (fun l => x7 (ix3 (0 : Fin 1) (4 : Fin 6) l))
          (fun l => x7 (ix3 (0 : Fin 1) (3 : Fin 6) l)) l := by
  pointwise [k0_pay7, normed]

/-- A read of a whole rank-two buffer is its contents. -/
theorem whole2_eq {n k : ℕ} {e : EltTy} (a : Memref sig .tc .vmem ⟨2, ![n, k]⟩ e) (h : a.IsWhole) (x : Vec Ideal ⟨2, ![n, k]⟩ e) (inb) :
    a.view.readAt (Elt Ideal) (Rect.unit (s := ⟨2, ![n, k]⟩) ![0, 0] (Shape.size ⟨2, ![n, k]⟩) inb).toLoadRect (h.unread x) = x := by
  funext y
  refine (congrFun (h.read_unread x) (LoadRect.idx _ y)).trans (congrArg x (funext fun a => Fin.ext ?_))
  rcases a with ⟨_ | _ | _, ha⟩
  · show 0 + 1 * (y 0).val = (y 0).val; omega
  · show 0 + 1 * (y 1).val = (y 1).val; omega
  · exact absurd ha (Nat.not_lt.mpr (Nat.le_add_left _ _))

/-- A read of a whole rank-three buffer is its contents. -/
theorem whole3_eq {n k l : ℕ} {e : EltTy} (a : Memref sig .tc .vmem ⟨3, ![n, k, l]⟩ e) (h : a.IsWhole) (x : Vec Ideal ⟨3, ![n, k, l]⟩ e) (inb) :
    a.view.readAt (Elt Ideal) (Rect.unit (s := ⟨3, ![n, k, l]⟩) ![0, 0, 0] (Shape.size ⟨3, ![n, k, l]⟩) inb).toLoadRect (h.unread x) = x := by
  funext y
  refine (congrFun (h.read_unread x) (LoadRect.idx _ y)).trans (congrArg x (funext fun a => Fin.ext ?_))
  rcases a with ⟨_ | _ | _ | _, ha⟩
  · show 0 + 1 * (y 0).val = (y 0).val; omega
  · show 0 + 1 * (y 1).val = (y 1).val; omega
  · show 0 + 1 * (y 2).val = (y 2).val; omega
  · exact absurd ha (Nat.not_lt.mpr (Nat.le_add_left _ _))

section Out
variable (c : Dev nD) (i : grid0.Coords) (B : Bufs) (X : Ins Ideal)

/-- The stream stored, of what the windows hold. -/
def strm : FVec Ideal S512x1024 .f32 := k0_pay6 (F := Ideal) X.x3 X.x0 X.x8 X.x4 X.x1 X.x9 X.x5 X.x2 X.x10 X.x11 X.x7 X.x6

/-- The same of the buffers as they are read. -/
abbrev strmRead : FVec Ideal S512x1024 .f32 := k0_pay6 (F := Ideal)
  (B.a3.view.readAt (Elt Ideal) (Rect.unit (s := S512x1024) ![0, 0] S512x1024.size inb_S512x1024_S512x1024_0_0).toLoadRect (B.h3.unread X.x3))
  (B.a0.view.readAt (Elt Ideal) (Rect.unit (s := S512x512) ![0, 0] S512x512.size inb_S512x512_S512x512_0_0).toLoadRect (B.h0.unread X.x0))
  (B.a8.view.readAt (Elt Ideal) (Rect.unit (s := S512x1024) ![0, 0] S512x1024.size inb_S512x1024_S512x1024_0_0).toLoadRect (B.h8.unread X.x8))
  (B.a4.view.readAt (Elt Ideal) (Rect.unit (s := S512x1024) ![0, 0] S512x1024.size inb_S512x1024_S512x1024_0_0).toLoadRect (B.h4.unread X.x4))
  (B.a1.view.readAt (Elt Ideal) (Rect.unit (s := S512x512) ![0, 0] S512x512.size inb_S512x512_S512x512_0_0).toLoadRect (B.h1.unread X.x1))
  (B.a9.view.readAt (Elt Ideal) (Rect.unit (s := S512x1024) ![0, 0] S512x1024.size inb_S512x1024_S512x1024_0_0).toLoadRect (B.h9.unread X.x9))
  (B.a5.view.readAt (Elt Ideal) (Rect.unit (s := S512x1024) ![0, 0] S512x1024.size inb_S512x1024_S512x1024_0_0).toLoadRect (B.h5.unread X.x5))
  (B.a2.view.readAt (Elt Ideal) (Rect.unit (s := S512x512) ![0, 0] S512x512.size inb_S512x512_S512x512_0_0).toLoadRect (B.h2.unread X.x2))
  (B.a10.view.readAt (Elt Ideal) (Rect.unit (s := S512x1024) ![0, 0] S512x1024.size inb_S512x1024_S512x1024_0_0).toLoadRect (B.h10.unread X.x10))
  (B.a11.view.readAt (Elt Ideal) (Rect.unit (s := S1024x1024) ![0, 0] S1024x1024.size inb_S1024x1024_S1024x1024_0_0).toLoadRect (B.h11.unread X.x11))
  (B.a7.view.readAt (Elt Ideal) (Rect.unit (s := S1x6x1024) ![0, 0, 0] S1x6x1024.size inb_S1x6x1024_S1x6x1024_0_0_0).toLoadRect (B.h7.unread X.x7))
  (B.a6.view.readAt (Elt Ideal) (Rect.unit (s := S512x1024) ![0, 0] S512x1024.size inb_S512x1024_S512x1024_0_0).toLoadRect (B.h6.unread X.x6))

theorem strmRead_eq : strmRead B X = strm X := by
  unfold strmRead strm
  rw [whole2_eq B.a3 B.h3 X.x3, whole2_eq B.a0 B.h0 X.x0, whole2_eq B.a8 B.h8 X.x8, whole2_eq B.a4 B.h4 X.x4, whole2_eq B.a1 B.h1 X.x1,
    whole2_eq B.a9 B.h9 X.x9, whole2_eq B.a5 B.h5 X.x5, whole2_eq B.a2 B.h2 X.x2, whole2_eq B.a10 B.h10 X.x10, whole2_eq B.a11 B.h11 X.x11,
    whole3_eq B.a7 B.h7 X.x7, whole2_eq B.a6 B.h6 X.x6]

/-- The normalised copy, of what the windows hold. -/
def copy : FVec Ideal S512x1024 .f32 := k0_pay7 (F := Ideal) X.x7 (strm X) X.x12

/-- The same of the buffers as they are read. -/
abbrev copyRead : FVec Ideal S512x1024 .f32 := k0_pay7 (F := Ideal)
  (B.a7.view.readAt (Elt Ideal) (Rect.unit (s := S1x6x1024) ![0, 0, 0] S1x6x1024.size inb_S1x6x1024_S1x6x1024_0_0_0).toLoadRect (B.h7.unread X.x7))
  (strmRead B X)
  (B.a12.view.readAt (Elt Ideal) (Rect.unit (s := S1x1024) ![0, 0] S1x1024.size inb_S1x1024_S1x1024_0_0).toLoadRect (B.h12.unread X.x12))

theorem copyRead_eq : copyRead B X = copy X := by
  unfold copyRead copy
  rw [strmRead_eq, whole3_eq B.a7 B.h7 X.x7, whole2_eq B.a12 B.h12 X.x12]

/-- The stream's store, whole: its element `x` lies where it is. -/
theorem strm_at (x : S512x1024.Idx) (r : Fin 512) (l : Fin 1024) (e0 : 0 + 1 * (x 0).val = r.val) (e1 : 0 + 1 * (x 1).val = l.val) :
    strmRead B X x = strm X (ix2 r l) := by
  rw [strmRead_eq]
  refine congrArg (strm X) (funext fun a => Fin.ext ?_)
  rcases a with ⟨_ | _ | _, ha⟩
  · show (x 0).val = r.val; omega
  · show (x 1).val = l.val; omega
  · exact absurd ha (Nat.not_lt.mpr (Nat.le_add_left _ _))

/-- Lane tile `n` of the copy, stored at every eighth row: its element `x` lies at row `n + 8 x₀`. -/
theorem copy_at (n : ℕ) (x : S512x128.Idx) (r : Fin 4096) (l : Fin 128) (e0 : n + 8 * (x 0).val = r.val) (e1 : 0 + 1 * (x 1).val = l.val)
    (z : S512x1024.Idx) (z0 : (z 0).val = 0 + (x 0).val) (z1 : (z 1).val = 128 * n + (x 1).val) :
    copyRead B X z = copy X (ix2 (⟨r.val / 8, by omega⟩ : Fin 512) (⟨128 * (r.val % 8) + l.val, by omega⟩ : Fin 1024)) := by
  have b : (z 1).val < 1024 := (z 1).isLt
  have b' : (x 1).val < 128 := (x 1).isLt
  rw [copyRead_eq]
  refine congrArg (copy X) (funext fun a => Fin.ext ?_)
  rcases a with ⟨_ | _ | _, ha⟩
  · show (z 0).val = r.val / 8; omega
  · show (z 1).val = 128 * (r.val % 8) + l.val; omega
  · exact absurd ha (Nat.not_lt.mpr (Nat.le_add_left _ _))

/-- At the first point, the stream's window ends holding the stream. -/
theorem outA_x1 (hc : cond i) (r : Fin 512) (l : Fin 1024) : (outA (F := Ideal) c i B X hc).x1 (ix2 r l) = strm X (ix2 r l) := by
  dsimp only [outA]
  refine (View.read_writes_apply_eq_canon _ _ _ _ (coverA_15 c i B X hc (ix2 r l))).trans ?_
  refine View.canon_eq_of_allAt _ _ _ (coverA_15 c i B X hc (ix2 r l)) ?_
  refine View.allAt_cons _ _ _ ?_ (View.allAt_nil _ _)
  exact fun x hx => strm_at B X x r l (congrArg (fun z : S512x1024.Idx => (z 0).val) hx) (congrArg (fun z : S512x1024.Idx => (z 1).val) hx)

/-- At the first point, row `r` and lane `l` of the copy's window end holding the copy at token `r / 8` and feature `128 (r % 8) + l`. -/
theorem outA_h2 (hc : cond i) (r : Fin 4096) (l : Fin 128) : (outA (F := Ideal) c i B X hc).h2 (ix2 r l)
    = copy X (ix2 (⟨r.val / 8, by omega⟩ : Fin 512) (⟨128 * (r.val % 8) + l.val, by omega⟩ : Fin 1024)) := by
  dsimp only [outA]
  refine (View.read_writes_apply_eq_canon _ _ _ _ (coverA_16 c i B X hc (ix2 r l))).trans ?_
  refine View.canon_eq_of_allAt _ _ _ (coverA_16 c i B X hc (ix2 r l)) ?_
  refine View.allAt_cons _ _ _ ?_ (View.allAt_cons _ _ _ ?_ (View.allAt_cons _ _ _ ?_ (View.allAt_cons _ _ _ ?_
    (View.allAt_cons _ _ _ ?_ (View.allAt_cons _ _ _ ?_ (View.allAt_cons _ _ _ ?_ (View.allAt_cons _ _ _ ?_ (View.allAt_nil _ _))))))))
  · exact fun x hx => copy_at B X 7 x r l (congrArg (fun z : S4096x128.Idx => (z 0).val) hx) (congrArg (fun z : S4096x128.Idx => (z 1).val) hx)
      _ rfl rfl
  · exact fun x hx => copy_at B X 6 x r l (congrArg (fun z : S4096x128.Idx => (z 0).val) hx) (congrArg (fun z : S4096x128.Idx => (z 1).val) hx)
      _ rfl rfl
  · exact fun x hx => copy_at B X 5 x r l (congrArg (fun z : S4096x128.Idx => (z 0).val) hx) (congrArg (fun z : S4096x128.Idx => (z 1).val) hx)
      _ rfl rfl
  · exact fun x hx => copy_at B X 4 x r l (congrArg (fun z : S4096x128.Idx => (z 0).val) hx) (congrArg (fun z : S4096x128.Idx => (z 1).val) hx)
      _ rfl rfl
  · exact fun x hx => copy_at B X 3 x r l (congrArg (fun z : S4096x128.Idx => (z 0).val) hx) (congrArg (fun z : S4096x128.Idx => (z 1).val) hx)
      _ rfl rfl
  · exact fun x hx => copy_at B X 2 x r l (congrArg (fun z : S4096x128.Idx => (z 0).val) hx) (congrArg (fun z : S4096x128.Idx => (z 1).val) hx)
      _ rfl rfl
  · exact fun x hx => copy_at B X 1 x r l (congrArg (fun z : S4096x128.Idx => (z 0).val) hx) (congrArg (fun z : S4096x128.Idx => (z 1).val) hx)
      _ rfl rfl
  · exact fun x hx => copy_at B X 0 x r l (congrArg (fun z : S4096x128.Idx => (z 0).val) hx) (congrArg (fun z : S4096x128.Idx => (z 1).val) hx)
      _ rfl rfl

/-- At the others, the stream's window ends holding the stream. -/
theorem outB_x1 (u : Vec Ideal S1x128 .f32) (hc : ¬cond i) (r : Fin 512) (l : Fin 1024) : (outB (F := Ideal) c i B X u hc).x1 (ix2 r l) = strm X (ix2 r l) := by
  dsimp only [outB]
  refine (View.read_writes_apply_eq_canon _ _ _ _ (coverB_15 c i B X u hc (ix2 r l))).trans ?_
  refine View.canon_eq_of_allAt _ _ _ (coverB_15 c i B X u hc (ix2 r l)) ?_
  refine View.allAt_cons _ _ _ ?_ (View.allAt_nil _ _)
  exact fun x hx => strm_at B X x r l (congrArg (fun z : S512x1024.Idx => (z 0).val) hx) (congrArg (fun z : S512x1024.Idx => (z 1).val) hx)

/-- At the others, row `r` and lane `l` of the copy's window end holding the copy at token `r / 8` and feature `128 (r % 8) + l`. -/
theorem outB_h2 (u : Vec Ideal S1x128 .f32) (hc : ¬cond i) (r : Fin 4096) (l : Fin 128) : (outB (F := Ideal) c i B X u hc).h2 (ix2 r l)
    = copy X (ix2 (⟨r.val / 8, by omega⟩ : Fin 512) (⟨128 * (r.val % 8) + l.val, by omega⟩ : Fin 1024)) := by
  dsimp only [outB]
  refine (View.read_writes_apply_eq_canon _ _ _ _ (coverB_16 c i B X u hc (ix2 r l))).trans ?_
  refine View.canon_eq_of_allAt _ _ _ (coverB_16 c i B X u hc (ix2 r l)) ?_
  refine View.allAt_cons _ _ _ ?_ (View.allAt_cons _ _ _ ?_ (View.allAt_cons _ _ _ ?_ (View.allAt_cons _ _ _ ?_
    (View.allAt_cons _ _ _ ?_ (View.allAt_cons _ _ _ ?_ (View.allAt_cons _ _ _ ?_ (View.allAt_cons _ _ _ ?_ (View.allAt_nil _ _))))))))
  · exact fun x hx => copy_at B X 7 x r l (congrArg (fun z : S4096x128.Idx => (z 0).val) hx) (congrArg (fun z : S4096x128.Idx => (z 1).val) hx)
      _ rfl rfl
  · exact fun x hx => copy_at B X 6 x r l (congrArg (fun z : S4096x128.Idx => (z 0).val) hx) (congrArg (fun z : S4096x128.Idx => (z 1).val) hx)
      _ rfl rfl
  · exact fun x hx => copy_at B X 5 x r l (congrArg (fun z : S4096x128.Idx => (z 0).val) hx) (congrArg (fun z : S4096x128.Idx => (z 1).val) hx)
      _ rfl rfl
  · exact fun x hx => copy_at B X 4 x r l (congrArg (fun z : S4096x128.Idx => (z 0).val) hx) (congrArg (fun z : S4096x128.Idx => (z 1).val) hx)
      _ rfl rfl
  · exact fun x hx => copy_at B X 3 x r l (congrArg (fun z : S4096x128.Idx => (z 0).val) hx) (congrArg (fun z : S4096x128.Idx => (z 1).val) hx)
      _ rfl rfl
  · exact fun x hx => copy_at B X 2 x r l (congrArg (fun z : S4096x128.Idx => (z 0).val) hx) (congrArg (fun z : S4096x128.Idx => (z 1).val) hx)
      _ rfl rfl
  · exact fun x hx => copy_at B X 1 x r l (congrArg (fun z : S4096x128.Idx => (z 0).val) hx) (congrArg (fun z : S4096x128.Idx => (z 1).val) hx)
      _ rfl rfl
  · exact fun x hx => copy_at B X 0 x r l (congrArg (fun z : S4096x128.Idx => (z 0).val) hx) (congrArg (fun z : S4096x128.Idx => (z 1).val) hx)
      _ rfl rfl

end Out

end Cert.Proof.Merge

end
-- ==== Proof.Merge.Reference.lean ====
/-
  What the plainly written merge computes, at an element of either of its results.
-/
module

public import proofs.«01_k».proof.Proof.Merge.Spec
public import proofs.«01_k».proof.Proof.Gen.MergeReferenceIdeal.Run

@[expose] public section

set_option maxRecDepth 16384

noncomputable section

namespace Cert.Proof.Merge

open Cert.MergeReferenceIdeal Cert.MergeReferenceIdeal.Gen
open Idealize.ShloMosaic

/-- Token `s` of batch `b` among all. -/
abbrev row (b : Fin 4) (s : Fin 4096) : Fin 16384 := ⟨b.val * 4096 + s.val, by omega⟩

/-- The sigmoids of the gate columns, by branch. -/
abbrev sigA (z : FVec Ideal S16384x8192 .f32) : FVec Ideal S4x4096x3x1024 .f32 :=
  shapeCast S4x4096x3x1024 (Host.divf (broadcastInDim S16384x3072 ![] bcast_S_S16384x3072 (constant S_ .f32 0x3F800000#32))
    (addf (broadcastInDim S16384x3072 ![] bcast_S_S16384x3072 (constant S_ .f32 0x3F800000#32)) (Host.exp (Host.negf
      (extractStridedSlice S16384x3072 ![0, 5120] z slices_S16384x8192_S16384x3072_0_5120))))) shapeCasts_S16384x3072_S4x4096x3x1024

theorem sigA_apply (z : FVec Ideal S16384x8192 .f32) (b : Fin 4) (s : Fin 4096) (n : Fin 3) (K : Fin 1024) :
    sigA z (ix4 b s n K) = Ideal.div 1 (1 + Ideal.exp (-gates z n (row b s) K)) := by
  refine (shapeCast_apply (s := S16384x3072) _ _ _ (ix2 (row b s) (⟨1024 * n.val + K.val, by omega⟩ : Fin 3072)) ?_).trans ?_
  · rw [Shape.rowMajor_val_two, Shape.rowMajor_val_four]
    show (b.val * 4096 + s.val) * 3072 + (1024 * n.val + K.val) = ((b.val * 4096 + s.val) * 3 + n.val) * 1024 + K.val
    omega
  · pointwise [gates]
    simp only [Nat.add_assoc]

/-- A branch over arrays, its gates already squashed. -/
abbrev branchA (o : FVec Ideal S16384x512 .bf16) (w : FVec Ideal S512x1024 .bf16) : FVec Ideal S4x4096x1024 .f32 :=
  Host.dotGeneral dot_S4x4096x512_S512x1024_S4x4096x1024_2_0_01_1_n_n none
    (shapeCast S4x4096x512 (extf .f32 o bitsLt_bf16_f32) shapeCasts_S16384x512_S4x4096x512) (extf .f32 w bitsLt_bf16_f32)

theorem branchA_apply (o : FVec Ideal S16384x512 .bf16) (w : FVec Ideal S512x1024 .bf16) (b : Fin 4) (s : Fin 4096) (K : Fin 1024) :
    branchA o w (ix3 b s K) = ∑ j : Fin 512, o (ix2 (row b s) j) * w (ix2 j K) := by
  pointwise [branchA]

abbrev gate0 (q : FVec Ideal S4x4096x3x1024 .f32) : FVec Ideal S4x4096x1024 .f32 :=
  shapeCast S4x4096x1024 (extractStridedSlice S4x4096x1x1024 ![0, 0, 0, 0] q slices_S4x4096x3x1024_S4x4096x1x1024_0_0_0_0)
    shapeCasts_S4x4096x1x1024_S4x4096x1024

abbrev gate1 (q : FVec Ideal S4x4096x3x1024 .f32) : FVec Ideal S4x4096x1024 .f32 :=
  shapeCast S4x4096x1024 (extractStridedSlice S4x4096x1x1024 ![0, 0, 1, 0] q slices_S4x4096x3x1024_S4x4096x1x1024_0_0_1_0)
    shapeCasts_S4x4096x1x1024_S4x4096x1024

abbrev gate2 (q : FVec Ideal S4x4096x3x1024 .f32) : FVec Ideal S4x4096x1024 .f32 :=
  shapeCast S4x4096x1024 (extractStridedSlice S4x4096x1x1024 ![0, 0, 2, 0] q slices_S4x4096x3x1024_S4x4096x1x1024_0_0_2_0)
    shapeCasts_S4x4096x1x1024_S4x4096x1024

theorem gate0_apply (q : FVec Ideal S4x4096x3x1024 .f32) (b : Fin 4) (s : Fin 4096) (K : Fin 1024) :
    gate0 q (ix3 b s K) = q (ix4 b s (0 : Fin 3) K) := by
  pointwise [gate0]

theorem gate1_apply (q : FVec Ideal S4x4096x3x1024 .f32) (b : Fin 4) (s : Fin 4096) (K : Fin 1024) :
    gate1 q (ix3 b s K) = q (ix4 b s (1 : Fin 3) K) := by
  pointwise [gate1]

theorem gate2_apply (q : FVec Ideal S4x4096x3x1024 .f32) (b : Fin 4) (s : Fin 4096) (K : Fin 1024) :
    gate2 q (ix3 b s K) = q (ix4 b s (2 : Fin 3) K) := by
  pointwise [gate2]

/-- The three branches' sum. -/
abbrev mergedA (og od oc : FVec Ideal S16384x512 .bf16) (z : FVec Ideal S16384x8192 .f32) (wg wd wc : FVec Ideal S512x1024 .bf16) :
    FVec Ideal S4x4096x1024 .f32 :=
  addf (addf (mulf (gate0 (sigA z)) (branchA og wg)) (mulf (gate1 (sigA z)) (branchA od wd))) (mulf (gate2 (sigA z)) (branchA oc wc))

theorem mergedA_apply (og od oc : FVec Ideal S16384x512 .bf16) (z : FVec Ideal S16384x8192 .f32) (wg wd wc : FVec Ideal S512x1024 .bf16)
    (b : Fin 4) (s : Fin 4096) (K : Fin 1024) :
    mergedA og od oc z wg wd wc (ix3 b s K) = merged og od oc z wg wd wc (row b s) K := by
  show gate0 (sigA z) (ix3 b s K) * branchA og wg (ix3 b s K) + gate1 (sigA z) (ix3 b s K) * branchA od wd (ix3 b s K)
    + gate2 (sigA z) (ix3 b s K) * branchA oc wc (ix3 b s K) = _
  rw [gate0_apply, gate1_apply, gate2_apply, sigA_apply, sigA_apply, sigA_apply, branchA_apply, branchA_apply, branchA_apply]
  rfl

/-- The residual stream of merged features. -/
abbrev residA (x : FVec Ideal S16384x1024 .f32) (mm : FVec Ideal S4x6x1024 .f32) (wo : FVec Ideal S1024x1024 .bf16)
    (mg : FVec Ideal S4x4096x1024 .f32) : FVec Ideal S4x4096x1024 .f32 :=
  addf (shapeCast S4x4096x1024 x shapeCasts_S16384x1024_S4x4096x1024)
    (mulf (broadcastInDim S4x4096x1024 ![0, 1, 2] bcast_S4x1x1024_S4x4096x1024_0_1_2 (broadcastInDim S4x1x1024 ![0, 2] bcast_S4x1024_S4x1x1024_0_2
        (shapeCast S4x1024 (extractStridedSlice S4x1x1024 ![0, 2, 0] mm slices_S4x6x1024_S4x1x1024_0_2_0) shapeCasts_S4x1x1024_S4x1024)))
      (Host.dotGeneral dot_S4x4096x1024_S1024x1024_S4x4096x1024_2_0_01_1_n_n none mg (extf .f32 wo bitsLt_bf16_f32)))

theorem residA_apply (x : FVec Ideal S16384x1024 .f32) (mm : FVec Ideal S4x6x1024 .f32) (wo : FVec Ideal S1024x1024 .bf16)
    (mg : FVec Ideal S4x4096x1024 .f32) (b : Fin 4) (s : Fin 4096) (C : Fin 1024) :
    residA x mm wo mg (ix3 b s C) = resid (fun l => x (ix2 (row b s) l)) (fun l => mm (ix3 b (2 : Fin 6) l)) (fun K => mg (ix3 b s K))
      (fun K C => wo (ix2 K C)) C := by
  pointwise [residA, resid]
  rw [mul_comm (mm _)]

/-- The normalised, modulated copy of a stream. -/
abbrev normedA (mm : FVec Ideal S4x6x1024 .f32) (gn : FVec Ideal S1x1024 .f32) (y : FVec Ideal S4x4096x1024 .f32) : FVec Ideal S4x4096x1024 .f32 :=
  addf (mulf (mulf (mulf y (broadcastInDim S4x4096x1024 ![0, 1, 2] bcast_S4x4096x1_S4x4096x1024_0_1_2 (Host.rsqrt (addf (Host.divf
      (broadcastInDim S4x4096x1 ![0, 1] bcast_S4x4096_S4x4096x1_0_1 (Host.reduceAdd (mulf y y) (constant S_ .f32 0x00000000#32)
        reducesTo_S4x4096x1024_S4x4096_d2 h_S_)) (broadcastInDim S4x4096x1 ![] bcast_S_S4x4096x1 (constant S_ .f32 0x44800000#32)))
      (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2
      (shapeCast S1024 gn shapeCasts_S1x1024_S1024))))
    (broadcastInDim S4x4096x1024 ![0, 1, 2] bcast_S4x1x1024_S4x4096x1024_0_1_2 (addf (broadcastInDim S4x1x1024 ![] bcast_S_S4x1x1024
      (constant S_ .f32 0x3F800000#32)) (broadcastInDim S4x1x1024 ![0, 2] bcast_S4x1024_S4x1x1024_0_2 (shapeCast S4x1024
      (extractStridedSlice S4x1x1024 ![0, 4, 0] mm slices_S4x6x1024_S4x1x1024_0_4_0) shapeCasts_S4x1x1024_S4x1024)))))
    (broadcastInDim S4x4096x1024 ![0, 1, 2] bcast_S4x1x1024_S4x4096x1024_0_1_2 (broadcastInDim S4x1x1024 ![0, 2] bcast_S4x1024_S4x1x1024_0_2
      (shapeCast S4x1024 (extractStridedSlice S4x1x1024 ![0, 3, 0] mm slices_S4x6x1024_S4x1x1024_0_3_0) shapeCasts_S4x1x1024_S4x1024)))

theorem normedA_apply (mm : FVec Ideal S4x6x1024 .f32) (gn : FVec Ideal S1x1024 .f32) (y : FVec Ideal S4x4096x1024 .f32)
    (b : Fin 4) (s : Fin 4096) (C : Fin 1024) :
    normedA mm gn y (ix3 b s C) = normed (fun l => y (ix3 b s l)) (fun l => gn (ix2 (0 : Fin 1) l)) (fun l => mm (ix3 b (4 : Fin 6) l))
      (fun l => mm (ix3 b (3 : Fin 6) l)) C := by
  pointwise [normedA, normed]

section Results

variable (og od oc : FVec Ideal S16384x512 .bf16) (z : FVec Ideal S16384x8192 .f32) (x : FVec Ideal S16384x1024 .f32)
  (mm : FVec Ideal S4x6x1024 .f32) (wg wd wc : FVec Ideal S512x1024 .bf16) (wo : FVec Ideal S1024x1024 .bf16) (gn : FVec Ideal S1x1024 .f32)

/-- The modulation vectors of the batch a token lies in. -/
theorem modul_row (n : Fin 6) (b : Fin 4) (s : Fin 4096) : modul mm n (row b s) = fun l => mm (ix3 b n l) := by
  have e : (⟨(row b s).val / 4096, by omega⟩ : Fin 4) = b := Fin.ext (by show (b.val * 4096 + s.val) / 4096 = b.val; omega)
  unfold modul
  rw [e]

theorem streamA_apply (b : Fin 4) (s : Fin 4096) (C : Fin 1024) :
    residA x mm wo (mergedA og od oc z wg wd wc) (ix3 b s C) = stream og od oc z x mm wg wd wc wo (row b s) C := by
  rw [residA_apply]
  unfold stream
  rw [modul_row]
  simp only [mergedA_apply]

/-- The reference's first result at token `R` and feature `C`. -/
theorem x1_ref (R : Fin 16384) (C : Fin 1024) :
    shapeCast S16384x1024 (residA x mm wo (mergedA og od oc z wg wd wc)) shapeCasts_S4x4096x1024_S16384x1024 (ix2 R C)
      = stream og od oc z x mm wg wd wc wo R C := by
  refine (shapeCast_apply (s := S4x4096x1024) _ _ _ (ix3 (⟨R.val / 4096, by omega⟩ : Fin 4) (⟨R.val % 4096, by omega⟩ : Fin 4096) C) ?_).trans ?_
  · rw [Shape.rowMajor_val_two, Shape.rowMajor_val_three]
    show (R.val / 4096 * 4096 + R.val % 4096) * 1024 + C.val = R.val * 1024 + C.val
    omega
  · rw [streamA_apply]
    exact congrArg (fun q => stream og od oc z x mm wg wd wc wo q C) (Fin.ext (by show R.val / 4096 * 4096 + R.val % 4096 = R.val; omega))

/-- The reference's second result at row `Q` and lane `L`: token `Q / 8`, feature `128 (Q % 8) + L`. -/
theorem h2_ref (Q : Fin 131072) (L : Fin 128) :
    shapeCast S131072x128 (normedA mm gn (residA x mm wo (mergedA og od oc z wg wd wc))) shapeCasts_S4x4096x1024_S131072x128 (ix2 Q L)
      = hidden og od oc z x mm wg wd wc wo gn ⟨Q.val / 8, by omega⟩ ⟨128 * (Q.val % 8) + L.val, by omega⟩ := by
  refine (shapeCast_apply (s := S4x4096x1024) _ _ _ (ix3 (⟨Q.val / 32768, by omega⟩ : Fin 4) (⟨Q.val / 8 % 4096, by omega⟩ : Fin 4096)
    (⟨128 * (Q.val % 8) + L.val, by omega⟩ : Fin 1024)) ?_).trans ?_
  · rw [Shape.rowMajor_val_two, Shape.rowMajor_val_three]
    show (Q.val / 32768 * 4096 + Q.val / 8 % 4096) * 1024 + (128 * (Q.val % 8) + L.val) = Q.val * 128 + L.val
    omega
  · rw [normedA_apply]
    simp only [streamA_apply]
    have e : row (⟨Q.val / 32768, by omega⟩ : Fin 4) (⟨Q.val / 8 % 4096, by omega⟩ : Fin 4096) = (⟨Q.val / 8, by omega⟩ : Fin 16384) :=
      Fin.ext (by show Q.val / 32768 * 4096 + Q.val / 8 % 4096 = Q.val / 8; omega)
    rw [← e]
    unfold hidden
    rw [modul_row, modul_row]

end Results

end Cert.Proof.Merge

end
-- ==== Proof.Merge.Claim.lean ====
/-
  The arrays the merge kernel ends holding, element by element, and its value claim.
-/
module

public import proofs.«01_k».proof.Defs
public import proofs.«01_k».proof.Proof.Merge.Block
public import proofs.«01_k».proof.Proof.Merge.Reference
public import Idealize.ShloMosaic.Lib.Claim

@[expose] public section

set_option maxRecDepth 16384

noncomputable section

namespace Cert.Proof.Merge

open Cert.MergeIdeal Cert.MergeIdeal.Gen Cert.MergeIdeal.Staged
open Idealize.ShloMosaic Idealize.ShloMosaic.TcCoe Idealize.SL.Sem
open Idealize.ShloMosaic.Pipeline (Dat)

section Final

variable (m : (ℓ : Loc nD τ sig) → Buf (Elt Ideal) ℓ) (c : Dev nD)

/-- The block indices at a grid point: the row block is the point, a gate's column block its branch's, the batch the point over 8. -/
theorem idx : ∀ t : Fin cfg0.N, win0_0.index t = ![t.val, 0] ∧ win0_1.index t = ![t.val, 0] ∧ win0_2.index t = ![t.val, 0]
    ∧ win0_3.index t = ![t.val, 5] ∧ win0_4.index t = ![t.val, 6] ∧ win0_5.index t = ![t.val, 7] ∧ win0_6.index t = ![t.val, 0]
    ∧ win0_7.index t = ![t.val / 8, 0, 0] ∧ win0_8.index t = ![0, 0] ∧ win0_9.index t = ![0, 0] ∧ win0_10.index t = ![0, 0]
    ∧ win0_11.index t = ![0, 0] ∧ win0_12.index t = ![0, 0] ∧ win0_15.index t = ![t.val, 0] ∧ win0_16.index t = ![t.val, 0] :=
  (by decide +kernel : ∀ t : Fin grid0.N, _)

/-- The bound on a token of a row block. -/
theorem token_lt (t : Fin cfg0.N) (r : Fin 512) : t.val * 512 + r.val < 16384 := by
  have hN := lt_of_lt_of_eq t.isLt (show cfg0.N = 32 from N_0)
  omega

/-- Row `r` of point `t`'s row block, among all tokens. -/
abbrev token (t : Fin cfg0.N) (r : Fin 512) : Fin 16384 := ⟨t.val * 512 + r.val, token_lt t r⟩

/-- The stream's block of a point is the stream's. -/
theorem strm_point (t : Fin cfg0.N) (r : Fin 512) (l : Fin 1024) :
    strm (insAt m c t) (ix2 r l) = stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (token t r) l := by
  have hN := lt_of_lt_of_eq t.isLt (show cfg0.N = 32 from N_0)
  refine (pay6_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r l).trans ?_
  unfold stream merged gates modul
  blk_point [iblk, V, idx t]

/-- The copy's block of a point is the copy's. -/
theorem copy_point (t : Fin cfg0.N) (r : Fin 512) (l : Fin 1024) :
    copy (insAt m c t) (ix2 r l) = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (token t r) l := by
  have hN := lt_of_lt_of_eq t.isLt (show cfg0.N = 32 from N_0)
  refine (pay7_apply (iblk m c 7 t) (strm (insAt m c t)) (iblk m c 12 t) r l).trans ?_
  simp only [strm_point]
  unfold hidden modul
  blk_point [iblk, V, idx t]

/-- What a point leaves of the stream. -/
theorem x1_point (t : Fin cfg0.N) (r : Fin 512) (l : Fin 1024) :
    (outsAt m c t.val t.isLt).x1 (ix2 r l) = stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (token t r) l := by
  by_cases h : t.val = 0
  · rw [outsAt_A m c t h]; exact (outA_x1 c _ _ _ _ r l).trans (strm_point m c t r l)
  · rw [outsAt_B m c t h]; exact (outB_x1 c _ _ _ _ _ r l).trans (strm_point m c t r l)

/-- What a point leaves of the copy. -/
theorem h2_point (t : Fin cfg0.N) (r : Fin 4096) (l : Fin 128) :
    (outsAt m c t.val t.isLt).h2 (ix2 r l)
      = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (token t ⟨r.val / 8, by omega⟩) ⟨128 * (r.val % 8) + l.val, by omega⟩ := by
  by_cases h : t.val = 0
  · rw [outsAt_A m c t h]; exact (outA_h2 c _ _ _ _ r l).trans (copy_point m c t _ _)
  · rw [outsAt_B m c t h]; exact (outB_h2 c _ _ _ _ _ r l).trans (copy_point m c t _ _)

/-- What a point leaves of the stream, where it lies in the output array. -/
theorem x1_out (t : Fin cfg0.N) (r : Fin 512) (l : Fin 1024) (R : Fin 16384) (C : Fin 1024) (hR : R.val = t.val * 512 + r.val) (hC : C.val = l.val) :
    (outsAt m c t.val t.isLt).x1 (ix2 r l) = stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) R C := by
  obtain rfl : R = token t r := Fin.ext hR
  obtain rfl : C = l := Fin.ext hC
  exact x1_point m c t r C

/-- The copy at row `Q` and lane `L` of an array that keeps eight rows of 128 lanes to a token. -/
def laid (Q : Fin 131072) (L : Fin 128) : EReal :=
  hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) ⟨Q.val / 8, by omega⟩ ⟨128 * (Q.val % 8) + L.val, by omega⟩

/-- What a point leaves of the copy, where it lies in the output array. -/
theorem h2_out (t : Fin cfg0.N) (r : Fin 4096) (l : Fin 128) (Q : Fin 131072) (L : Fin 128) (hQ : Q.val = t.val * 4096 + r.val) (hL : L.val = l.val) :
    (outsAt m c t.val t.isLt).h2 (ix2 r l) = laid m c Q L := by
  obtain rfl : L = l := Fin.ext hL
  refine (h2_point m c t r L).trans ?_
  unfold laid
  congr 1
  · refine Fin.ext ?_; show t.val * 512 + r.val / 8 = Q.val / 8; omega
  · refine Fin.ext ?_; show 128 * (r.val % 8) + L.val = 128 * (Q.val % 8) + L.val; omega

/-- The stream as the output array keeps it. -/
def wholeX : FVec Ideal S16384x1024 .f32 := fun i => stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0) (i 1)

/-- The copy as the output array keeps it. -/
def wholeH : FVec Ideal S131072x128 .f32 := fun i => laid m c (i 0) (i 1)

/-- Every block of the first output is the stream's. -/
theorem arrayX : (dats m 0 c).arrAt 15 cfg0.N = wholeX m c := by
  unfold wholeX
  refine (dats m 0 c).arrAt_eq_of_covers 15 _ (by decide +kernel) fun t hf y => ?_
  blk_simp
  rw [after_15]
  idx_vars y
  refine x1_out m c t _ _ _ _ ?_ ?_
  all_goals (blk_simp [idx t] <;> try omega)

/-- Every block of the second is the copy's. -/
theorem arrayH : (dats m 0 c).arrAt 16 cfg0.N = wholeH m c := by
  unfold wholeH
  refine (dats m 0 c).arrAt_eq_of_covers 16 _ (by decide +kernel) fun t hf y => ?_
  blk_simp
  rw [after_16]
  idx_vars y
  refine h2_out m c t _ _ _ _ ?_ ?_
  all_goals (blk_simp [idx t] <;> try omega)

/-- The kernel runs, ends with the stream and the copy in its results and keeps its arguments. -/
theorem run_whole (ρ : Dev nD → PrngReg) : θ_run defs (onTc (τ := τ) (main (F := Ideal))) ⟨m, fun _ => 0, ρ⟩ (fun r => ∀ c : Dev nD,
      r.2.mem ((c.tc : Thread nD τ).loc main_v0_0) = wholeX m c
      ∧ r.2.mem ((c.tc : Thread nD τ).loc main_v0_1) = wholeH m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r q c => ⟨((q.1 c).1 15).trans (arrayX m c), ((q.1 c).1 16).trans (arrayH m c),
      ((q.1 c).1 0).trans (((dats m 0 c).arrAt_in 0 rfl _).trans (A_eq m c 0)),
      ((q.1 c).1 1).trans (((dats m 0 c).arrAt_in 1 rfl _).trans (A_eq m c 1)),
      ((q.1 c).1 2).trans (((dats m 0 c).arrAt_in 2 rfl _).trans (A_eq m c 2)),
      ((q.1 c).1 3).trans (((dats m 0 c).arrAt_in 3 rfl _).trans (A_eq m c 3)),
      ((q.1 c).1 6).trans (((dats m 0 c).arrAt_in 6 rfl _).trans (A_eq m c 6)),
      ((q.1 c).1 7).trans (((dats m 0 c).arrAt_in 7 rfl _).trans (A_eq m c 7)),
      ((q.1 c).1 8).trans (((dats m 0 c).arrAt_in 8 rfl _).trans (A_eq m c 8)),
      ((q.1 c).1 9).trans (((dats m 0 c).arrAt_in 9 rfl _).trans (A_eq m c 9)),
      ((q.1 c).1 10).trans (((dats m 0 c).arrAt_in 10 rfl _).trans (A_eq m c 10)),
      ((q.1 c).1 11).trans (((dats m 0 c).arrAt_in 11 rfl _).trans (A_eq m c 11)),
      ((q.1 c).1 12).trans (((dats m 0 c).arrAt_in 12 rfl _).trans (A_eq m c 12)),
      ((q.1 c).1 13).trans (((dats m 0 c).arrAt_in 13 rfl _).trans (A_eq m c 13)),
      ((q.1 c).1 14).trans (((dats m 0 c).arrAt_in 14 rfl _).trans (A_eq m c 14))⟩)
    (run_quiescent m ρ)

end Final

/-- On equal arguments the merge kernel and the plainly written merge end with the same two arrays. -/
theorem algebraic : Cert.algebraic_MergeIdeal_MergeReferenceIdeal (hMergeIdeal := Cert.MergeIdeal.Gen.facts)
    (hMergeReferenceIdeal := Cert.MergeReferenceIdeal.Gen.facts) := by
  pair_intro
  · run_from run_whole m g
  · run_from Cert.MergeReferenceIdeal.Value.run m' g'
    · refine funext fun i : Cert.MergeIdeal.S16384x1024.Idx => ?_
      obtain ⟨R, C, rfl⟩ : ∃ (R : Fin 16384) (C : Fin 1024), i = ix2 R C := ⟨i 0, i 1, by blk_ext⟩
      refine (x1_ref _ _ _ _ _ _ _ _ _ _ R C).trans ?_
      rfl
    · refine funext fun i : Cert.MergeIdeal.S131072x128.Idx => ?_
      obtain ⟨Q, L, rfl⟩ : ∃ (Q : Fin 131072) (L : Fin 128), i = ix2 Q L := ⟨i 0, i 1, by blk_ext⟩
      unfold Cert.MergeReferenceIdeal.Value.res_main_v67
      refine (h2_ref _ _ _ _ _ _ _ _ _ _ _ Q L).trans ?_
      obtain ⟨e0, e1, e2, e3, e4, e5, e6, e7, e8, e9, e10, -⟩ := hagree c
      rw [e0, e1, e2, e3, e4, e5, e6, e7, e8, e9, e10]
      rfl

end Cert.Proof.Merge

end
-- ==== Proof.Prompt.IdealKit.lean ====
/- The prompt attention's pipeline: the tables its host constants hold, the arrays it finds, what its input windows hold at a
   point, and the conditions its body branches on. -/
module

public import proofs.«01_k».proof.Proof.Gen.PromptIdeal.Launch
public import proofs.«01_k».proof.Proof.Gen.PromptIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp

@[expose] public section

set_option maxRecDepth 16384

noncomputable section

namespace Cert.PromptIdeal.Staged

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PromptIdeal.Gen

variable {F : FTy → Type} [FloatOps F] [Named F]

local notation "𝕄" => MT nD τ sig Unit (Elt F) ℕ (UR sig nD τ) ℕ

/-- The staging buffers of the windows, and the four scratches. -/
structure Bufs where
  a0 : Memref sig .tc .vmem S512x128 .bf16
  h0 : a0.IsWhole
  a1 : Memref sig .tc .vmem S512x128 .bf16
  h1 : a1.IsWhole
  a2 : Memref sig .tc .vmem S512x128 .bf16
  h2 : a2.IsWhole
  a3 : Memref sig .tc .vmem S4x64 .f32
  h3 : a3.IsWhole
  a4 : Memref sig .tc .vmem S1x128 .f32
  h4 : a4.IsWhole
  a5 : Memref sig .tc .vmem S512x128 .bf16
  h5 : a5.IsWhole
  a6 : Memref sig .tc .vmem S1024x128 .bf16
  h6 : a6.IsWhole
  a7 : Memref sig .tc .vmem S1024x128 .f32
  h7 : a7.IsWhole
  a8 : Memref sig .tc .vmem S1024x128 .f32
  h8 : a8.IsWhole
  a9 : Memref sig .tc .vmem S1024x128 .f32
  h9 : a9.IsWhole

/-- What the input windows hold. -/
structure Ins (F : FTy → Type) where
  x0 : Vec F S512x128 .bf16
  x1 : Vec F S512x128 .bf16
  x2 : Vec F S512x128 .bf16
  x3 : Vec F S4x64 .f32
  x4 : Vec F S1x128 .f32

/-- What the four scratches hold: the two components' queries, the running maxima, sums and weighted sums. -/
structure Scr (F : FTy → Type) where
  q2 : Vec F S1024x128 .bf16
  mx : Vec F S1024x128 .f32
  ls : Vec F S1024x128 .f32
  acc : Vec F S1024x128 .f32

/-- What the output window and the scratches hold. -/
structure Outs (F : FTy → Type) where
  o : Vec F S512x128 .bf16
  st : Scr F

variable (m : (ℓ : Loc nD τ sig) → Buf (Elt F) ℓ)

/-- The tables: the query blocks and the key blocks of the 36 pairs. -/
def tbl : pre0.Contents (Elt F) := fun
  | 0 => fun i : S36.Idx => lit0 (S36.rowMajor i)
  | 1 => fun i : S36.Idx => lit1 (S36.rowMajor i)
  | ⟨_ + 2, h⟩ => absurd h (Nat.not_lt.2 (Nat.le_add_left _ _))

/-- A core's buffers when the region is entered: the tables written, the rest as launched. -/
abbrev V (c : Dev nD) (b : Ref sig .tc) : Buf (Elt F) ((c : Thread nD τ).loc b) :=
  StableHlo.after hostOps0 (fun b => m (c, b)) b

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub ⟨rfl, rfl⟩ main_chain

theorem V_pre (c : Dev nD) (j : Fin 2) : V m c (pre0.ref j) = tbl j := by
  rcases j with ⟨_ | _ | _, hj⟩
  · rfl
  · rfl
  · exact absurd hj (Nat.not_lt.mpr (Nat.le_add_left _ _))

theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl
theorem V_arg3 (c : Dev nD) : V m c main_arg3 = m ((c : Thread nD τ).loc main_arg3) := rfl
theorem V_arg4 (c : Dev nD) : V m c main_arg4 = m ((c : Thread nD τ).loc main_arg4) := rfl

/-- Every block the tables pick lies in its array. -/
theorem ok : ok0 (F := F) tbl := of_decide_eq_true (by sl_kernel_rfl)
abbrev adm : (pcfg0 (F := F)).Adm := ⟨tbl, ok⟩
abbrev cfgM : Pipeline.Cfg sig Λ₀ := cfg0 (adm (F := F))

/-- The contents of a table's buffer, and the half of it the body holds. -/
abbrev Held (c : Dev nD) {S : Shape} {e : EltTy} (M : Memref sig .tc .smem S e) : Type := Buf (Elt F) (M.view.loc (c : Thread nD τ))
abbrev half (c : Dev nD) {S : Shape} {e : EltTy} (M : Memref sig .tc .smem S e) (f : Held (F := F) c M) : sProp 𝕄 :=
  M.view.loc (c : Thread nD τ) ↦{fullShare.right} f

abbrev Mq : Memref sig .tc .smem S36 .i32 := Memref.whole main_c
abbrev Mk : Memref sig .tc .smem S36 .i32 := Memref.whole main_c_0

theorem halves_eq (c : Dev nD) : (Pipeline.ΦT pre0 (tbl (F := F)) c : sProp 𝕄)
    = iprop(half c Mq (tbl (F := F) 0) ∗ half c Mk (tbl (F := F) 1)) := by
  unfold Pipeline.ΦT Pipeline.prefHeld
  rw [show (Finset.univ : Finset (Fin 2)) = {0, 1} from rfl, bigSep_insert (by decide), bigSep_singleton]
  rfl

/-- The query block and the key block a point's word names. -/
abbrev wq (c : Dev nD) (i : grid0.Coords) (e : Held (F := F) c Mq) : BitVec 32 :=
  Mq.view.readAt (Elt F) (Rect.unit (s := S36) (k0_off1 i) S1.size (k0_off1_inb i)).toLoadRect e (Shape.Idx.first (numel1_S1.symm ▸ Nat.one_pos))
abbrev wk (c : Dev nD) (i : grid0.Coords) (u : Held (F := F) c Mk) : BitVec 32 :=
  Mk.view.readAt (Elt F) (Rect.unit (s := S36) (k0_off1 i) S1.size (k0_off1_inb i)).toLoadRect u (Shape.Idx.first (numel1_S1.symm ▸ Nat.one_pos))

/-- The conditions: the first key block, a key block before the query block, the query block's own. -/
abbrev zc (k : BitVec 32) : Prop := (Scalar.cmpi .ne (Scalar.extui (Scalar.cmpi .eq k 0#32)) 0#32) = 1#1
abbrev lc (q k : BitVec 32) : Prop := (Scalar.cmpi .ne (Scalar.extui (Scalar.cmpi .slt k q)) 0#32) = 1#1
abbrev dc (q k : BitVec 32) : Prop := k0_cond3 q k = 1#1

/-- The words at point `t`. -/
abbrev qAt (c : Dev nD) (t : Fin (cfgM (F := F)).N) : BitVec 32 := wq (F := F) c (grid0.coords t) (tbl (F := F) 0)
abbrev kAt (c : Dev nD) (t : Fin (cfgM (F := F)).N) : BitVec 32 := wk (F := F) c (grid0.coords t) (tbl (F := F) 1)

theorem q_lit (c : Dev nD) : ∀ t : Fin (cfgM (F := F)).N, qAt (F := F) c t = lit0 ⟨t.val % 36, Nat.mod_lt _ (by decide)⟩ :=
  (by rw [Subsingleton.elim c 0]; exact of_decide_eq_true (by sl_kernel_rfl) : ∀ t : Fin grid0.N, wq (F := F) c (grid0.coords t) (tbl (F := F) 0) = lit0 ⟨t.val % 36, Nat.mod_lt _ (by decide)⟩)
theorem k_lit (c : Dev nD) : ∀ t : Fin (cfgM (F := F)).N, kAt (F := F) c t = lit1 ⟨t.val % 36, Nat.mod_lt _ (by decide)⟩ :=
  (by rw [Subsingleton.elim c 0]; exact of_decide_eq_true (by sl_kernel_rfl) : ∀ t : Fin grid0.N, wk (F := F) c (grid0.coords t) (tbl (F := F) 1) = lit1 ⟨t.val % 36, Nat.mod_lt _ (by decide)⟩)

/-- A key block that is not the query block's own comes before it. -/
theorem lc_iff (c : Dev nD) (t : Fin (cfgM (F := F)).N) : lc (qAt (F := F) c t) (kAt (F := F) c t) ↔ ¬dc (qAt (F := F) c t) (kAt (F := F) c t) := by
  rw [q_lit, k_lit]
  exact (by decide +kernel : ∀ n : Fin 36, lc (lit0 n) (lit1 n) ↔ ¬dc (lit0 n) (lit1 n)) _

/-- The first point begins a row of blocks. -/
theorem zc_zero (c : Dev nD) (h : 0 < (cfgM (F := F)).N) : zc (kAt (F := F) c ⟨0, h⟩) := by
  rw [k_lit]; exact (by decide +kernel : zc (lit1 0))

/-- The output is stored exactly at a query block's own key block, -/
theorem idle_5 (c : Dev nD) (t : Fin (cfgM (F := F)).N) :
    (cfgM (F := F)).idle 5 ((cfgM (F := F)).grid.coords t) = !(decide (dc (qAt (F := F) c t) (kAt (F := F) c t))) := by
  rw [q_lit, k_lit]
  exact (of_decide_eq_true (by sl_kernel_rfl) : ∀ t : Fin grid0.N, idle0 (F := F) tbl 5 (grid0.coords t) = !(decide (dc (lit0 ⟨t.val % 36, Nat.mod_lt _ (by decide)⟩) (lit1 ⟨t.val % 36, Nat.mod_lt _ (by decide)⟩)))) t

/-- and written back there alone. -/
theorem flush_5 (c : Dev nD) (t : Fin (cfgM (F := F)).N) :
    ((cfgM (F := F)).win 5).flush t = decide (dc (qAt (F := F) c t) (kAt (F := F) c t)) := by
  rw [q_lit, k_lit]
  exact (of_decide_eq_true (by sl_kernel_rfl) : ∀ t : Fin grid0.N, ((cfgM (F := F)).win 5).flush t = decide (dc (lit0 ⟨t.val % 36, Nat.mod_lt _ (by decide)⟩) (lit1 ⟨t.val % 36, Nat.mod_lt _ (by decide)⟩))) t

/-! ## The blocks -/

/-- Window `w`'s block at point `t`, out of its array as the region finds it. -/
def iblk (c : Dev nD) (w : Fin (cfgM (F := F)).W) (t : Fin (cfgM (F := F)).N) : (((cfgM (F := F)).win w).xblock ((cfgM (F := F)).grid.coords t)).Idx → Elt F ((cfgM (F := F)).win w).elt :=
  (((cfgM (F := F)).win w).blk t).view.read (Elt F) (V m c (Pipeline.arrRef spec0 w))

/-- The input windows' blocks at a point. -/
abbrev insAt (c : Dev nD) (t : Fin (cfgM (F := F)).N) : Ins F where
  x0 := iblk m c 0 t
  x1 := iblk m c 1 t
  x2 := iblk m c 2 t
  x3 := iblk m c 3 t
  x4 := iblk m c 4 t

theorem holds_0 {c : Dev nD} (d : Dat τ (Elt F) Unit ℕ (UR sig nD τ) ℕ (cfgM (F := F)) c) (hA : d.A 0 = V m c (Pipeline.arrRef spec0 0))
    (hafter : ∀ t, d.after 0 t = iblk m c 0 t) (t : Fin (cfgM (F := F)).N) (z) : d.before 0 t z = iblk m c 0 t :=
  (d.before_in_eq_fetched 0 rfl (fun _ => rfl) (fun _ _ _ => rfl) (fun t => by rw [hafter]; unfold Dat.blockOf iblk; rw [hA]; try rfl) t z).trans
    (by unfold Dat.fetched Dat.blockOf iblk; rw [hA]; try rfl)
theorem holds_1 {c : Dev nD} (d : Dat τ (Elt F) Unit ℕ (UR sig nD τ) ℕ (cfgM (F := F)) c) (hA : d.A 1 = V m c (Pipeline.arrRef spec0 1))
    (hafter : ∀ t, d.after 1 t = iblk m c 1 t) (t : Fin (cfgM (F := F)).N) (z) : d.before 1 t z = iblk m c 1 t :=
  (d.before_in_eq_fetched 1 rfl (fun _ => rfl) (fun _ _ _ => rfl) (fun t => by rw [hafter]; unfold Dat.blockOf iblk; rw [hA]; try rfl) t z).trans
    (by unfold Dat.fetched Dat.blockOf iblk; rw [hA]; try rfl)
theorem holds_2 {c : Dev nD} (d : Dat τ (Elt F) Unit ℕ (UR sig nD τ) ℕ (cfgM (F := F)) c) (hA : d.A 2 = V m c (Pipeline.arrRef spec0 2))
    (hafter : ∀ t, d.after 2 t = iblk m c 2 t) (t : Fin (cfgM (F := F)).N) (z) : d.before 2 t z = iblk m c 2 t :=
  (d.before_in_eq_fetched 2 rfl (fun _ => rfl) (fun _ _ _ => rfl) (fun t => by rw [hafter]; unfold Dat.blockOf iblk; rw [hA]; try rfl) t z).trans
    (by unfold Dat.fetched Dat.blockOf iblk; rw [hA]; try rfl)
theorem holds_3 {c : Dev nD} (d : Dat τ (Elt F) Unit ℕ (UR sig nD τ) ℕ (cfgM (F := F)) c) (hA : d.A 3 = V m c (Pipeline.arrRef spec0 3))
    (hafter : ∀ t, d.after 3 t = iblk m c 3 t) (t : Fin (cfgM (F := F)).N) (z) : d.before 3 t z = iblk m c 3 t :=
  (d.before_in_eq_fetched 3 rfl (fun _ => rfl) (fun _ _ _ => rfl) (fun t => by rw [hafter]; unfold Dat.blockOf iblk; rw [hA]; try rfl) t z).trans
    (by unfold Dat.fetched Dat.blockOf iblk; rw [hA]; try rfl)
theorem holds_4 {c : Dev nD} (d : Dat τ (Elt F) Unit ℕ (UR sig nD τ) ℕ (cfgM (F := F)) c) (hA : d.A 4 = V m c (Pipeline.arrRef spec0 4))
    (hafter : ∀ t, d.after 4 t = iblk m c 4 t) (t : Fin (cfgM (F := F)).N) (z) : d.before 4 t z = iblk m c 4 t :=
  (d.before_in_eq_fetched 4 rfl (fun _ => rfl) (fun _ _ _ => rfl) (fun t => by rw [hafter]; unfold Dat.blockOf iblk; rw [hA]; try rfl) t z).trans
    (by unfold Dat.fetched Dat.blockOf iblk; rw [hA]; try rfl)

/-! ## The buffers at a point -/

/-- The buffers the pipeline calls the body with at point `t`. -/
abbrev bufs (t : Fin (cfgM (F := F)).N) : Bufs where
  a0 := spec0_0.stage ((cfgM (F := F)).slots t 0)
  h0 := hstage0_0 (((cfgM (F := F)).slots t 0).cast nbuf0_0)
  a1 := spec0_1.stage ((cfgM (F := F)).slots t 1)
  h1 := hstage0_1 (((cfgM (F := F)).slots t 1).cast nbuf0_1)
  a2 := spec0_2.stage ((cfgM (F := F)).slots t 2)
  h2 := hstage0_2 (((cfgM (F := F)).slots t 2).cast nbuf0_2)
  a3 := spec0_3.stage ((cfgM (F := F)).slots t 3)
  h3 := hstage0_3 (((cfgM (F := F)).slots t 3).cast nbuf0_3)
  a4 := spec0_4.stage ((cfgM (F := F)).slots t 4)
  h4 := hstage0_4 (((cfgM (F := F)).slots t 4).cast nbuf0_4)
  a5 := spec0_5.stage ((cfgM (F := F)).slots t 5)
  h5 := hstage0_5 (((cfgM (F := F)).slots t 5).cast nbuf0_5)
  a6 := Memref.whole cc0_scratch0
  h6 := Memref.isWhole_whole _
  a7 := Memref.whole cc0_scratch1
  h7 := Memref.isWhole_whole _
  a8 := Memref.whole cc0_scratch2
  h8 := Memref.isWhole_whole _
  a9 := Memref.whole cc0_scratch3
  h9 := Memref.isWhole_whole _

/-- The output's first staging buffer and the scratches, in which what a body leaves is spelled. -/
abbrev VO5 : View sig .tc .vmem S512x128 .bf16 := (Memref.whole cc0_stg5_0 : Memref sig .tc .vmem S512x128 .bf16).view
abbrev VO6 : View sig .tc .vmem S1024x128 .bf16 := (Memref.whole cc0_scratch0 : Memref sig .tc .vmem S1024x128 .bf16).view
abbrev VO7 : View sig .tc .vmem S1024x128 .f32 := (Memref.whole cc0_scratch1 : Memref sig .tc .vmem S1024x128 .f32).view
abbrev VO8 : View sig .tc .vmem S1024x128 .f32 := (Memref.whole cc0_scratch2 : Memref sig .tc .vmem S1024x128 .f32).view
abbrev VO9 : View sig .tc .vmem S1024x128 .f32 := (Memref.whole cc0_scratch3 : Memref sig .tc .vmem S1024x128 .f32).view

/-- The body on given buffers. -/
abbrev bodyOn (i : grid0.Coords) (B : Bufs) : Prog (TpuEff nD τ sig (Elt F) Λ₀ .tc) PUnit :=
  cc0_diff_prompt i Mq (Memref.isWhole_whole _) Mk (Memref.isWhole_whole _) B.a0 B.h0 B.a1 B.h1 B.a2 B.h2 B.a3 B.h3 B.a4 B.h4 B.a5 B.h5 B.a6 B.h6 B.a7 B.h7 B.a8 B.h8 B.a9 B.h9

/-- The scratches at given contents. -/
def scrs (c : Dev nD) (B : Bufs) (u : Scr F) : sProp 𝕄 :=
  iprop(owns (c : Thread nD τ) B.a6 fullShare u.q2 ∗ owns (c : Thread nD τ) B.a7 fullShare u.mx ∗ owns (c : Thread nD τ) B.a8 fullShare u.ls ∗ owns (c : Thread nD τ) B.a9 fullShare u.acc)

/-- What the region keeps beside the windows: the scratches at some contents, and the generator register. -/
theorem keep_eq (c : Dev nD) : (Pipeline.ΦA spec0 c : sProp 𝕄)
    = iprop(((∃ d, owns (c : Thread nD τ) (Memref.whole cc0_scratch0 : Memref sig .tc .vmem S1024x128 .bf16) fullShare d) ∗ (∃ d, owns (c : Thread nD τ) (Memref.whole cc0_scratch1 : Memref sig .tc .vmem S1024x128 .f32) fullShare d) ∗ (∃ d, owns (c : Thread nD τ) (Memref.whole cc0_scratch2 : Memref sig .tc .vmem S1024x128 .f32) fullShare d) ∗ (∃ d, owns (c : Thread nD τ) (Memref.whole cc0_scratch3 : Memref sig .tc .vmem S1024x128 .f32) fullShare d)) ∗ (∃ r, prngReg c r)) := by
  unfold Pipeline.ΦA; rw [scopedRest0_eq]; simp only [owns_whole]; try rfl

end Cert.PromptIdeal.Staged

end
-- ==== Proof.Prompt.IdealRunA.lean ====
/- The prompt attention's body at the first key block of several, where it begins the running quantities and adds a block. -/
module

public import proofs.«01_k».proof.Proof.Prompt.IdealKit

@[expose] public section

set_option maxRecDepth 16384

noncomputable section

namespace Cert.PromptIdeal.Staged

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PromptIdeal.Gen

variable {F : FTy → Type} [FloatOps F] [Named F]

local notation "𝕄" => MT nD τ sig Unit (Elt F) ℕ (UR sig nD τ) ℕ

set_option maxHeartbeats 4000000 in
/-- What the body stores into each buffer, with the proof that it runs on whole buffers holding the inputs and leaves the
    inputs and the tables as they were. -/
def runA (c : Dev nD) (i : grid0.Coords) (B : Bufs) (X : Ins F) (e : Held (F := F) c Mq) (u : Held (F := F) c Mk)
    (hz : zc (wk (F := F) c i u)) (hl : lc (wq (F := F) c i e) (wk (F := F) c i u)) (hd : ¬dc (wq (F := F) c i e) (wk (F := F) c i u)) :
    Σ' (L6 : List (View.Piece (Elt F) S1024x128 .bf16)), Σ' (L7 : List (View.Piece (Elt F) S1024x128 .f32)), Σ' (L8 : List (View.Piece (Elt F) S1024x128 .f32)), { L9 : List (View.Piece (Elt F) S1024x128 .f32) //
      ∀ (E : Set ℕ) (K : PUnit → sProp 𝕄),
        iprop(owns (c : Thread nD τ) B.a0 fullShare X.x0 ∗ owns (c : Thread nD τ) B.a1 fullShare X.x1 ∗ owns (c : Thread nD τ) B.a2 fullShare X.x2 ∗ owns (c : Thread nD τ) B.a3 fullShare X.x3 ∗ owns (c : Thread nD τ) B.a4 fullShare X.x4
            ∗ (∃ d, owns (c : Thread nD τ) B.a6 fullShare d) ∗ (∃ d, owns (c : Thread nD τ) B.a7 fullShare d) ∗ (∃ d, owns (c : Thread nD τ) B.a8 fullShare d) ∗ (∃ d, owns (c : Thread nD τ) B.a9 fullShare d) ∗ half c Mq e ∗ half c Mk u
            ∗ (iprop(owns (c : Thread nD τ) B.a0 fullShare X.x0 ∗ owns (c : Thread nD τ) B.a1 fullShare X.x1 ∗ owns (c : Thread nD τ) B.a2 fullShare X.x2 ∗ owns (c : Thread nD τ) B.a3 fullShare X.x3 ∗ owns (c : Thread nD τ) B.a4 fullShare X.x4
              ∗ (∃ f, B.a6.view.loc (c : Thread nD τ) ↦[B.a6.view.set]{fullShare} B.a6.view.writes (Elt F) f L6) ∗ (∃ f, B.a7.view.loc (c : Thread nD τ) ↦[B.a7.view.set]{fullShare} B.a7.view.writes (Elt F) f L7) ∗ (∃ f, B.a8.view.loc (c : Thread nD τ) ↦[B.a8.view.set]{fullShare} B.a8.view.writes (Elt F) f L8) ∗ (∃ f, B.a9.view.loc (c : Thread nD τ) ↦[B.a9.view.set]{fullShare} B.a9.view.writes (Elt F) f L9) ∗ half c Mq e ∗ half c Mk u) -∗ K ⟨⟩))
          ⊢ wp frame (wpE (defs₀ (F := F)) Variants.none c none) E (bodyOn i B) K } := by
  refine ⟨?_, ?_, ?_, ?_, fun E K => ?run⟩
  case run =>
    unfold bodyOn
    simp only [cc0_diff_prompt_eq_skeleton]; unfold cc0_diff_prompt_skel
    simp only [k0_part1_eq_skeleton, k0_part2_eq_skeleton, k0_part3_eq_skeleton, k0_part4_eq_skeleton]
    unfold owns
    iintro ⟨⟨%f0, %g0, H0⟩, ⟨%f1, %g1, H1⟩, ⟨%f2, %g2, H2⟩, ⟨%f3, %g3, H3⟩, ⟨%f4, %g4, H4⟩, ⟨%d6, %f6, -, H6⟩, ⟨%d7, %f7, -, H7⟩, ⟨%d8, %f8, -, H8⟩, ⟨%d9, %f9, -, H9⟩, HE, HU, Hk⟩
    obtain rfl := B.h0.eq_unread g0
    obtain rfl := B.h1.eq_unread g1
    obtain rfl := B.h2.eq_unread g2
    obtain rfl := B.h3.eq_unread g3
    obtain rfl := B.h4.eq_unread g4
    sl_exec (disch := first | sl_exact hz | sl_exact hl | sl_exact hd)
    sl_step
    iapply Hk
    isplitl [H0]
    · iexists _; isplitr
      · ipureintro; exact B.h0.read_unread _
      iexact H0
    isplitl [H1]
    · iexists _; isplitr
      · ipureintro; exact B.h1.read_unread _
      iexact H1
    isplitl [H2]
    · iexists _; isplitr
      · ipureintro; exact B.h2.read_unread _
      iexact H2
    isplitl [H3]
    · iexists _; isplitr
      · ipureintro; exact B.h3.read_unread _
      iexact H3
    isplitl [H4]
    · iexists _; isplitr
      · ipureintro; exact B.h4.read_unread _
      iexact H4
    isplitl [H6]; · iexists _; iexact H6
    isplitl [H7]; · iexists _; iexact H7
    isplitl [H8]; · iexists _; iexact H8
    isplitl [H9]; · iexists _; iexact H9
    isplitl [HE]; · iexact HE
    iexact HU

end Cert.PromptIdeal.Staged

end
-- ==== Proof.Prompt.IdealRunB.lean ====
/- The prompt attention's body at the only key block, where it begins the running quantities, adds a masked block and finishes. -/
module

public import proofs.«01_k».proof.Proof.Prompt.IdealKit

@[expose] public section

set_option maxRecDepth 16384

noncomputable section

namespace Cert.PromptIdeal.Staged

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PromptIdeal.Gen

variable {F : FTy → Type} [FloatOps F] [Named F]

local notation "𝕄" => MT nD τ sig Unit (Elt F) ℕ (UR sig nD τ) ℕ

set_option maxHeartbeats 4000000 in
/-- What the body stores into each buffer, with the proof that it runs on whole buffers holding the inputs and leaves the
    inputs and the tables as they were. -/
def runB (c : Dev nD) (i : grid0.Coords) (B : Bufs) (X : Ins F) (e : Held (F := F) c Mq) (u : Held (F := F) c Mk)
    (hz : zc (wk (F := F) c i u)) (hl : ¬lc (wq (F := F) c i e) (wk (F := F) c i u)) (hd : dc (wq (F := F) c i e) (wk (F := F) c i u)) :
    Σ' (L5 : List (View.Piece (Elt F) S512x128 .bf16)), Σ' (L6 : List (View.Piece (Elt F) S1024x128 .bf16)), Σ' (L7 : List (View.Piece (Elt F) S1024x128 .f32)), Σ' (L8 : List (View.Piece (Elt F) S1024x128 .f32)), { L9 : List (View.Piece (Elt F) S1024x128 .f32) //
      ∀ (E : Set ℕ) (K : PUnit → sProp 𝕄),
        iprop(owns (c : Thread nD τ) B.a0 fullShare X.x0 ∗ owns (c : Thread nD τ) B.a1 fullShare X.x1 ∗ owns (c : Thread nD τ) B.a2 fullShare X.x2 ∗ owns (c : Thread nD τ) B.a3 fullShare X.x3 ∗ owns (c : Thread nD τ) B.a4 fullShare X.x4
            ∗ (∃ d, owns (c : Thread nD τ) B.a5 fullShare d) ∗ (∃ d, owns (c : Thread nD τ) B.a6 fullShare d) ∗ (∃ d, owns (c : Thread nD τ) B.a7 fullShare d) ∗ (∃ d, owns (c : Thread nD τ) B.a8 fullShare d) ∗ (∃ d, owns (c : Thread nD τ) B.a9 fullShare d) ∗ half c Mq e ∗ half c Mk u
            ∗ (iprop(owns (c : Thread nD τ) B.a0 fullShare X.x0 ∗ owns (c : Thread nD τ) B.a1 fullShare X.x1 ∗ owns (c : Thread nD τ) B.a2 fullShare X.x2 ∗ owns (c : Thread nD τ) B.a3 fullShare X.x3 ∗ owns (c : Thread nD τ) B.a4 fullShare X.x4
              ∗ (∃ f, B.a5.view.loc (c : Thread nD τ) ↦[B.a5.view.set]{fullShare} B.a5.view.writes (Elt F) f L5) ∗ (∃ f, B.a6.view.loc (c : Thread nD τ) ↦[B.a6.view.set]{fullShare} B.a6.view.writes (Elt F) f L6) ∗ (∃ f, B.a7.view.loc (c : Thread nD τ) ↦[B.a7.view.set]{fullShare} B.a7.view.writes (Elt F) f L7) ∗ (∃ f, B.a8.view.loc (c : Thread nD τ) ↦[B.a8.view.set]{fullShare} B.a8.view.writes (Elt F) f L8) ∗ (∃ f, B.a9.view.loc (c : Thread nD τ) ↦[B.a9.view.set]{fullShare} B.a9.view.writes (Elt F) f L9) ∗ half c Mq e ∗ half c Mk u) -∗ K ⟨⟩))
          ⊢ wp frame (wpE (defs₀ (F := F)) Variants.none c none) E (bodyOn i B) K } := by
  refine ⟨?_, ?_, ?_, ?_, ?_, fun E K => ?run⟩
  case run =>
    unfold bodyOn
    simp only [cc0_diff_prompt_eq_skeleton]; unfold cc0_diff_prompt_skel
    simp only [k0_part1_eq_skeleton, k0_part2_eq_skeleton, k0_part3_eq_skeleton, k0_part4_eq_skeleton]
    unfold owns
    iintro ⟨⟨%f0, %g0, H0⟩, ⟨%f1, %g1, H1⟩, ⟨%f2, %g2, H2⟩, ⟨%f3, %g3, H3⟩, ⟨%f4, %g4, H4⟩, ⟨%d5, %f5, -, H5⟩, ⟨%d6, %f6, -, H6⟩, ⟨%d7, %f7, -, H7⟩, ⟨%d8, %f8, -, H8⟩, ⟨%d9, %f9, -, H9⟩, HE, HU, Hk⟩
    obtain rfl := B.h0.eq_unread g0
    obtain rfl := B.h1.eq_unread g1
    obtain rfl := B.h2.eq_unread g2
    obtain rfl := B.h3.eq_unread g3
    obtain rfl := B.h4.eq_unread g4
    sl_exec (disch := first | sl_exact hz | sl_exact hl | sl_exact hd)
    sl_step
    iapply Hk
    isplitl [H0]
    · iexists _; isplitr
      · ipureintro; exact B.h0.read_unread _
      iexact H0
    isplitl [H1]
    · iexists _; isplitr
      · ipureintro; exact B.h1.read_unread _
      iexact H1
    isplitl [H2]
    · iexists _; isplitr
      · ipureintro; exact B.h2.read_unread _
      iexact H2
    isplitl [H3]
    · iexists _; isplitr
      · ipureintro; exact B.h3.read_unread _
      iexact H3
    isplitl [H4]
    · iexists _; isplitr
      · ipureintro; exact B.h4.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [HE]; · iexact HE
    iexact HU

end Cert.PromptIdeal.Staged

end
-- ==== Proof.Prompt.IdealRunC.lean ====
/- The prompt attention's body at a key block before the query block's own, which it adds. -/
module

public import proofs.«01_k».proof.Proof.Prompt.IdealKit

@[expose] public section

set_option maxRecDepth 16384

noncomputable section

namespace Cert.PromptIdeal.Staged

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PromptIdeal.Gen

variable {F : FTy → Type} [FloatOps F] [Named F]

local notation "𝕄" => MT nD τ sig Unit (Elt F) ℕ (UR sig nD τ) ℕ

set_option maxHeartbeats 4000000 in
/-- What the body stores into each buffer, with the proof that it runs on whole buffers holding the inputs and leaves the
    inputs and the tables as they were. -/
def runC (c : Dev nD) (i : grid0.Coords) (B : Bufs) (X : Ins F) (p : Scr F) (e : Held (F := F) c Mq) (u : Held (F := F) c Mk)
    (hz : ¬zc (wk (F := F) c i u)) (hl : lc (wq (F := F) c i e) (wk (F := F) c i u)) (hd : ¬dc (wq (F := F) c i e) (wk (F := F) c i u)) :
    Σ' (L7 : List (View.Piece (Elt F) S1024x128 .f32)), Σ' (L8 : List (View.Piece (Elt F) S1024x128 .f32)), { L9 : List (View.Piece (Elt F) S1024x128 .f32) //
      ∀ (E : Set ℕ) (K : PUnit → sProp 𝕄),
        iprop(owns (c : Thread nD τ) B.a0 fullShare X.x0 ∗ owns (c : Thread nD τ) B.a1 fullShare X.x1 ∗ owns (c : Thread nD τ) B.a2 fullShare X.x2 ∗ owns (c : Thread nD τ) B.a3 fullShare X.x3 ∗ owns (c : Thread nD τ) B.a4 fullShare X.x4 ∗ owns (c : Thread nD τ) B.a6 fullShare p.q2
            ∗ owns (c : Thread nD τ) B.a7 fullShare p.mx ∗ owns (c : Thread nD τ) B.a8 fullShare p.ls ∗ owns (c : Thread nD τ) B.a9 fullShare p.acc ∗ half c Mq e ∗ half c Mk u
            ∗ (iprop(owns (c : Thread nD τ) B.a0 fullShare X.x0 ∗ owns (c : Thread nD τ) B.a1 fullShare X.x1 ∗ owns (c : Thread nD τ) B.a2 fullShare X.x2 ∗ owns (c : Thread nD τ) B.a3 fullShare X.x3 ∗ owns (c : Thread nD τ) B.a4 fullShare X.x4 ∗ owns (c : Thread nD τ) B.a6 fullShare p.q2
              ∗ (∃ f, B.a7.view.loc (c : Thread nD τ) ↦[B.a7.view.set]{fullShare} B.a7.view.writes (Elt F) f L7) ∗ (∃ f, B.a8.view.loc (c : Thread nD τ) ↦[B.a8.view.set]{fullShare} B.a8.view.writes (Elt F) f L8) ∗ (∃ f, B.a9.view.loc (c : Thread nD τ) ↦[B.a9.view.set]{fullShare} B.a9.view.writes (Elt F) f L9) ∗ half c Mq e ∗ half c Mk u) -∗ K ⟨⟩))
          ⊢ wp frame (wpE (defs₀ (F := F)) Variants.none c none) E (bodyOn i B) K } := by
  refine ⟨?_, ?_, ?_, fun E K => ?run⟩
  case run =>
    unfold bodyOn
    simp only [cc0_diff_prompt_eq_skeleton]; unfold cc0_diff_prompt_skel
    simp only [k0_part1_eq_skeleton, k0_part2_eq_skeleton, k0_part3_eq_skeleton, k0_part4_eq_skeleton]
    unfold owns
    iintro ⟨⟨%f0, %g0, H0⟩, ⟨%f1, %g1, H1⟩, ⟨%f2, %g2, H2⟩, ⟨%f3, %g3, H3⟩, ⟨%f4, %g4, H4⟩, ⟨%f6, %g6, H6⟩, ⟨%f7, %g7, H7⟩, ⟨%f8, %g8, H8⟩, ⟨%f9, %g9, H9⟩, HE, HU, Hk⟩
    obtain rfl := B.h0.eq_unread g0
    obtain rfl := B.h1.eq_unread g1
    obtain rfl := B.h2.eq_unread g2
    obtain rfl := B.h3.eq_unread g3
    obtain rfl := B.h4.eq_unread g4
    obtain rfl := B.h6.eq_unread g6
    obtain rfl := B.h7.eq_unread g7
    obtain rfl := B.h8.eq_unread g8
    obtain rfl := B.h9.eq_unread g9
    sl_exec (disch := first | sl_exact hz | sl_exact hl | sl_exact hd)
    sl_step
    iapply Hk
    isplitl [H0]
    · iexists _; isplitr
      · ipureintro; exact B.h0.read_unread _
      iexact H0
    isplitl [H1]
    · iexists _; isplitr
      · ipureintro; exact B.h1.read_unread _
      iexact H1
    isplitl [H2]
    · iexists _; isplitr
      · ipureintro; exact B.h2.read_unread _
      iexact H2
    isplitl [H3]
    · iexists _; isplitr
      · ipureintro; exact B.h3.read_unread _
      iexact H3
    isplitl [H4]
    · iexists _; isplitr
      · ipureintro; exact B.h4.read_unread _
      iexact H4
    isplitl [H6]
    · iexists _; isplitr
      · ipureintro; exact B.h6.read_unread _
      iexact H6
    isplitl [H7]; · iexists _; iexact H7
    isplitl [H8]; · iexists _; iexact H8
    isplitl [H9]; · iexists _; iexact H9
    isplitl [HE]; · iexact HE
    iexact HU

end Cert.PromptIdeal.Staged

end
-- ==== Proof.Prompt.IdealRunD.lean ====
/- The prompt attention's body at the query block's own key block, which it adds masked, and finishes. -/
module

public import proofs.«01_k».proof.Proof.Prompt.IdealKit

@[expose] public section

set_option maxRecDepth 16384

noncomputable section

namespace Cert.PromptIdeal.Staged

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PromptIdeal.Gen

variable {F : FTy → Type} [FloatOps F] [Named F]

local notation "𝕄" => MT nD τ sig Unit (Elt F) ℕ (UR sig nD τ) ℕ

set_option maxHeartbeats 4000000 in
/-- What the body stores into each buffer, with the proof that it runs on whole buffers holding the inputs and leaves the
    inputs and the tables as they were. -/
def runD (c : Dev nD) (i : grid0.Coords) (B : Bufs) (X : Ins F) (p : Scr F) (e : Held (F := F) c Mq) (u : Held (F := F) c Mk)
    (hz : ¬zc (wk (F := F) c i u)) (hl : ¬lc (wq (F := F) c i e) (wk (F := F) c i u)) (hd : dc (wq (F := F) c i e) (wk (F := F) c i u)) :
    Σ' (L5 : List (View.Piece (Elt F) S512x128 .bf16)), Σ' (L7 : List (View.Piece (Elt F) S1024x128 .f32)), Σ' (L8 : List (View.Piece (Elt F) S1024x128 .f32)), { L9 : List (View.Piece (Elt F) S1024x128 .f32) //
      ∀ (E : Set ℕ) (K : PUnit → sProp 𝕄),
        iprop(owns (c : Thread nD τ) B.a0 fullShare X.x0 ∗ owns (c : Thread nD τ) B.a1 fullShare X.x1 ∗ owns (c : Thread nD τ) B.a2 fullShare X.x2 ∗ owns (c : Thread nD τ) B.a3 fullShare X.x3 ∗ owns (c : Thread nD τ) B.a4 fullShare X.x4 ∗ owns (c : Thread nD τ) B.a6 fullShare p.q2
            ∗ (∃ d, owns (c : Thread nD τ) B.a5 fullShare d) ∗ owns (c : Thread nD τ) B.a7 fullShare p.mx ∗ owns (c : Thread nD τ) B.a8 fullShare p.ls ∗ owns (c : Thread nD τ) B.a9 fullShare p.acc ∗ half c Mq e ∗ half c Mk u
            ∗ (iprop(owns (c : Thread nD τ) B.a0 fullShare X.x0 ∗ owns (c : Thread nD τ) B.a1 fullShare X.x1 ∗ owns (c : Thread nD τ) B.a2 fullShare X.x2 ∗ owns (c : Thread nD τ) B.a3 fullShare X.x3 ∗ owns (c : Thread nD τ) B.a4 fullShare X.x4 ∗ owns (c : Thread nD τ) B.a6 fullShare p.q2
              ∗ (∃ f, B.a5.view.loc (c : Thread nD τ) ↦[B.a5.view.set]{fullShare} B.a5.view.writes (Elt F) f L5) ∗ (∃ f, B.a7.view.loc (c : Thread nD τ) ↦[B.a7.view.set]{fullShare} B.a7.view.writes (Elt F) f L7) ∗ (∃ f, B.a8.view.loc (c : Thread nD τ) ↦[B.a8.view.set]{fullShare} B.a8.view.writes (Elt F) f L8) ∗ (∃ f, B.a9.view.loc (c : Thread nD τ) ↦[B.a9.view.set]{fullShare} B.a9.view.writes (Elt F) f L9) ∗ half c Mq e ∗ half c Mk u) -∗ K ⟨⟩))
          ⊢ wp frame (wpE (defs₀ (F := F)) Variants.none c none) E (bodyOn i B) K } := by
  refine ⟨?_, ?_, ?_, ?_, fun E K => ?run⟩
  case run =>
    unfold bodyOn
    simp only [cc0_diff_prompt_eq_skeleton]; unfold cc0_diff_prompt_skel
    simp only [k0_part1_eq_skeleton, k0_part2_eq_skeleton, k0_part3_eq_skeleton, k0_part4_eq_skeleton]
    unfold owns
    iintro ⟨⟨%f0, %g0, H0⟩, ⟨%f1, %g1, H1⟩, ⟨%f2, %g2, H2⟩, ⟨%f3, %g3, H3⟩, ⟨%f4, %g4, H4⟩, ⟨%f6, %g6, H6⟩, ⟨%d5, %f5, -, H5⟩, ⟨%f7, %g7, H7⟩, ⟨%f8, %g8, H8⟩, ⟨%f9, %g9, H9⟩, HE, HU, Hk⟩
    obtain rfl := B.h0.eq_unread g0
    obtain rfl := B.h1.eq_unread g1
    obtain rfl := B.h2.eq_unread g2
    obtain rfl := B.h3.eq_unread g3
    obtain rfl := B.h4.eq_unread g4
    obtain rfl := B.h6.eq_unread g6
    obtain rfl := B.h7.eq_unread g7
    obtain rfl := B.h8.eq_unread g8
    obtain rfl := B.h9.eq_unread g9
    sl_exec (disch := first | sl_exact hz | sl_exact hl | sl_exact hd)
    sl_step
    iapply Hk
    isplitl [H0]
    · iexists _; isplitr
      · ipureintro; exact B.h0.read_unread _
      iexact H0
    isplitl [H1]
    · iexists _; isplitr
      · ipureintro; exact B.h1.read_unread _
      iexact H1
    isplitl [H2]
    · iexists _; isplitr
      · ipureintro; exact B.h2.read_unread _
      iexact H2
    isplitl [H3]
    · iexists _; isplitr
      · ipureintro; exact B.h3.read_unread _
      iexact H3
    isplitl [H4]
    · iexists _; isplitr
      · ipureintro; exact B.h4.read_unread _
      iexact H4
    isplitl [H6]
    · iexists _; isplitr
      · ipureintro; exact B.h6.read_unread _
      iexact H6
    isplitl [H5]; · iexists _; iexact H5
    isplitl [H7]; · iexists _; iexact H7
    isplitl [H8]; · iexists _; iexact H8
    isplitl [H9]; · iexists _; iexact H9
    isplitl [HE]; · iexact HE
    iexact HU

end Cert.PromptIdeal.Staged

end
-- ==== Proof.Prompt.IdealFrame.lean ====
/- The prompt attention's frame: at each point what the output and the scratches hold, and the run to their contents. -/
module

public import proofs.«01_k».proof.Proof.Prompt.IdealRunA
public import proofs.«01_k».proof.Proof.Prompt.IdealRunB
public import proofs.«01_k».proof.Proof.Prompt.IdealRunC
public import proofs.«01_k».proof.Proof.Prompt.IdealRunD
public import Idealize.ShloMosaic.Lib.Claim

@[expose] public section

set_option maxRecDepth 16384

noncomputable section

namespace Cert.PromptIdeal.Staged

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PromptIdeal.Gen

variable {F : FTy → Type} [FloatOps F] [Named F]

local notation "𝕄" => MT nD τ sig Unit (Elt F) ℕ (UR sig nD τ) ℕ

section Pieces

variable (c : Dev nD) (i : grid0.Coords) (B : Bufs) (X : Ins F)

section A

variable (e : Held (F := F) c Mq) (u : Held (F := F) c Mk) (hz : zc (wk (F := F) c i u)) (hl : lc (wq (F := F) c i e) (wk (F := F) c i u)) (hd : ¬dc (wq (F := F) c i e) (wk (F := F) c i u))

theorem coverA_6 (y : S1024x128.Idx) : ∃ pc ∈ (runA c i B X e u hz hl hd).1, y ∈ pc.1.set :=
  View.cover_of_tiledL (runA c i B X e u hz hl hd).1 S512x128.size (by sl_kernel_rfl) y
theorem coverA_7 (y : S1024x128.Idx) : ∃ pc ∈ (runA c i B X e u hz hl hd).2.1, y ∈ pc.1.set :=
  View.cover_of_tiledL _ S1024x128.size (by sl_kernel_rfl) y
theorem coverA_8 (y : S1024x128.Idx) : ∃ pc ∈ (runA c i B X e u hz hl hd).2.2.1, y ∈ pc.1.set :=
  View.cover_of_tiledL _ S1024x128.size (by sl_kernel_rfl) y
theorem coverA_9 (y : S1024x128.Idx) : ∃ pc ∈ (runA c i B X e u hz hl hd).2.2.2.1, y ∈ pc.1.set :=
  View.cover_of_tiledL _ S1024x128.size (by sl_kernel_rfl) y

/-- What the body leaves in the output's buffer and the scratches at the first key block of several. -/
def outA : Outs F where
  o := VO5.read (Elt F) VO5.junk
  st := ⟨VO6.read (Elt F) (VO6.writes (Elt F) VO6.junk (runA c i B X e u hz hl hd).1), VO7.read (Elt F) (VO7.writes (Elt F) VO7.junk (runA c i B X e u hz hl hd).2.1), VO8.read (Elt F) (VO8.writes (Elt F) VO8.junk (runA c i B X e u hz hl hd).2.2.1), VO9.read (Elt F) (VO9.writes (Elt F) VO9.junk (runA c i B X e u hz hl hd).2.2.2.1)⟩

theorem keepA_6 (f) : B.a6.view.read (Elt F) (B.a6.view.writes (Elt F) f (runA c i B X e u hz hl hd).1) = (outA c i B X e u hz hl hd).st.q2 := by
  dsimp only [outA]; apply View.read_writes_of_cover; apply coverA_6
theorem keepA_7 (f) : B.a7.view.read (Elt F) (B.a7.view.writes (Elt F) f (runA c i B X e u hz hl hd).2.1) = (outA c i B X e u hz hl hd).st.mx := by
  dsimp only [outA]; apply View.read_writes_of_cover; apply coverA_7
theorem keepA_8 (f) : B.a8.view.read (Elt F) (B.a8.view.writes (Elt F) f (runA c i B X e u hz hl hd).2.2.1) = (outA c i B X e u hz hl hd).st.ls := by
  dsimp only [outA]; apply View.read_writes_of_cover; apply coverA_8
theorem keepA_9 (f) : B.a9.view.read (Elt F) (B.a9.view.writes (Elt F) f (runA c i B X e u hz hl hd).2.2.2.1) = (outA c i B X e u hz hl hd).st.acc := by
  dsimp only [outA]; apply View.read_writes_of_cover; apply coverA_9

end A

section B

variable (e : Held (F := F) c Mq) (u : Held (F := F) c Mk) (hz : zc (wk (F := F) c i u)) (hl : ¬lc (wq (F := F) c i e) (wk (F := F) c i u)) (hd : dc (wq (F := F) c i e) (wk (F := F) c i u))

theorem coverB_5 (y : S512x128.Idx) : ∃ pc ∈ (runB c i B X e u hz hl hd).1, y ∈ pc.1.set :=
  View.cover_of_tiledL _ S512x128.size (by sl_kernel_rfl) y
theorem coverB_6 (y : S1024x128.Idx) : ∃ pc ∈ (runB c i B X e u hz hl hd).2.1, y ∈ pc.1.set :=
  View.cover_of_tiledL (runB c i B X e u hz hl hd).2.1 S512x128.size (by sl_kernel_rfl) y
theorem coverB_7 (y : S1024x128.Idx) : ∃ pc ∈ (runB c i B X e u hz hl hd).2.2.1, y ∈ pc.1.set :=
  View.cover_of_tiledL _ S1024x128.size (by sl_kernel_rfl) y
theorem coverB_8 (y : S1024x128.Idx) : ∃ pc ∈ (runB c i B X e u hz hl hd).2.2.2.1, y ∈ pc.1.set :=
  View.cover_of_tiledL _ S1024x128.size (by sl_kernel_rfl) y
theorem coverB_9 (y : S1024x128.Idx) : ∃ pc ∈ (runB c i B X e u hz hl hd).2.2.2.2.1, y ∈ pc.1.set :=
  View.cover_of_tiledL _ S1024x128.size (by sl_kernel_rfl) y

/-- What the body leaves in the output's buffer and the scratches at the only key block. -/
def outB : Outs F where
  o := VO5.read (Elt F) (VO5.writes (Elt F) VO5.junk (runB c i B X e u hz hl hd).1)
  st := ⟨VO6.read (Elt F) (VO6.writes (Elt F) VO6.junk (runB c i B X e u hz hl hd).2.1), VO7.read (Elt F) (VO7.writes (Elt F) VO7.junk (runB c i B X e u hz hl hd).2.2.1), VO8.read (Elt F) (VO8.writes (Elt F) VO8.junk (runB c i B X e u hz hl hd).2.2.2.1), VO9.read (Elt F) (VO9.writes (Elt F) VO9.junk (runB c i B X e u hz hl hd).2.2.2.2.1)⟩

theorem keepB_5 (f) : B.a5.view.read (Elt F) (B.a5.view.writes (Elt F) f (runB c i B X e u hz hl hd).1) = (outB c i B X e u hz hl hd).o := by
  dsimp only [outB]; apply View.read_writes_of_cover; apply coverB_5
theorem keepB_6 (f) : B.a6.view.read (Elt F) (B.a6.view.writes (Elt F) f (runB c i B X e u hz hl hd).2.1) = (outB c i B X e u hz hl hd).st.q2 := by
  dsimp only [outB]; apply View.read_writes_of_cover; apply coverB_6
theorem keepB_7 (f) : B.a7.view.read (Elt F) (B.a7.view.writes (Elt F) f (runB c i B X e u hz hl hd).2.2.1) = (outB c i B X e u hz hl hd).st.mx := by
  dsimp only [outB]; apply View.read_writes_of_cover; apply coverB_7
theorem keepB_8 (f) : B.a8.view.read (Elt F) (B.a8.view.writes (Elt F) f (runB c i B X e u hz hl hd).2.2.2.1) = (outB c i B X e u hz hl hd).st.ls := by
  dsimp only [outB]; apply View.read_writes_of_cover; apply coverB_8
theorem keepB_9 (f) : B.a9.view.read (Elt F) (B.a9.view.writes (Elt F) f (runB c i B X e u hz hl hd).2.2.2.2.1) = (outB c i B X e u hz hl hd).st.acc := by
  dsimp only [outB]; apply View.read_writes_of_cover; apply coverB_9

end B

section C

variable (p : Scr F) (e : Held (F := F) c Mq) (u : Held (F := F) c Mk) (hz : ¬zc (wk (F := F) c i u)) (hl : lc (wq (F := F) c i e) (wk (F := F) c i u)) (hd : ¬dc (wq (F := F) c i e) (wk (F := F) c i u))

theorem coverC_7 (y : S1024x128.Idx) : ∃ pc ∈ (runC c i B X p e u hz hl hd).1, y ∈ pc.1.set :=
  View.cover_of_tiledL _ S1024x128.size (by sl_kernel_rfl) y
theorem coverC_8 (y : S1024x128.Idx) : ∃ pc ∈ (runC c i B X p e u hz hl hd).2.1, y ∈ pc.1.set :=
  View.cover_of_tiledL _ S1024x128.size (by sl_kernel_rfl) y
theorem coverC_9 (y : S1024x128.Idx) : ∃ pc ∈ (runC c i B X p e u hz hl hd).2.2.1, y ∈ pc.1.set :=
  View.cover_of_tiledL _ S1024x128.size (by sl_kernel_rfl) y

/-- What the body leaves in the output's buffer and the scratches at a key block before the query block's own. -/
def outC : Outs F where
  o := VO5.read (Elt F) VO5.junk
  st := ⟨p.q2, VO7.read (Elt F) (VO7.writes (Elt F) VO7.junk (runC c i B X p e u hz hl hd).1), VO8.read (Elt F) (VO8.writes (Elt F) VO8.junk (runC c i B X p e u hz hl hd).2.1), VO9.read (Elt F) (VO9.writes (Elt F) VO9.junk (runC c i B X p e u hz hl hd).2.2.1)⟩

theorem keepC_7 (f) : B.a7.view.read (Elt F) (B.a7.view.writes (Elt F) f (runC c i B X p e u hz hl hd).1) = (outC c i B X p e u hz hl hd).st.mx := by
  dsimp only [outC]; apply View.read_writes_of_cover; apply coverC_7
theorem keepC_8 (f) : B.a8.view.read (Elt F) (B.a8.view.writes (Elt F) f (runC c i B X p e u hz hl hd).2.1) = (outC c i B X p e u hz hl hd).st.ls := by
  dsimp only [outC]; apply View.read_writes_of_cover; apply coverC_8
theorem keepC_9 (f) : B.a9.view.read (Elt F) (B.a9.view.writes (Elt F) f (runC c i B X p e u hz hl hd).2.2.1) = (outC c i B X p e u hz hl hd).st.acc := by
  dsimp only [outC]; apply View.read_writes_of_cover; apply coverC_9

end C

section D

variable (p : Scr F) (e : Held (F := F) c Mq) (u : Held (F := F) c Mk) (hz : ¬zc (wk (F := F) c i u)) (hl : ¬lc (wq (F := F) c i e) (wk (F := F) c i u)) (hd : dc (wq (F := F) c i e) (wk (F := F) c i u))

theorem coverD_5 (y : S512x128.Idx) : ∃ pc ∈ (runD c i B X p e u hz hl hd).1, y ∈ pc.1.set :=
  View.cover_of_tiledL _ S512x128.size (by sl_kernel_rfl) y
theorem coverD_7 (y : S1024x128.Idx) : ∃ pc ∈ (runD c i B X p e u hz hl hd).2.1, y ∈ pc.1.set :=
  View.cover_of_tiledL _ S1024x128.size (by sl_kernel_rfl) y
theorem coverD_8 (y : S1024x128.Idx) : ∃ pc ∈ (runD c i B X p e u hz hl hd).2.2.1, y ∈ pc.1.set :=
  View.cover_of_tiledL _ S1024x128.size (by sl_kernel_rfl) y
theorem coverD_9 (y : S1024x128.Idx) : ∃ pc ∈ (runD c i B X p e u hz hl hd).2.2.2.1, y ∈ pc.1.set :=
  View.cover_of_tiledL _ S1024x128.size (by sl_kernel_rfl) y

/-- What the body leaves in the output's buffer and the scratches at the query block's own key block. -/
def outD : Outs F where
  o := VO5.read (Elt F) (VO5.writes (Elt F) VO5.junk (runD c i B X p e u hz hl hd).1)
  st := ⟨p.q2, VO7.read (Elt F) (VO7.writes (Elt F) VO7.junk (runD c i B X p e u hz hl hd).2.1), VO8.read (Elt F) (VO8.writes (Elt F) VO8.junk (runD c i B X p e u hz hl hd).2.2.1), VO9.read (Elt F) (VO9.writes (Elt F) VO9.junk (runD c i B X p e u hz hl hd).2.2.2.1)⟩

theorem keepD_5 (f) : B.a5.view.read (Elt F) (B.a5.view.writes (Elt F) f (runD c i B X p e u hz hl hd).1) = (outD c i B X p e u hz hl hd).o := by
  dsimp only [outD]; apply View.read_writes_of_cover; apply coverD_5
theorem keepD_7 (f) : B.a7.view.read (Elt F) (B.a7.view.writes (Elt F) f (runD c i B X p e u hz hl hd).2.1) = (outD c i B X p e u hz hl hd).st.mx := by
  dsimp only [outD]; apply View.read_writes_of_cover; apply coverD_7
theorem keepD_8 (f) : B.a8.view.read (Elt F) (B.a8.view.writes (Elt F) f (runD c i B X p e u hz hl hd).2.2.1) = (outD c i B X p e u hz hl hd).st.ls := by
  dsimp only [outD]; apply View.read_writes_of_cover; apply coverD_8
theorem keepD_9 (f) : B.a9.view.read (Elt F) (B.a9.view.writes (Elt F) f (runD c i B X p e u hz hl hd).2.2.2.1) = (outD c i B X p e u hz hl hd).st.acc := by
  dsimp only [outD]; apply View.read_writes_of_cover; apply coverD_9

end D

end Pieces

variable (m : (ℓ : Loc nD τ sig) → Buf (Elt F) ℓ) (ρ : Dev nD → PrngReg)

/-- What a point leaves, from what the scratches held before it. -/
def stepAt (c : Dev nD) (t : Fin (cfgM (F := F)).N) (p : Scr F) : Outs F :=
  if hz : zc (kAt (F := F) c t) then
    if hd : dc (qAt (F := F) c t) (kAt (F := F) c t) then
      outB c (grid0.coords t) (bufs t) (insAt m c t) (tbl (F := F) 0) (tbl (F := F) 1) hz (fun h => (lc_iff c t).mp h hd) hd
    else outA c (grid0.coords t) (bufs t) (insAt m c t) (tbl (F := F) 0) (tbl (F := F) 1) hz ((lc_iff c t).mpr hd) hd
  else
    if hd : dc (qAt (F := F) c t) (kAt (F := F) c t) then
      outD c (grid0.coords t) (bufs t) (insAt m c t) p (tbl (F := F) 0) (tbl (F := F) 1) hz (fun h => (lc_iff c t).mp h hd) hd
    else outC c (grid0.coords t) (bufs t) (insAt m c t) p (tbl (F := F) 0) (tbl (F := F) 1) hz ((lc_iff c t).mpr hd) hd

/-- Scratches holding anything. -/
def junkScr : Scr F := ⟨VO6.read (Elt F) VO6.junk, VO7.read (Elt F) VO7.junk, VO8.read (Elt F) VO8.junk, VO9.read (Elt F) VO9.junk⟩

/-- What the output's buffer and the scratches hold after point `n`. -/
def outsAt (c : Dev nD) : (n : ℕ) → n < (cfgM (F := F)).N → Outs F
  | 0, hn => stepAt m c ⟨0, hn⟩ junkScr
  | n + 1, hn => stepAt m c ⟨n + 1, hn⟩ (outsAt c n (Nat.lt_of_succ_lt hn)).st

/-- A point that begins forgets what the scratches held. -/
theorem outsAt_zc (c : Dev nD) (t : Fin (cfgM (F := F)).N) (hz : zc (kAt (F := F) c t)) (p : Scr F) :
    outsAt m c t.val t.isLt = stepAt m c t p := by
  have e : ∀ p p' : Scr F, stepAt m c t p = stepAt m c t p' := fun p p' => by
    unfold stepAt; simp only [dif_pos hz]
  obtain ⟨n, hn⟩ := t
  cases n with
  | zero => exact e _ _
  | succ n => exact e _ _

theorem outsAt_pos (c : Dev nD) (t : Fin (cfgM (F := F)).N) (h : ¬t.val = 0) :
    outsAt m c t.val t.isLt = stepAt m c t (outsAt m c (t.val - 1) (by omega)).st := by
  obtain ⟨n, hn⟩ := t
  cases n with
  | zero => exact absurd rfl h
  | succ n => rfl

/-- The scratches at given contents, and the generator register at some state. -/
def heldAt (c : Dev nD) (u : Scr F) : sProp 𝕄 :=
  iprop((owns (c : Thread nD τ) (Memref.whole cc0_scratch0 : Memref sig .tc .vmem S1024x128 .bf16) fullShare u.q2 ∗ owns (c : Thread nD τ) (Memref.whole cc0_scratch1 : Memref sig .tc .vmem S1024x128 .f32) fullShare u.mx ∗ owns (c : Thread nD τ) (Memref.whole cc0_scratch2 : Memref sig .tc .vmem S1024x128 .f32) fullShare u.ls ∗ owns (c : Thread nD τ) (Memref.whole cc0_scratch3 : Memref sig .tc .vmem S1024x128 .f32) fullShare u.acc) ∗ (∃ r, prngReg c r))

/-- What is kept between points: the scratches at anything before the first, then at what the point before left. -/
def kept (c : Dev nD) : (n : ℕ) → n ≤ (cfgM (F := F)).N → sProp 𝕄
  | 0, _ => Pipeline.ΦA spec0 c
  | n + 1, hn => heldAt c (outsAt m c n hn).st

theorem kept_zero (c : Dev nD) (n : ℕ) (h : n ≤ (cfgM (F := F)).N) (hz : n = 0) : kept m c n h = Pipeline.ΦA spec0 c := by
  subst hz; rfl

theorem kept_pos (c : Dev nD) (n : ℕ) (h : n ≤ (cfgM (F := F)).N) (hz : n ≠ 0) : kept m c n h = heldAt c (outsAt m c (n - 1) (by omega)).st := by
  cases n with
  | zero => exact absurd rfl hz
  | succ n => rfl

/-- What is kept is at least the scratches at some contents. -/
theorem kept_any (c : Dev nD) (n : ℕ) (h : n ≤ (cfgM (F := F)).N) : kept m c n h ⊢ Pipeline.ΦA spec0 c := by
  by_cases hz : n = 0
  · rw [kept_zero m c n h hz]; try exact Idealize.SL.BI.Entails.refl _
  · rw [kept_pos m c n h hz, keep_eq]
    unfold heldAt
    iintro ⟨⟨H0, H1, H2, H3⟩, Hg⟩
    isplitl [H0 H1 H2 H3]
    · isplitl [H0]; · iexists _; iexact H0
      isplitl [H1]; · iexists _; iexact H1
      isplitl [H2]; · iexists _; iexact H2
      iexists _; iexact H3
    iexact Hg

theorem kept_scr (c : Dev nD) (n : ℕ) (h : n ≤ (cfgM (F := F)).N) : kept m c n h
    ⊢ iprop(((∃ d, owns (c : Thread nD τ) (Memref.whole cc0_scratch0 : Memref sig .tc .vmem S1024x128 .bf16) fullShare d) ∗ (∃ d, owns (c : Thread nD τ) (Memref.whole cc0_scratch1 : Memref sig .tc .vmem S1024x128 .f32) fullShare d) ∗ (∃ d, owns (c : Thread nD τ) (Memref.whole cc0_scratch2 : Memref sig .tc .vmem S1024x128 .f32) fullShare d) ∗ (∃ d, owns (c : Thread nD τ) (Memref.whole cc0_scratch3 : Memref sig .tc .vmem S1024x128 .f32) fullShare d)) ∗ (∃ r, prngReg c r)) := by
  rw [← keep_eq]; exact kept_any m c n h

/-! ## The pipeline's data -/

def dats (_ : Fin 1) (c : Dev nD) : Dat τ (Elt F) Unit ℕ (UR sig nD τ) ℕ (cfgM (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).o
    | ⟨_ + 6, h⟩ => absurd h (Nat.not_lt.2 (Nat.le_add_left _ _))
  Φ t := iprop(kept m c t.val (Nat.le_of_lt_succ t.isLt) ∗ Pipeline.ΦT pre0 (tbl (F := F)) c)
  q _ := fullShare
  owed _ := 0

theorem A_eq (c : Dev nD) (w : Fin (cfgM (F := F)).W) : (dats m 0 c).A w = V m c (Pipeline.arrRef spec0 w) := by
  dsimp only [dats]

theorem kept_congr (c : Dev nD) {n n' : ℕ} (h : n ≤ (cfgM (F := F)).N) (h' : n' ≤ (cfgM (F := F)).N) (e : n = n') : kept m c n h = kept m c n' h' := by
  subst e; rfl

theorem Φ_eq (c : Dev nD) (i) : (dats m 0 c).Φ i = iprop(kept m c i.val (Nat.le_of_lt_succ i.isLt) ∗ Pipeline.ΦT pre0 (tbl (F := F)) c) := by
  dsimp only [dats]

theorem kept_castSucc (c : Dev nD) (t : Fin (cfgM (F := F)).N) : (dats m 0 c).Φ t.castSucc = iprop(kept m c t.val (Nat.le_of_lt t.isLt) ∗ Pipeline.ΦT pre0 (tbl (F := F)) c) := by
  rw [Φ_eq]; exact congrArg (fun z => iprop(z ∗ Pipeline.ΦT pre0 (tbl (F := F)) c)) (kept_congr m c _ _ (by first | exact Fin.val_castSucc t | exact Fin.coe_castSucc t))

theorem kept_out (c : Dev nD) (i) : (dats m 0 c).Φ i ⊢ Pipeline.ΦA spec0 c := by
  rw [Φ_eq]
  iintro ⟨HK, HT⟩
  iapply (kept_any m c i.val (Nat.le_of_lt_succ i.isLt))
  iexact HK

section Windows
variable (c : Dev nD) (t : Fin (cfgM (F := F)).N)

theorem after_0 : (dats m 0 c).after 0 t = iblk m c 0 t := by dsimp only [dats]; try rfl
theorem after_1 : (dats m 0 c).after 1 t = iblk m c 1 t := by dsimp only [dats]; try rfl
theorem after_2 : (dats m 0 c).after 2 t = iblk m c 2 t := by dsimp only [dats]; try rfl
theorem after_3 : (dats m 0 c).after 3 t = iblk m c 3 t := by dsimp only [dats]; try rfl
theorem after_4 : (dats m 0 c).after 4 t = iblk m c 4 t := by dsimp only [dats]; try rfl
theorem after_5 : (dats m 0 c).after 5 t = (outsAt m c t.val t.isLt).o := by dsimp only [dats]; try rfl
theorem before_0 (z) : (dats m 0 c).before 0 t z = iblk m c 0 t :=
  holds_0 m (dats m 0 c) (A_eq m c 0) (after_0 m c) t z
theorem before_1 (z) : (dats m 0 c).before 1 t z = iblk m c 1 t :=
  holds_1 m (dats m 0 c) (A_eq m c 1) (after_1 m c) t z
theorem before_2 (z) : (dats m 0 c).before 2 t z = iblk m c 2 t :=
  holds_2 m (dats m 0 c) (A_eq m c 2) (after_2 m c) t z
theorem before_3 (z) : (dats m 0 c).before 3 t z = iblk m c 3 t :=
  holds_3 m (dats m 0 c) (A_eq m c 3) (after_3 m c) t z
theorem before_4 (z) : (dats m 0 c).before 4 t z = iblk m c 4 t :=
  holds_4 m (dats m 0 c) (A_eq m c 4) (after_4 m c) t z

end Windows

/-! ## The body's obligation -/

def bodyPre (c : Dev nD) (t : Fin (cfgM (F := F)).N) : sProp 𝕄 :=
  iprop((dats m 0 c).Φ t.castSucc ∗ (dats m 0 c).owesAt () t.castSucc
    ∗ (∃ d, owns (c : Thread nD τ) (bufs (F := F) t).a0 fullShare ((dats m 0 c).before 0 t d))
    ∗ (∃ d, owns (c : Thread nD τ) (bufs (F := F) t).a1 fullShare ((dats m 0 c).before 1 t d))
    ∗ (∃ d, owns (c : Thread nD τ) (bufs (F := F) t).a2 fullShare ((dats m 0 c).before 2 t d))
    ∗ (∃ d, owns (c : Thread nD τ) (bufs (F := F) t).a3 fullShare ((dats m 0 c).before 3 t d))
    ∗ (∃ d, owns (c : Thread nD τ) (bufs (F := F) t).a4 fullShare ((dats m 0 c).before 4 t d))
    ∗ (∃ d, owns (c : Thread nD τ) (bufs (F := F) t).a5 fullShare ((dats m 0 c).before 5 t d)))

def bodyPost (c : Dev nD) (t : Fin (cfgM (F := F)).N) : sProp 𝕄 :=
  iprop((dats m 0 c).Φ t.succ ∗ (dats m 0 c).owesAt () t.succ
    ∗ owns (c : Thread nD τ) (bufs (F := F) t).a0 fullShare ((dats m 0 c).after 0 t)
    ∗ owns (c : Thread nD τ) (bufs (F := F) t).a1 fullShare ((dats m 0 c).after 1 t)
    ∗ owns (c : Thread nD τ) (bufs (F := F) t).a2 fullShare ((dats m 0 c).after 2 t)
    ∗ owns (c : Thread nD τ) (bufs (F := F) t).a3 fullShare ((dats m 0 c).after 3 t)
    ∗ owns (c : Thread nD τ) (bufs (F := F) t).a4 fullShare ((dats m 0 c).after 4 t)
    ∗ (dats m 0 c).leavesExact 5 t)

/-- At a query block's own key block the output is stored, -/
theorem leaves_pos (c : Dev nD) (t : Fin (cfgM (F := F)).N) (hd : dc (qAt (F := F) c t) (kAt (F := F) c t)) :
    (dats m 0 c).leavesExact 5 t = owns (c : Thread nD τ) (bufs (F := F) t).a5 fullShare (outsAt m c t.val t.isLt).o := by
  unfold Dat.leavesExact
  rw [idle_5 c t, decide_eq_true hd]
  rw [← after_5]; rfl

/-- elsewhere its buffer is handed back as it was found. -/
theorem leaves_neg (c : Dev nD) (t : Fin (cfgM (F := F)).N) (hd : ¬dc (qAt (F := F) c t) (kAt (F := F) c t)) :
    (dats m 0 c).leavesExact 5 t = iprop(∃ d, owns (c : Thread nD τ) (bufs (F := F) t).a5 fullShare ((dats m 0 c).before 5 t d)) :=
  (dats m 0 c).leavesExact_idle 5 t (by rw [idle_5 c t, decide_eq_false hd]; rfl) (by rw [flush_5 c t, decide_eq_false hd])

set_option maxHeartbeats 16000000 in
theorem sound_body (c : Dev nD) (t : Fin (cfgM (F := F)).N) :
    bodyPre m c t ⊢ wp frame (wpE (defs₀ (F := F)) Variants.none c none) Set.univ (bodyOn (grid0.coords t) (bufs (F := F) t)) (fun _ => bodyPost m c t) := by
  unfold bodyPre bodyPost
  simp only [before_0, before_1, before_2, before_3, before_4]
  rw [show (dats m 0 c).owesAt () t.succ = (dats m 0 c).owesAt () t.castSucc from rfl,
    after_0, after_1, after_2, after_3, after_4]
  rw [show (dats m 0 c).Φ t.succ = iprop(heldAt c (outsAt m c t.val t.isLt).st ∗ Pipeline.ΦT pre0 (tbl (F := F)) c) from Φ_eq m c t.succ, kept_castSucc, halves_eq]
  by_cases hz : zc (kAt (F := F) c t) <;> by_cases hd : dc (qAt (F := F) c t) (kAt (F := F) c t)
  · rw [leaves_pos m c t hd]
    have es : outsAt m c t.val t.isLt = outB c (grid0.coords t) (bufs t) (insAt m c t) (tbl (F := F) 0) (tbl (F := F) 1) hz (fun h => (lc_iff c t).mp h hd) hd := by
      rw [outsAt_zc m c t hz junkScr]; unfold stepAt; rw [dif_pos hz, dif_pos hd]
    rw [es]
    unfold heldAt
    iintro ⟨⟨HK, ⟨HE, HU⟩⟩, Ho, ⟨%d0, H0⟩, ⟨%d1, H1⟩, ⟨%d2, H2⟩, ⟨%d3, H3⟩, ⟨%d4, H4⟩, ⟨%d5, H5⟩⟩
    ihave HK := (kept_scr m c t.val (Nat.le_of_lt t.isLt)) $$ HK
    icases HK with ⟨⟨H6, H7, H8, H9⟩, Hg⟩
    iapply ((runB c (grid0.coords t) (bufs t) (insAt m c t) (tbl (F := F) 0) (tbl (F := F) 1) hz (fun h => (lc_iff c t).mp h hd) hd).2.2.2.2.2 Set.univ _)
    iframe H0 H1 H2 H3 H4
    isplitl [H5]; · iexists _; iexact H5
    iframe H6 H7 H8 H9 HE HU
    iintro ⟨H0, H1, H2, H3, H4, ⟨%e5, H5⟩, ⟨%e6, H6⟩, ⟨%e7, H7⟩, ⟨%e8, H8⟩, ⟨%e9, H9⟩, HE, HU⟩
    isplitl [H6 H7 H8 H9 Hg HE HU]
    · isplitl [H6 H7 H8 H9 Hg]
      · isplitl [H6 H7 H8 H9]
        · isplitl [H6]
          · unfold owns; iexists _; isplitr
            swap; · iexact H6
            ipureintro; exact keepB_6 ..
          isplitl [H7]
          · unfold owns; iexists _; isplitr
            swap; · iexact H7
            ipureintro; exact keepB_7 ..
          isplitl [H8]
          · unfold owns; iexists _; isplitr
            swap; · iexact H8
            ipureintro; exact keepB_8 ..
          unfold owns; iexists _; isplitr
          swap; · iexact H9
          ipureintro; exact keepB_9 ..
        iexact Hg
      isplitl [HE]; · iexact HE
      iexact HU
    iframe Ho H0 H1 H2 H3 H4
    unfold owns; iexists _; isplitr
    swap; · iexact H5
    ipureintro; exact keepB_5 ..
  · rw [leaves_neg m c t hd]
    have es : outsAt m c t.val t.isLt = outA c (grid0.coords t) (bufs t) (insAt m c t) (tbl (F := F) 0) (tbl (F := F) 1) hz ((lc_iff c t).mpr hd) hd := by
      rw [outsAt_zc m c t hz junkScr]; unfold stepAt; rw [dif_pos hz, dif_neg hd]
    rw [es]
    unfold heldAt
    iintro ⟨⟨HK, ⟨HE, HU⟩⟩, Ho, ⟨%d0, H0⟩, ⟨%d1, H1⟩, ⟨%d2, H2⟩, ⟨%d3, H3⟩, ⟨%d4, H4⟩, H5⟩
    ihave HK := (kept_scr m c t.val (Nat.le_of_lt t.isLt)) $$ HK
    icases HK with ⟨⟨H6, H7, H8, H9⟩, Hg⟩
    iapply ((runA c (grid0.coords t) (bufs t) (insAt m c t) (tbl (F := F) 0) (tbl (F := F) 1) hz ((lc_iff c t).mpr hd) hd).2.2.2.2 Set.univ _)
    iframe H0 H1 H2 H3 H4 H6 H7 H8 H9 HE HU
    iintro ⟨H0, H1, H2, H3, H4, ⟨%e6, H6⟩, ⟨%e7, H7⟩, ⟨%e8, H8⟩, ⟨%e9, H9⟩, HE, HU⟩
    isplitl [H6 H7 H8 H9 Hg HE HU]
    · isplitl [H6 H7 H8 H9 Hg]
      · isplitl [H6 H7 H8 H9]
        · isplitl [H6]
          · unfold owns; iexists _; isplitr
            swap; · iexact H6
            ipureintro; exact keepA_6 ..
          isplitl [H7]
          · unfold owns; iexists _; isplitr
            swap; · iexact H7
            ipureintro; exact keepA_7 ..
          isplitl [H8]
          · unfold owns; iexists _; isplitr
            swap; · iexact H8
            ipureintro; exact keepA_8 ..
          unfold owns; iexists _; isplitr
          swap; · iexact H9
          ipureintro; exact keepA_9 ..
        iexact Hg
      isplitl [HE]; · iexact HE
      iexact HU
    iframe Ho H0 H1 H2 H3 H4
    iexact H5
  · rw [leaves_pos m c t hd]
    have h0 : ¬t.val = 0 := fun h => hz (by obtain ⟨n, hn⟩ := t; subst h; exact zc_zero c hn)
    have es : outsAt m c t.val t.isLt = outD c (grid0.coords t) (bufs t) (insAt m c t) (outsAt m c (t.val - 1) (by omega)).st (tbl (F := F) 0) (tbl (F := F) 1) hz (fun h => (lc_iff c t).mp h hd) hd := by
      rw [outsAt_pos m c t h0]; unfold stepAt; rw [dif_neg hz, dif_pos hd]
    rw [es, kept_pos m c _ _ h0]
    unfold heldAt
    iintro ⟨⟨⟨⟨H6, H7, H8, H9⟩, Hg⟩, ⟨HE, HU⟩⟩, Ho, ⟨%d0, H0⟩, ⟨%d1, H1⟩, ⟨%d2, H2⟩, ⟨%d3, H3⟩, ⟨%d4, H4⟩, ⟨%d5, H5⟩⟩
    iapply ((runD c (grid0.coords t) (bufs t) (insAt m c t) (outsAt m c (t.val - 1) (by omega)).st (tbl (F := F) 0) (tbl (F := F) 1) hz (fun h => (lc_iff c t).mp h hd) hd).2.2.2.2 Set.univ _)
    iframe H0 H1 H2 H3 H4 H6
    isplitl [H5]; · iexists _; iexact H5
    iframe H7 H8 H9 HE HU
    iintro ⟨H0, H1, H2, H3, H4, H6, ⟨%e5, H5⟩, ⟨%e7, H7⟩, ⟨%e8, H8⟩, ⟨%e9, H9⟩, HE, HU⟩
    isplitl [H6 H7 H8 H9 Hg HE HU]
    · isplitl [H6 H7 H8 H9 Hg]
      · isplitl [H6 H7 H8 H9]
        · isplitl [H6]
          · iexact H6
          isplitl [H7]
          · unfold owns; iexists _; isplitr
            swap; · iexact H7
            ipureintro; exact keepD_7 ..
          isplitl [H8]
          · unfold owns; iexists _; isplitr
            swap; · iexact H8
            ipureintro; exact keepD_8 ..
          unfold owns; iexists _; isplitr
          swap; · iexact H9
          ipureintro; exact keepD_9 ..
        iexact Hg
      isplitl [HE]; · iexact HE
      iexact HU
    iframe Ho H0 H1 H2 H3 H4
    unfold owns; iexists _; isplitr
    swap; · iexact H5
    ipureintro; exact keepD_5 ..
  · rw [leaves_neg m c t hd]
    have h0 : ¬t.val = 0 := fun h => hz (by obtain ⟨n, hn⟩ := t; subst h; exact zc_zero c hn)
    have es : outsAt m c t.val t.isLt = outC c (grid0.coords t) (bufs t) (insAt m c t) (outsAt m c (t.val - 1) (by omega)).st (tbl (F := F) 0) (tbl (F := F) 1) hz ((lc_iff c t).mpr hd) hd := by
      rw [outsAt_pos m c t h0]; unfold stepAt; rw [dif_neg hz, dif_neg hd]
    rw [es, kept_pos m c _ _ h0]
    unfold heldAt
    iintro ⟨⟨⟨⟨H6, H7, H8, H9⟩, Hg⟩, ⟨HE, HU⟩⟩, Ho, ⟨%d0, H0⟩, ⟨%d1, H1⟩, ⟨%d2, H2⟩, ⟨%d3, H3⟩, ⟨%d4, H4⟩, H5⟩
    iapply ((runC c (grid0.coords t) (bufs t) (insAt m c t) (outsAt m c (t.val - 1) (by omega)).st (tbl (F := F) 0) (tbl (F := F) 1) hz ((lc_iff c t).mpr hd) hd).2.2.2 Set.univ _)
    iframe H0 H1 H2 H3 H4 H6 H7 H8 H9 HE HU
    iintro ⟨H0, H1, H2, H3, H4, H6, ⟨%e7, H7⟩, ⟨%e8, H8⟩, ⟨%e9, H9⟩, HE, HU⟩
    isplitl [H6 H7 H8 H9 Hg HE HU]
    · isplitl [H6 H7 H8 H9 Hg]
      · isplitl [H6 H7 H8 H9]
        · isplitl [H6]
          · iexact H6
          isplitl [H7]
          · unfold owns; iexists _; isplitr
            swap; · iexact H7
            ipureintro; exact keepC_7 ..
          isplitl [H8]
          · unfold owns; iexists _; isplitr
            swap; · iexact H8
            ipureintro; exact keepC_8 ..
          unfold owns; iexists _; isplitr
          swap; · iexact H9
          ipureintro; exact keepC_9 ..
        iexact Hg
      isplitl [HE]; · iexact HE
      iexact HU
    iframe Ho H0 H1 H2 H3 H4
    iexact H5

theorem row_eq (t : Fin (cfgM (F := F)).N) : defs₀ (F := F) .tc (cfgM (F := F)).body ((cfgM (F := F)).bodyArgs t ((cfgM (F := F)).slots t)) = bodyOn (grid0.coords t) (bufs (F := F) t) := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-! ## The run -/

set_option backward.isDefEq.respectTransparency.types false in
theorem run_quiescent : θ_run defs (onTc (τ := τ) (main (F := F))) (s₀ m ρ)
    (fun r => (Pipeline.FramePost (Pipeline.pin pcfgs fun _ => adm (F := F)) (dats m) 0 (V m)) r ∧ r.2.sem = fun _ => 0) :=
  Pipeline.θ_run_frameP_track (Q' := _) pcfgs (fun _ => adm (F := F)) (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hpf := V_pre m)
    (hin := fun c => .rfl) (hout := fun c => kept_out m c _)

/-- The frame: the arguments end as they began and every counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨((h.1 c).1 0).trans ((((dats m 0 c).arrAt_in 0 rfl _).trans (A_eq m c 0)).trans (V_arg0 m c)),
      ((h.1 c).1 1).trans ((((dats m 0 c).arrAt_in 1 rfl _).trans (A_eq m c 1)).trans (V_arg1 m c)),
      ((h.1 c).1 2).trans ((((dats m 0 c).arrAt_in 2 rfl _).trans (A_eq m c 2)).trans (V_arg2 m c)),
      ((h.1 c).1 3).trans ((((dats m 0 c).arrAt_in 3 rfl _).trans (A_eq m c 3)).trans (V_arg3 m c)),
      ((h.1 c).1 4).trans ((((dats m 0 c).arrAt_in 4 rfl _).trans (A_eq m c 4)).trans (V_arg4 m c))⟩, h.2⟩)
    (run_quiescent m ρ)

end Cert.PromptIdeal.Staged

end
-- ==== Proof.Prompt.Block.lean ====
/-
  What each of the four cases of a grid point leaves in the scratches and the output block.
-/
module

public import proofs.«01_k».proof.Proof.Prompt.IdealFrame
public import Idealize.ShloMosaic.Lib.Pipeline.ValueKit

@[expose] public section

set_option maxRecDepth 16384

noncomputable section

namespace Cert.Proof.Prompt

open Cert.PromptIdeal Cert.PromptIdeal.Gen Cert.PromptIdeal.Staged
open Idealize.ShloMosaic Idealize.ShloMosaic.TcCoe

/-- The two components' queries, one over the other. -/
def two (q : FVec Ideal S512x128 .bf16) : FVec Ideal S1024x128 .bf16 :=
  View.canon (Val := Elt Ideal) (s := S1024x128) (e := .bf16) [⟨Rect.unit (s := S1024x128) ![512, 0] ![512, 128] inb_S1024x128_S512x128_512_0, k0_pay2 (F := Ideal) q⟩,
    ⟨Rect.unit (s := S1024x128) ![0, 0] ![512, 128] inb_S1024x128_S512x128_0_0, k0_pay1 (F := Ideal) q⟩]

/-- The scratches before a block of queries' first key block. -/
def start (q : FVec Ideal S512x128 .bf16) : Scr Ideal := ⟨two q, k0_pay3 (F := Ideal), k0_pay4 (F := Ideal), k0_pay5 (F := Ideal)⟩

/-- A step over a key block that every query sees whole. -/
def full (p : Scr Ideal) (k v : FVec Ideal S512x128 .bf16) : Scr Ideal :=
  ⟨p.q2, k0_pay13 p.q2 k p.mx, k0_pay11 p.q2 k p.mx p.ls, k0_pay12 p.q2 k p.mx p.acc v⟩

/-- A step over the key block on the diagonal. -/
def last (p : Scr Ideal) (k v : FVec Ideal S512x128 .bf16) : Scr Ideal :=
  ⟨p.q2, k0_pay25 (k0_pay19 (k0_pay14 p.q2 k) k0_pay15 (iota .tc S512x512 32 [1] iota_S512x512_d1_w32) 64#32 k0_pay16 k0_pay17 1#32 p.mx),
    k0_pay22 (k0_pay14 p.q2 k) k0_pay15 (iota .tc S512x512 32 [1] iota_S512x512_d1_w32) 64#32 k0_pay16 k0_pay17 1#32 p.mx p.ls,
    k0_pay24 (k0_pay23 (k0_pay14 p.q2 k) k0_pay15 (iota .tc S512x512 32 [1] iota_S512x512_d1_w32) 64#32 k0_pay16 k0_pay17 1#32 p.mx p.acc v)⟩

variable (c : Dev nD) (i : grid0.Coords) (B : Bufs) (X : Ins Ideal) (p : Scr Ideal)
  (e : Held (F := Ideal) c Mq) (u : Held (F := Ideal) c Mk)

theorem scr_ext {s t : Scr Ideal} (h0 : s.q2 = t.q2) (h1 : s.mx = t.mx) (h2 : s.ls = t.ls) (h3 : s.acc = t.acc) : s = t := by
  cases s; cases t; cases h0; cases h1; cases h2; cases h3; rfl

/-- A read of the whole of the two pieces. -/
theorem two_eq (q : FVec Ideal S512x128 .bf16) (a : Memref sig .tc .vmem S1024x128 .bf16) :
    a.view.readCov (Val := Elt Ideal) [⟨Rect.unit (s := S1024x128) ![512, 0] ![512, 128] inb_S1024x128_S512x128_512_0, k0_pay2 (F := Ideal) q⟩,
        ⟨Rect.unit (s := S1024x128) ![0, 0] ![512, 128] inb_S1024x128_S512x128_0_0, k0_pay1 (F := Ideal) q⟩]
      (Rect.unit (s := S1024x128) ![0, 0] ![1024, 128] inb_S1024x128_S1024x128_0_0).toLoadRect = two q := by
  unfold two
  rw [View.readCov_eq_canon' (Val := Elt Ideal)]
  funext y
  refine congrArg (View.canon (Val := Elt Ideal) _) (funext fun a => Fin.ext ?_)
  rcases a with ⟨_ | _ | _, ha⟩
  · show 0 + 1 * (y 0).val = (y 0).val; omega
  · show 0 + 1 * (y 1).val = (y 1).val; omega
  · exact absurd ha (Nat.not_lt.mpr (Nat.le_add_left _ _))

theorem outA_eq (hz : zc (wk (F := Ideal) c i u)) (hl) (hd) : (outA c i B X e u hz hl hd).st = full (start X.x0) X.x1 X.x2 := by
  refine scr_ext ?_ ?_ ?_ ?_
  · dsimp only [outA, runA, full, start]; frame_out
  · dsimp only [outA, runA, full, start]; frame_out; rw [two_eq]; rfl
  · dsimp only [outA, runA, full, start]; frame_out; rw [two_eq]; rfl
  · dsimp only [outA, runA, full, start]; frame_out; rw [two_eq]; rfl

theorem outB_eq (hz : zc (wk (F := Ideal) c i u)) (hl) (hd) : (outB c i B X e u hz hl hd).st = last (start X.x0) X.x1 X.x2 := by
  refine scr_ext ?_ ?_ ?_ ?_
  · dsimp only [outB, runB, last, start]; frame_out
  · dsimp only [outB, runB, last, start]; frame_out; rw [two_eq]; rfl
  · dsimp only [outB, runB, last, start]; frame_out; rw [two_eq]; rfl
  · dsimp only [outB, runB, last, start]; frame_out; rw [two_eq]; rfl

theorem outB_o (hz : zc (wk (F := Ideal) c i u)) (hl) (hd) : (outB c i B X e u hz hl hd).o
    = k0_pay6 (k0_pay26 X.x3 (last (start X.x0) X.x1 X.x2).acc (last (start X.x0) X.x1 X.x2).ls X.x4) := by
  dsimp only [outB, runB, last, start]; frame_out; rw [two_eq]; rfl

theorem outC_eq (hz : ¬ zc (wk (F := Ideal) c i u)) (hl) (hd) : (outC c i B X p e u hz hl hd).st = full p X.x1 X.x2 := by
  refine scr_ext ?_ ?_ ?_ ?_
  · rfl
  · dsimp only [outC, runC, full]; frame_out
  · dsimp only [outC, runC, full]; frame_out
  · dsimp only [outC, runC, full]; frame_out

theorem outD_eq (hz : ¬ zc (wk (F := Ideal) c i u)) (hl) (hd) : (outD c i B X p e u hz hl hd).st = last p X.x1 X.x2 := by
  refine scr_ext ?_ ?_ ?_ ?_
  · rfl
  · dsimp only [outD, runD, last]; frame_out
  · dsimp only [outD, runD, last]; frame_out
  · dsimp only [outD, runD, last]; frame_out

theorem outD_o (hz : ¬ zc (wk (F := Ideal) c i u)) (hl) (hd) : (outD c i B X p e u hz hl hd).o
    = k0_pay6 (k0_pay26 X.x3 (last p X.x1 X.x2).acc (last p X.x1 X.x2).ls X.x4) := by
  dsimp only [outD, runD, last]; frame_out

end Cert.Proof.Prompt

end
-- ==== Proof.Prompt.Math.lean ====
/-
  A softmax taken one block of keys at a time, over the extended reals, with finite scores where a key is visible.
-/
module

public import proofs.«01_k».proof.Proof.Attention.Math

@[expose] public section

noncomputable section

namespace Cert.Proof.Prompt

open Idealize.ShloMosaic Finset
open Cert.Proof.Attention (coe_sum div_real exp_sub neg_inf)

variable (P : ℕ → Prop) [DecidablePred P] (a v : ℕ → ℝ)

/-- A score: a real where the key is visible, minus infinity elsewhere. -/
def sc (k : ℕ) : EReal := if P k then (a k : EReal) else ⊥

/-- The real exponential of a score over `M`: nought where the key is not visible. -/
def ex (M : ℝ) (k : ℕ) : ℝ := if P k then Real.exp (a k - M) else 0

/-- The exponential of a score over a real is that. -/
theorem exp_sc (M : ℝ) (k : ℕ) : Ideal.exp (sc P a k - (M : EReal)) = (ex P a M k : EReal) := by
  unfold sc ex
  split
  · exact exp_sub _ _
  · rw [EReal.bot_sub, Ideal.exp_bot, EReal.coe_zero]

/-- Changing the number subtracted scales the exponential. -/
theorem ex_shift (M N : ℝ) (k : ℕ) : Real.exp (M - N) * ex P a M k = ex P a N k := by
  unfold ex
  split
  · rw [← Real.exp_add]; congr 1; ring
  · exact mul_zero _

/-- The sum of the exponentials of the first `n` keys. -/
def tot (M : ℝ) (n : ℕ) : ℝ := ∑ k ∈ range n, ex P a M k

/-- The sum of the values of the first `n` keys under their exponentials. -/
def wsum (M : ℝ) (n : ℕ) : ℝ := ∑ k ∈ range n, ex P a M k * v k

/-- What is carried between blocks, as it enters the next: scaled to any real, it is the sum over the keys so far. -/
def Ready (n : ℕ) (m l : EReal) : Prop :=
  m ≠ ⊤ ∧ ∀ M : ℝ, Ideal.exp (m - (M : EReal)) * l = (tot P a M n : EReal)

/-- The same of the values' sum. -/
def ReadyV (n : ℕ) (m acc : EReal) : Prop :=
  ∀ M : ℝ, Ideal.exp (m - (M : EReal)) * acc = (wsum P a v M n : EReal)

/-- Before the first block the maximum is minus infinity and the sum nought. -/
theorem ready_zero : Ready P a 0 ⊥ 0 :=
  ⟨bot_ne_top, fun M => by rw [mul_zero, tot, range_zero, sum_empty, EReal.coe_zero]⟩

/-- And so are the values. -/
theorem readyV_zero : ReadyV P a v 0 ⊥ 0 := fun M => by rw [mul_zero, wsum, range_zero, sum_empty, EReal.coe_zero]

/-- A sum taken over a real maximum can be scaled to any other. -/
theorem ready_real (n : ℕ) (M : ℝ) : Ready P a n (M : EReal) (tot P a M n : EReal) :=
  ⟨EReal.coe_ne_top _, fun N => by
    rw [exp_sub, ← EReal.coe_mul, tot, tot, mul_sum]
    exact congrArg _ (sum_congr rfl fun k _ => ex_shift P a M N k)⟩

/-- And so can the values. -/
theorem readyV_real (n : ℕ) (M : ℝ) : ReadyV P a v n (M : EReal) (wsum P a v M n : EReal) := fun N => by
  rw [exp_sub, ← EReal.coe_mul, wsum, wsum, mul_sum]
  exact congrArg _ (sum_congr rfl fun k _ => by rw [← mul_assoc, ex_shift])

/-- The greatest of finitely many scores, one of them visible, and of a number below plus infinity, is a real. -/
theorem max_real {N : ℕ} (n : ℕ) (m : EReal) (hm : m ≠ ⊤) (j : Fin N) (hj : P (n + j)) :
    ∃ M : ℝ, max m (fold max (Ideal.ofBits FTy.f32 4286578688#32) (fun k : Fin N => sc P a (n + k)) univ) = M := by
  rw [neg_inf]
  have h1 : max m (fold max ⊥ (fun k : Fin N => sc P a (n + k)) univ) ≠ ⊤ := by
    refine (max_lt (lt_top_iff_ne_top.mpr hm) ((Finset.fold_max_lt (c := (⊤ : EReal))).mpr ⟨bot_lt_top, fun x _ => ?_⟩)).ne
    show sc P a (n + x) < ⊤
    unfold sc
    split
    · exact EReal.coe_lt_top _
    · exact bot_lt_top
  have h2 : max m (fold max ⊥ (fun k : Fin N => sc P a (n + k)) univ) ≠ ⊥ := by
    have : (a (n + j) : EReal) ≤ max m (fold max ⊥ (fun k : Fin N => sc P a (n + k)) univ) := by
      refine le_trans ?_ (le_max_right _ _)
      exact (Finset.le_fold_max (c := (a (n + j) : EReal))).mpr (Or.inr ⟨j, mem_univ _, by rw [sc, if_pos hj]⟩)
    exact (lt_of_lt_of_le (EReal.bot_lt_coe _) this).ne'
  exact ⟨_, (EReal.coe_toReal h1 h2).symm⟩

/-- One block's step of the sum. -/
theorem step_sum {N : ℕ} (n : ℕ) (m l : EReal) (h : Ready P a n m l) (M : ℝ) :
    Ideal.exp (m - (M : EReal)) * l + ∑ k : Fin N, Ideal.exp (sc P a (n + k) - (M : EReal)) = (tot P a M (n + N) : EReal) := by
  rw [h.2 M, tot, tot, sum_range_add, EReal.coe_add, sum_range (fun x => ex P a M (n + x)), coe_sum univ]
  exact congrArg _ (sum_congr rfl fun k _ => exp_sc P a M _)

/-- One block's step of the values' sum. -/
theorem step_val {N : ℕ} (n : ℕ) (m acc : EReal) (h : ReadyV P a v n m acc) (M : ℝ) :
    Ideal.exp (m - (M : EReal)) * acc + ∑ k : Fin N, Ideal.exp (sc P a (n + k) - (M : EReal)) * (v (n + k) : EReal)
      = (wsum P a v M (n + N) : EReal) := by
  rw [h M, wsum, wsum, sum_range_add, EReal.coe_add, sum_range (fun x => ex P a M (n + x) * v (n + x)), coe_sum univ]
  exact congrArg _ (sum_congr rfl fun k _ => by rw [exp_sc P a M _, EReal.coe_mul])

/-- The sum is positive as soon as one key is visible. -/
theorem tot_pos (M : ℝ) (n : ℕ) (hn : 0 < n) (h0 : P 0) : 0 < tot P a M n := by
  refine sum_pos' (fun k _ => ?_) ⟨0, mem_range.mpr hn, ?_⟩
  · unfold ex; split
    · exact (Real.exp_pos _).le
    · exact le_refl _
  · unfold ex; rw [if_pos h0]; exact Real.exp_pos _

/-- Keys that are not visible add nothing. -/
theorem tot_more (M : ℝ) (n N : ℕ) (hn : n ≤ N) (h : ∀ k, n ≤ k → ¬ P k) : tot P a M N = tot P a M n := by
  refine (sum_subset (range_subset_range.mpr hn) fun k _ hk => ?_).symm
  rw [ex, if_neg (h k (by simpa using hk))]

/-- Nor do their values. -/
theorem wsum_more (M : ℝ) (n N : ℕ) (hn : n ≤ N) (h : ∀ k, n ≤ k → ¬ P k) : wsum P a v M N = wsum P a v M n := by
  refine (sum_subset (range_subset_range.mpr hn) fun k _ hk => ?_).symm
  rw [ex, if_neg (h k (by simpa using hk)), zero_mul]

/-- The mean does not depend on the number subtracted. -/
theorem mean_eq (M N : ℝ) (n : ℕ) : wsum P a v M n / tot P a M n = wsum P a v N n / tot P a N n := by
  have e1 : wsum P a v N n = Real.exp (M - N) * wsum P a v M n := by
    rw [wsum, wsum, mul_sum]; exact sum_congr rfl fun k _ => by rw [← mul_assoc, ex_shift]
  have e2 : tot P a N n = Real.exp (M - N) * tot P a M n := by
    rw [tot, tot, mul_sum]; exact sum_congr rfl fun k _ => (ex_shift P a M N k).symm
  rw [e1, e2, mul_div_mul_left _ _ (Real.exp_pos _).ne']

/-- The greatest of all scores, as a softmax takes it. -/
def top {N : ℕ} (s : Fin N → EReal) : EReal :=
  max (Ideal.ofBits FTy.f32 4286578688#32) (fold max (Ideal.ofBits FTy.f32 4286578688#32) s univ)

/-- The softmax weight of a key. -/
def weight {N : ℕ} (s : Fin N → EReal) (k : Fin N) : EReal :=
  Ideal.div (Ideal.exp (s k - top s)) (∑ x : Fin N, Ideal.exp (s x - top s))

/-- The values under the difference of two softmaxes. -/
def differ {N : ℕ} (s0 s1 : Fin N → EReal) (lam : EReal) (w : Fin N → EReal) : EReal :=
  ∑ k, w k * (weight s0 k - lam * weight s1 k)

/-- On such scores a weight is a real. -/
theorem weight_real {N : ℕ} (hN : 0 < N) (h0 : P 0) : ∃ M : ℝ, ∀ k : Fin N,
    weight (fun k : Fin N => sc P a k) k = ((ex P a M k / tot P a M N : ℝ) : EReal) := by
  obtain ⟨M, hM⟩ := max_real P a (N := N) 0 (Ideal.ofBits FTy.f32 4286578688#32) (by rw [neg_inf]; exact bot_ne_top) ⟨0, hN⟩ h0
  simp only [zero_add] at hM
  refine ⟨M, fun k => ?_⟩
  have e : (∑ x : Fin N, Ideal.exp (sc P a x - (M : EReal))) = (tot P a M N : EReal) := by
    rw [tot, sum_range, coe_sum]; exact sum_congr rfl fun k _ => exp_sc P a M k
  rw [weight, top, hM, e, exp_sc, div_real _ _ (tot_pos P a M N hN h0).ne']

/-- The mean of each block-wise softmax, and their difference: what the two whole softmaxes give. -/
theorem blocks_eq {N : ℕ} (a0 a1 : ℕ → ℝ) (lam : ℝ) (M0 M1 : ℝ) (n : ℕ) (hn : 0 < n) (hnN : n ≤ N) (h0 : P 0) (h : ∀ k, n ≤ k → ¬ P k) :
    Ideal.div (wsum P a0 v M0 n : EReal) (tot P a0 M0 n : EReal)
        - (lam : EReal) * Ideal.div (wsum P a1 v M1 n : EReal) (tot P a1 M1 n : EReal)
      = differ (fun k : Fin N => sc P a0 k) (fun k : Fin N => sc P a1 k) (lam : EReal) (fun k : Fin N => (v k : EReal)) := by
  have hN : 0 < N := lt_of_lt_of_le hn hnN
  obtain ⟨K0, w0⟩ := weight_real P a0 hN h0
  obtain ⟨K1, w1⟩ := weight_real P a1 hN h0
  rw [differ, div_real _ _ (tot_pos P a0 M0 n hn h0).ne', div_real _ _ (tot_pos P a1 M1 n hn h0).ne', mean_eq P a0 v M0 K0 n,
    mean_eq P a1 v M1 K1 n, ← wsum_more P a0 v K0 n N hnN h, ← wsum_more P a1 v K1 n N hnN h, ← tot_more P a0 K0 n N hnN h,
    ← tot_more P a1 K1 n N hnN h]
  simp only [w0, w1, ← EReal.coe_mul, ← EReal.coe_sub]
  rw [← coe_sum]
  refine congrArg _ ?_
  rw [wsum, wsum, sum_range, sum_range, sum_div, sum_div, mul_sum, ← sum_sub_distrib]
  exact sum_congr rfl fun k _ => by ring

end Cert.Proof.Prompt

end
-- ==== Proof.Prompt.Spec.lean ====
/-
  The attention over the prompt at a batch entry, a head, a query and a feature, over the extended reals.
-/
module

public import proofs.«01_k».proof.Proof.Prompt.Math
public import proofs.«01_k».proof.Proof.Attention.Spec

@[expose] public section

noncomputable section

namespace Cert.Proof.Prompt

open Idealize.ShloMosaic
open Cert.Proof.Attention (Fin' fin_lam norm coe_sum)

/-- An array of tokens (4 batch entries of 4096 tokens) by features (4 heads of 128). -/
abbrev Rows : Type := FVec Ideal ⟨2, ![16384, 512]⟩ .bf16

/-- A token's row of an array of rows: query or key `r` of batch entry `b`, at head `h`, component `c`, feature `x`. -/
def row (q : Rows) (b : Fin 4) (h : Fin 4) (c : Fin 2) (r : Fin 4096) (x : Fin 64) : EReal :=
  q (ix2 (⟨b.val * 4096 + r.val, by omega⟩ : Fin 16384) (⟨h.val * 128 + c.val * 64 + x.val, by omega⟩ : Fin 512))

/-- The score of query `r` against key `k`. -/
def score (q k : Rows) (b : Fin 4) (h : Fin 4) (c : Fin 2) (r s : Fin 4096) : EReal :=
  ∑ x : Fin 64, row q b h c r x * row k b h c s x

/-- A key is visible when its chunk of 64 positions is no later than the query's. -/
def Vis (r k : ℕ) : Prop := k / 64 ≤ r / 64

instance (r : ℕ) : DecidablePred (Vis r) := fun k => inferInstanceAs (Decidable (k / 64 ≤ r / 64))

/-- The masked score of query `r` against key `k`. -/
def hidden (q k : Rows) (b : Fin 4) (h : Fin 4) (c : Fin 2) (r s : Fin 4096) : EReal :=
  if Vis r.val s.val then score q k b h c r s else ⊥

/-- The values of a head at a feature. -/
def val (v : Rows) (b : Fin 4) (h : Fin 4) (d : Fin 128) (k : Fin 4096) : EReal :=
  v (ix2 (⟨b.val * 4096 + k.val, by omega⟩ : Fin 16384) (⟨h.val * 128 + d.val, by omega⟩ : Fin 512))

/-- What the reference computes of a head before the norm: the values under the difference of two softmaxes. -/
def refOut (q k v : Rows) (l : FVec Ideal ⟨2, ![4, 64]⟩ .f32) (b : Fin 4) (h : Fin 4) (r : Fin 4096) (d : Fin 128) : EReal :=
  differ (hidden q k b h 0 r) (hidden q k b h 1 r) (Attention.lam l) (val v b h d)

/-- The reference at a token and a feature. -/
def out (q k v : Rows) (l : FVec Ideal ⟨2, ![4, 64]⟩ .f32) (g : FVec Ideal ⟨2, ![1, 128]⟩ .f32) (R : Fin 16384) (C : Fin 512) : EReal :=
  norm g (refOut q k v l ⟨R.val / 4096, by omega⟩ ⟨C.val / 128, by omega⟩ ⟨R.val % 4096, by omega⟩) ⟨C.val % 128, by omega⟩

/-- A score read at a natural number. -/
def scoreN (q k : Rows) (b : Fin 4) (h : Fin 4) (c : Fin 2) (r : Fin 4096) (s : ℕ) : ℝ :=
  if hs : s < 4096 then (score q k b h c r ⟨s, hs⟩).toReal else 0

/-- A value read at a natural number. -/
def valN (v : Rows) (b : Fin 4) (h : Fin 4) (d : Fin 128) (s : ℕ) : ℝ :=
  if hs : s < 4096 then (val v b h d ⟨s, hs⟩).toReal else 0

/-- A real read back as an extended real. -/
theorem Fin'.back {x : EReal} (h : Fin' x) : (x.toReal : EReal) = x := by
  obtain ⟨r, rfl⟩ := h
  rfl

/-- On finite arguments a score is the real. -/
theorem scoreN_eq (q k : Rows) (hq : ∀ i, Fin' (q i)) (hk : ∀ i, Fin' (k i)) (b h : Fin 4) (c : Fin 2) (r s : Fin 4096) :
    (scoreN q k b h c r s.val : EReal) = score q k b h c r s := by
  rw [scoreN, dif_pos s.isLt]
  exact Fin'.back (Attention.Fin'.sum _ fun x => (hq _).mul (hk _))

/-- On finite arguments a value is the real. -/
theorem valN_eq (v : Rows) (hv : ∀ i, Fin' (v i)) (b h : Fin 4) (d : Fin 128) (s : Fin 4096) :
    (valN v b h d s.val : EReal) = val v b h d s := by
  rw [valN, dif_pos s.isLt]
  exact Fin'.back (hv _)

/-- On finite arguments a masked score is the real where visible. -/
theorem hidden_eq (q k : Rows) (hq : ∀ i, Fin' (q i)) (hk : ∀ i, Fin' (k i)) (b h : Fin 4) (c : Fin 2) (r s : Fin 4096) :
    hidden q k b h c r s = sc (Vis r.val) (scoreN q k b h c r) s.val := by
  rw [hidden, sc, scoreN_eq q k hq hk]

/-- The means of the two components over the first `n` keys, differenced, are the reference's, when no later key is visible. -/
theorem out_eq (q k v : Rows) (l : FVec Ideal ⟨2, ![4, 64]⟩ .f32) (hq : ∀ i, Fin' (q i)) (hk : ∀ i, Fin' (k i)) (hv : ∀ i, Fin' (v i))
    (hl : ∀ i, Fin' (l i)) (b h : Fin 4) (r : Fin 4096) (d : Fin 128) (M0 M1 : ℝ) (n : ℕ) (hn : 0 < n) (hN : n ≤ 4096)
    (hr : ∀ s, n ≤ s → ¬ Vis r.val s) :
    Ideal.div (wsum (Vis r.val) (scoreN q k b h 0 r) (valN v b h d) M0 n : EReal) (tot (Vis r.val) (scoreN q k b h 0 r) M0 n : EReal)
        - Attention.lam l * Ideal.div (wsum (Vis r.val) (scoreN q k b h 1 r) (valN v b h d) M1 n : EReal)
          (tot (Vis r.val) (scoreN q k b h 1 r) M1 n : EReal)
      = refOut q k v l b h r d := by
  obtain ⟨y, hy⟩ := fin_lam l hl
  rw [refOut, hy, blocks_eq (Vis r.val) (valN v b h d) (scoreN q k b h 0 r) (scoreN q k b h 1 r) y M0 M1 n hn hN
    (by unfold Vis; omega) hr]
  rw [show hidden q k b h 0 r = fun s : Fin 4096 => sc (Vis r.val) (scoreN q k b h 0 r) s from funext fun s => hidden_eq q k hq hk b h 0 r s,
    show hidden q k b h 1 r = fun s : Fin 4096 => sc (Vis r.val) (scoreN q k b h 1 r) s from funext fun s => hidden_eq q k hq hk b h 1 r s,
    show val v b h d = fun s : Fin 4096 => (valN v b h d s : EReal) from funext fun s => (valN_eq v hv b h d s).symm]

end Cert.Proof.Prompt

end
-- ==== Proof.Prompt.Pay.lean ====
/-
  One block of keys' step over the extended reals: the scores, the running maximum, sum and values, and the finished block.
-/
module

public import proofs.«01_k».proof.Proof.Prompt.Spec
public import proofs.«01_k».proof.Proof.Gen.PromptIdeal.Skeleton
public import Idealize.ShloMosaic.Lib.Pointwise
public import Idealize.ShloMosaic.Lib.Pipeline.ValueKit

@[expose] public section

set_option maxRecDepth 16384

noncomputable section

namespace Cert.Proof.Prompt

open Cert.PromptIdeal Cert.PromptIdeal.Gen
open Idealize.ShloMosaic Idealize.ShloMosaic.TcCoe
open Cert.Proof.Attention (norm neg_inf)

/-- The mask's name is minus infinity. -/
theorem mask_bot : Named.named (F := Ideal) (φ := .f32) κ "mask" 0xF149F2CA#32 = (⊥ : EReal) :=
  IdealRules.named_const.ideal_named_scalar _ _ _ _ rfl

/-- A row of 128 lanes written beside itself four times. -/
def tile (f : Fin 128 → EReal) (x : Fin 512) : EReal :=
  if h : x.val < 128 then f ⟨x.val, h⟩ else if h : x.val - 128 < 128 then f ⟨x.val - 128, h⟩
    else if h : x.val - 128 - 128 < 128 then f ⟨x.val - 128 - 128, h⟩ else f ⟨x.val - 128 - 128 - 128, by omega⟩

/-- A row of one number stays that. -/
theorem tile_const (f : Fin 128 → EReal) (M : EReal) (h : ∀ e, f e = M) (x : Fin 512) : tile f x = M := by
  unfold tile
  split_ifs <;> exact h _

/-- The running maximum after a block of scores. -/
def newMax (s : FVec Ideal S1024x512 .f32) (m : FVec Ideal S1024x128 .f32) (R : Fin 1024) (e : Fin 128) : EReal :=
  max (m (ix2 R e)) (Finset.fold max (Ideal.ofBits FTy.f32 4286578688#32) (fun j : Fin 512 => s (ix2 R j)) Finset.univ)

/-- The running sum after a block of scores. -/
def newSum (s : FVec Ideal S1024x512 .f32) (m l : FVec Ideal S1024x128 .f32) (R : Fin 1024) (e : Fin 128) : EReal :=
  Ideal.exp (m (ix2 R e) - newMax s m R e) * l (ix2 R e)
    + ∑ j : Fin 512, Ideal.exp (s (ix2 R j) - tile (newMax s m R) j)

/-- The running values after a block of scores. -/
def newVal (s : FVec Ideal S1024x512 .f32) (m a : FVec Ideal S1024x128 .f32) (v : FVec Ideal S512x128 .bf16) (R : Fin 1024) (e : Fin 128) :
    EReal :=
  Ideal.exp (m (ix2 R e) - newMax s m R e) * a (ix2 R e)
    + ∑ j : Fin 512, Ideal.exp (s (ix2 R j) - tile (newMax s m R) j) * v (ix2 j e)

/-- The number of a lane of a key block, as the kernel's text names it. -/
abbrev lane : IVec S512x512 32 := iota .tc S512x512 32 [1] iota_S512x512_d1_w32

/-- The scores of the block on the diagonal, minus infinity where a key is of a later chunk. -/
abbrev diag (s : FVec Ideal S1024x512 .f32) : FVec Ideal S1024x512 .f32 := k0_pay18 s k0_pay15 lane 64#32 k0_pay16 k0_pay17 1#32

theorem pay3_apply (R : Fin 1024) (e : Fin 128) : k0_pay3 (F := Ideal) (ix2 R e) = ⊥ := by
  pointwise [k0_pay3]
  exact mask_bot

theorem pay4_apply (R : Fin 1024) (e : Fin 128) : k0_pay4 (F := Ideal) (ix2 R e) = 0 := by
  pointwise [k0_pay4]

theorem pay5_apply (R : Fin 1024) (e : Fin 128) : k0_pay5 (F := Ideal) (ix2 R e) = 0 := by
  pointwise [k0_pay5]

theorem pay7_apply (q : FVec Ideal S1024x128 .bf16) (k : FVec Ideal S512x128 .bf16) (R : Fin 1024) (j : Fin 512) :
    k0_pay7 (F := Ideal) q k (ix2 R j) = ∑ x : Fin 128, q (ix2 R x) * k (ix2 j x) := by
  pointwise [k0_pay7]

theorem pay14_eq (q : FVec Ideal S1024x128 .bf16) (k : FVec Ideal S512x128 .bf16) : k0_pay14 (F := Ideal) q k = k0_pay7 q k := rfl

theorem pay13_apply (q : FVec Ideal S1024x128 .bf16) (k : FVec Ideal S512x128 .bf16) (m : FVec Ideal S1024x128 .f32) (R : Fin 1024)
    (e : Fin 128) : k0_pay13 (F := Ideal) q k m (ix2 R e) = newMax (k0_pay7 q k) m R e := by
  unfold newMax
  generalize hs : k0_pay7 (F := Ideal) q k = s
  pointwise [k0_pay13, k0_pay8]
  simp only [hs]

/-- The running maximum, written beside itself four times, at a lane of the block. -/
theorem pay11_apply (q : FVec Ideal S1024x128 .bf16) (k : FVec Ideal S512x128 .bf16) (m l : FVec Ideal S1024x128 .f32) (R : Fin 1024)
    (e : Fin 128) : k0_pay11 (F := Ideal) q k m l (ix2 R e) = newSum (k0_pay7 q k) m l R e := by
  unfold newSum tile newMax
  generalize hs : k0_pay7 (F := Ideal) q k = s
  pointwise [k0_pay11, k0_pay10, k0_pay9, k0_pay8]
  simp only [hs]

theorem pay12_apply (q : FVec Ideal S1024x128 .bf16) (k : FVec Ideal S512x128 .bf16) (m a : FVec Ideal S1024x128 .f32)
    (v : FVec Ideal S512x128 .bf16) (R : Fin 1024) (e : Fin 128) :
    k0_pay12 (F := Ideal) q k m a v (ix2 R e) = newVal (k0_pay7 q k) m a v R e := by
  unfold newVal tile newMax
  generalize hs : k0_pay7 (F := Ideal) q k = s
  pointwise [k0_pay12, k0_pay10, k0_pay9, k0_pay8]
  simp only [hs]

theorem pay19_apply (s : FVec Ideal S1024x512 .f32) (m : FVec Ideal S1024x128 .f32) (R : Fin 1024)
    (e : Fin 128) : k0_pay25 (k0_pay19 s k0_pay15 lane 64#32 k0_pay16 k0_pay17 1#32 m) (ix2 R e) = newMax (diag s) m R e := by
  unfold newMax diag k0_pay25 k0_pay19
  generalize k0_pay18 (F := Ideal) s k0_pay15 lane 64#32 k0_pay16 k0_pay17 1#32 = z
  pointwise []

theorem pay22_apply (s : FVec Ideal S1024x512 .f32) (m l : FVec Ideal S1024x128 .f32) (R : Fin 1024)
    (e : Fin 128) : k0_pay22 s k0_pay15 lane 64#32 k0_pay16 k0_pay17 1#32 m l (ix2 R e) = newSum (diag s) m l R e := by
  unfold newSum tile newMax diag k0_pay22 k0_pay20 k0_pay21 k0_pay19
  generalize k0_pay18 (F := Ideal) s k0_pay15 lane 64#32 k0_pay16 k0_pay17 1#32 = z
  pointwise []

theorem pay23_apply (s : FVec Ideal S1024x512 .f32) (m a : FVec Ideal S1024x128 .f32) (v : FVec Ideal S512x128 .bf16) (R : Fin 1024)
    (e : Fin 128) : k0_pay24 (k0_pay23 s k0_pay15 lane 64#32 k0_pay16 k0_pay17 1#32 m a v) (ix2 R e) = newVal (diag s) m a v R e := by
  unfold newVal tile newMax diag k0_pay24 k0_pay23 k0_pay20 k0_pay21 k0_pay19
  generalize k0_pay18 (F := Ideal) s k0_pay15 lane 64#32 k0_pay16 k0_pay17 1#32 = z
  pointwise []

/-- The chunk of a position of a block, as the kernel computes it. -/
theorem row_chunk (n : ℕ) (h : n < 512) : Scalar.select
      (IntOp.andi
        (IntOp.cmpi CmpIPredicate.ne
          (IntOp.subi (BitVec.setWidth 32 (IntOp.cmpi CmpIPredicate.sgt (BitVec.ofNat 32 n) 0#32))
            (BitVec.setWidth 32 (IntOp.cmpi CmpIPredicate.slt (BitVec.ofNat 32 n) 0#32)))
          1#32)
        (IntOp.cmpi CmpIPredicate.ne (IntOp.remsi ArithUnit.vector (BitVec.ofNat 32 n) 64#32) 0#32))
      (IntOp.subi (IntOp.divsi ArithUnit.vector (BitVec.ofNat 32 n) 64#32) 1#32)
      (IntOp.divsi ArithUnit.vector (BitVec.ofNat 32 n) 64#32) = BitVec.ofNat 32 (n / 64) := by
  revert n
  decide +kernel

/-- Comparing two chunks. -/
theorem chunk_le (x y : Fin 8) : IntOp.cmpi CmpIPredicate.sle (BitVec.ofNat 32 x.val) (BitVec.ofNat 32 y.val)
    = if x.val ≤ y.val then 1#1 else 0#1 := by
  revert x y
  decide +kernel

/-- The constant of the kernel's floor division. -/
theorem floor_one : Scalar.subi (Scalar.extui (Scalar.cmpi CmpIPredicate.sgt 64#32 0#32))
    (Scalar.extui (Scalar.cmpi CmpIPredicate.slt 64#32 0#32)) = 1#32 := by decide +kernel

theorem diag_apply (s : FVec Ideal S1024x512 .f32) (R : Fin 1024) (j : Fin 512) :
    diag s (ix2 R j) = if j.val / 64 ≤ R.val % 512 / 64 then s (ix2 R j) else ⊥ := by
  unfold diag k0_pay18
  pointwise [k0_pay15, k0_pay16, k0_pay17]
  rw [floor_one, row_chunk j.val j.isLt, mask_bot]
  by_cases h : R.val < 512
  · rw [dif_pos h, row_chunk R.val h, Nat.mod_eq_of_lt h, show IntOp.cmpi CmpIPredicate.sle (BitVec.ofNat 32 (j.val / 64))
      (BitVec.ofNat 32 (R.val / 64)) = _ from chunk_le ⟨j.val / 64, by omega⟩ ⟨R.val / 64, by omega⟩]
    dsimp only
    split <;> rfl
  · rw [dif_neg h, row_chunk (R.val - 512) (by omega), show R.val % 512 = R.val - 512 by omega, show IntOp.cmpi CmpIPredicate.sle (BitVec.ofNat 32 (j.val / 64))
      (BitVec.ofNat 32 ((R.val - 512) / 64)) = _ from chunk_le ⟨j.val / 64, by omega⟩ ⟨(R.val - 512) / 64, by omega⟩]
    dsimp only
    split <;> rfl

/-- A row of the two components' queries' first block. -/
theorem pay1_apply (q : FVec Ideal S512x128 .bf16) (r : Fin 512) (x : Fin 128) :
    k0_pay1 (F := Ideal) q (ix2 r x) = if x.val < 64 then q (ix2 r x) else 0 := by
  have e : ∀ n : Fin 128, IntOp.cmpi CmpIPredicate.slt (BitVec.ofNat 32 n.val) 64#32 = if n.val < 64 then 1#1 else 0#1 := by
    decide +kernel
  pointwise [k0_pay1]
  rw [e]
  split <;> rfl

theorem pay2_apply (q : FVec Ideal S512x128 .bf16) (r : Fin 512) (x : Fin 128) :
    k0_pay2 (F := Ideal) q (ix2 r x) = if x.val < 64 then 0 else q (ix2 r x) := by
  have e : ∀ n : Fin 128, IntOp.cmpi CmpIPredicate.slt (BitVec.ofNat 32 n.val) 64#32 = if n.val < 64 then 1#1 else 0#1 := by
    decide +kernel
  pointwise [k0_pay2]
  rw [e]
  split <;> rfl

/-- The finished block: each component's values over its sum, differenced, normed. -/
theorem pay6_apply (l : FVec Ideal S4x64 .f32) (a s : FVec Ideal S1024x128 .f32) (g : FVec Ideal S1x128 .f32) (r : Fin 512) (d : Fin 128) :
    k0_pay6 (k0_pay26 (F := Ideal) l a s g) (ix2 r d)
      = norm g (fun x => Ideal.div (a (ix2 (⟨r.val, by omega⟩ : Fin 1024) x)) (s (ix2 (⟨r.val, by omega⟩ : Fin 1024) x))
          - Attention.lam l * Ideal.div (a (ix2 (⟨512 + r.val, by omega⟩ : Fin 1024) x)) (s (ix2 (⟨512 + r.val, by omega⟩ : Fin 1024) x))) d := by
  pointwise [k0_pay6, k0_pay26, Attention.norm, Attention.lam]

end Cert.Proof.Prompt

end
-- ==== Proof.Prompt.Step.lean ====
/-
  A step over a key block, on the running maxima, sums and values of both components' queries: what they hold after the keys so far.
-/
module

public import proofs.«01_k».proof.Proof.Prompt.Block
public import proofs.«01_k».proof.Proof.Prompt.Pay
public import proofs.«01_k».proof.Proof.Prompt.Spec

@[expose] public section

noncomputable section

namespace Cert.Proof.Prompt

open Cert.PromptIdeal Cert.PromptIdeal.Gen Cert.PromptIdeal.Staged
open Idealize.ShloMosaic Idealize.ShloMosaic.TcCoe
open Cert.Proof.Attention (Fin' norm)

/-- The row of component `C`'s query `r` in the scratches. -/
def lay (C : Fin 2) (r : Fin 512) : Fin 1024 := ⟨C.val * 512 + r.val, by omega⟩

/-- A block of 512 rows of a batch entry and a head: the `n`-th. -/
def Blk (A : Rows) (b h : Fin 4) (n : Fin 8) (x : FVec Ideal S512x128 .bf16) : Prop :=
  ∀ (r : Fin 512) (d : Fin 128),
    x (ix2 r d) = A (ix2 (⟨b.val * 4096 + (n.val * 512 + r.val), by omega⟩ : Fin 16384) (⟨h.val * 128 + d.val, by omega⟩ : Fin 512))

/-- The position of row `r` of block `n`. -/
def pos (n : Fin 8) (r : Fin 512) : Fin 4096 := ⟨n.val * 512 + r.val, by omega⟩

theorem two_one (q : FVec Ideal S512x128 .bf16) (r : Fin 512) (x : Fin 128) :
    two q (ix2 (lay 1 r) x) = if x.val < 64 then 0 else q (ix2 r x) := by
  have e : (ix2 (lay 1 r) x : S1024x128.Idx) = (Rect.unit (s := S1024x128) ![512, 0] ![512, 128] inb_S1024x128_S512x128_512_0).emb (ix2 r x) := by
    funext a; refine Fin.ext ?_
    rcases a with ⟨_ | _ | _, ha⟩
    · show 1 * 512 + r.val = 512 + 1 * r.val; omega
    · show x.val = 0 + 1 * x.val; omega
    · exact absurd ha (Nat.not_lt.mpr (Nat.le_add_left _ _))
  unfold two
  rw [e, View.canon_cons_emb, pay2_apply]

theorem low_row (r : Fin 512) : (lay 0 r).val = r.val := by unfold lay; simp

theorem low_emb (r : Fin 512) (x : Fin 128) :
    (ix2 (lay 0 r) x : S1024x128.Idx) = (Rect.unit (s := S1024x128) ![0, 0] ![512, 128] inb_S1024x128_S512x128_0_0).emb (ix2 r x) := by
  funext a; refine Fin.ext ?_
  rcases a with ⟨_ | _ | _, ha⟩
  · refine (low_row r).trans ?_
    show r.val = 0 + 1 * r.val; omega
  · show x.val = 0 + 1 * x.val; omega
  · exact absurd ha (Nat.not_lt.mpr (Nat.le_add_left _ _))

theorem two_zero (q : FVec Ideal S512x128 .bf16) (r : Fin 512) (x : Fin 128) :
    two q (ix2 (lay 0 r) x) = if x.val < 64 then q (ix2 r x) else 0 := by
  unfold two
  refine (View.canon_cons_of_not_mem _ _ ?_).trans ?_
  · apply Rect.not_mem_set_of_axis _ _ (0 : Fin 2) 512 512 rfl rfl rfl
    exact Or.inl (lt_of_eq_of_lt (low_row r) r.isLt)
  · rw [low_emb, View.canon_cons_emb, pay1_apply]

/-- A row of the two components' queries: the component's lanes, nought at the others. -/
theorem two_apply (q : FVec Ideal S512x128 .bf16) (C : Fin 2) (r : Fin 512) (x : Fin 128) :
    two q (ix2 (lay C r) x) = if x.val / 64 = C.val then q (ix2 r x) else 0 := by
  have hx := x.isLt
  match C with
  | ⟨1, _⟩ =>
    refine (two_one q r x).trans ?_
    show (if x.val < 64 then (0 : EReal) else q (ix2 r x)) = if x.val / 64 = 1 then q (ix2 r x) else 0
    split_ifs <;> first | rfl | (exfalso; omega)
  | ⟨0, _⟩ =>
    refine (two_zero q r x).trans ?_
    show (if x.val < 64 then q (ix2 r x) else (0 : EReal)) = if x.val / 64 = 0 then q (ix2 r x) else 0
    split_ifs <;> first | rfl | (exfalso; omega)

/-- A sum over the 128 lanes whose terms are a component's is the sum over its 64. -/
theorem sum_half (C : Fin 2) (f : Fin 128 → EReal) :
    ∑ x : Fin 128, (if x.val / 64 = C.val then f x else 0) = ∑ x : Fin 64, f ⟨C.val * 64 + x.val, by omega⟩ := by
  refine (Fin.sum_univ_add (a := 64) (b := 64) _).trans ?_
  match C with
  | ⟨0, _⟩ =>
    refine (congrArg₂ (· + ·) (Finset.sum_congr rfl fun x _ => ?_) (Finset.sum_eq_zero fun x _ => ?_)).trans (add_zero _)
    · have hx := x.isLt
      refine (if_pos (by show x.val / 64 = 0; omega)).trans (congrArg f (Fin.ext ?_))
      show x.val = 0 * 64 + x.val; omega
    · have hx := x.isLt
      exact if_neg (by show ¬ (64 + x.val) / 64 = 0; omega)
  | ⟨1, _⟩ =>
    refine (congrArg₂ (· + ·) (Finset.sum_eq_zero fun x _ => ?_) (Finset.sum_congr rfl fun x _ => ?_)).trans (zero_add _)
    · have hx := x.isLt
      exact if_neg (by show ¬ x.val / 64 = 1; omega)
    · have hx := x.isLt
      refine (if_pos (by show (64 + x.val) / 64 = 1; omega)).trans (congrArg f (Fin.ext ?_))
      show 64 + x.val = 1 * 64 + x.val; omega

variable (Q K V : Rows) (b h : Fin 4)

/-- The scores of a key block, as the payload computes them. -/
theorem scores (qb kb : Fin 8) (q k : FVec Ideal S512x128 .bf16) (hq : Blk Q b h qb q) (hk : Blk K b h kb k)
    (C : Fin 2) (r j : Fin 512) : k0_pay7 (F := Ideal) (two q) k (ix2 (lay C r) j) = score Q K b h C (pos qb r) (pos kb j) := by
  rw [pay7_apply, score]
  refine Eq.trans (Finset.sum_congr rfl fun x _ => ?_) ((sum_half C fun x => q (ix2 r x) * k (ix2 j x)).trans (Finset.sum_congr rfl fun x _ => ?_))
  · rw [two_apply]; split <;> first | rfl | exact zero_mul _
  · refine (congrArg₂ (· * ·) (hq r _) (hk j _)).trans ?_
    unfold row pos
    refine congrArg₂ (· * ·) (congrArg Q (congrArg (ix2 _) (Fin.ext ?_))) (congrArg K (congrArg (ix2 _) (Fin.ext ?_)))
    · show h.val * 128 + (C.val * 64 + x.val) = h.val * 128 + C.val * 64 + x.val; omega
    · show h.val * 128 + (C.val * 64 + x.val) = h.val * 128 + C.val * 64 + x.val; omega

/-- What a component's query `r` carries into a key block that begins at key `n`. -/
def Into (qb : Fin 8) (n : ℕ) (s : Scr Ideal) (C : Fin 2) (r : Fin 512) : Prop :=
  ∃ m : EReal, (∀ e, s.mx (ix2 (lay C r) e) = m) ∧ (∀ e, Ready (Vis (pos qb r).val) (scoreN Q K b h C (pos qb r)) n m (s.ls (ix2 (lay C r) e)))
    ∧ ∀ e, ReadyV (Vis (pos qb r).val) (scoreN Q K b h C (pos qb r)) (valN V b h e) n m (s.acc (ix2 (lay C r) e))

/-- What it holds after the first `n` keys. -/
def After (qb : Fin 8) (n : ℕ) (s : Scr Ideal) (C : Fin 2) (r : Fin 512) : Prop :=
  ∃ M : ℝ, (∀ e, s.mx (ix2 (lay C r) e) = (M : EReal))
    ∧ (∀ e, s.ls (ix2 (lay C r) e) = (tot (Vis (pos qb r).val) (scoreN Q K b h C (pos qb r)) M n : EReal))
    ∧ ∀ e, s.acc (ix2 (lay C r) e) = (wsum (Vis (pos qb r).val) (scoreN Q K b h C (pos qb r)) (valN V b h e) M n : EReal)

variable {Q K V b h} in
theorem After.into {qb : Fin 8} {n : ℕ} {s : Scr Ideal} {C : Fin 2} {r : Fin 512} (H : After Q K V b h qb n s C r) : Into Q K V b h qb n s C r := by
  obtain ⟨M, h0, h1, h2⟩ := H
  exact ⟨M, h0, fun e => by rw [h1]; exact ready_real _ _ _ _, fun e => by rw [h2]; exact readyV_real _ _ _ _ _⟩

theorem start_into (qb : Fin 8) (q : FVec Ideal S512x128 .bf16) (C : Fin 2) (r : Fin 512) : Into Q K V b h qb 0 (start q) C r :=
  ⟨⊥, fun e => pay3_apply (lay C r) e, fun e => by
    rw [show (start q).ls (ix2 (lay C r) e) = 0 from pay4_apply (lay C r) e]; exact ready_zero _ _, fun e => by
    rw [show (start q).acc (ix2 (lay C r) e) = 0 from pay5_apply (lay C r) e]; exact readyV_zero _ _ _⟩

/-- A step over a block of scores. -/
theorem step_after (qb kb : Fin 8) (p s : Scr Ideal) (C : Fin 2) (r : Fin 512) (z : FVec Ideal S1024x512 .f32) (v : FVec Ideal S512x128 .bf16)
    (hin : Into Q K V b h qb (kb.val * 512) p C r)
    (hz : ∀ j : Fin 512, z (ix2 (lay C r) j) = sc (Vis (pos qb r).val) (scoreN Q K b h C (pos qb r)) (kb.val * 512 + j.val))
    (hv : ∀ (j : Fin 512) e, v (ix2 j e) = (valN V b h e (kb.val * 512 + j.val) : EReal)) (hle : kb.val ≤ qb.val)
    (h0 : ∀ e, s.mx (ix2 (lay C r) e) = newMax z p.mx (lay C r) e) (h1 : ∀ e, s.ls (ix2 (lay C r) e) = newSum z p.mx p.ls (lay C r) e)
    (h2 : ∀ e, s.acc (ix2 (lay C r) e) = newVal z p.mx p.acc v (lay C r) e) : After Q K V b h qb (kb.val * 512 + 512) s C r := by
  obtain ⟨m, g0, g1, g2⟩ := hin
  obtain ⟨M, hM⟩ := max_real (Vis (pos qb r).val) (scoreN Q K b h C (pos qb r)) (N := 512) (kb.val * 512) m (g1 0).1 0
    (by show (kb.val * 512 + 0) / 64 ≤ (qb.val * 512 + r.val) / 64; omega)
  have hmax : ∀ e, newMax z p.mx (lay C r) e = (M : EReal) := fun e => by
    unfold newMax
    rw [g0 e, funext hz]; exact hM
  refine ⟨M, fun e => (h0 e).trans (hmax e), fun e => (h1 e).trans ?_, fun e => (h2 e).trans ?_⟩
  · unfold newSum
    rw [hmax, g0 e]
    simp only [tile_const _ _ hmax, hz]
    exact step_sum _ _ _ _ _ (g1 e) M
  · unfold newVal
    rw [hmax, g0 e]
    simp only [tile_const _ _ hmax, hz, hv]
    exact step_val _ _ _ _ _ _ (g2 e) M

variable (hQ : ∀ i, Fin' (Q i)) (hK : ∀ i, Fin' (K i)) (hV : ∀ i, Fin' (V i))

include hV in
theorem vals (kb : Fin 8) (v : FVec Ideal S512x128 .bf16) (hv : Blk V b h kb v) (j : Fin 512) (e : Fin 128) :
    v (ix2 j e) = (valN V b h e (kb.val * 512 + j.val) : EReal) :=
  (hv j e).trans (valN_eq V hV b h e (pos kb j)).symm

include hQ hK hV in
/-- A key block before the queries' own. -/
theorem full_after (qb kb : Fin 8) (p : Scr Ideal) (q k v : FVec Ideal S512x128 .bf16) (h2 : p.q2 = two q) (hq : Blk Q b h qb q)
    (hk : Blk K b h kb k) (hv : Blk V b h kb v) (hlt : kb.val < qb.val) (C : Fin 2) (r : Fin 512) (hin : Into Q K V b h qb (kb.val * 512) p C r) :
    After Q K V b h qb (kb.val * 512 + 512) (full p k v) C r := by
  refine step_after Q K V b h qb kb p _ C r (k0_pay7 p.q2 k) v hin (fun j => ?_) (vals V b h hV kb v hv) hlt.le
    (fun e => pay13_apply _ _ _ _ e) (fun e => pay11_apply _ _ _ _ _ e) fun e => pay12_apply _ _ _ _ _ _ e
  rw [h2, scores Q K b h qb kb q k hq hk, ← scoreN_eq Q K hQ hK]
  refine (if_pos ?_).symm
  have hj := j.isLt
  show (kb.val * 512 + j.val) / 64 ≤ (qb.val * 512 + r.val) / 64; omega

include hQ hK hV in
/-- The queries' own key block. -/
theorem last_after (qb : Fin 8) (p : Scr Ideal) (q k v : FVec Ideal S512x128 .bf16) (h2 : p.q2 = two q) (hq : Blk Q b h qb q)
    (hk : Blk K b h qb k) (hv : Blk V b h qb v) (C : Fin 2) (r : Fin 512) (hin : Into Q K V b h qb (qb.val * 512) p C r) :
    After Q K V b h qb (qb.val * 512 + 512) (last p k v) C r := by
  refine step_after Q K V b h qb qb p _ C r (diag (k0_pay7 p.q2 k)) v hin (fun j => ?_) (vals V b h hV qb v hv) (le_refl _)
    (fun e => pay19_apply _ _ _ e) (fun e => pay22_apply _ _ _ _ e) fun e => pay23_apply _ _ _ _ _ e
  rw [diag_apply, h2, scores Q K b h qb qb q k hq hk, ← scoreN_eq Q K hQ hK]
  have hC := C.isLt
  have hr := r.isLt
  refine if_congr ?_ rfl rfl
  show j.val / 64 ≤ (C.val * 512 + r.val) % 512 / 64 ↔ (qb.val * 512 + j.val) / 64 ≤ (qb.val * 512 + r.val) / 64
  omega

include hQ hK hV in
/-- What is stored of a head's queries after their last keys. -/
theorem stored (qb : Fin 8) (s : Scr Ideal) (l : FVec Ideal S4x64 .f32) (hl : ∀ i, Fin' (l i)) (g : FVec Ideal S1x128 .f32) (r : Fin 512) (d : Fin 128)
    (H : ∀ C, After Q K V b h qb (qb.val * 512 + 512) s C r) :
    k0_pay6 (k0_pay26 (F := Ideal) l s.acc s.ls g) (ix2 r d) = norm g (refOut Q K V l b h (pos qb r)) d := by
  rw [pay6_apply]
  refine congrArg (fun f => norm g f d) (funext fun x => ?_)
  obtain ⟨M0, _, t0, w0⟩ := H 0
  obtain ⟨M1, _, t1, w1⟩ := H 1
  have hr := r.isLt
  have hb := qb.isLt
  have e0 : (⟨r.val, by omega⟩ : Fin 1024) = lay 0 r := Fin.ext (show r.val = 0 * 512 + r.val by omega)
  have e1 : (⟨512 + r.val, by omega⟩ : Fin 1024) = lay 1 r := Fin.ext (show 512 + r.val = 1 * 512 + r.val by omega)
  rw [e0, e1, t0, w0, t1, w1]
  exact out_eq Q K V l hQ hK hV hl b h (pos qb r) x M0 M1 _ (by omega) (by omega) fun s hs => by
    show ¬ s / 64 ≤ (qb.val * 512 + r.val) / 64; omega

end Cert.Proof.Prompt

end
-- ==== Proof.Prompt.Point.lean ====
/-
  What every grid point of the prompt's attention leaves: the running sums over the keys so far, and at a block of queries' own
  key block the finished rows.
-/
module

public import proofs.«01_k».proof.Proof.Prompt.Step
public import proofs.«01_k».proof.Proof.Prompt.IdealFrame

@[expose] public section

set_option maxRecDepth 16384

noncomputable section

namespace Cert.Proof.Prompt

open Cert.PromptIdeal Cert.PromptIdeal.Gen Cert.PromptIdeal.Staged
open Idealize.ShloMosaic Idealize.ShloMosaic.TcCoe
open Cert.Proof.Attention (Fin' norm)

/-! ## The tables -/

theorem lits_lt : ∀ n : Fin 36, (lit0 n).toNat < 8 ∧ (lit1 n).toNat < 8 := by decide +kernel

/-- The query block and the key block of the `n`-th pair. -/
def qn (n : Fin 36) : Fin 8 := ⟨(lit0 n).toNat, (lits_lt n).1⟩
def kn (n : Fin 36) : Fin 8 := ⟨(lit1 n).toNat, (lits_lt n).2⟩

theorem zc_kn : ∀ n : Fin 36, zc (lit1 n) ↔ (kn n).val = 0 := by decide +kernel
theorem dc_qn : ∀ n : Fin 36, dc (lit0 n) (lit1 n) ↔ kn n = qn n := by decide +kernel
theorem kn_le : ∀ n : Fin 36, (kn n).val ≤ (qn n).val := by decide +kernel
theorem before : ∀ n : Fin 36, (kn n).val ≠ 0 → 0 < n.val ∧ ∀ n' : Fin 36, n'.val + 1 = n.val → qn n' = qn n ∧ (kn n').val + 1 = (kn n).val := by
  decide +kernel

/-- The pair that closes a query block. -/
def close (q : Fin 8) : Fin 36 := ⟨q.val * (q.val + 1) / 2 + q.val, by revert q; decide⟩

theorem close_eq : ∀ q : Fin 8, qn (close q) = q ∧ kn (close q) = q := by decide +kernel

/-! ## The points -/

theorem points : (cfgM (F := Ideal)).N = 576 := of_decide_eq_true (by sl_kernel_rfl)

variable (m : (ℓ : Loc nD τ sig) → Buf (Elt Ideal) ℓ) (c : Dev nD) (t : Fin (cfgM (F := Ideal)).N)

/-- A point's batch entry, head and pair. -/
def bOf : Fin 4 := ⟨t.val / 144, by have := lt_of_lt_of_eq t.isLt points; omega⟩
def hOf : Fin 4 := ⟨t.val / 36 % 4, by omega⟩
def nOf : Fin 36 := ⟨t.val % 36, by omega⟩

theorem index_q : ∀ t : Fin grid0.N, cc0_transform_0 (F := Ideal) k0_off1_inb numel1_S1 tbl (grid0.coords t)
    = ![t.val / 144 * 8 + (lit0 ⟨t.val % 36, Nat.mod_lt _ (by decide)⟩).toNat, t.val / 36 % 4] := of_decide_eq_true (by sl_kernel_rfl)
theorem index_k : ∀ t : Fin grid0.N, cc0_transform_1 (F := Ideal) k0_off1_inb numel1_S1 tbl (grid0.coords t)
    = ![t.val / 144 * 8 + (lit1 ⟨t.val % 36, Nat.mod_lt _ (by decide)⟩).toNat, t.val / 36 % 4] := of_decide_eq_true (by sl_kernel_rfl)
theorem index_v : ∀ t : Fin grid0.N, cc0_transform_2 (F := Ideal) k0_off1_inb numel1_S1 tbl (grid0.coords t)
    = ![t.val / 144 * 8 + (lit1 ⟨t.val % 36, Nat.mod_lt _ (by decide)⟩).toNat, t.val / 36 % 4] := of_decide_eq_true (by sl_kernel_rfl)
theorem index_o : ∀ t : Fin grid0.N, cc0_transform_5 (F := Ideal) k0_off1_inb numel1_S1 tbl (grid0.coords t)
    = ![t.val / 144 * 8 + (lit0 ⟨t.val % 36, Nat.mod_lt _ (by decide)⟩).toNat, t.val / 36 % 4] := of_decide_eq_true (by sl_kernel_rfl)

abbrev aQ : Rows := m ((c.tc : Thread nD τ).loc main_arg0)
abbrev aK : Rows := m ((c.tc : Thread nD τ).loc main_arg1)
abbrev aV : Rows := m ((c.tc : Thread nD τ).loc main_arg2)
abbrev aL : FVec Ideal S4x64 .f32 := m ((c.tc : Thread nD τ).loc main_arg3)
abbrev aG : FVec Ideal S1x128 .f32 := m ((c.tc : Thread nD τ).loc main_arg4)

/-- The blocks a point reads. -/
def xq : FVec Ideal S512x128 .bf16 := iblk m c 0 t
def xk : FVec Ideal S512x128 .bf16 := iblk m c 1 t
def xv : FVec Ideal S512x128 .bf16 := iblk m c 2 t
def xl : FVec Ideal S4x64 .f32 := iblk m c 3 t
def xg : FVec Ideal S1x128 .f32 := iblk m c 4 t

theorem blk_q : Blk (aQ m c) (bOf t) (hOf t) (qn (nOf t)) (xq m c t) := fun r d => by
  refine congrArg (V m c main_arg0) (funext fun a => Fin.ext ?_)
  rcases a with ⟨_ | _ | _, ha⟩
  · show cc0_transform_0 (F := Ideal) k0_off1_inb numel1_S1 tbl (grid0.coords t) 0 * 512 + 1 * r.val = t.val / 144 * 4096 + ((lit0 (nOf t)).toNat * 512 + r.val)
    rw [index_q]
    show (t.val / 144 * 8 + (lit0 (nOf t)).toNat) * 512 + 1 * r.val = _
    omega
  · show cc0_transform_0 (F := Ideal) k0_off1_inb numel1_S1 tbl (grid0.coords t) 1 * 128 + 1 * d.val = t.val / 36 % 4 * 128 + d.val
    rw [index_q]
    show t.val / 36 % 4 * 128 + 1 * d.val = _
    omega
  · exact absurd ha (Nat.not_lt.mpr (Nat.le_add_left _ _))

theorem blk_k : Blk (aK m c) (bOf t) (hOf t) (kn (nOf t)) (xk m c t) := fun r d => by
  refine congrArg (V m c main_arg1) (funext fun a => Fin.ext ?_)
  rcases a with ⟨_ | _ | _, ha⟩
  · show cc0_transform_1 (F := Ideal) k0_off1_inb numel1_S1 tbl (grid0.coords t) 0 * 512 + 1 * r.val = t.val / 144 * 4096 + ((lit1 (nOf t)).toNat * 512 + r.val)
    rw [index_k]
    show (t.val / 144 * 8 + (lit1 (nOf t)).toNat) * 512 + 1 * r.val = _
    omega
  · show cc0_transform_1 (F := Ideal) k0_off1_inb numel1_S1 tbl (grid0.coords t) 1 * 128 + 1 * d.val = t.val / 36 % 4 * 128 + d.val
    rw [index_k]
    show t.val / 36 % 4 * 128 + 1 * d.val = _
    omega
  · exact absurd ha (Nat.not_lt.mpr (Nat.le_add_left _ _))

theorem blk_v : Blk (aV m c) (bOf t) (hOf t) (kn (nOf t)) (xv m c t) := fun r d => by
  refine congrArg (V m c main_arg2) (funext fun a => Fin.ext ?_)
  rcases a with ⟨_ | _ | _, ha⟩
  · show cc0_transform_2 (F := Ideal) k0_off1_inb numel1_S1 tbl (grid0.coords t) 0 * 512 + 1 * r.val = t.val / 144 * 4096 + ((lit1 (nOf t)).toNat * 512 + r.val)
    rw [index_v]
    show (t.val / 144 * 8 + (lit1 (nOf t)).toNat) * 512 + 1 * r.val = _
    omega
  · show cc0_transform_2 (F := Ideal) k0_off1_inb numel1_S1 tbl (grid0.coords t) 1 * 128 + 1 * d.val = t.val / 36 % 4 * 128 + d.val
    rw [index_v]
    show t.val / 36 % 4 * 128 + 1 * d.val = _
    omega
  · exact absurd ha (Nat.not_lt.mpr (Nat.le_add_left _ _))

theorem blk_l : xl m c t = aL m c := funext fun (i : S4x64.Idx) => by
  refine congrArg (V m c main_arg3) (funext fun a => Fin.ext ?_)
  rcases a with ⟨_ | _ | _, ha⟩
  · show 0 * 4 + 1 * (i 0).val = (i 0).val; omega
  · show 0 * 64 + 1 * (i 1).val = (i 1).val; omega
  · exact absurd ha (Nat.not_lt.mpr (Nat.le_add_left _ _))

theorem blk_g : xg m c t = aG m c := funext fun (i : S1x128.Idx) => by
  refine congrArg (V m c main_arg4) (funext fun a => Fin.ext ?_)
  rcases a with ⟨_ | _ | _, ha⟩
  · show 0 * 1 + 1 * (i 0).val = (i 0).val; omega
  · show 0 * 128 + 1 * (i 1).val = (i 1).val; omega
  · exact absurd ha (Nat.not_lt.mpr (Nat.le_add_left _ _))

/-! ## The steps -/

theorem zc_iff : zc (kAt (F := Ideal) c t) ↔ (kn (nOf t)).val = 0 := by rw [k_lit]; exact zc_kn _
theorem dc_iff : dc (qAt (F := Ideal) c t) (kAt (F := Ideal) c t) ↔ kn (nOf t) = qn (nOf t) := by rw [q_lit, k_lit]; exact dc_qn _

section Steps

variable (p : Scr Ideal)

theorem step_A (hz : zc (kAt (F := Ideal) c t)) (hd : ¬dc (qAt (F := Ideal) c t) (kAt (F := Ideal) c t)) :
    (stepAt m c t p).st = full (start (xq m c t)) (xk m c t) (xv m c t) := by
  unfold stepAt; rw [dif_pos hz, dif_neg hd]; exact outA_eq _ _ _ _ _ _ _ _ _
theorem step_B (hz : zc (kAt (F := Ideal) c t)) (hd : dc (qAt (F := Ideal) c t) (kAt (F := Ideal) c t)) :
    (stepAt m c t p).st = last (start (xq m c t)) (xk m c t) (xv m c t) := by
  unfold stepAt; rw [dif_pos hz, dif_pos hd]; exact outB_eq _ _ _ _ _ _ _ _ _
theorem step_C (hz : ¬zc (kAt (F := Ideal) c t)) (hd : ¬dc (qAt (F := Ideal) c t) (kAt (F := Ideal) c t)) :
    (stepAt m c t p).st = full p (xk m c t) (xv m c t) := by
  unfold stepAt; rw [dif_neg hz, dif_neg hd]; exact outC_eq _ _ _ _ _ _ _ _ _ _
theorem step_D (hz : ¬zc (kAt (F := Ideal) c t)) (hd : dc (qAt (F := Ideal) c t) (kAt (F := Ideal) c t)) :
    (stepAt m c t p).st = last p (xk m c t) (xv m c t) := by
  unfold stepAt; rw [dif_neg hz, dif_pos hd]; exact outD_eq _ _ _ _ _ _ _ _ _ _

/-- What a point that closes a block of queries stores. -/
theorem step_o (hd : dc (qAt (F := Ideal) c t) (kAt (F := Ideal) c t)) : (stepAt m c t p).o
    = k0_pay6 (k0_pay26 (xl m c t) (stepAt m c t p).st.acc (stepAt m c t p).st.ls (xg m c t)) := by
  by_cases hz : zc (kAt (F := Ideal) c t)
  · rw [step_B m c t p hz hd]
    unfold stepAt; rw [dif_pos hz, dif_pos hd]; exact outB_o _ _ _ _ _ _ _ _ _
  · rw [step_D m c t p hz hd]
    unfold stepAt; rw [dif_neg hz, dif_pos hd]; exact outD_o _ _ _ _ _ _ _ _ _ _

end Steps

/-- What the scratches hold of a batch entry's and a head's block of queries after `n` keys. -/
def Sofar (b h : Fin 4) (qb : Fin 8) (n : ℕ) (s : Scr Ideal) : Prop :=
  ∃ q, s.q2 = two q ∧ Blk (aQ m c) b h qb q ∧ ∀ C r, After (aQ m c) (aK m c) (aV m c) b h qb n s C r

theorem q2_start (q : FVec Ideal S512x128 .bf16) : (start q).q2 = two q := by unfold start; rfl
theorem q2_full (q k v : FVec Ideal S512x128 .bf16) : (full (start q) k v).q2 = two q := by unfold full; exact q2_start q
theorem q2_last (q k v : FVec Ideal S512x128 .bf16) : (last (start q) k v).q2 = two q := by unfold last; exact q2_start q

variable (hQ : ∀ i, Fin' (aQ m c i)) (hK : ∀ i, Fin' (aK m c i)) (hV : ∀ i, Fin' (aV m c i))

include hQ hK hV in
/-- A point takes the running sums over its key block. -/
theorem point_step (p : Scr Ideal)
    (H : (kn (nOf t)).val ≠ 0 → Sofar m c (bOf t) (hOf t) (qn (nOf t)) ((kn (nOf t)).val * 512) p) :
    Sofar m c (bOf t) (hOf t) (qn (nOf t)) ((kn (nOf t)).val * 512 + 512) (stepAt m c t p).st := by
  have bq := blk_q m c t
  have bk := blk_k m c t
  have bv := blk_v m c t
  have hle := kn_le (nOf t)
  by_cases hz : zc (kAt (F := Ideal) c t)
  · have z0 := (zc_iff c t).mp hz
    have hin : ∀ C r, Into (aQ m c) (aK m c) (aV m c) (bOf t) (hOf t) (qn (nOf t)) ((kn (nOf t)).val * 512) (start (xq m c t)) C r := fun C r => by
      rw [z0]; exact start_into _ _ _ _ _ _ _ _ _
    by_cases hd : dc (qAt (F := Ideal) c t) (kAt (F := Ideal) c t)
    · have e := (dc_iff c t).mp hd
      rw [step_B m c t p hz hd]
      rw [e] at bk bv hin ⊢
      exact ⟨xq m c t, q2_last _ _ _, bq, fun C r => last_after _ _ _ _ _ hQ hK hV _ _ (xq m c t) _ _ (q2_start _) bq bk bv C r (hin C r)⟩
    · have e : (kn (nOf t)).val < (qn (nOf t)).val := lt_of_le_of_ne hle fun e => hd ((dc_iff c t).mpr (Fin.ext e))
      rw [step_A m c t p hz hd]
      exact ⟨xq m c t, q2_full _ _ _, bq, fun C r => full_after _ _ _ _ _ hQ hK hV _ _ _ (xq m c t) _ _ (q2_start _) bq bk bv e C r (hin C r)⟩
  · obtain ⟨q, h2, bq, ha⟩ := H fun e => hz ((zc_iff c t).mpr e)
    by_cases hd : dc (qAt (F := Ideal) c t) (kAt (F := Ideal) c t)
    · have e := (dc_iff c t).mp hd
      rw [step_D m c t p hz hd]
      rw [e] at bk bv ha ⊢
      exact ⟨q, h2, bq, fun C r => last_after _ _ _ _ _ hQ hK hV _ _ _ _ _ h2 bq bk bv C r (ha C r).into⟩
    · have e : (kn (nOf t)).val < (qn (nOf t)).val := lt_of_le_of_ne hle fun e => hd ((dc_iff c t).mpr (Fin.ext e))
      rw [step_C m c t p hz hd]
      exact ⟨q, h2, bq, fun C r => full_after _ _ _ _ _ hQ hK hV _ _ _ _ _ _ h2 bq bk bv e C r (ha C r).into⟩

include hQ hK hV in
/-- After every point the scratches hold the sums over the keys so far. -/
theorem sofar : ∀ (n : ℕ) (hn : n < (cfgM (F := Ideal)).N),
    Sofar m c (bOf ⟨n, hn⟩) (hOf ⟨n, hn⟩) (qn (nOf ⟨n, hn⟩)) ((kn (nOf ⟨n, hn⟩)).val * 512 + 512) (outsAt m c n hn).st
  | 0, hn => by
    rw [outsAt_zc m c ⟨0, hn⟩ (zc_zero c hn) junkScr]
    exact point_step m c ⟨0, hn⟩ hQ hK hV junkScr fun e => absurd ((zc_iff c ⟨0, hn⟩).mp (zc_zero c hn)) e
  | n + 1, hn => by
    have ih := sofar n (Nat.lt_of_succ_lt hn)
    refine point_step m c ⟨n + 1, hn⟩ hQ hK hV _ fun e => ?_
    obtain ⟨h0, h1⟩ := before _ e
    have h0' : 0 < (n + 1) % 36 := h0
    obtain ⟨e1, e2⟩ := h1 (nOf ⟨n, Nat.lt_of_succ_lt hn⟩) (by show n % 36 + 1 = (n + 1) % 36; omega)
    have e3 : bOf ⟨n, Nat.lt_of_succ_lt hn⟩ = bOf ⟨n + 1, hn⟩ := Fin.ext (by show n / 144 = (n + 1) / 144; omega)
    have e4 : hOf ⟨n, Nat.lt_of_succ_lt hn⟩ = hOf ⟨n + 1, hn⟩ := Fin.ext (by show n / 36 % 4 = (n + 1) / 36 % 4; omega)
    rw [e1, e3, e4] at ih
    rw [← e2, Nat.add_mul, Nat.one_mul]
    exact ih

theorem outsAt_o (hd : dc (qAt (F := Ideal) c t) (kAt (F := Ideal) c t)) : (outsAt m c t.val t.isLt).o
    = k0_pay6 (k0_pay26 (aL m c) (outsAt m c t.val t.isLt).st.acc (outsAt m c t.val t.isLt).st.ls (aG m c)) := by
  rw [← blk_l m c t, ← blk_g m c t]
  by_cases h : t.val = 0
  · have hz : zc (kAt (F := Ideal) c t) := by
      obtain ⟨n, hn⟩ := t
      cases h
      exact zc_zero c hn
    rw [outsAt_zc m c t hz junkScr]
    exact step_o m c t _ hd
  · rw [outsAt_pos m c t h]
    exact step_o m c t _ hd

include hQ hK hV in
/-- The rows stored are the reference's. -/
theorem outsAt_apply (hL : ∀ i, Fin' (aL m c i)) (hd : dc (qAt (F := Ideal) c t) (kAt (F := Ideal) c t)) (r : Fin 512) (d : Fin 128) :
    (outsAt m c t.val t.isLt).o (ix2 r d)
      = norm (aG m c) (refOut (aQ m c) (aK m c) (aV m c) (aL m c) (bOf t) (hOf t) (pos (qn (nOf t)) r)) d := by
  obtain ⟨_, _, _, H⟩ := sofar m c hQ hK hV t.val t.isLt
  have e : kn (nOf t) = qn (nOf t) := (dc_iff c t).mp hd
  rw [outsAt_o m c t hd]
  refine stored _ _ _ _ _ hQ hK hV (qn (nOf t)) _ _ hL _ r d fun C => ?_
  have H' := H C r
  rw [show kn (nOf ⟨t.val, t.isLt⟩) = qn (nOf t) from e] at H'
  exact H'

end Cert.Proof.Prompt

end
-- ==== Proof.Prompt.Reference.lean ====
/-
  What the plainly written attention over the prompt computes, at a batch entry, a head, a query and a feature.
-/
module

public import proofs.«01_k».proof.Proof.Gen.PromptReferenceIdeal.Run
public import proofs.«01_k».proof.Proof.Prompt.Spec

@[expose] public section

set_option maxRecDepth 16384

noncomputable section

namespace Cert.Proof.Prompt.Ref

open Cert.PromptReferenceIdeal Cert.PromptReferenceIdeal.Gen Cert.PromptReferenceIdeal.Value
open Idealize.ShloMosaic
open Cert.Proof.Attention (lam norm neg_inf)

/-- The mask: a key's chunk of 64 positions is no later than the query's. -/
def mask : IVec S4096x4096 1 :=
  cmpi .sle
    (broadcastInDim S4096x4096 ![0, 1] bcast_S1x4096_S4096x4096_0_1 (broadcastInDim S1x4096 ![1] bcast_S4096_S1x4096_1
      (Host.divsi (iotaInDim S4096 32 0) (broadcastInDim S4096 ![] bcast_S_S4096 (constantI S_ 32 64#32)))))
    (broadcastInDim S4096x4096 ![0, 1] bcast_S4096x1_S4096x4096_0_1 (broadcastInDim S4096x1 ![0] bcast_S4096_S4096x1_0
      (Host.divsi (iotaInDim S4096 32 0) (broadcastInDim S4096 ![] bcast_S_S4096 (constantI S_ 32 64#32)))))

/-- The scores, minus infinity where a key is not visible. -/
def scores (q kn : FVec Ideal S16384x512 .bf16) : FVec Ideal S4x4x2x4096x4096 .f32 :=
  select (broadcastInDim S4x4x2x4096x4096 ![3, 4] bcast_S4096x4096_S4x4x2x4096x4096_3_4 mask)
    (Host.dotGeneral dot_S4x4096x4x2x64_S4x4096x4x2x64_S4x4x2x4096x4096_4_4_1_1_023_023 none
      (shapeCast S4x4096x4x2x64 (extf .f32 q bitsLt_bf16_f32) shapeCasts_S16384x512_S4x4096x4x2x64)
      (shapeCast S4x4096x4x2x64 (extf .f32 kn bitsLt_bf16_f32) shapeCasts_S16384x512_S4x4096x4x2x64))
    (broadcastInDim S4x4x2x4096x4096 ![] bcast_S_S4x4x2x4096x4096 (id (constant S_ .f32 0xFF800000#32)))

/-- The values, by batch entry, position, head and feature. -/
def vals (v : FVec Ideal S16384x512 .bf16) : FVec Ideal S4x4096x4x128 .f32 :=
  shapeCast S4x4096x4x128 (extf .f32 v bitsLt_bf16_f32) shapeCasts_S16384x512_S4x4096x4x128

/-- The greatest score of every query, at least minus infinity. -/
def rowMax (s : FVec Ideal S4x4x2x4096x4096 .f32) : FVec Ideal S4x4x2x4096 .f32 :=
  maximumf (broadcastInDim S4x4x2x4096 ![] bcast_S_S4x4x2x4096 (constant S_ .f32 0xFF800000#32))
    (Host.reduce FloatOps.maximumf s (constant S_ .f32 0xFF800000#32) reducesTo_S4x4x2x4096x4096_S4x4x2x4096_d4 h_S_)

/-- The exponentials of the scores over given row maxima. -/
def expo (s : FVec Ideal S4x4x2x4096x4096 .f32) (mx : FVec Ideal S4x4x2x4096 .f32) : FVec Ideal S4x4x2x4096x4096 .f32 :=
  Host.exp (subf s (broadcastInDim S4x4x2x4096x4096 ![0, 1, 2, 3, 4]
    bcast_S4x4x2x4096x1_S4x4x2x4096x4096_0_1_2_3_4 (broadcastInDim S4x4x2x4096x1 ![0, 1, 2, 3] bcast_S4x4x2x4096_S4x4x2x4096x1_0_1_2_3 mx)))

/-- Exponentials over their row sums. -/
def ratio (e : FVec Ideal S4x4x2x4096x4096 .f32) : FVec Ideal S4x4x2x4096x4096 .f32 :=
  Host.divf e (broadcastInDim S4x4x2x4096x4096 ![0, 1, 2, 3, 4] bcast_S4x4x2x4096x1_S4x4x2x4096x4096_0_1_2_3_4
    (broadcastInDim S4x4x2x4096x1 ![0, 1, 2, 3] bcast_S4x4x2x4096_S4x4x2x4096x1_0_1_2_3
      (Host.reduceAdd e (constant S_ .f32 0x00000000#32) reducesTo_S4x4x2x4096x4096_S4x4x2x4096_d4 h_S_)))

/-- The softmax of scores along the keys. -/
def softmax (s : FVec Ideal S4x4x2x4096x4096 .f32) : FVec Ideal S4x4x2x4096x4096 .f32 := ratio (expo s (rowMax s))

/-- The weight of the second component. -/
def lambda (l : FVec Ideal S4x64 .f32) : FVec Ideal S_ .f32 :=
  addf (subf
    (Host.exp (Host.reduceAdd (mulf (shapeCast S64 (extractStridedSlice S1x64 ![0, 0] l slices_S4x64_S1x64_0_0) shapeCasts_S1x64_S64)
      (shapeCast S64 (extractStridedSlice S1x64 ![1, 0] l slices_S4x64_S1x64_1_0) shapeCasts_S1x64_S64)) (constant S_ .f32 0x00000000#32) reducesTo_S64_S_d0 h_S_))
    (Host.exp (Host.reduceAdd (mulf (shapeCast S64 (extractStridedSlice S1x64 ![2, 0] l slices_S4x64_S1x64_2_0) shapeCasts_S1x64_S64)
      (shapeCast S64 (extractStridedSlice S1x64 ![3, 0] l slices_S4x64_S1x64_3_0) shapeCasts_S1x64_S64)) (constant S_ .f32 0x00000000#32) reducesTo_S64_S_d0 h_S_)))
    (constant S_ .f32 0x3E4CCCCD#32)

/-- The values under the difference of the two components' weights. -/
def mixed (p : FVec Ideal S4x4x2x4096x4096 .f32) (lam : FVec Ideal S_ .f32) (v : FVec Ideal S4x4096x4x128 .f32) :
    FVec Ideal S4x4096x4x128 .f32 :=
  transpose S4x4096x4x128 [0, 3, 1, 2] (Host.dotGeneral dot_S4x4096x4x128_S4x4x4096x4096_S4x4x128x4096_1_3_3_2_02_01 none v
    (subf (shapeCast S4x4x4096x4096 (extractStridedSlice S4x4x1x4096x4096 ![0, 0, 0, 0, 0] p slices_S4x4x2x4096x4096_S4x4x1x4096x4096_0_0_0_0_0)
        shapeCasts_S4x4x1x4096x4096_S4x4x4096x4096)
      (mulf (broadcastInDim S4x4x4096x4096 ![] bcast_S_S4x4x4096x4096 lam)
        (shapeCast S4x4x4096x4096 (extractStridedSlice S4x4x1x4096x4096 ![0, 0, 1, 0, 0] p slices_S4x4x2x4096x4096_S4x4x1x4096x4096_0_0_1_0_0)
          shapeCasts_S4x4x1x4096x4096_S4x4x4096x4096))))
    transposes_S4x4x128x4096_S4x4096x4x128_0_3_1_2

/-- The head norm, the gain and the constant 0.8, laid out as rows of tokens. -/
def normed (o : FVec Ideal S4x4096x4x128 .f32) (g : FVec Ideal S1x128 .f32) : FVec Ideal S16384x512 .bf16 :=
  truncf .bf16 (shapeCast S16384x512 (mulf (mulf (mulf o (broadcastInDim S4x4096x4x128 ![0, 1, 2, 3] bcast_S4x4096x4x1_S4x4096x4x128_0_1_2_3
    (Host.rsqrt (addf (Host.divf (broadcastInDim S4x4096x4x1 ![0, 1, 2] bcast_S4x4096x4_S4x4096x4x1_0_1_2
      (Host.reduceAdd (mulf o o) (constant S_ .f32 0x00000000#32) reducesTo_S4x4096x4x128_S4x4096x4_d3 h_S_))
        (broadcastInDim S4x4096x4x1 ![] bcast_S_S4x4096x4x1 (constant S_ .f32 0x43000000#32)))
      (broadcastInDim S4x4096x4x1 ![] bcast_S_S4x4096x4x1 (constant S_ .f32 0x358637BD#32))))))
    (broadcastInDim S4x4096x4x128 ![0, 1, 2, 3] bcast_S1x1x1x128_S4x4096x4x128_0_1_2_3 (broadcastInDim S1x1x1x128 ![3] bcast_S128_S1x1x1x128_3
      (shapeCast S128 g shapeCasts_S1x128_S128))))
    (broadcastInDim S4x4096x4x128 ![] bcast_S_S4x4096x4x128 (constant S_ .f32 0x3F4CCCCD#32))) shapeCasts_S4x4096x4x128_S16384x512) bitsLt_bf16_f32

/-- The reference's result as a term of its arguments. -/
def refTerm (q k v : FVec Ideal S16384x512 .bf16) (l : FVec Ideal S4x64 .f32) (g : FVec Ideal S1x128 .f32) : FVec Ideal S16384x512 .bf16 :=
  normed (mixed (softmax (scores q k)) (lambda l) (vals v)) g

/-- The reference's run ends with that term. -/
theorem res_eq (m : (ℓ : Loc nD τ sig) → Buf (Elt Ideal) ℓ) (c : Dev nD) :
    res_main_v71 m c = refTerm (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold res_main_v71
  rfl

/-- The chunk of a position. -/
theorem chunk (n : Fin 4096) : IntOp.divsi ArithUnit.host (BitVec.ofNat 32 n.val) 64#32 = BitVec.ofNat 32 (n.val / 64) := by
  revert n
  decide +kernel

/-- Comparing two chunks. -/
theorem chunk_le (x y : Fin 64) : IntOp.cmpi CmpIPredicate.sle (BitVec.ofNat 32 x.val) (BitVec.ofNat 32 y.val)
    = if x.val ≤ y.val then 1#1 else 0#1 := by
  revert x y
  decide +kernel

/-- The mask, read at a query and a key. -/
theorem mask_apply (r k : Fin 4096) : mask (ix2 r k) = if Vis r.val k.val then 1#1 else 0#1 := by
  pointwise [mask]
  rw [chunk, chunk]
  exact chunk_le ⟨k.val / 64, by omega⟩ ⟨r.val / 64, by omega⟩

/-- The masked scores, read at an index. -/
theorem scores_apply (q kn : FVec Ideal S16384x512 .bf16) (b : Fin 4) (h : Fin 4)
    (c : Fin 2) (r : Fin 4096) (k : Fin 4096) :
    scores q kn (ix5 b h c r k) = hidden q kn b h c r k := by
  pointwise [scores]
  rw [mask_apply]
  unfold hidden score row
  split
  · rfl
  · exact neg_inf

/-- The reduction along the keys keeps the first four axes. -/
theorem reduces_keys : S4x4x2x4096x4096.Reduces [4] S4x4x2x4096 := by decide

/-- The index reduced away, put back. -/
theorem lift_keys (b : Fin 4) (h : Fin 4) (c : Fin 2) (r : Fin 4096) (k : Fin 4096) :
    reduces_keys.lift (ix4 b h c r) k = ix5 b h c r k := by
  blk_ext <;> rfl

/-- The row maximum is a maximum with minus infinity of the reduction along the keys. -/
theorem rowMax_eq (s : FVec Ideal S4x4x2x4096x4096 .f32) (j : S4x4x2x4096.Idx) :
    rowMax s j = max (Ideal.ofBits FTy.f32 4286578688#32) (Finset.fold (FloatOps.maximumf (F := Ideal) (φ := .f32))
      ((constant (F := Ideal) S_ .f32 0xFF800000#32) (Shape.Idx.first h_S_)) (s ∘ reduces_keys.lift j) Finset.univ) := by
  rw [← Host.reduce_eq_fold_single (FloatOps.maximumf (F := Ideal) (φ := .f32)) s (constant S_ .f32 0xFF800000#32)
    reducesTo_S4x4x2x4096x4096_S4x4x2x4096_d4 reduces_keys h_S_ j]
  unfold rowMax
  rw [maximumf]
  generalize Host.reduce (α := Ideal .f32) _ _ _ _ _ = z
  rfl

/-- The fold of the maximum operation is the fold of the maximum. -/
theorem fold_eq (f : Fin 4096 → EReal) : Finset.fold (FloatOps.maximumf (F := Ideal) (φ := .f32))
      ((constant (F := Ideal) S_ .f32 0xFF800000#32) (Shape.Idx.first h_S_)) f Finset.univ
    = Finset.fold max (Ideal.ofBits FTy.f32 4286578688#32) f Finset.univ := rfl

/-- A row's maximum. -/
theorem rowMax_apply (s : FVec Ideal S4x4x2x4096x4096 .f32) (b : Fin 4) (h : Fin 4) (c : Fin 2) (r : Fin 4096) :
    rowMax s (ix4 b h c r) = max (Ideal.ofBits FTy.f32 4286578688#32)
      (Finset.fold max (Ideal.ofBits FTy.f32 4286578688#32) (fun k : Fin 4096 => s (ix5 b h c r k)) Finset.univ) := by
  have e : s ∘ reduces_keys.lift (ix4 b h c r) = fun k : Fin 4096 => s (ix5 b h c r k) :=
    funext fun k => congrArg s (lift_keys b h c r k)
  rw [rowMax_eq, e]
  exact congrArg _ (fold_eq _)

/-- The exponentials, read at an index. -/
theorem expo_apply (s : FVec Ideal S4x4x2x4096x4096 .f32) (mx : FVec Ideal S4x4x2x4096 .f32) (b : Fin 4) (h : Fin 4)
    (c : Fin 2) (r : Fin 4096) (k : Fin 4096) :
    expo s mx (ix5 b h c r k) = Ideal.exp (s (ix5 b h c r k) - mx (ix4 b h c r)) := by
  pointwise [expo]

/-- The ratios, read at an index. -/
theorem ratio_apply (e : FVec Ideal S4x4x2x4096x4096 .f32) (b : Fin 4) (h : Fin 4) (c : Fin 2) (r : Fin 4096) (k : Fin 4096) :
    ratio e (ix5 b h c r k) = Ideal.div (e (ix5 b h c r k)) (∑ x : Fin 4096, e (ix5 b h c r x)) := by
  pointwise [ratio]

/-- A softmax of the scores is the weight of the key. -/
theorem softmax_apply (q kn : FVec Ideal S16384x512 .bf16) (b : Fin 4) (h : Fin 4)
    (c : Fin 2) (r : Fin 4096) (k : Fin 4096) :
    softmax (scores q kn) (ix5 b h c r k) = weight (hidden q kn b h c r) k := by
  rw [softmax, ratio_apply]
  simp only [expo_apply, rowMax_apply, scores_apply]
  rfl

/-- The weight of the second component. -/
theorem lambda_apply (l : FVec Ideal S4x64 .f32) : lambda l ix0 = lam l := by
  pointwise [lambda, Attention.lam]

/-- The mixed values, read at an index. -/
theorem mixed_apply (p : FVec Ideal S4x4x2x4096x4096 .f32) (w : FVec Ideal S_ .f32) (v : FVec Ideal S16384x512 .bf16) (b : Fin 4)
    (r : Fin 4096) (h : Fin 4) (d : Fin 128) :
    mixed p w (vals v) (ix4 b r h d)
      = ∑ x : Fin 4096, val v b h d x * (p (ix5 b h (0 : Fin 2) r x) - w ix0 * p (ix5 b h (1 : Fin 2) r x)) := by
  pointwise [mixed, vals, val]

/-- The reference's values before the norm. -/
theorem mixed_eq (q k v : FVec Ideal S16384x512 .bf16) (l : FVec Ideal S4x64 .f32) (b : Fin 4) (r : Fin 4096) (h : Fin 4) (d : Fin 128) :
    mixed (softmax (scores q k)) (lambda l) (vals v) (ix4 b r h d) = refOut q k v l b h r d := by
  rw [mixed_apply]
  simp only [softmax_apply, lambda_apply]
  rfl

/-- The head norm, read at a token and a feature. -/
theorem normed_apply (o : FVec Ideal S4x4096x4x128 .f32) (g : FVec Ideal S1x128 .f32) (R : Fin 16384) (C : Fin 512) :
    normed o g (ix2 R C) = norm g (fun d => o (ix4 (⟨R.val / 4096, by omega⟩ : Fin 4) (⟨R.val % 4096, by omega⟩ : Fin 4096)
      (⟨C.val / 128, by omega⟩ : Fin 4) d)) ⟨C.val % 128, by omega⟩ := by
  pointwise [normed, Attention.norm]

/-- The reference at a token and a feature. -/
theorem ref_apply (q k v : FVec Ideal S16384x512 .bf16) (l : FVec Ideal S4x64 .f32) (g : FVec Ideal S1x128 .f32) (R : Fin 16384) (C : Fin 512) :
    refTerm q k v l g (ix2 R C) = out q k v l g R C := by
  rw [refTerm, normed_apply]
  simp only [mixed_eq]
  rfl

end Cert.Proof.Prompt.Ref

end
-- ==== Proof.Prompt.Claim.lean ====
/-
  The prompt's attention: the kernel's array is the reference's, element by element.
-/
module

public import proofs.«01_k».proof.Defs
public import proofs.«01_k».proof.Proof.Prompt.Point
public import proofs.«01_k».proof.Proof.Prompt.Reference
public import proofs.«01_k».proof.Proof.Attention.Finite
public import proofs.«01_k».proof.Proof.Gen.Pre_prompt_finite
public import Idealize.ShloMosaic.Lib.Claim

@[expose] public section

set_option maxRecDepth 16384

noncomputable section

namespace Cert.Proof.Prompt

open Cert.PromptIdeal Cert.PromptIdeal.Gen Cert.PromptIdeal.Staged
open Idealize.ShloMosaic Idealize.ShloMosaic.TcCoe Idealize.SL.Sem
open Cert.Proof.Attention (Fin' norm real_half real_single)

section Final

variable (m : (ℓ : Loc nD τ sig) → Buf (Elt Ideal) ℓ) (c : Dev nD)

/-- The arguments the claim takes to be real numbers. -/
def Reals : Prop := (∀ i, Fin' (aQ m c i)) ∧ (∀ i, Fin' (aK m c i)) ∧ (∀ i, Fin' (aV m c i)) ∧ ∀ i, Fin' (aL m c i)

/-- They are, under the claim's precondition. -/
theorem reals_of_pre (h : Cert.Pre_PromptIdeal_prompt_finite (hPre_prompt_finite := Cert.Pre_prompt_finite.Gen.facts) m) : Reals m c := by
  obtain ⟨h0, h1, h2, h3⟩ := h c
  exact ⟨fun i => real_half _ i (congrFun h0 i), fun i => real_half _ i (congrFun h1 i), fun i => real_half _ i (congrFun h2 i),
    fun i => real_single _ i (congrFun h3 i)⟩

/-- The attention as the output array keeps it. -/
def whole : FVec Ideal S16384x512 .bf16 := fun i => out (aQ m c) (aK m c) (aV m c) (aL m c) (aG m c) (i 0) (i 1)

/-- Where a block of the output keeps an element. -/
theorem out_row (t : Fin (cfgM (F := Ideal)).N) (r : Fin 512) (d : Fin 128) :
    (((((cfgM (F := Ideal)).win 5).blk t).view.emb (ix2 r d)) (0 : Fin 2)).val = (t.val / 144 * 8 + (qn (nOf t)).val) * 512 + r.val := by
  show cc0_transform_5 (F := Ideal) k0_off1_inb numel1_S1 tbl (grid0.coords t) 0 * 512 + 1 * r.val = _
  rw [index_o]
  show (t.val / 144 * 8 + (lit0 (nOf t)).toNat) * 512 + 1 * r.val = (t.val / 144 * 8 + (lit0 (nOf t)).toNat) * 512 + r.val
  omega

theorem out_col (t : Fin (cfgM (F := Ideal)).N) (r : Fin 512) (d : Fin 128) :
    (((((cfgM (F := Ideal)).win 5).blk t).view.emb (ix2 r d)) (1 : Fin 2)).val = t.val / 36 % 4 * 128 + d.val := by
  show cc0_transform_5 (F := Ideal) k0_off1_inb numel1_S1 tbl (grid0.coords t) 1 * 128 + 1 * d.val = _
  rw [index_o]
  show t.val / 36 % 4 * 128 + 1 * d.val = _
  omega

variable (h : Reals m c)

include h in
/-- Every block of the output is the attention's. -/
theorem array_eq : (dats m 0 c).arrAt 5 (cfgM (F := Ideal)).N = whole m c := by
  refine (dats m 0 c).arrAt_eq_of_emb 5 (whole m c) (fun t hf (y : S512x128.Idx) => ?_) fun (i : S16384x512.Idx) => ?_
  · obtain ⟨r, d, rfl⟩ : ∃ (r : Fin 512) (d : Fin 128), y = ix2 r d := ⟨y 0, y 1, by blk_ext⟩
    have hd : dc (qAt (F := Ideal) c t) (kAt (F := Ideal) c t) := of_decide_eq_true ((flush_5 c t).symm.trans hf)
    refine Eq.trans (b := (outsAt m c t.val t.isLt).o (ix2 r d)) (congrFun (after_5 m c t) (ix2 r d))
      ((outsAt_apply m c t h.1 h.2.1 h.2.2.1 h.2.2.2 hd r d).trans ?_)
    have e0 := out_row t r d
    have e1 := out_col t r d
    have hq := (qn (nOf t)).isLt
    unfold whole out
    congr 1
    · congr 1
      · refine Fin.ext ?_; show t.val / 144 = _ / 4096; rw [e0]; omega
      · refine Fin.ext ?_; show t.val / 36 % 4 = _ / 128; rw [e1]; omega
      · refine Fin.ext ?_; show (qn (nOf t)).val * 512 + r.val = _ % 4096; rw [e0]; omega
    · refine Fin.ext ?_; show d.val = _ % 128; rw [e1]; omega
  · have b0 : (i (0 : Fin 2)).val < 16384 := (i 0).isLt
    have b1 : (i (1 : Fin 2)).val < 512 := (i 1).isLt
    have hN := points
    obtain ⟨q, hq⟩ : ∃ q : Fin 8, q.val = (i (0 : Fin 2)).val % 4096 / 512 := ⟨⟨(i (0 : Fin 2)).val % 4096 / 512, by omega⟩, rfl⟩
    have hc := (close q).isLt
    obtain ⟨t, ht⟩ : ∃ t : Fin (cfgM (F := Ideal)).N, t.val = ((i (0 : Fin 2)).val / 4096 * 4 + (i (1 : Fin 2)).val / 128) * 36 + (close q).val :=
      ⟨⟨((i (0 : Fin 2)).val / 4096 * 4 + (i (1 : Fin 2)).val / 128) * 36 + (close q).val, by omega⟩, rfl⟩
    have hn : nOf t = close q := Fin.ext (by show t.val % 36 = (close q).val; omega)
    have hf : ((cfgM (F := Ideal)).win 5).flush t = true :=
      (flush_5 c t).trans (decide_eq_true ((dc_iff c t).mpr (by rw [hn, (close_eq q).1, (close_eq q).2])))
    refine ⟨t, hf, ?_⟩
    suffices key : (((cfgM (F := Ideal)).win 5).blk t).view.emb (ix2 (⟨(i (0 : Fin 2)).val % 512, by omega⟩ : Fin 512) (⟨(i (1 : Fin 2)).val % 128, by omega⟩ : Fin 128)) = i by
      exact Eq.mp (congrArg (· ∈ (((cfgM (F := Ideal)).win 5).blk t).view.set) key) (View.emb_mem_set _ _)
    refine funext fun a => Fin.ext ?_
    rcases a with ⟨_ | _ | _, ha⟩
    · refine (out_row t _ _).trans ?_
      rw [hn, (close_eq q).1]
      show (t.val / 144 * 8 + q.val) * 512 + (i (0 : Fin 2)).val % 512 = (i (0 : Fin 2)).val
      omega
    · refine (out_col t _ _).trans ?_
      show t.val / 36 % 4 * 128 + (i (1 : Fin 2)).val % 128 = (i (1 : Fin 2)).val
      omega
    · exact absurd ha (Nat.not_lt.mpr (Nat.le_add_left _ _))

end Final

/-- The kernel runs, ends with the attention in its result and keeps its arguments. -/
theorem run_whole (m : (ℓ : Loc nD τ sig) → Buf (Elt Ideal) ℓ)
    (h : Cert.Pre_PromptIdeal_prompt_finite (hPre_prompt_finite := Cert.Pre_prompt_finite.Gen.facts) m) (ρ : Dev nD → PrngReg) :
    θ_run defs (onTc (τ := τ) (main (F := Ideal))) ⟨m, fun _ => 0, ρ⟩ (fun r => ∀ c : Dev nD,
      r.2.mem ((c.tc : Thread nD τ).loc main_v0) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r q c => ⟨((q.1 c).1 5).trans (array_eq m c (reals_of_pre m c h)),
      ((q.1 c).1 0).trans ((((dats m 0 c).arrAt_in 0 rfl _).trans (A_eq m c 0)).trans (V_arg0 m c)),
      ((q.1 c).1 1).trans ((((dats m 0 c).arrAt_in 1 rfl _).trans (A_eq m c 1)).trans (V_arg1 m c)),
      ((q.1 c).1 2).trans ((((dats m 0 c).arrAt_in 2 rfl _).trans (A_eq m c 2)).trans (V_arg2 m c)),
      ((q.1 c).1 3).trans ((((dats m 0 c).arrAt_in 3 rfl _).trans (A_eq m c 3)).trans (V_arg3 m c)),
      ((q.1 c).1 4).trans ((((dats m 0 c).arrAt_in 4 rfl _).trans (A_eq m c 4)).trans (V_arg4 m c))⟩)
    (run_quiescent m ρ)

/-- On equal arguments, finite but for the gain, the prompt's attention and the plainly written one end with the same array. -/
theorem algebraic : Cert.algebraic_PromptIdeal_PromptReferenceIdeal_pre_prompt_finite (hPromptIdeal := Cert.PromptIdeal.Gen.facts)
    (hPromptReferenceIdeal := Cert.PromptReferenceIdeal.Gen.facts) (hPre_prompt_finite := Cert.Pre_prompt_finite.Gen.facts) := by
  pair_intro
  · run_from run_whole m hpre g
  · run_from Cert.PromptReferenceIdeal.Value.run m' g'
    refine (Ref.res_eq m' c).trans (funext fun i : S16384x512.Idx => ?_)
    obtain ⟨R, C, rfl⟩ : ∃ (R : Fin 16384) (C : Fin 512), i = ix2 R C := ⟨i 0, i 1, by blk_ext⟩
    refine (Ref.ref_apply _ _ _ _ _ R C).trans ?_
    obtain ⟨e0, e1, e2, e3, e4⟩ := hagree c
    rw [e0, e1, e2, e3, e4]
    rfl

end Cert.Proof.Prompt

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojReferenceIdeal
public import proofs.«01_k».proof.Proof.Gen.InprojReferenceIdeal.Run
public import proofs.«01_k».proof.Proof.Gen.Pre_attention_finite
public import proofs.«01_k».proof.Proof.Gen.Pre_routed_blocks
public import proofs.«01_k».proof.Proof.Gen.Ffn
public import proofs.«01_k».proof.Proof.Gen.FfnIdeal
public import proofs.«01_k».proof.Proof.Gen.FfnReferenceIdeal
public import proofs.«01_k».proof.Proof.Gen.FfnReferenceIdeal.Run
public import proofs.«01_k».proof.Proof.Gen.Merge
public import proofs.«01_k».proof.Proof.Gen.Merge.Skeleton
public import proofs.«01_k».proof.Proof.Gen.Merge.Launch
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeReferenceIdeal
public import proofs.«01_k».proof.Proof.Gen.MergeReferenceIdeal.Run
public import proofs.«01_k».proof.Proof.Gen.Prompt
public import proofs.«01_k».proof.Proof.Gen.Prompt.Skeleton
public import proofs.«01_k».proof.Proof.Gen.Prompt.Launch
public import proofs.«01_k».proof.Proof.Gen.PromptIdeal
public import proofs.«01_k».proof.Proof.Gen.PromptIdeal.Skeleton
public import proofs.«01_k».proof.Proof.Gen.PromptIdeal.Launch
public import proofs.«01_k».proof.Proof.Gen.PromptReferenceIdeal
public import proofs.«01_k».proof.Proof.Gen.PromptReferenceIdeal.Run
public import proofs.«01_k».proof.Proof.Gen.Pre_prompt_finite
public import proofs.«01_k».proof.Proof.Attention.Claim
public import proofs.«01_k».proof.Proof.Inproj.Claim
public import proofs.«01_k».proof.Proof.Ffn.BitsFrame
public import proofs.«01_k».proof.Proof.Ffn.BitsWords
public import proofs.«01_k».proof.Proof.Ffn.Claim
public import proofs.«01_k».proof.Proof.Merge.BitsFrame
public import proofs.«01_k».proof.Proof.Merge.Claim
public import proofs.«01_k».proof.Proof.Prompt.BitsFrame
public import proofs.«01_k».proof.Proof.Prompt.Claim
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The attention's reference runs, keeps its arguments and leaves no semaphore raised: it has none. -/
theorem frame_reference : Cert.quiescent_ReferenceIdeal (hReferenceIdeal := Cert.ReferenceIdeal.Gen.facts) := by
  intro m g _
  exact (θ_run _ _ _).mono (fun r h => ⟨fun c => (h c).2, sem_eq_zero_of_no_sems (by decide) r.2⟩)
    (Cert.ReferenceIdeal.Value.run m g)

/-- The projection's reference runs, keeps its arguments and leaves no semaphore raised: it has none. -/
theorem frame_inproj_reference :
    Cert.quiescent_InprojReferenceIdeal (hInprojReferenceIdeal := Cert.InprojReferenceIdeal.Gen.facts) := by
  intro m g _
  exact (θ_run _ _ _).mono (fun r h => ⟨fun c => (h c).2, sem_eq_zero_of_no_sems (by decide) r.2⟩)
    (Cert.InprojReferenceIdeal.Value.run m g)

/-- The expert layer's reference likewise. -/
theorem frame_ffn_reference : Cert.quiescent_FfnReferenceIdeal (hFfnReferenceIdeal := Cert.FfnReferenceIdeal.Gen.facts)
    (hPre_routed_blocks := Cert.Pre_routed_blocks.Gen.facts) := by
  intro m g _
  exact (θ_run _ _ _).mono (fun r h => ⟨fun c => (h c).2, sem_eq_zero_of_no_sems (by decide) r.2⟩)
    (Cert.FfnReferenceIdeal.Value.run m g)

/-- The merge's reference likewise. -/
theorem frame_merge_reference : Cert.quiescent_MergeReferenceIdeal (hMergeReferenceIdeal := Cert.MergeReferenceIdeal.Gen.facts) := by
  intro m g _
  exact (θ_run _ _ _).mono (fun r h => ⟨fun c => (h c).2.2, sem_eq_zero_of_no_sems (by decide) r.2⟩)
    (Cert.MergeReferenceIdeal.Value.run m g)

/-- The prompt's attention's reference likewise. -/
theorem frame_prompt_reference : Cert.quiescent_PromptReferenceIdeal (hPromptReferenceIdeal := Cert.PromptReferenceIdeal.Gen.facts) := by
  intro m g _
  exact (θ_run _ _ _).mono (fun r h => ⟨fun c => (h c).2, sem_eq_zero_of_no_sems (by decide) r.2⟩)
    (Cert.PromptReferenceIdeal.Value.run m g)

/-- The expert kernel runs wherever its tables are within range, at the machine's floats and at the ideal ones. -/
theorem frame_ffn : Cert.quiescent_Ffn (hFfn := Cert.Ffn.Gen.facts) (hPre_routed_blocks := Cert.Pre_routed_blocks.Gen.facts) :=
  fun m g h => Cert.Ffn.Staged.frame_run m g (Cert.Ffn.Staged.ok_of_pre m h)
theorem frame_ffn_ideal : Cert.quiescent_FfnIdeal (hFfnIdeal := Cert.FfnIdeal.Gen.facts)
    (hPre_routed_blocks := Cert.Pre_routed_blocks.Gen.facts) :=
  fun m g h => Cert.FfnIdeal.Staged.frame_run m g (Cert.FfnIdeal.Staged.ok_of_pre m h)

/-- The frames of the five kernels and of the five references, and the five kernels' values. -/
theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts, Cert.Inproj.Gen.facts, Cert.InprojIdeal.Gen.facts, Cert.InprojReferenceIdeal.Gen.facts, Cert.Merge.Gen.facts, Cert.MergeIdeal.Gen.facts, Cert.MergeReferenceIdeal.Gen.facts, Cert.Prompt.Gen.facts, Cert.PromptIdeal.Gen.facts, Cert.PromptReferenceIdeal.Gen.facts, Cert.Pre_attention_finite.Gen.facts, Cert.Pre_routed_blocks.Gen.facts, Cert.Pre_prompt_finite.Gen.facts,
  fun m g _ => Cert.Kernel.Gen.frame m g, fun m g _ => Cert.KernelIdeal.Gen.frame m g,
  fun m g _ => Cert.KernelIdeal.Gen.frame m g, frame_reference, fun m g _ => frame_reference m g trivial,
  frame_ffn, frame_ffn_ideal, frame_ffn_reference,
  fun m g _ => Cert.Inproj.Gen.frame m g, fun m g _ => Cert.InprojIdeal.Gen.frame m g, frame_inproj_reference,
  fun m g _ => Cert.Merge.Staged.frame_run m g, fun m g _ => Cert.MergeIdeal.Staged.frame_run m g, frame_merge_reference,
  fun m g _ => Cert.Prompt.Staged.frame_run m g, fun m g _ => Cert.PromptIdeal.Staged.frame_run m g, fun m g _ => Cert.PromptIdeal.Staged.frame_run m g,
  frame_prompt_reference, fun m g _ => frame_prompt_reference m g trivial,
  trivial, Attention.algebraic, trivial, Ffn.algebraic, trivial, Inproj.algebraic, trivial, Merge.algebraic,
  IdealRules.named_const.statement Cert.PromptIdeal.κ "mask" .f32 0xF149F2CA#32 ⊥ rfl, Prompt.algebraic⟩

end Cert.Proof
